-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationIdeal_ada_finite [hPre_ada_finite : Cert.Pre_ada_finite.Facts] (m : (ℓ : Loc Cert.ModulationIdeal.nD Cert.ModulationIdeal.τ Cert.ModulationIdeal.sig) → Buf (Elt Ideal) ℓ) : Prop :=
  ∀ c : Dev Cert.ModulationIdeal.nD,
    (Cert.Pre_ada_finite.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2))) = (fun _ => 1#1)

def Pre_ModulationRefIdeal (m : (ℓ : Loc Cert.ModulationRefIdeal.nD Cert.ModulationRefIdeal.τ Cert.ModulationRefIdeal.sig) → Buf (Elt Ideal) ℓ) : Prop :=
  True

def Pre_ModulationRefIdeal_ada_finite [hPre_ada_finite : Cert.Pre_ada_finite.Facts] (m : (ℓ : Loc Cert.ModulationRefIdeal.nD Cert.ModulationRefIdeal.τ Cert.ModulationRefIdeal.sig) → Buf (Elt Ideal) ℓ) : Prop :=
  ∀ c : Dev Cert.ModulationRefIdeal.nD,
    (Cert.Pre_ada_finite.fn (F := Ideal) (m ((c.tc : Thread Cert.ModulationRefIdeal.nD Cert.ModulationRefIdeal.τ).loc Cert.ModulationRefIdeal.main_arg0)) (m ((c.tc : Thread Cert.ModulationRefIdeal.nD Cert.ModulationRefIdeal.τ).loc Cert.ModulationRefIdeal.main_arg1)) (m ((c.tc : Thread Cert.ModulationRefIdeal.nD Cert.ModulationRefIdeal.τ).loc Cert.ModulationRefIdeal.main_arg2))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineIdeal_combine_rows [hPre_combine_rows : Cert.Pre_combine_rows.Facts] (m : (ℓ : Loc Cert.CombineIdeal.nD Cert.CombineIdeal.τ Cert.CombineIdeal.sig) → Buf (Elt Ideal) ℓ) : Prop :=
  ∀ c : Dev Cert.CombineIdeal.nD,
    (Cert.Pre_combine_rows.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_combine_rows [hPre_combine_rows : Cert.Pre_combine_rows.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_combine_rows.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3))) = (fun _ => 1#1)

def Pre_RelBias (m : (ℓ : Loc Cert.RelBias.nD Cert.RelBias.τ Cert.RelBias.sig) → Buf (Elt Bits) ℓ) : Prop :=
  True

def Pre_RelBiasIdeal (m : (ℓ : Loc Cert.RelBiasIdeal.nD Cert.RelBiasIdeal.τ Cert.RelBiasIdeal.sig) → Buf (Elt Ideal) ℓ) : Prop :=
  True

def Pre_RelBiasRefIdeal (m : (ℓ : Loc Cert.RelBiasRefIdeal.nD Cert.RelBiasRefIdeal.τ Cert.RelBiasRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10)
      ∧ r.2.mem ((c.tc : Thread Cert.OutProj.nD Cert.OutProj.τ).loc Cert.OutProj.main_arg11) = m ((c.tc : Thread Cert.OutProj.nD Cert.OutProj.τ).loc Cert.OutProj.main_arg11)
      ∧ r.2.mem ((c.tc : Thread Cert.OutProj.nD Cert.OutProj.τ).loc Cert.OutProj.main_arg12) = m ((c.tc : Thread Cert.OutProj.nD Cert.OutProj.τ).loc Cert.OutProj.main_arg12)
      ∧ r.2.mem ((c.tc : Thread Cert.OutProj.nD Cert.OutProj.τ).loc Cert.OutProj.main_arg13) = m ((c.tc : Thread Cert.OutProj.nD Cert.OutProj.τ).loc Cert.OutProj.main_arg13)
      ∧ r.2.mem ((c.tc : Thread Cert.OutProj.nD Cert.OutProj.τ).loc Cert.OutProj.main_arg14) = m ((c.tc : Thread Cert.OutProj.nD Cert.OutProj.τ).loc Cert.OutProj.main_arg14))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
      ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
      ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13)
      ∧ r.2.mem ((c.tc : Thread Cert.OutProjIdeal.nD Cert.OutProjIdeal.τ).loc Cert.OutProjIdeal.main_arg14) = m ((c.tc : Thread Cert.OutProjIdeal.nD Cert.OutProjIdeal.τ).loc Cert.OutProjIdeal.main_arg14))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10)
      ∧ r.2.mem ((c.tc : Thread Cert.OutProjRefIdeal.nD Cert.OutProjRefIdeal.τ).loc Cert.OutProjRefIdeal.main_arg11) = m ((c.tc : Thread Cert.OutProjRefIdeal.nD Cert.OutProjRefIdeal.τ).loc Cert.OutProjRefIdeal.main_arg11)
      ∧ r.2.mem ((c.tc : Thread Cert.OutProjRefIdeal.nD Cert.OutProjRefIdeal.τ).loc Cert.OutProjRefIdeal.main_arg12) = m ((c.tc : Thread Cert.OutProjRefIdeal.nD Cert.OutProjRefIdeal.τ).loc Cert.OutProjRefIdeal.main_arg12)
      ∧ r.2.mem ((c.tc : Thread Cert.OutProjRefIdeal.nD Cert.OutProjRefIdeal.τ).loc Cert.OutProjRefIdeal.main_arg13) = m ((c.tc : Thread Cert.OutProjRefIdeal.nD Cert.OutProjRefIdeal.τ).loc Cert.OutProjRefIdeal.main_arg13)
      ∧ r.2.mem ((c.tc : Thread Cert.OutProjRefIdeal.nD Cert.OutProjRefIdeal.τ).loc Cert.OutProjRefIdeal.main_arg14) = m ((c.tc : Thread Cert.OutProjRefIdeal.nD Cert.OutProjRefIdeal.τ).loc Cert.OutProjRefIdeal.main_arg14))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationIdeal_pre_ada_finite [hModulationIdeal : Cert.ModulationIdeal.Facts] [hPre_ada_finite : Cert.Pre_ada_finite.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal_ada_finite m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_ModulationRefIdeal_pre_ada_finite [hModulationRefIdeal : Cert.ModulationRefIdeal.Facts] [hPre_ada_finite : Cert.Pre_ada_finite.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal_ada_finite m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineIdeal_pre_combine_rows [hCombineIdeal : Cert.CombineIdeal.Facts] [hPre_combine_rows : Cert.Pre_combine_rows.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_combine_rows m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def quiescent_CombineRefIdeal_pre_combine_rows [hCombineRefIdeal : Cert.CombineRefIdeal.Facts] [hPre_combine_rows : Cert.Pre_combine_rows.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_combine_rows m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def quiescent_RelBias [hRelBias : Cert.RelBias.Facts] : Prop :=
  ∀ (m : (ℓ : Loc Cert.RelBias.nD Cert.RelBias.τ Cert.RelBias.sig) → Buf (Elt Bits) ℓ) (g : Dev Cert.RelBias.nD → PrngReg), Pre_RelBias m →
    θ_run (Cert.RelBias.defs (F := Bits)) (onTc (τ := Cert.RelBias.τ) (Cert.RelBias.main (F := Bits))) ⟨m, fun _ => 0, g⟩ (fun r => (∀ c : Dev Cert.RelBias.nD,
      r.2.mem ((c.tc : Thread Cert.RelBias.nD Cert.RelBias.τ).loc Cert.RelBias.main_arg0) = m ((c.tc : Thread Cert.RelBias.nD Cert.RelBias.τ).loc Cert.RelBias.main_arg0))
      ∧ r.2.sem = fun _ => 0)

def quiescent_RelBiasIdeal [hRelBiasIdeal : Cert.RelBiasIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg), Pre_RelBiasIdeal m →
    θ_run (Cert.RelBiasIdeal.defs (F := Ideal)) (onTc (τ := Cert.RelBiasIdeal.τ) (Cert.RelBiasIdeal.main (F := Ideal))) ⟨m, fun _ => 0, g⟩ (fun r => (∀ c : Dev Cert.RelBiasIdeal.nD,
      r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0))
      ∧ r.2.sem = fun _ => 0)

def quiescent_RelBiasRefIdeal [hRelBiasRefIdeal : Cert.RelBiasRefIdeal.Facts] : Prop :=
  ∀ (m : (ℓ : Loc Cert.RelBiasRefIdeal.nD Cert.RelBiasRefIdeal.τ Cert.RelBiasRefIdeal.sig) → Buf (Elt Ideal) ℓ) (g : Dev Cert.RelBiasRefIdeal.nD → PrngReg), Pre_RelBiasRefIdeal m →
    θ_run (Cert.RelBiasRefIdeal.defs (F := Ideal)) (onTc (τ := Cert.RelBiasRefIdeal.τ) (Cert.RelBiasRefIdeal.main (F := Ideal))) ⟨m, fun _ => 0, g⟩ (fun r => (∀ c : Dev Cert.RelBiasRefIdeal.nD,
      r.2.mem ((c.tc : Thread Cert.RelBiasRefIdeal.nD Cert.RelBiasRefIdeal.τ).loc Cert.RelBiasRefIdeal.main_arg0) = m ((c.tc : Thread Cert.RelBiasRefIdeal.nD Cert.RelBiasRefIdeal.τ).loc Cert.RelBiasRefIdeal.main_arg0))
      ∧ r.2.sem = fun _ => 0)

def preserves_Fox_FoxIdeal : Prop :=
  True

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v44) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_InProj_InProjIdeal : Prop :=
  IdealRules.bf16_pair.BufferStatement Cert.InProjIdeal.S8x9x2048x2x128 Cert.InProjIdeal.S8x9x2048x1x128
  ∧ IdealRules.bf16_pair.BufferStatement Cert.InProjIdeal.S1x9x1024x2x128 Cert.InProjIdeal.S1x9x1024x1x128
  ∧ IdealRules.bf16_pair.Statement Cert.InProjIdeal.S1x1x1024x2x128 Cert.InProjIdeal.S1x1x1024x1x128
  ∧ IdealRules.bf16_pack.Statement Cert.InProjIdeal.S1x1x1024x128
  ∧ IdealRules.bf16_pair.Statement Cert.InProjIdeal.S2048x128 Cert.InProjIdeal.S1024x128

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v23_0)) (v1 : (c : Dev Cert.InProjIdeal.nD) → Buf (Elt Ideal) ((c.tc : Thread Cert.InProjIdeal.nD Cert.InProjIdeal.τ).loc Cert.InProjIdeal.main_v23_1)) (v2 : (c : Dev Cert.InProjIdeal.nD) → Buf (Elt Ideal) ((c.tc : Thread Cert.InProjIdeal.nD Cert.InProjIdeal.τ).loc Cert.InProjIdeal.main_v24_0)) (v3 : (c : Dev Cert.InProjIdeal.nD) → Buf (Elt Ideal) ((c.tc : Thread Cert.InProjIdeal.nD Cert.InProjIdeal.τ).loc Cert.InProjIdeal.main_v24_1)) (v4 : (c : Dev Cert.InProjIdeal.nD) → Buf (Elt Ideal) ((c.tc : Thread Cert.InProjIdeal.nD Cert.InProjIdeal.τ).loc Cert.InProjIdeal.main_v24_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v23_0) = v0 c
          ∧ r.2.mem ((c.tc : Thread Cert.InProjIdeal.nD Cert.InProjIdeal.τ).loc Cert.InProjIdeal.main_v23_1) = v1 c
          ∧ r.2.mem ((c.tc : Thread Cert.InProjIdeal.nD Cert.InProjIdeal.τ).loc Cert.InProjIdeal.main_v24_0) = v2 c
          ∧ r.2.mem ((c.tc : Thread Cert.InProjIdeal.nD Cert.InProjIdeal.τ).loc Cert.InProjIdeal.main_v24_1) = v3 c
          ∧ r.2.mem ((c.tc : Thread Cert.InProjIdeal.nD Cert.InProjIdeal.τ).loc Cert.InProjIdeal.main_v24_2) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v115) = v0 c
          ∧ r.2.mem ((c.tc : Thread Cert.InProjRefIdeal.nD Cert.InProjRefIdeal.τ).loc Cert.InProjRefIdeal.main_v64) = v1 c
          ∧ r.2.mem ((c.tc : Thread Cert.InProjRefIdeal.nD Cert.InProjRefIdeal.τ).loc Cert.InProjRefIdeal.main_v83) = v2 c
          ∧ r.2.mem ((c.tc : Thread Cert.InProjRefIdeal.nD Cert.InProjRefIdeal.τ).loc Cert.InProjRefIdeal.main_v102) = v3 c
          ∧ r.2.mem ((c.tc : Thread Cert.InProjRefIdeal.nD Cert.InProjRefIdeal.τ).loc Cert.InProjRefIdeal.main_v105) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)
      ∧ m' ((c.tc : Thread Cert.OutProjRefIdeal.nD Cert.OutProjRefIdeal.τ).loc Cert.OutProjRefIdeal.main_arg11) = m ((c.tc : Thread Cert.OutProjIdeal.nD Cert.OutProjIdeal.τ).loc Cert.OutProjIdeal.main_arg11)
      ∧ m' ((c.tc : Thread Cert.OutProjRefIdeal.nD Cert.OutProjRefIdeal.τ).loc Cert.OutProjRefIdeal.main_arg12) = m ((c.tc : Thread Cert.OutProjIdeal.nD Cert.OutProjIdeal.τ).loc Cert.OutProjIdeal.main_arg12)
      ∧ m' ((c.tc : Thread Cert.OutProjRefIdeal.nD Cert.OutProjRefIdeal.τ).loc Cert.OutProjRefIdeal.main_arg13) = m ((c.tc : Thread Cert.OutProjIdeal.nD Cert.OutProjIdeal.τ).loc Cert.OutProjIdeal.main_arg13)
      ∧ m' ((c.tc : Thread Cert.OutProjRefIdeal.nD Cert.OutProjRefIdeal.τ).loc Cert.OutProjRefIdeal.main_arg14) = m ((c.tc : Thread Cert.OutProjIdeal.nD Cert.OutProjIdeal.τ).loc Cert.OutProjIdeal.main_arg14)) →
    ∃ (v0 : (c : Dev Cert.OutProjIdeal.nD) → Buf (Elt Ideal) ((c.tc : Thread Cert.OutProjIdeal.nD Cert.OutProjIdeal.τ).loc Cert.OutProjIdeal.main_v9_0)) (v1 : (c : Dev Cert.OutProjIdeal.nD) → Buf (Elt Ideal) ((c.tc : Thread Cert.OutProjIdeal.nD Cert.OutProjIdeal.τ).loc Cert.OutProjIdeal.main_v9_1)) (v2 : (c : Dev Cert.OutProjIdeal.nD) → Buf (Elt Ideal) ((c.tc : Thread Cert.OutProjIdeal.nD Cert.OutProjIdeal.τ).loc Cert.OutProjIdeal.main_v9_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9_0) = v0 c
          ∧ r.2.mem ((c.tc : Thread Cert.OutProjIdeal.nD Cert.OutProjIdeal.τ).loc Cert.OutProjIdeal.main_v9_1) = v1 c
          ∧ r.2.mem ((c.tc : Thread Cert.OutProjIdeal.nD Cert.OutProjIdeal.τ).loc Cert.OutProjIdeal.main_v9_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
          ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
          ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
          ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13)
          ∧ r.2.mem ((c.tc : Thread Cert.OutProjIdeal.nD Cert.OutProjIdeal.τ).loc Cert.OutProjIdeal.main_arg14) = m ((c.tc : Thread Cert.OutProjIdeal.nD Cert.OutProjIdeal.τ).loc Cert.OutProjIdeal.main_arg14))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v47) = v0 c
          ∧ r.2.mem ((c.tc : Thread Cert.OutProjRefIdeal.nD Cert.OutProjRefIdeal.τ).loc Cert.OutProjRefIdeal.main_v48) = v1 c
          ∧ r.2.mem ((c.tc : Thread Cert.OutProjRefIdeal.nD Cert.OutProjRefIdeal.τ).loc Cert.OutProjRefIdeal.main_v46) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9)
          ∧ r.2.mem ((c.tc : Thread Cert.OutProjRefIdeal.nD Cert.OutProjRefIdeal.τ).loc Cert.OutProjRefIdeal.main_arg10) = m' ((c.tc : Thread Cert.OutProjRefIdeal.nD Cert.OutProjRefIdeal.τ).loc Cert.OutProjRefIdeal.main_arg10)
          ∧ r.2.mem ((c.tc : Thread Cert.OutProjRefIdeal.nD Cert.OutProjRefIdeal.τ).loc Cert.OutProjRefIdeal.main_arg11) = m' ((c.tc : Thread Cert.OutProjRefIdeal.nD Cert.OutProjRefIdeal.τ).loc Cert.OutProjRefIdeal.main_arg11)
          ∧ r.2.mem ((c.tc : Thread Cert.OutProjRefIdeal.nD Cert.OutProjRefIdeal.τ).loc Cert.OutProjRefIdeal.main_arg12) = m' ((c.tc : Thread Cert.OutProjRefIdeal.nD Cert.OutProjRefIdeal.τ).loc Cert.OutProjRefIdeal.main_arg12)
          ∧ r.2.mem ((c.tc : Thread Cert.OutProjRefIdeal.nD Cert.OutProjRefIdeal.τ).loc Cert.OutProjRefIdeal.main_arg13) = m' ((c.tc : Thread Cert.OutProjRefIdeal.nD Cert.OutProjRefIdeal.τ).loc Cert.OutProjRefIdeal.main_arg13)
          ∧ r.2.mem ((c.tc : Thread Cert.OutProjRefIdeal.nD Cert.OutProjRefIdeal.τ).loc Cert.OutProjRefIdeal.main_arg14) = m' ((c.tc : Thread Cert.OutProjRefIdeal.nD Cert.OutProjRefIdeal.τ).loc Cert.OutProjRefIdeal.main_arg14))

def preserves_Forget_ForgetIdeal : Prop :=
  IdealRules.named_const.Statement Cert.ForgetIdeal.κ "log2e" .f32 0x3FB8AA3B#32 (((Real.log 2)⁻¹ : ℝ) : EReal)

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)) →
    ∃ (v0 : (c : Dev Cert.ForgetIdeal.nD) → Buf (Elt Ideal) ((c.tc : Thread Cert.ForgetIdeal.nD Cert.ForgetIdeal.τ).loc Cert.ForgetIdeal.main_v10)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v10) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v9) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1))

def preserves_Modulation_ModulationIdeal : Prop :=
  True

def algebraic_ModulationIdeal_ModulationRefIdeal_pre_ada_finite [hModulationIdeal : Cert.ModulationIdeal.Facts] [hModulationRefIdeal : Cert.ModulationRefIdeal.Facts] [hPre_ada_finite : Cert.Pre_ada_finite.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal_ada_finite m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v4) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Combine_CombineIdeal : Prop :=
  IdealRules.bf16_pair.BufferStatement Cert.CombineIdeal.S40960x2x512 Cert.CombineIdeal.S40960x1x512
  ∧ IdealRules.bf16_pair.BufferStatement Cert.CombineIdeal.S1280x2x512 Cert.CombineIdeal.S1280x1x512
  ∧ IdealRules.bf16_pair.Statement Cert.CombineIdeal.S1280x2x512 Cert.CombineIdeal.S1280x1x512
  ∧ IdealRules.bf16_pack.Statement Cert.CombineIdeal.S1280x512
  ∧ IdealRules.bf16_pair.Statement Cert.CombineIdeal.S2560x512 Cert.CombineIdeal.S1280x512

def algebraic_CombineIdeal_CombineRefIdeal_pre_combine_rows [hCombineIdeal : Cert.CombineIdeal.Facts] [hCombineRefIdeal : Cert.CombineRefIdeal.Facts] [hPre_combine_rows : Cert.Pre_combine_rows.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal_combine_rows m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v34) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3))

def preserves_RelBias_RelBiasIdeal : Prop :=
  IdealRules.named_const.Statement Cert.RelBiasIdeal.κ "log2e" .f32 0x3FB8AA3B#32 (((Real.log 2)⁻¹ : ℝ) : EReal)

def algebraic_RelBiasIdeal_RelBiasRefIdeal [hRelBiasIdeal : Cert.RelBiasIdeal.Facts] [hRelBiasRefIdeal : Cert.RelBiasRefIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg)
    (m' : (ℓ : Loc Cert.RelBiasRefIdeal.nD Cert.RelBiasRefIdeal.τ Cert.RelBiasRefIdeal.sig) → Buf (Elt Ideal) ℓ) (g' : Dev Cert.RelBiasRefIdeal.nD → PrngReg), Pre_RelBiasIdeal m →
    (∀ c : Dev Cert.RelBiasIdeal.nD,
      m' ((c.tc : Thread Cert.RelBiasRefIdeal.nD Cert.RelBiasRefIdeal.τ).loc Cert.RelBiasRefIdeal.main_arg0) = m ((c.tc : Thread Cert.RelBiasIdeal.nD Cert.RelBiasIdeal.τ).loc Cert.RelBiasIdeal.main_arg0)) →
    ∃ (v0 : (c : Dev Cert.RelBiasIdeal.nD) → Buf (Elt Ideal) ((c.tc : Thread Cert.RelBiasIdeal.nD Cert.RelBiasIdeal.τ).loc Cert.RelBiasIdeal.main_v79)),
      θ_run (Cert.RelBiasIdeal.defs (F := Ideal)) (onTc (τ := Cert.RelBiasIdeal.τ) (Cert.RelBiasIdeal.main (F := Ideal))) ⟨m, fun _ => 0, g⟩ (fun r => ∀ c : Dev Cert.RelBiasIdeal.nD,
          r.2.mem ((c.tc : Thread Cert.RelBiasIdeal.nD Cert.RelBiasIdeal.τ).loc Cert.RelBiasIdeal.main_v79) = v0 c
          ∧ r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0))
      ∧ θ_run (Cert.RelBiasRefIdeal.defs (F := Ideal)) (onTc (τ := Cert.RelBiasRefIdeal.τ) (Cert.RelBiasRefIdeal.main (F := Ideal))) ⟨m', fun _ => 0, g'⟩ (fun r => ∀ c : Dev Cert.RelBiasRefIdeal.nD,
          r.2.mem ((c.tc : Thread Cert.RelBiasRefIdeal.nD Cert.RelBiasRefIdeal.τ).loc Cert.RelBiasRefIdeal.main_v252) = v0 c
          ∧ r.2.mem ((c.tc : Thread Cert.RelBiasRefIdeal.nD Cert.RelBiasRefIdeal.τ).loc Cert.RelBiasRefIdeal.main_arg0) = m' ((c.tc : Thread Cert.RelBiasRefIdeal.nD Cert.RelBiasRefIdeal.τ).loc Cert.RelBiasRefIdeal.main_arg0))

def Claim : Prop :=
  ∃ (hFox : Cert.Fox.Facts) (hFoxIdeal : Cert.FoxIdeal.Facts) (hFoxRefIdeal : Cert.FoxRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hForget : Cert.Forget.Facts) (hForgetIdeal : Cert.ForgetIdeal.Facts) (hForgetRefIdeal : Cert.ForgetRefIdeal.Facts) (hModulation : Cert.Modulation.Facts) (hModulationIdeal : Cert.ModulationIdeal.Facts) (hModulationRefIdeal : Cert.ModulationRefIdeal.Facts) (hCombine : Cert.Combine.Facts) (hCombineIdeal : Cert.CombineIdeal.Facts) (hCombineRefIdeal : Cert.CombineRefIdeal.Facts) (hRelBias : Cert.RelBias.Facts) (hRelBiasIdeal : Cert.RelBiasIdeal.Facts) (hRelBiasRefIdeal : Cert.RelBiasRefIdeal.Facts) (hPre_fox_finite : Cert.Pre_fox_finite.Facts) (hPre_ada_finite : Cert.Pre_ada_finite.Facts) (hPre_combine_rows : Cert.Pre_combine_rows.Facts),
    quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Forget (hForget := hForget)
    ∧ quiescent_ForgetIdeal (hForgetIdeal := hForgetIdeal)
    ∧ quiescent_ForgetRefIdeal (hForgetRefIdeal := hForgetRefIdeal)
    ∧ quiescent_Modulation (hModulation := hModulation)
    ∧ quiescent_ModulationIdeal (hModulationIdeal := hModulationIdeal)
    ∧ quiescent_ModulationIdeal_pre_ada_finite (hModulationIdeal := hModulationIdeal) (hPre_ada_finite := hPre_ada_finite)
    ∧ quiescent_ModulationRefIdeal (hModulationRefIdeal := hModulationRefIdeal)
    ∧ quiescent_ModulationRefIdeal_pre_ada_finite (hModulationRefIdeal := hModulationRefIdeal) (hPre_ada_finite := hPre_ada_finite)
    ∧ quiescent_Combine (hCombine := hCombine)
    ∧ quiescent_CombineIdeal (hCombineIdeal := hCombineIdeal)
    ∧ quiescent_CombineIdeal_pre_combine_rows (hCombineIdeal := hCombineIdeal) (hPre_combine_rows := hPre_combine_rows)
    ∧ quiescent_CombineRefIdeal (hCombineRefIdeal := hCombineRefIdeal)
    ∧ quiescent_CombineRefIdeal_pre_combine_rows (hCombineRefIdeal := hCombineRefIdeal) (hPre_combine_rows := hPre_combine_rows)
    ∧ quiescent_RelBias (hRelBias := hRelBias)
    ∧ quiescent_RelBiasIdeal (hRelBiasIdeal := hRelBiasIdeal)
    ∧ quiescent_RelBiasRefIdeal (hRelBiasRefIdeal := hRelBiasRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Forget_ForgetIdeal
    ∧ algebraic_ForgetIdeal_ForgetRefIdeal (hForgetIdeal := hForgetIdeal) (hForgetRefIdeal := hForgetRefIdeal)
    ∧ preserves_Modulation_ModulationIdeal
    ∧ algebraic_ModulationIdeal_ModulationRefIdeal_pre_ada_finite (hModulationIdeal := hModulationIdeal) (hModulationRefIdeal := hModulationRefIdeal) (hPre_ada_finite := hPre_ada_finite)
    ∧ preserves_Combine_CombineIdeal
    ∧ algebraic_CombineIdeal_CombineRefIdeal_pre_combine_rows (hCombineIdeal := hCombineIdeal) (hCombineRefIdeal := hCombineRefIdeal) (hPre_combine_rows := hPre_combine_rows)
    ∧ preserves_RelBias_RelBiasIdeal
    ∧ algebraic_RelBiasIdeal_RelBiasRefIdeal (hRelBiasIdeal := hRelBiasIdeal) (hRelBiasRefIdeal := hRelBiasRefIdeal)
-- ==== Pre_ada_finite.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S8x1024 .f32) (main_arg1 : FVec F S1024x6144 .f32) (main_arg2 : FVec F S6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  main_v8
-- ==== Pre_combine_rows.lean ====
abbrev S16384x1024 : Shape := ⟨2, ![16384, 1024]⟩
abbrev S40960x1024 : Shape := ⟨2, ![40960, 1024]⟩
abbrev S16384x128 : Shape := ⟨2, ![16384, 128]⟩
abbrev S8x1x1024 : Shape := ⟨3, ![8, 1, 1024]⟩
abbrev S16384x2 : Shape := ⟨2, ![16384, 2]⟩
abbrev S_ : Shape := ⟨0, ![]⟩

class Facts : Prop where
  slices_S16384x128_S16384x2_0_0 : S16384x128.Slices ![0, 0] S16384x2
  reducesTo_S16384x2_S_d0_1 : S16384x2.ReducesTo [0, 1] S_
  h_S_ : 0 < S_.numel
  bcast_S_S16384x2 : S_.BroadcastsInDim S16384x2 (![] : Fin 0 → Fin S16384x2.rank)

variable [Facts]

def fn {F : FTy → Type} [FloatOps F] (main_arg0 : FVec F S16384x1024 .f32) (main_arg1 : FVec F S40960x1024 .bf16) (main_arg2 : FVec F S16384x128 .f32) (main_arg3 : FVec F S8x1x1024 .f32) : IVec S_ 1 :=
  let main_v0 : FVec F S16384x2 .f32 := (extractStridedSlice S16384x2 ![0, 0] · slices_S16384x128_S16384x2_0_0) main_arg2
  let main_v1 : FVec F S16384x2 .f32 := Host.floor main_v0
  let main_v2 : IVec S16384x2 1 := cmpf .oeq main_v1 main_v0
  let main_c : IVec S_ 1 := constantI S_ 1 1#1
  let main_v3 : IVec S_ 1 := (fun x v => Host.reduce IntOp.andi x v reducesTo_S16384x2_S_d0_1 h_S_) main_v2 main_c
  let main_cst : FVec F S_ .f32 := constant S_ .f32 0x00000000#32
  let main_v4 : FVec F S16384x2 .f32 := broadcastInDim S16384x2 ![] bcast_S_S16384x2 main_cst
  let main_v5 : IVec S16384x2 1 := cmpf .oge main_v0 main_v4
  let main_c_0 : IVec S_ 1 := constantI S_ 1 1#1
  let main_v6 : IVec S_ 1 := (fun x v => Host.reduce IntOp.andi x v reducesTo_S16384x2_S_d0_1 h_S_) main_v5 main_c_0
  let main_cst_1 : FVec F S_ .f32 := constant S_ .f32 0x44A00000#32
  let main_v7 : FVec F S16384x2 .f32 := broadcastInDim S16384x2 ![] bcast_S_S16384x2 main_cst_1
  let main_v8 : IVec S16384x2 1 := cmpf .olt main_v0 main_v7
  let main_c_2 : IVec S_ 1 := constantI S_ 1 1#1
  let main_v9 : IVec S_ 1 := (fun x v => Host.reduce IntOp.andi x v reducesTo_S16384x2_S_d0_1 h_S_) main_v8 main_c_2
  let main_v10 : IVec S_ 1 := andi main_v6 main_v9
  let main_v11 : IVec S_ 1 := andi main_v3 main_v10
  main_v11
-- ==== Pre_fox_finite.lean ====
abbrev S8x2048x3584 : Shape := ⟨3, ![8, 2048, 3584]⟩
abbrev S8x8x2048 : Shape := ⟨3, ![8, 8, 2048]⟩
abbrev S8x2048x1024 : Shape := ⟨3, ![8, 2048, 1024]⟩
abbrev S_ : Shape := ⟨0, ![]⟩

class Facts : Prop where
  slices_S8x2048x3584_S8x2048x1024_0_0_2048 : S8x2048x3584.Slices ![0, 0, 2048] S8x2048x1024
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x8x2048 : S_.BroadcastsInDim S8x8x2048 (![] : Fin 0 → Fin S8x8x2048.rank)
  reducesTo_S8x8x2048_S_d0_1_2 : S8x8x2048.ReducesTo [0, 1, 2] S_

variable [Facts]

def fn {F : FTy → Type} [FloatOps F] (main_arg0 : FVec F S8x2048x3584 .bf16) (main_arg1 : FVec F S8x8x2048 .f32) : IVec S_ 1 :=
  let main_v0 : FVec F S8x2048x1024 .bf16 := (extractStridedSlice S8x2048x1024 ![0, 0, 2048] · slices_S8x2048x3584_S8x2048x1024_0_0_2048) main_arg0
  let main_v1 : FVec F S8x2048x1024 .f32 := (extf .f32 · bitsLt_bf16_f32) main_v0
  let main_v2 : FVec F S8x2048x1024 .f32 := Host.absf main_v1
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_c : IVec S_ 1 := constantI S_ 1 1#1
  let main_v5 : IVec S_ 1 := (fun x v => Host.reduce IntOp.andi x v reducesTo_S8x2048x1024_S_d0_1_2 h_S_) main_v4 main_c
  let main_v6 : FVec F S8x8x2048 .f32 := Host.absf main_arg1
  let main_cst_0 : FVec F S_ .f32 := constant S_ .f32 0x7F800000#32
  let main_v7 : FVec F S8x8x2048 .f32 := broadcastInDim S8x8x2048 ![] bcast_S_S8x8x2048 main_cst_0
  let main_v8 : IVec S8x8x2048 1 := cmpf .olt main_v6 main_v7
  let main_c_1 : IVec S_ 1 := constantI S_ 1 1#1
  let main_v9 : IVec S_ 1 := (fun x v => Host.reduce IntOp.andi x v reducesTo_S8x8x2048_S_d0_1_2 h_S_) main_v8 main_c_1
  let main_v10 : IVec S_ 1 := andi main_v5 main_v9
  main_v10
-- ==== Fox.lean ====
abbrev S8x2048x3584 : Shape := ⟨3, ![8, 2048, 3584]⟩
abbrev S8x8x2048 : Shape := ⟨3, ![8, 8, 2048]⟩
abbrev S8x2048x512 : Shape := ⟨3, ![8, 2048, 512]⟩
abbrev S1x2048x128 : Shape := ⟨3, ![1, 2048, 128]⟩
abbrev S1x8x2048 : Shape := ⟨3, ![1, 8, 2048]⟩
abbrev S1x128 : Shape := ⟨2, ![1, 128]⟩
abbrev S256x256 : Shape := ⟨2, ![256, 256]⟩
abbrev S1x1x2048 : Shape := ⟨3, ![1, 1, 2048]⟩
abbrev S1x2048 : Shape := ⟨2, ![1, 2048]⟩
abbrev S1x256x128 : Shape := ⟨3, ![1, 256, 128]⟩
abbrev S256x128 : Shape := ⟨2, ![256, 128]⟩
abbrev S512x128 : Shape := ⟨2, ![512, 128]⟩
abbrev S2048x128 : Shape := ⟨2, ![2048, 128]⟩
abbrev S512x2048 : Shape := ⟨2, ![512, 2048]⟩
abbrev S256x2048 : Shape := ⟨2, ![256, 2048]⟩
abbrev S256x1792 : Shape := ⟨2, ![256, 1792]⟩
abbrev S512 : Shape := ⟨1, ![512]⟩
abbrev S512x1 : Shape := ⟨2, ![512, 1]⟩
abbrev S1x1792x128 : Shape := ⟨3, ![1, 1792, 128]⟩
abbrev S1792x128 : Shape := ⟨2, ![1792, 128]⟩
abbrev S512x1792 : Shape := ⟨2, ![512, 1792]⟩
abbrev S1x1792 : Shape := ⟨2, ![1, 1792]⟩
abbrev S256x1536 : Shape := ⟨2, ![256, 1536]⟩
abbrev S1x1536x128 : Shape := ⟨3, ![1, 1536, 128]⟩
abbrev S1536x128 : Shape := ⟨2, ![1536, 128]⟩
abbrev S512x1536 : Shape := ⟨2, ![512, 1536]⟩
abbrev S1x1536 : Shape := ⟨2, ![1, 1536]⟩
abbrev S256x1280 : Shape := ⟨2, ![256, 1280]⟩
abbrev S1x1280x128 : Shape := ⟨3, ![1, 1280, 128]⟩
abbrev S1280x128 : Shape := ⟨2, ![1280, 128]⟩
abbrev S512x1280 : Shape := ⟨2, ![512, 1280]⟩
abbrev S1x1280 : Shape := ⟨2, ![1, 1280]⟩
abbrev S256x1024 : Shape := ⟨2, ![256, 1024]⟩
abbrev S1x1024x128 : Shape := ⟨3, ![1, 1024, 128]⟩
abbrev S1024x128 : Shape := ⟨2, ![1024, 128]⟩
abbrev S512x1024 : Shape := ⟨2, ![512, 1024]⟩
abbrev S1x1024 : Shape := ⟨2, ![1, 1024]⟩
abbrev S256x768 : Shape := ⟨2, ![256, 768]⟩
abbrev S1x768x128 : Shape := ⟨3, ![1, 768, 128]⟩
abbrev S768x128 : Shape := ⟨2, ![768, 128]⟩
abbrev S512x768 : Shape := ⟨2, ![512, 768]⟩
abbrev S1x768 : Shape := ⟨2, ![1, 768]⟩
abbrev S256x512 : Shape := ⟨2, ![256, 512]⟩
abbrev S1x512x128 : Shape := ⟨3, ![1, 512, 128]⟩
abbrev S512x512 : Shape := ⟨2, ![512, 512]⟩
abbrev S1x512 : Shape := ⟨2, ![1, 512]⟩
abbrev S512x256 : Shape := ⟨2, ![512, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S8x2048x3584, .bf16⟩
  | .hbm, ⟨1, _⟩ => ⟨S8x8x2048, .f32⟩
  | .hbm, ⟨2, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x8x2048, .f32⟩
  | .local _ .vmem, ⟨7, _⟩ => ⟨S1x8x2048, .f32⟩
  | .local _ .vmem, ⟨8, _⟩ => ⟨S1x2048x128, .bf16⟩
  | .local _ .vmem, ⟨9, _⟩ => ⟨S1x2048x128, .bf16⟩
  | _, _ => ⟨S8x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 3 → Nat :=
  let c0 : Index := 0#32
  let c2_i32 : BitVec 32 := 2#32
  let arg1 : BitVec 32 := BitVec.ofNat 32 (i 1).val
  let v4 : BitVec 32 := Scalar.muli c2_i32 arg1
  let v5 : BitVec 32 := Scalar.addi v4 c0_i32
  let v6 : Index := Scalar.indexCast v5
  let c0_0 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxRefIdeal.lean ====
abbrev S8x2048x3584 : Shape := ⟨3, ![8, 2048, 3584]⟩
abbrev S8x8x2048 : Shape := ⟨3, ![8, 8, 2048]⟩
abbrev S_ : Shape := ⟨0, ![]⟩
abbrev S8x2048x512 : Shape := ⟨3, ![8, 2048, 512]⟩
abbrev S8x2048x8x64 : Shape := ⟨4, ![8, 2048, 8, 64]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x64x2048 : Shape := ⟨4, ![8, 8, 64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x3584, .bf16⟩
  | .hbm, ⟨1, _⟩ => ⟨S8x8x2048, .f32⟩
  | .hbm, ⟨2, _⟩ => ⟨S_, .f32⟩
  | .hbm, ⟨3, _⟩ => ⟨S_, .f32⟩
  | .hbm, ⟨4, _⟩ => ⟨S8x2048x3584, .f32⟩
  | .hbm, ⟨5, _⟩ => ⟨S8x2048x512, .f32⟩
  | .hbm, ⟨6, _⟩ => ⟨S8x2048x8x64, .f32⟩
  | .hbm, ⟨7, _⟩ => ⟨S_, .f32⟩
  | .hbm, ⟨8, _⟩ => ⟨S_, .f32⟩
  | .hbm, ⟨9, _⟩ => ⟨S8x2048x8x64, .f32⟩
  | .hbm, ⟨10, _⟩ => ⟨S8x2048x8x64, .f32⟩
  | .hbm, ⟨11, _⟩ => ⟨S8x2048x512, .f32⟩
  | .hbm, ⟨12, _⟩ => ⟨S8x2048x8x64, .f32⟩
  | .hbm, ⟨13, _⟩ => ⟨S8x2048x512, .f32⟩
  | .hbm, ⟨14, _⟩ => ⟨S8x2048x8x64, .f32⟩
  | .hbm, ⟨15, _⟩ => ⟨S8x8x2048, .f32⟩
  | .hbm, ⟨16, _⟩ => ⟨S8x8x2048, .f32⟩
  | .hbm, ⟨17, _⟩ => ⟨S8x8x2048x2048, .f32⟩
  | .hbm, ⟨18, _⟩ => ⟨S_, .f32⟩
  | .hbm, ⟨19, _⟩ => ⟨S8x8x2048x2048, .f32⟩
  | .hbm, ⟨20, _⟩ => ⟨S8x8x2048x2048, .f32⟩
  | .hbm, ⟨21, _⟩ => ⟨S8x8x2048x1, .f32⟩
  | .hbm, ⟨22, _⟩ => ⟨S8x8x2048x2048, .f32⟩
  | .hbm, ⟨23, _⟩ => ⟨S8x8x2048x2048, .f32⟩
  | .hbm, ⟨24, _⟩ => ⟨S8x8x1x2048, .f32⟩
  | .hbm, ⟨25, _⟩ => ⟨S8x8x2048x2048, .f32⟩
  | .hbm, ⟨26, _⟩ => ⟨S8x8x2048x2048, .f32⟩
  | .hbm, ⟨27, _⟩ => ⟨S2048, .i32⟩
  | .hbm, ⟨28, _⟩ => ⟨S2048x1, .i32⟩
  | .hbm, ⟨29, _⟩ => ⟨S2048, .i32⟩
  | .hbm, ⟨30, _⟩ => ⟨S1x2048, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S8x8x2048x2048, .i1⟩
  | .hbm, ⟨37, _⟩ => ⟨S8x8x2048x2048, .f32⟩
  | .hbm, ⟨38, _⟩ => ⟨S8x8x2048x2048, .f32⟩
  | .hbm, ⟨39, _⟩ => ⟨S_, .f32⟩
  | .hbm, ⟨40, _⟩ => ⟨S8x8x2048, .f32⟩
  | .hbm, ⟨41, _⟩ => ⟨S_, .f32⟩
  | .hbm, ⟨42, _⟩ => ⟨S8x8x2048, .f32⟩
  | .hbm, ⟨43, _⟩ => ⟨S8x8x2048, .f32⟩
  | .hbm, ⟨44, _⟩ => ⟨S8x8x2048x1, .f32⟩
  | .hbm, ⟨45, _⟩ => ⟨S8x8x2048x2048, .f32⟩
  | .hbm, ⟨46, _⟩ => ⟨S8x8x2048x2048, .f32⟩
  | .hbm, ⟨47, _⟩ => ⟨S8x8x2048x2048, .f32⟩
  | .hbm, ⟨48, _⟩ => ⟨S_, .f32⟩
  | .hbm, ⟨49, _⟩ => ⟨S8x8x2048, .f32⟩
  | .hbm, ⟨50, _⟩ => ⟨S8x8x2048x1, .f32⟩
  | .hbm, ⟨51, _⟩ => ⟨S8x8x2048x2048, .f32⟩
  | .hbm, ⟨52, _⟩ => ⟨S8x8x2048x2048, .f32⟩
  | .hbm, ⟨53, _⟩ => ⟨S8x8x64x2048, .f32⟩
  | .hbm, ⟨54, _⟩ => ⟨S8x2048x8x64, .f32⟩
  | .hbm, ⟨55, _⟩ => ⟨S8x2048x512, .f32⟩
  | .hbm, ⟨56, _⟩ => ⟨S8x2048x512, .bf16⟩
  | _, _ => ⟨S8x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== InProj.lean ====
abbrev S16384x1024 : Shape := ⟨2, ![16384, 1024]⟩
abbrev S1x1024 : Shape := ⟨2, ![1, 1024]⟩
abbrev S8x1x1024 : Shape := ⟨3, ![8, 1, 1024]⟩
abbrev S1024x5896 : Shape := ⟨2, ![1024, 5896]⟩
abbrev S1x2560 : Shape := ⟨2, ![1, 2560]⟩
abbrev S_ : Shape := ⟨0, ![]⟩
abbrev S1024x248 : Shape := ⟨2, ![1024, 248]⟩
abbrev S1024x2048 : Shape := ⟨2, ![1024, 2048]⟩
abbrev S1024x1536 : Shape := ⟨2, ![1024, 1536]⟩
abbrev S1024x768 : Shape := ⟨2, ![1024, 768]⟩
abbrev S1024x8 : Shape := ⟨2, ![1024, 8]⟩
abbrev S1024x256 : Shape := ⟨2, ![1024, 256]⟩
abbrev S256x256 : Shape := ⟨2, ![256, 256]⟩
abbrev S16384x3584 : Shape := ⟨2, ![16384, 3584]⟩
abbrev S16384x128 : Shape := ⟨2, ![16384, 128]⟩
abbrev S8x9x2048x128 : Shape := ⟨4, ![8, 9, 2048, 128]⟩
abbrev S1024x1024 : Shape := ⟨2, ![1024, 1024]⟩
abbrev S1x1x1024 : Shape := ⟨3, ![1, 1, 1024]⟩
abbrev S1024x3584 : Shape := ⟨2, ![1024, 3584]⟩
abbrev S1024x128 : Shape := ⟨2, ![1024, 128]⟩
abbrev S1x9x1024x128 : Shape := ⟨4, ![1, 9, 1024, 128]⟩
abbrev S1024 : Shape := ⟨1, ![1024]⟩
abbrev S1024x1 : Shape := ⟨2, ![1024, 1]⟩
abbrev S1x256 : Shape := ⟨2, ![1, 256]⟩
abbrev S1x1x1024x128 : Shape := ⟨4, ![1, 1, 1024, 128]⟩
abbrev S16384x768 : Shape := ⟨2, ![16384, 768]⟩

abbrev nBuf : Space → Nat
  | .hbm => 42
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x5896, .f32⟩
  | .hbm, ⟨5, _⟩ => ⟨S1x2560, .f32⟩
  | .hbm, ⟨6, _⟩ => ⟨S_, .f32⟩
  | .hbm, ⟨7, _⟩ => ⟨S1024x248, .f32⟩
  | .hbm, ⟨8, _⟩ => ⟨S1024x2048, .f32⟩
  | .hbm, ⟨9, _⟩ => ⟨S1024x1536, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1024x8, .f32⟩
  | .hbm, ⟨14, _⟩ => ⟨S1024x256, .f32⟩
  | .hbm, ⟨15, _⟩ => ⟨S1024x2048, .bf16⟩
  | .hbm, ⟨16, _⟩ => ⟨S1024x1536, .bf16⟩
  | .hbm, ⟨17, _⟩ => ⟨S1024x768, .bf16⟩
  | .hbm, ⟨18, _⟩ => ⟨S1024x768, .bf16⟩
  | .hbm, ⟨19, _⟩ => ⟨S1024x768, .bf16⟩
  | .hbm, ⟨20, _⟩ => ⟨S1024x256, .bf16⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S_, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S16384x3584, .bf16⟩
  | .hbm, ⟨37, _⟩ => ⟨S16384x128, .f32⟩
  | .hbm, ⟨38, _⟩ => ⟨S8x9x2048x128, .i32⟩
  | .hbm, ⟨39, _⟩ => ⟨S16384x768, .bf16⟩
  | .hbm, ⟨40, _⟩ => ⟨S16384x768, .bf16⟩
  | .hbm, ⟨41, _⟩ => ⟨S16384x768, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x1536, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x256, .bf16⟩
  | .local _ .vmem, ⟨13, _⟩ => ⟨S1x2560, .f32⟩
  | .local _ .vmem, ⟨14, _⟩ => ⟨S256x256, .bf16⟩
  | .local _ .vmem, ⟨15, _⟩ => ⟨S1024x3584, .bf16⟩
  | .local _ .vmem, ⟨16, _⟩ => ⟨S1024x3584, .bf16⟩
  | .local _ .vmem, ⟨17, _⟩ => ⟨S1024x128, .f32⟩
  | .local _ .vmem, ⟨18, _⟩ => ⟨S1024x128, .f32⟩
  | .local _ .vmem, ⟨19, _⟩ => ⟨S1x9x1024x128, .i32⟩
  | .local _ .vmem, ⟨20, _⟩ => ⟨S1x9x1024x128, .i32⟩
  | .local _ .vmem, ⟨21, _⟩ => ⟨S1x9x1024x128, .i32⟩
  | .local _ .vmem, ⟨22, _⟩ => ⟨S1x9x1024x128, .i32⟩
  | .local _ .vmem, ⟨23, _⟩ => ⟨S1024x768, .bf16⟩
  | .local _ .vmem, ⟨24, _⟩ => ⟨S1024x768, .bf16⟩
  | .local _ .vmem, ⟨25, _⟩ => ⟨S1024x768, .bf16⟩
  | .local _ .vmem, ⟨26, _⟩ => ⟨S1024x768, .bf16⟩
  | .local _ .vmem, ⟨27, _⟩ => ⟨S1024x768, .bf16⟩
  | .local _ .vmem, ⟨28, _⟩ => ⟨S1024x768, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x9x1024x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x9x1024x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== InProjIdeal.lean ====
abbrev S16384x1024 : Shape := ⟨2, ![16384, 1024]⟩
abbrev S1x1024 : Shape := ⟨2, ![1, 1024]⟩
abbrev S8x1x1024 : Shape := ⟨3, ![8, 1, 1024]⟩
abbrev S1024x5896 : Shape := ⟨2, ![1024, 5896]⟩
abbrev S1x2560 : Shape := ⟨2, ![1, 2560]⟩
abbrev S_ : Shape := ⟨0, ![]⟩
abbrev S1024x248 : Shape := ⟨2, ![1024, 248]⟩
abbrev S1024x2048 : Shape := ⟨2, ![1024, 2048]⟩
abbrev S1024x1536 : Shape := ⟨2, ![1024, 1536]⟩
abbrev S1024x768 : Shape := ⟨2, ![1024, 768]⟩
abbrev S1024x8 : Shape := ⟨2, ![1024, 8]⟩
abbrev S1024x256 : Shape := ⟨2, ![1024, 256]⟩
abbrev S256x256 : Shape := ⟨2, ![256, 256]⟩
abbrev S16384x3584 : Shape := ⟨2, ![16384, 3584]⟩
abbrev S16384x128 : Shape := ⟨2, ![16384, 128]⟩
abbrev S8x9x2048x2x128 : Shape := ⟨5, ![8, 9, 2048, 2, 128]⟩
abbrev S8x9x2048x1x128 : Shape := ⟨5, ![8, 9, 2048, 1, 128]⟩
abbrev S8x9x2048x128 : Shape := ⟨4, ![8, 9, 2048, 128]⟩
abbrev S1024x1024 : Shape := ⟨2, ![1024, 1024]⟩
abbrev S1x1x1024 : Shape := ⟨3, ![1, 1, 1024]⟩
abbrev S1024x3584 : Shape := ⟨2, ![1024, 3584]⟩
abbrev S1024x128 : Shape := ⟨2, ![1024, 128]⟩
abbrev S1x9x1024x128 : Shape := ⟨4, ![1, 9, 1024, 128]⟩
abbrev S1x9x1024x2x128 : Shape := ⟨5, ![1, 9, 1024, 2, 128]⟩
abbrev S1x9x1024x1x128 : Shape := ⟨5, ![1, 9, 1024, 1, 128]⟩
abbrev S1024 : Shape := ⟨1, ![1024]⟩
abbrev S1024x1 : Shape := ⟨2, ![1024, 1]⟩
abbrev S1x256 : Shape := ⟨2, ![1, 256]⟩
abbrev S1x1x1024x128 : Shape := ⟨4, ![1, 1, 1024, 128]⟩
abbrev S1x1x1024x2x128 : Shape := ⟨5, ![1, 1, 1024, 2, 128]⟩
abbrev S1x1x1024x1x128 : Shape := ⟨5, ![1, 1, 1024, 1, 128]⟩
abbrev S16384x768 : Shape := ⟨2, ![16384, 768]⟩
abbrev S2048x128 : Shape := ⟨2, ![2048, 128]⟩

abbrev nBuf : Space → Nat
  | .hbm => 42
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x5896, .f32⟩
  | .hbm, ⟨5, _⟩ => ⟨S1x2560, .f32⟩
  | .hbm, ⟨6, _⟩ => ⟨S_, .f32⟩
  | .hbm, ⟨7, _⟩ => ⟨S1024x248, .f32⟩
  | .hbm, ⟨8, _⟩ => ⟨S1024x2048, .f32⟩
  | .hbm, ⟨9, _⟩ => ⟨S1024x1536, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1024x8, .f32⟩
  | .hbm, ⟨14, _⟩ => ⟨S1024x256, .f32⟩
  | .hbm, ⟨15, _⟩ => ⟨S1024x2048, .bf16⟩
  | .hbm, ⟨16, _⟩ => ⟨S1024x1536, .bf16⟩
  | .hbm, ⟨17, _⟩ => ⟨S1024x768, .bf16⟩
  | .hbm, ⟨18, _⟩ => ⟨S1024x768, .bf16⟩
  | .hbm, ⟨19, _⟩ => ⟨S1024x768, .bf16⟩
  | .hbm, ⟨20, _⟩ => ⟨S1024x256, .bf16⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S_, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S16384x3584, .bf16⟩
  | .hbm, ⟨37, _⟩ => ⟨S16384x128, .f32⟩
  | .hbm, ⟨38, _⟩ => ⟨S8x9x2048x2x128, .bf16⟩
  | .hbm, ⟨39, _⟩ => ⟨S16384x768, .bf16⟩
  | .hbm, ⟨40, _⟩ => ⟨S16384x768, .bf16⟩
  | .hbm, ⟨41, _⟩ => ⟨S16384x768, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x1536, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x256, .bf16⟩
  | .local _ .vmem, ⟨13, _⟩ => ⟨S1x2560, .f32⟩
  | .local _ .vmem, ⟨14, _⟩ => ⟨S256x256, .bf16⟩
  | .local _ .vmem, ⟨15, _⟩ => ⟨S1024x3584, .bf16⟩
  | .local _ .vmem, ⟨16, _⟩ => ⟨S1024x3584, .bf16⟩
  | .local _ .vmem, ⟨17, _⟩ => ⟨S1024x128, .f32⟩
  | .local _ .vmem, ⟨18, _⟩ => ⟨S1024x128, .f32⟩
  | .local _ .vmem, ⟨19, _⟩ => ⟨S1x9x1024x2x128, .bf16⟩
  | .local _ .vmem, ⟨20, _⟩ => ⟨S1x9x1024x2x128, .bf16⟩
  | .local _ .vmem, ⟨21, _⟩ => ⟨S1x9x1024x2x128, .bf16⟩
  | .local _ .vmem, ⟨22, _⟩ => ⟨S1x9x1024x2x128, .bf16⟩
  | .local _ .vmem, ⟨23, _⟩ => ⟨S1024x768, .bf16⟩
  | .local _ .vmem, ⟨24, _⟩ => ⟨S1024x768, .bf16⟩
  | .local _ .vmem, ⟨25, _⟩ => ⟨S1024x768, .bf16⟩
  | .local _ .vmem, ⟨26, _⟩ => ⟨S1024x768, .bf16⟩
  | .local _ .vmem, ⟨27, _⟩ => ⟨S1024x768, .bf16⟩
  | .local _ .vmem, ⟨28, _⟩ => ⟨S1024x768, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, 0, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x9x1024x2x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![16], ![false]⟩

def cc1_transform_0 (i : grid1.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, 0, c0_i32_11.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x9x1024x2x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== InProjRefIdeal.lean ====
abbrev S16384x1024 : Shape := ⟨2, ![16384, 1024]⟩
abbrev S1x1024 : Shape := ⟨2, ![1, 1024]⟩
abbrev S8x1x1024 : Shape := ⟨3, ![8, 1, 1024]⟩
abbrev S1024x5896 : Shape := ⟨2, ![1024, 5896]⟩
abbrev S1x2560 : Shape := ⟨2, ![1, 2560]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5896 : Shape := ⟨3, ![8, 2048, 5896]⟩
abbrev S8x2048x512 : Shape := ⟨3, ![8, 2048, 512]⟩
abbrev S1x512 : Shape := ⟨2, ![1, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S8x64 : Shape := ⟨2, ![8, 64]⟩
abbrev S1x1x8x64 : Shape := ⟨4, ![1, 1, 8, 64]⟩
abbrev S16384x512 : Shape := ⟨2, ![16384, 512]⟩
abbrev S16384x8 : Shape := ⟨2, ![16384, 8]⟩
abbrev S16384x128 : Shape := ⟨2, ![16384, 128]⟩
abbrev S8x2048x768 : Shape := ⟨3, ![8, 2048, 768]⟩
abbrev S1x768 : Shape := ⟨2, ![1, 768]⟩
abbrev S8x2048x12x64 : Shape := ⟨4, ![8, 2048, 12, 64]⟩
abbrev S8x2048x12 : Shape := ⟨3, ![8, 2048, 12]⟩
abbrev S8x2048x12x1 : Shape := ⟨4, ![8, 2048, 12, 1]⟩
abbrev S12x64 : Shape := ⟨2, ![12, 64]⟩
abbrev S1x1x12x64 : Shape := ⟨4, ![1, 1, 12, 64]⟩
abbrev S16384x768 : Shape := ⟨2, ![16384, 768]⟩
abbrev S8x2048x2048 : Shape := ⟨3, ![8, 2048, 2048]⟩
abbrev S16384x2048 : Shape := ⟨2, ![16384, 2048]⟩
abbrev S16384x3584 : Shape := ⟨2, ![16384, 3584]⟩

abbrev nBuf : Space → Nat
  | .hbm => 142
  | .vmem => 0
  | .smem => 0
  | _ => 0

abbrev hbmTy0_0 (i : Nat) : BufTy := match i % 128 with
  | 0 => ⟨S16384x1024, .f32⟩
  | 1 => ⟨S1x1024, .f32⟩
  | 2 => ⟨S8x1x1024, .f32⟩
  | 3 => ⟨S8x1x1024, .f32⟩
  | 4 => ⟨S1024x5896, .f32⟩
  | 5 => ⟨S1x2560, .f32⟩
  | 6 => ⟨S8x2048x1024, .f32⟩
  | 7 => ⟨S8x2048x1024, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S_, .f32⟩
  | 24 => ⟨S8x1x1024, .f32⟩
  | 25 => ⟨S8x1x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S8x2048x5896, .f32⟩
  | 31 => ⟨S8x2048x512, .f32⟩
  | 32 => ⟨S1x512, .f32⟩
  | 33 => ⟨S8x2048x8x64, .f32⟩
  | 34 => ⟨S8x2048x8x64, .f32⟩
  | 35 => ⟨S_, .f32⟩
  | 36 => ⟨S8x2048x8, .f32⟩
  | 37 => ⟨S8x2048x8x1, .f32⟩
  | 38 => ⟨S_, .f32⟩
  | 39 => ⟨S8x2048x8x1, .f32⟩
  | 40 => ⟨S8x2048x8x1, .f32⟩
  | 41 => ⟨S_, .f32⟩
  | 42 => ⟨S8x2048x8x1, .f32⟩
  | 43 => ⟨S8x2048x8x1, .f32⟩
  | 44 => ⟨S8x2048x8x1, .f32⟩
  | 45 => ⟨S8x2048x8x64, .f32⟩
  | 46 => ⟨S8x2048x8x64, .f32⟩
  | 47 => ⟨S8x64, .f32⟩
  | 48 => ⟨S1x1x8x64, .f32⟩
  | 49 => ⟨S8x2048x8x64, .f32⟩
  | 50 => ⟨S8x2048x8x64, .f32⟩
  | 51 => ⟨S16384x512, .f32⟩
  | 52 => ⟨S16384x512, .bf16⟩
  | 53 => ⟨S8x2048x512, .f32⟩
  | 54 => ⟨S1x512, .f32⟩
  | 55 => ⟨S8x2048x8x64, .f32⟩
  | 56 => ⟨S8x2048x8x64, .f32⟩
  | 57 => ⟨S_, .f32⟩
  | 58 => ⟨S8x2048x8, .f32⟩
  | 59 => ⟨S8x2048x8x1, .f32⟩
  | 60 => ⟨S_, .f32⟩
  | 61 => ⟨S8x2048x8x1, .f32⟩
  | 62 => ⟨S8x2048x8x1, .f32⟩
  | 63 => ⟨S_, .f32⟩
  | 64 => ⟨S8x2048x8x1, .f32⟩
  | 65 => ⟨S8x2048x8x1, .f32⟩
  | 66 => ⟨S8x2048x8x1, .f32⟩
  | 67 => ⟨S8x2048x8x64, .f32⟩
  | 68 => ⟨S8x2048x8x64, .f32⟩
  | 69 => ⟨S8x64, .f32⟩
  | 70 => ⟨S1x1x8x64, .f32⟩
  | 71 => ⟨S8x2048x8x64, .f32⟩
  | 72 => ⟨S8x2048x8x64, .f32⟩
  | 73 => ⟨S16384x512, .f32⟩
  | 74 => ⟨S16384x512, .bf16⟩
  | 75 => ⟨S8x2048x512, .f32⟩
  | 76 => ⟨S16384x512, .f32⟩
  | 77 => ⟨S16384x512, .bf16⟩
  | 78 => ⟨S8x2048x8, .f32⟩
  | 79 => ⟨S16384x8, .f32⟩
  | 80 => ⟨S_, .i32⟩
  | 81 => ⟨S_, .f32⟩
  | 82 => ⟨S16384x128, .f32⟩
  | 83 => ⟨S8x2048x768, .f32⟩
  | 84 => ⟨S1x768, .f32⟩
  | 85 => ⟨S8x2048x12x64, .f32⟩
  | 86 => ⟨S8x2048x12x64, .f32⟩
  | 87 => ⟨S_, .f32⟩
  | 88 => ⟨S8x2048x12, .f32⟩
  | 89 => ⟨S8x2048x12x1, .f32⟩
  | 90 => ⟨S_, .f32⟩
  | 91 => ⟨S8x2048x12x1, .f32⟩
  | 92 => ⟨S8x2048x12x1, .f32⟩
  | 93 => ⟨S_, .f32⟩
  | 94 => ⟨S8x2048x12x1, .f32⟩
  | 95 => ⟨S8x2048x12x1, .f32⟩
  | 96 => ⟨S8x2048x12x1, .f32⟩
  | 97 => ⟨S8x2048x12x64, .f32⟩
  | 98 => ⟨S8x2048x12x64, .f32⟩
  | 99 => ⟨S12x64, .f32⟩
  | 100 => ⟨S1x1x12x64, .f32⟩
  | 101 => ⟨S8x2048x12x64, .f32⟩
  | 102 => ⟨S8x2048x12x64, .f32⟩
  | 103 => ⟨S16384x768, .f32⟩
  | 104 => ⟨S16384x768, .bf16⟩
  | 105 => ⟨S8x2048x768, .f32⟩
  | 106 => ⟨S1x768, .f32⟩
  | 107 => ⟨S8x2048x12x64, .f32⟩
  | 108 => ⟨S8x2048x12x64, .f32⟩
  | 109 => ⟨S_, .f32⟩
  | 110 => ⟨S8x2048x12, .f32⟩
  | 111 => ⟨S8x2048x12x1, .f32⟩
  | 112 => ⟨S_, .f32⟩
  | 113 => ⟨S8x2048x12x1, .f32⟩
  | 114 => ⟨S8x2048x12x1, .f32⟩
  | 115 => ⟨S_, .f32⟩
  | 116 => ⟨S8x2048x12x1, .f32⟩
  | 117 => ⟨S8x2048x12x1, .f32⟩
  | 118 => ⟨S8x2048x12x1, .f32⟩
  | 119 => ⟨S8x2048x12x64, .f32⟩
  | 120 => ⟨S8x2048x12x64, .f32⟩
  | 121 => ⟨S12x64, .f32⟩
  | 122 => ⟨S1x1x12x64, .f32⟩
  | 123 => ⟨S8x2048x12x64, .f32⟩
  | 124 => ⟨S8x2048x12x64, .f32⟩
  | 125 => ⟨S16384x768, .f32⟩
  | 126 => ⟨S16384x768, .bf16⟩
  | 127 => ⟨S8x2048x768, .f32⟩
  | _ => ⟨S16384x1024, .f32⟩

abbrev hbmTy0_1 (i : Nat) : BufTy := match i % 128 with
  | 0 => ⟨S16384x768, .f32⟩
  | 1 => ⟨S16384x768, .bf16⟩
  | 2 => ⟨S8x2048x2048, .f32⟩
  | 3 => ⟨S8x2048x2048, .f32⟩
  | 4 => ⟨S8x2048x2048, .f32⟩
  | 5 => ⟨S_, .f32⟩
  | 6 => ⟨S8x2048x2048, .f32⟩
  | 7 => ⟨S8x2048x2048, .f32⟩
  | 8 => ⟨S_, .f32⟩
  | 9 => ⟨S8x2048x2048, .f32⟩
  | 10 => ⟨S8x2048x2048, .f32⟩
  | 11 => ⟨S16384x2048, .f32⟩
  | 12 => ⟨S16384x2048, .bf16⟩
  | 13 => ⟨S16384x3584, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c : Ref sig .tc := ⟨.hbm, 80, rfl⟩
abbrev main_call0_v0 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_12 : Ref sig .tc := ⟨.hbm, 109, rfl⟩
abbrev main_v88 : Ref sig .tc := ⟨.hbm, 110, rfl⟩
abbrev main_v89 : Ref sig .tc := ⟨.hbm, 111, rfl⟩
abbrev main_cst_13 : Ref sig .tc := ⟨.hbm, 112, rfl⟩
abbrev main_v90 : Ref sig .tc := ⟨.hbm, 113, rfl⟩
abbrev main_v91 : Ref sig .tc := ⟨.hbm, 114, rfl⟩
abbrev main_cst_14 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_15 : Ref sig .tc := ⟨.hbm, 133, rfl⟩
abbrev main_v109 : Ref sig .tc := ⟨.hbm, 134, rfl⟩
abbrev main_v110 : Ref sig .tc := ⟨.hbm, 135, rfl⟩
abbrev main_cst_16 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩

abbrev nD : Nat := 1
abbrev τ : Topo := Topo.v7x

variable {F : FTy → Type} [FloatOps F]
-- ==== OutProj.lean ====
abbrev S16384x1024 : Shape := ⟨2, ![16384, 1024]⟩
abbrev S16384x512 : Shape := ⟨2, ![16384, 512]⟩
abbrev S16384x256 : Shape := ⟨2, ![16384, 256]⟩
abbrev S16384x3584 : Shape := ⟨2, ![16384, 3584]⟩
abbrev S8x1x1024 : Shape := ⟨3, ![8, 1, 1024]⟩
abbrev S1x1024 : Shape := ⟨2, ![1, 1024]⟩
abbrev S512x1024 : Shape := ⟨2, ![512, 1024]⟩
abbrev S256x1024 : Shape := ⟨2, ![256, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S16384x128 : Shape := ⟨2, ![16384, 128]⟩
abbrev S1024x512 : Shape := ⟨2, ![1024, 512]⟩
abbrev S1024x256 : Shape := ⟨2, ![1024, 256]⟩
abbrev S1x1x1024 : Shape := ⟨3, ![1, 1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩

abbrev nBuf : Space → Nat
  | .hbm => 29
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x3584, .bf16⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1x1024, .f32⟩
  | .hbm, ⟨8, _⟩ => ⟨S512x1024, .f32⟩
  | .hbm, ⟨9, _⟩ => ⟨S256x1024, .f32⟩
  | .hbm, ⟨10, _⟩ => ⟨S1024x1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S512x1024, .bf16⟩
  | .hbm, ⟨24, _⟩ => ⟨S256x1024, .bf16⟩
  | .hbm, ⟨25, _⟩ => ⟨S1024x1024, .bf16⟩
  | .hbm, ⟨26, _⟩ => ⟨S16384x1024, .f32⟩
  | .hbm, ⟨27, _⟩ => ⟨S16384x1024, .bf16⟩
  | .hbm, ⟨28, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S512x1024, .bf16⟩
  | .local _ .vmem, ⟨18, _⟩ => ⟨S256x1024, .bf16⟩
  | .local _ .vmem, ⟨19, _⟩ => ⟨S1024x1024, .bf16⟩
  | .local _ .vmem, ⟨20, _⟩ => ⟨S1024x128, .bf16⟩
  | .local _ .vmem, ⟨21, _⟩ => ⟨S1x128, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x128, .f32⟩
  | .local _ .vmem, ⟨27, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutProjRefIdeal.lean ====
abbrev S16384x1024 : Shape := ⟨2, ![16384, 1024]⟩
abbrev S16384x512 : Shape := ⟨2, ![16384, 512]⟩
abbrev S16384x256 : Shape := ⟨2, ![16384, 256]⟩
abbrev S16384x3584 : Shape := ⟨2, ![16384, 3584]⟩
abbrev S8x1x1024 : Shape := ⟨3, ![8, 1, 1024]⟩
abbrev S1x1024 : Shape := ⟨2, ![1, 1024]⟩
abbrev S512x1024 : Shape := ⟨2, ![512, 1024]⟩
abbrev S256x1024 : Shape := ⟨2, ![256, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x4 : Shape := ⟨2, ![16384, 4]⟩
abbrev S1x4 : Shape := ⟨2, ![1, 4]⟩
abbrev S16384x32 : Shape := ⟨2, ![16384, 32]⟩
abbrev S1x32 : Shape := ⟨2, ![1, 32]⟩
abbrev S16384x36 : Shape := ⟨2, ![16384, 36]⟩
abbrev S16384x128 : Shape := ⟨2, ![16384, 128]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x3584, .bf16⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1x1024, .f32⟩
  | .hbm, ⟨8, _⟩ => ⟨S512x1024, .f32⟩
  | .hbm, ⟨9, _⟩ => ⟨S256x1024, .f32⟩
  | .hbm, ⟨10, _⟩ => ⟨S1024x1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S16384x1024, .bf16⟩
  | .hbm, ⟨16, _⟩ => ⟨S16384x1024, .f32⟩
  | .hbm, ⟨17, _⟩ => ⟨S16384x1024, .bf16⟩
  | .hbm, ⟨18, _⟩ => ⟨S16384x1024, .f32⟩
  | .hbm, ⟨19, _⟩ => ⟨S16384x512, .f32⟩
  | .hbm, ⟨20, _⟩ => ⟨S16384x1024, .f32⟩
  | .hbm, ⟨21, _⟩ => ⟨S16384x1024, .f32⟩
  | .hbm, ⟨22, _⟩ => ⟨S16384x256, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S8x2048x1024, .f32⟩
  | .hbm, ⟨27, _⟩ => ⟨S16384x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x1x1024, .f32⟩
  | .hbm, ⟨50, _⟩ => ⟨S8x1x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | .hbm, ⟨56, _⟩ => ⟨S16384x4, .f32⟩
  | .hbm, ⟨57, _⟩ => ⟨S1x4, .f32⟩
  | .hbm, ⟨58, _⟩ => ⟨S16384x4, .f32⟩
  | .hbm, ⟨59, _⟩ => ⟨S16384x4, .f32⟩
  | .hbm, ⟨60, _⟩ => ⟨S16384x32, .f32⟩
  | .hbm, ⟨61, _⟩ => ⟨S1x32, .f32⟩
  | .hbm, ⟨62, _⟩ => ⟨S16384x32, .f32⟩
  | .hbm, ⟨63, _⟩ => ⟨S16384x32, .f32⟩
  | .hbm, ⟨64, _⟩ => ⟨S16384x36, .f32⟩
  | .hbm, ⟨65, _⟩ => ⟨S_, .i32⟩
  | .hbm, ⟨66, _⟩ => ⟨S_, .f32⟩
  | .hbm, ⟨67, _⟩ => ⟨S16384x128, .f32⟩
  | .hbm, ⟨68, _⟩ => ⟨S16384x1024, .f32⟩
  | .hbm, ⟨69, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Forget.lean ====
abbrev S8x2048x128 : Shape := ⟨3, ![8, 2048, 128]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S256x512 : Shape := ⟨2, ![256, 512]⟩
abbrev S8x8x2048 : Shape := ⟨3, ![8, 8, 2048]⟩
abbrev S1x2048x128 : Shape := ⟨3, ![1, 2048, 128]⟩
abbrev S1x8x2048 : Shape := ⟨3, ![1, 8, 2048]⟩
abbrev S2048x128 : Shape := ⟨2, ![2048, 128]⟩
abbrev S128x2048 : Shape := ⟨2, ![128, 2048]⟩
abbrev S128x256 : Shape := ⟨2, ![128, 256]⟩
abbrev S128x512 : Shape := ⟨2, ![128, 512]⟩
abbrev S8x256 : Shape := ⟨2, ![8, 256]⟩
abbrev S1x8x256 : Shape := ⟨3, ![1, 8, 256]⟩

abbrev nBuf : Space → Nat
  | .hbm => 20
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S256x512, .i32⟩
  | .hbm, ⟨11, _⟩ => ⟨S256x512, .i32⟩
  | .hbm, ⟨12, _⟩ => ⟨S256x512, .i1⟩
  | .hbm, ⟨13, _⟩ => ⟨S_, .f32⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S256x512, .bf16⟩
  | .hbm, ⟨19, _⟩ => ⟨S8x8x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x128, .f32⟩
  | .local _ .vmem, ⟨3, _⟩ => ⟨S256x512, .bf16⟩
  | .local _ .vmem, ⟨4, _⟩ => ⟨S1x8x2048, .f32⟩
  | .local _ .vmem, ⟨5, _⟩ => ⟨S1x8x2048, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ForgetIdeal.lean ====
variable {F : FTy → Type} [FloatOps F] [Named F]
def κ : String → Option EReal := fun
  | "log2e" => some (((Real.log 2)⁻¹ : ℝ) : EReal)
  | _ => none
-- ==== ForgetRefIdeal.lean ====
abbrev S8x2048x128 : Shape := ⟨3, ![8, 2048, 128]⟩
abbrev S8 : Shape := ⟨1, ![8]⟩
abbrev S8x2048x8 : Shape := ⟨3, ![8, 2048, 8]⟩
abbrev S1x1x8 : Shape := ⟨3, ![1, 1, 8]⟩
abbrev S_ : Shape := ⟨0, ![]⟩
abbrev S8x8x2048 : Shape := ⟨3, ![8, 8, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8, .f32⟩
  | .hbm, ⟨2, _⟩ => ⟨S8x2048x8, .f32⟩
  | .hbm, ⟨3, _⟩ => ⟨S1x1x8, .f32⟩
  | .hbm, ⟨4, _⟩ => ⟨S8x2048x8, .f32⟩
  | .hbm, ⟨5, _⟩ => ⟨S8x2048x8, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S8x2048x8, .f32⟩
  | .hbm, ⟨10, _⟩ => ⟨S8x2048x8, .f32⟩
  | .hbm, ⟨11, _⟩ => ⟨S8x2048x8, .f32⟩
  | .hbm, ⟨12, _⟩ => ⟨S8x2048x8, .i1⟩
  | .hbm, ⟨13, _⟩ => ⟨S8x2048x8, .f32⟩
  | .hbm, ⟨14, _⟩ => ⟨S8x2048x8, .f32⟩
  | .hbm, ⟨15, _⟩ => ⟨S8x2048x8, .f32⟩
  | .hbm, ⟨16, _⟩ => ⟨S8x2048x8, .f32⟩
  | .hbm, ⟨17, _⟩ => ⟨S8x2048x8, .f32⟩
  | .hbm, ⟨18, _⟩ => ⟨S8x2048x8, .f32⟩
  | .hbm, ⟨19, _⟩ => ⟨S8x2048x8, .f32⟩
  | .hbm, ⟨20, _⟩ => ⟨S8x2048x8, .f32⟩
  | .hbm, ⟨21, _⟩ => ⟨S8x2048x8, .f32⟩
  | .hbm, ⟨22, _⟩ => ⟨S_, .f32⟩
  | .hbm, ⟨23, _⟩ => ⟨S_, .f32⟩
  | .hbm, ⟨24, _⟩ => ⟨S8x2048x8, .f32⟩
  | .hbm, ⟨25, _⟩ => ⟨S8x2048x8, .f32⟩
  | .hbm, ⟨26, _⟩ => ⟨S_, .f32⟩
  | .hbm, ⟨27, _⟩ => ⟨S_, .f32⟩
  | .hbm, ⟨28, _⟩ => ⟨S8x2048x8, .f32⟩
  | .hbm, ⟨29, _⟩ => ⟨S8x8x2048, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call1_call0_cst : Ref sig .tc := ⟨.hbm, 26, rfl⟩
abbrev main_call1_call0_v0 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Modulation.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x512 : Shape := ⟨2, ![1024, 512]⟩
abbrev S1x512 : Shape := ⟨2, ![1, 512]⟩
abbrev S8x512 : Shape := ⟨2, ![8, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Combine.lean ====
abbrev S16384x1024 : Shape := ⟨2, ![16384, 1024]⟩
abbrev S40960x1024 : Shape := ⟨2, ![40960, 1024]⟩
abbrev S16384x128 : Shape := ⟨2, ![16384, 128]⟩
abbrev S8x1x1024 : Shape := ⟨3, ![8, 1, 1024]⟩
abbrev S40960x512 : Shape := ⟨2, ![40960, 512]⟩
abbrev S1280x1024 : Shape := ⟨2, ![1280, 1024]⟩
abbrev S1280x512 : Shape := ⟨2, ![1280, 512]⟩
abbrev S512x1024 : Shape := ⟨2, ![512, 1024]⟩
abbrev S512x128 : Shape := ⟨2, ![512, 128]⟩
abbrev S1x1x1024 : Shape := ⟨3, ![1, 1, 1024]⟩
abbrev S512x1280 : Shape := ⟨2, ![512, 1280]⟩
abbrev S512x1 : Shape := ⟨2, ![512, 1]⟩
abbrev S1x1024 : Shape := ⟨2, ![1, 1024]⟩
abbrev S512x512 : Shape := ⟨2, ![512, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S40960x1024, .bf16⟩
  | .hbm, ⟨2, _⟩ => ⟨S16384x128, .f32⟩
  | .hbm, ⟨3, _⟩ => ⟨S8x1x1024, .f32⟩
  | .hbm, ⟨4, _⟩ => ⟨S40960x512, .i32⟩
  | .hbm, ⟨5, _⟩ => ⟨S16384x1024, .f32⟩
  | .local _ .vmem, ⟨0, _⟩ => ⟨S1280x1024, .bf16⟩
  | .local _ .vmem, ⟨1, _⟩ => ⟨S1280x1024, .bf16⟩
  | .local _ .vmem, ⟨2, _⟩ => ⟨S1280x512, .i32⟩
  | .local _ .vmem, ⟨3, _⟩ => ⟨S1280x512, .i32⟩
  | .local _ .vmem, ⟨4, _⟩ => ⟨S512x1024, .f32⟩
  | .local _ .vmem, ⟨5, _⟩ => ⟨S512x1024, .f32⟩
  | .local _ .vmem, ⟨6, _⟩ => ⟨S1280x512, .i32⟩
  | .local _ .vmem, ⟨7, _⟩ => ⟨S1280x512, .i32⟩
  | .local _ .vmem, ⟨8, _⟩ => ⟨S512x128, .f32⟩
  | .local _ .vmem, ⟨9, _⟩ => ⟨S512x128, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1280x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== CombineIdeal.lean ====
abbrev S16384x1024 : Shape := ⟨2, ![16384, 1024]⟩
abbrev S40960x1024 : Shape := ⟨2, ![40960, 1024]⟩
abbrev S16384x128 : Shape := ⟨2, ![16384, 128]⟩
abbrev S8x1x1024 : Shape := ⟨3, ![8, 1, 1024]⟩
abbrev S40960x2x512 : Shape := ⟨3, ![40960, 2, 512]⟩
abbrev S40960x1x512 : Shape := ⟨3, ![40960, 1, 512]⟩
abbrev S40960x512 : Shape := ⟨2, ![40960, 512]⟩
abbrev S1280x1024 : Shape := ⟨2, ![1280, 1024]⟩
abbrev S1280x512 : Shape := ⟨2, ![1280, 512]⟩
abbrev S1280x2x512 : Shape := ⟨3, ![1280, 2, 512]⟩
abbrev S1280x1x512 : Shape := ⟨3, ![1280, 1, 512]⟩
abbrev S512x1024 : Shape := ⟨2, ![512, 1024]⟩
abbrev S512x128 : Shape := ⟨2, ![512, 128]⟩
abbrev S1x1x1024 : Shape := ⟨3, ![1, 1, 1024]⟩
abbrev S512x1280 : Shape := ⟨2, ![512, 1280]⟩
abbrev S512x1 : Shape := ⟨2, ![512, 1]⟩
abbrev S2560x512 : Shape := ⟨2, ![2560, 512]⟩
abbrev S1x1024 : Shape := ⟨2, ![1, 1024]⟩
abbrev S512x512 : Shape := ⟨2, ![512, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S40960x1024, .bf16⟩
  | .hbm, ⟨2, _⟩ => ⟨S16384x128, .f32⟩
  | .hbm, ⟨3, _⟩ => ⟨S8x1x1024, .f32⟩
  | .hbm, ⟨4, _⟩ => ⟨S40960x2x512, .bf16⟩
  | .hbm, ⟨5, _⟩ => ⟨S16384x1024, .f32⟩
  | .local _ .vmem, ⟨0, _⟩ => ⟨S1280x1024, .bf16⟩
  | .local _ .vmem, ⟨1, _⟩ => ⟨S1280x1024, .bf16⟩
  | .local _ .vmem, ⟨2, _⟩ => ⟨S1280x2x512, .bf16⟩
  | .local _ .vmem, ⟨3, _⟩ => ⟨S1280x2x512, .bf16⟩
  | .local _ .vmem, ⟨4, _⟩ => ⟨S512x1024, .f32⟩
  | .local _ .vmem, ⟨5, _⟩ => ⟨S512x1024, .f32⟩
  | .local _ .vmem, ⟨6, _⟩ => ⟨S1280x2x512, .bf16⟩
  | .local _ .vmem, ⟨7, _⟩ => ⟨S1280x2x512, .bf16⟩
  | .local _ .vmem, ⟨8, _⟩ => ⟨S512x128, .f32⟩
  | .local _ .vmem, ⟨9, _⟩ => ⟨S512x128, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x2x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1280x2x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== CombineRefIdeal.lean ====
abbrev S16384x1024 : Shape := ⟨2, ![16384, 1024]⟩
abbrev S40960x1024 : Shape := ⟨2, ![40960, 1024]⟩
abbrev S16384x128 : Shape := ⟨2, ![16384, 128]⟩
abbrev S8x1x1024 : Shape := ⟨3, ![8, 1, 1024]⟩
abbrev S32x512 : Shape := ⟨2, ![32, 512]⟩
abbrev S16384 : Shape := ⟨1, ![16384]⟩
abbrev S_ : Shape := ⟨0, ![]⟩
abbrev S16384x1 : Shape := ⟨2, ![16384, 1]⟩
abbrev S8x2048x1024 : Shape := ⟨3, ![8, 2048, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S40960x1024, .bf16⟩
  | .hbm, ⟨2, _⟩ => ⟨S16384x128, .f32⟩
  | .hbm, ⟨3, _⟩ => ⟨S8x1x1024, .f32⟩
  | .hbm, ⟨4, _⟩ => ⟨S32x512, .i32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384x1, .f32⟩
  | .hbm, ⟨10, _⟩ => ⟨S16384, .f32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x1024, .bf16⟩
  | .hbm, ⟨22, _⟩ => ⟨S16384x1, .f32⟩
  | .hbm, ⟨23, _⟩ => ⟨S16384, .f32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x1024, .bf16⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== RelBias.lean ====
abbrev S32x12 : Shape := ⟨2, ![32, 12]⟩
abbrev S3x128x256 : Shape := ⟨3, ![3, 128, 256]⟩
abbrev S_ : Shape := ⟨0, ![]⟩
abbrev S2x12x128x256 : Shape := ⟨4, ![2, 12, 128, 256]⟩
abbrev S1x128x256 : Shape := ⟨3, ![1, 128, 256]⟩
abbrev S2x4x128x256 : Shape := ⟨4, ![2, 4, 128, 256]⟩
abbrev S128x256 : Shape := ⟨2, ![128, 256]⟩
abbrev S1x1 : Shape := ⟨2, ![1, 1]⟩
abbrev S1x1x128x256 : Shape := ⟨4, ![1, 1, 128, 256]⟩

abbrev nBuf : Space → Nat
  | .hbm => 102
  | .vmem => 6
  | .smem => 1
  | _ => 0

abbrev bufTy : (tb : Table) → Fin (tcTables nBuf tb) → BufTy
  | .hbm, ⟨0, _⟩ => ⟨S32x12, .f32⟩
  | .hbm, ⟨1, _⟩ => ⟨S3x128x256, .i32⟩
  | .hbm, ⟨2, _⟩ => ⟨S3x128x256, .i32⟩
  | .hbm, ⟨3, _⟩ => ⟨S3x128x256, .i32⟩
  | .hbm, ⟨4, _⟩ => ⟨S_, .i32⟩
  | .hbm, ⟨5, _⟩ => ⟨S3x128x256, .i32⟩
  | .hbm, ⟨6, _⟩ => ⟨S3x128x256, .i32⟩
  | .hbm, ⟨7, _⟩ => ⟨S3x128x256, .i32⟩
  | .hbm, ⟨8, _⟩ => ⟨S_, .i32⟩
  | .hbm, ⟨9, _⟩ => ⟨S3x128x256, .i32⟩
  | .hbm, ⟨10, _⟩ => ⟨S3x128x256, .i1⟩
  | .hbm, ⟨11, _⟩ => ⟨S_, .i32⟩
  | .hbm, ⟨12, _⟩ => ⟨S3x128x256, .i32⟩
  | .hbm, ⟨13, _⟩ => ⟨S3x128x256, .i1⟩
  | .hbm, ⟨14, _⟩ => ⟨S3x128x256, .i1⟩
  | .hbm, ⟨15, _⟩ => ⟨S3x128x256, .i32⟩
  | .hbm, ⟨16, _⟩ => ⟨S_, .i32⟩
  | .hbm, ⟨17, _⟩ => ⟨S3x128x256, .i32⟩
  | .hbm, ⟨18, _⟩ => ⟨S3x128x256, .i32⟩
  | .hbm, ⟨19, _⟩ => ⟨S_, .i32⟩
  | .hbm, ⟨20, _⟩ => ⟨S3x128x256, .i32⟩
  | .hbm, ⟨21, _⟩ => ⟨S3x128x256, .i32⟩
  | .hbm, ⟨22, _⟩ => ⟨S3x128x256, .i32⟩
  | .hbm, ⟨23, _⟩ => ⟨S_, .i32⟩
  | .hbm, ⟨24, _⟩ => ⟨S3x128x256, .i32⟩
  | .hbm, ⟨25, _⟩ => ⟨S3x128x256, .i32⟩
  | .hbm, ⟨26, _⟩ => ⟨S_, .i32⟩
  | .hbm, ⟨27, _⟩ => ⟨S3x128x256, .i32⟩
  | .hbm, ⟨28, _⟩ => ⟨S3x128x256, .i1⟩
  | .hbm, ⟨29, _⟩ => ⟨S3x128x256, .i32⟩
  | .hbm, ⟨30, _⟩ => ⟨S3x128x256, .i32⟩
  | .hbm, ⟨31, _⟩ => ⟨S_, .i32⟩
  | .hbm, ⟨32, _⟩ => ⟨S3x128x256, .i32⟩
  | .hbm, ⟨33, _⟩ => ⟨S3x128x256, .i1⟩
  | .hbm, ⟨34, _⟩ => ⟨S3x128x256, .i32⟩
  | .hbm, ⟨35, _⟩ => ⟨S3x128x256, .i32⟩
  | .hbm, ⟨36, _⟩ => ⟨S_, .i32⟩
  | .hbm, ⟨37, _⟩ => ⟨S3x128x256, .i32⟩
  | .hbm, ⟨38, _⟩ => ⟨S3x128x256, .i1⟩
  | .hbm, ⟨39, _⟩ => ⟨S3x128x256, .i32⟩
  | .hbm, ⟨40, _⟩ => ⟨S3x128x256, .i32⟩
  | .hbm, ⟨41, _⟩ => ⟨S_, .i32⟩
  | .hbm, ⟨42, _⟩ => ⟨S3x128x256, .i32⟩
  | .hbm, ⟨43, _⟩ => ⟨S3x128x256, .i1⟩
  | .hbm, ⟨44, _⟩ => ⟨S3x128x256, .i32⟩
  | .hbm, ⟨45, _⟩ => ⟨S3x128x256, .i32⟩
  | .hbm, ⟨46, _⟩ => ⟨S_, .i32⟩
  | .hbm, ⟨47, _⟩ => ⟨S3x128x256, .i32⟩
  | .hbm, ⟨48, _⟩ => ⟨S3x128x256, .i1⟩
  | .hbm, ⟨49, _⟩ => ⟨S3x128x256, .i32⟩
  | .hbm, ⟨50, _⟩ => ⟨S3x128x256, .i32⟩
  | .hbm, ⟨51, _⟩ => ⟨S_, .i32⟩
  | .hbm, ⟨52, _⟩ => ⟨S3x128x256, .i32⟩
  | .hbm, ⟨53, _⟩ => ⟨S3x128x256, .i1⟩
  | .hbm, ⟨54, _⟩ => ⟨S3x128x256, .i32⟩
  | .hbm, ⟨55, _⟩ => ⟨S3x128x256, .i32⟩
  | .hbm, ⟨56, _⟩ => ⟨S_, .i32⟩
  | .hbm, ⟨57, _⟩ => ⟨S3x128x256, .i32⟩
  | .hbm, ⟨58, _⟩ => ⟨S3x128x256, .i1⟩
  | .hbm, ⟨59, _⟩ => ⟨S3x128x256, .i32⟩
  | .hbm, ⟨60, _⟩ => ⟨S3x128x256, .i32⟩
  | .hbm, ⟨61, _⟩ => ⟨S_, .i32⟩
  | .hbm, ⟨62, _⟩ => ⟨S3x128x256, .i32⟩
  | .hbm, ⟨63, _⟩ => ⟨S3x128x256, .i1⟩
  | .hbm, ⟨64, _⟩ => ⟨S3x128x256, .i32⟩
  | .hbm, ⟨65, _⟩ => ⟨S3x128x256, .i32⟩
  | .hbm, ⟨66, _⟩ => ⟨S_, .i32⟩
  | .hbm, ⟨67, _⟩ => ⟨S3x128x256, .i32⟩
  | .hbm, ⟨68, _⟩ => ⟨S3x128x256, .i1⟩
  | .hbm, ⟨69, _⟩ => ⟨S3x128x256, .i32⟩
  | .hbm, ⟨70, _⟩ => ⟨S3x128x256, .i32⟩
  | .hbm, ⟨71, _⟩ => ⟨S_, .i32⟩
  | .hbm, ⟨72, _⟩ => ⟨S3x128x256, .i32⟩
  | .hbm, ⟨73, _⟩ => ⟨S3x128x256, .i1⟩
  | .hbm, ⟨74, _⟩ => ⟨S3x128x256, .i32⟩
  | .hbm, ⟨75, _⟩ => ⟨S3x128x256, .i32⟩
  | .hbm, ⟨76, _⟩ => ⟨S_, .i32⟩
  | .hbm, ⟨77, _⟩ => ⟨S3x128x256, .i32⟩
  | .hbm, ⟨78, _⟩ => ⟨S3x128x256, .i1⟩
  | .hbm, ⟨79, _⟩ => ⟨S3x128x256, .i32⟩
  | .hbm, ⟨80, _⟩ => ⟨S3x128x256, .i32⟩
  | .hbm, ⟨81, _⟩ => ⟨S_, .i32⟩
  | .hbm, ⟨82, _⟩ => ⟨S3x128x256, .i32⟩
  | .hbm, ⟨83, _⟩ => ⟨S3x128x256, .i1⟩
  | .hbm, ⟨84, _⟩ => ⟨S3x128x256, .i32⟩
  | .hbm, ⟨85, _⟩ => ⟨S3x128x256, .i32⟩
  | .hbm, ⟨86, _⟩ => ⟨S_, .i32⟩
  | .hbm, ⟨87, _⟩ => ⟨S3x128x256, .i32⟩
  | .hbm, ⟨88, _⟩ => ⟨S3x128x256, .i1⟩
  | .hbm, ⟨89, _⟩ => ⟨S3x128x256, .i32⟩
  | .hbm, ⟨90, _⟩ => ⟨S3x128x256, .i32⟩
  | .hbm, ⟨91, _⟩ => ⟨S_, .i32⟩
  | .hbm, ⟨92, _⟩ => ⟨S3x128x256, .i32⟩
  | .hbm, ⟨93, _⟩ => ⟨S3x128x256, .i1⟩
  | .hbm, ⟨94, _⟩ => ⟨S3x128x256, .i32⟩
  | .hbm, ⟨95, _⟩ => ⟨S3x128x256, .i32⟩
  | .hbm, ⟨96, _⟩ => ⟨S_, .i32⟩
  | .hbm, ⟨97, _⟩ => ⟨S3x128x256, .i32⟩
  | .hbm, ⟨98, _⟩ => ⟨S3x128x256, .i1⟩
  | .hbm, ⟨99, _⟩ => ⟨S3x128x256, .i32⟩
  | .hbm, ⟨100, _⟩ => ⟨S3x128x256, .i32⟩
  | .hbm, ⟨101, _⟩ => ⟨S2x12x128x256, .f32⟩
  | .local _ .vmem, ⟨0, _⟩ => ⟨S1x128x256, .i32⟩
  | .local _ .vmem, ⟨1, _⟩ => ⟨S1x128x256, .i32⟩
  | .local _ .vmem, ⟨2, _⟩ => ⟨S1x128x256, .i32⟩
  | .local _ .vmem, ⟨3, _⟩ => ⟨S1x128x256, .i32⟩
  | .local _ .vmem, ⟨4, _⟩ => ⟨S2x4x128x256, .f32⟩
  | .local _ .vmem, ⟨5, _⟩ => ⟨S2x4x128x256, .f32⟩
  | .local _ .smem, ⟨0, _⟩ => ⟨S32x12, .f32⟩
  | _, _ => ⟨S32x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_2 : Ref sig .tc := ⟨.hbm, 16, rfl⟩
abbrev main_v12 : Ref sig .tc := ⟨.hbm, 17, rfl⟩
abbrev main_v13 : Ref sig .tc := ⟨.hbm, 18, rfl⟩
abbrev main_c_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_4 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_8 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_9 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_10 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_11 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_12 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_13 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_14 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_15 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_16 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_17 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_18 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_19 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def k0_off1 (i : grid0.Coords) (c0_i32_5 : BitVec 32) : Fin 2 → Nat :=
  let c0_6 : Index := 0#32
  let arg0 : BitVec 32 := BitVec.ofNat 32 (i 0).val
  let c4_i32 : BitVec 32 := 4#32
  let v7 : BitVec 32 := Scalar.muli arg0 c4_i32
  let v8 : BitVec 32 := Scalar.addi v7 c0_i32_5
  let v9 : Index := Scalar.indexCast v8
  ![0, v9.toNat]
def k0_off2 (i : grid0.Coords) (c0_i32_8 : BitVec 32) : Fin 2 → Nat :=
  let c1 : Index := 1#32
  let arg0 : BitVec 32 := BitVec.ofNat 32 (i 0).val
  let c4_i32_7 : BitVec 32 := 4#32
  let v15 : BitVec 32 := Scalar.muli arg0 c4_i32_7
  let v16 : BitVec 32 := Scalar.addi v15 c0_i32_8
  let v17 : Index := Scalar.indexCast v16
  ![1, v17.toNat]
def k0_off3 (i : grid0.Coords) (c0_i32_10 : BitVec 32) : Fin 2 → Nat :=
  let c2 : Index := 2#32
  let arg0 : BitVec 32 := BitVec.ofNat 32 (i 0).val
  let c4_i32_9 : BitVec 32 := 4#32
  let v23 : BitVec 32 := Scalar.muli arg0 c4_i32_9
  let v24 : BitVec 32 := Scalar.addi v23 c0_i32_10
  let v25 : Index := Scalar.indexCast v24
  ![2, v25.toNat]
def k0_off4 (i : grid0.Coords) (c0_i32_12 : BitVec 32) : Fin 2 → Nat :=
  let c3 : Index := 3#32
  let arg0 : BitVec 32 := BitVec.ofNat 32 (i 0).val
  let c4_i32_11 : BitVec 32 := 4#32
  let v31 : BitVec 32 := Scalar.muli arg0 c4_i32_11
  let v32 : BitVec 32 := Scalar.addi v31 c0_i32_12
  let v33 : Index := Scalar.indexCast v32
  ![3, v33.toNat]
def k0_off5 (i : grid0.Coords) (c0_i32_15 : BitVec 32) : Fin 2 → Nat :=
  let c4 : Index := 4#32
  let arg0 : BitVec 32 := BitVec.ofNat 32 (i 0).val
  let c4_i32_14 : BitVec 32 := 4#32
  let v39 : BitVec 32 := Scalar.muli arg0 c4_i32_14
  let v40 : BitVec 32 := Scalar.addi v39 c0_i32_15
  let v41 : Index := Scalar.indexCast v40
  ![4, v41.toNat]
def k0_off6 (i : grid0.Coords) (c0_i32_17 : BitVec 32) : Fin 2 → Nat :=
  let c5 : Index := 5#32
  let arg0 : BitVec 32 := BitVec.ofNat 32 (i 0).val
  let c4_i32_16 : BitVec 32 := 4#32
  let v47 : BitVec 32 := Scalar.muli arg0 c4_i32_16
  let v48 : BitVec 32 := Scalar.addi v47 c0_i32_17
  let v49 : Index := Scalar.indexCast v48
  ![5, v49.toNat]
def k0_off7 (i : grid0.Coords) (c0_i32_19 : BitVec 32) : Fin 2 → Nat :=
  let c6 : Index := 6#32
  let arg0 : BitVec 32 := BitVec.ofNat 32 (i 0).val
  let c4_i32_18 : BitVec 32 := 4#32
  let v55 : BitVec 32 := Scalar.muli arg0 c4_i32_18
  let v56 : BitVec 32 := Scalar.addi v55 c0_i32_19
  let v57 : Index := Scalar.indexCast v56
  ![6, v57.toNat]
def k0_off8 (i : grid0.Coords) (c0_i32_21 : BitVec 32) : Fin 2 → Nat :=
  let c7 : Index := 7#32
  let arg0 : BitVec 32 := BitVec.ofNat 32 (i 0).val
  let c4_i32_20 : BitVec 32 := 4#32
  let v63 : BitVec 32 := Scalar.muli arg0 c4_i32_20
  let v64 : BitVec 32 := Scalar.addi v63 c0_i32_21
  let v65 : Index := Scalar.indexCast v64
  ![7, v65.toNat]
def k0_off9 (i : grid0.Coords) (c0_i32_23 : BitVec 32) : Fin 2 → Nat :=
  let c8 : Index := 8#32
  let arg0 : BitVec 32 := BitVec.ofNat 32 (i 0).val
  let c4_i32_22 : BitVec 32 := 4#32
  let v71 : BitVec 32 := Scalar.muli arg0 c4_i32_22
  let v72 : BitVec 32 := Scalar.addi v71 c0_i32_23
  let v73 : Index := Scalar.indexCast v72
  ![8, v73.toNat]
def k0_off10 (i : grid0.Coords) (c0_i32_25 : BitVec 32) : Fin 2 → Nat :=
  let c9 : Index := 9#32
  let arg0 : BitVec 32 := BitVec.ofNat 32 (i 0).val
  let c4_i32_24 : BitVec 32 := 4#32
  let v79 : BitVec 32 := Scalar.muli arg0 c4_i32_24
  let v80 : BitVec 32 := Scalar.addi v79 c0_i32_25
  let v81 : Index := Scalar.indexCast v80
  ![9, v81.toNat]
def k0_off11 (i : grid0.Coords) (c0_i32_27 : BitVec 32) : Fin 2 → Nat :=
  let c10 : Index := 10#32
  let arg0 : BitVec 32 := BitVec.ofNat 32 (i 0).val
  let c4_i32_26 : BitVec 32 := 4#32
  let v87 : BitVec 32 := Scalar.muli arg0 c4_i32_26
  let v88 : BitVec 32 := Scalar.addi v87 c0_i32_27
  let v89 : Index := Scalar.indexCast v88
  ![10, v89.toNat]
def k0_off12 (i : grid0.Coords) (c0_i32_29 : BitVec 32) : Fin 2 → Nat :=
  let c11 : Index := 11#32
  let arg0 : BitVec 32 := BitVec.ofNat 32 (i 0).val
  let c4_i32_28 : BitVec 32 := 4#32
  let v95 : BitVec 32 := Scalar.muli arg0 c4_i32_28
  let v96 : BitVec 32 := Scalar.addi v95 c0_i32_29
  let v97 : Index := Scalar.indexCast v96
  ![11, v97.toNat]
def k0_off13 (i : grid0.Coords) (c0_i32_31 : BitVec 32) : Fin 2 → Nat :=
  let c12 : Index := 12#32
  let arg0 : BitVec 32 := BitVec.ofNat 32 (i 0).val
  let c4_i32_30 : BitVec 32 := 4#32
  let v103 : BitVec 32 := Scalar.muli arg0 c4_i32_30
  let v104 : BitVec 32 := Scalar.addi v103 c0_i32_31
  let v105 : Index := Scalar.indexCast v104
  ![12, v105.toNat]
def k0_off14 (i : grid0.Coords) (c0_i32_33 : BitVec 32) : Fin 2 → Nat :=
  let c13 : Index := 13#32
  let arg0 : BitVec 32 := BitVec.ofNat 32 (i 0).val
  let c4_i32_32 : BitVec 32 := 4#32
  let v111 : BitVec 32 := Scalar.muli arg0 c4_i32_32
  let v112 : BitVec 32 := Scalar.addi v111 c0_i32_33
  let v113 : Index := Scalar.indexCast v112
  ![13, v113.toNat]
def k0_off15 (i : grid0.Coords) (c0_i32_35 : BitVec 32) : Fin 2 → Nat :=
  let c14 : Index := 14#32
  let arg0 : BitVec 32 := BitVec.ofNat 32 (i 0).val
  let c4_i32_34 : BitVec 32 := 4#32
  let v119 : BitVec 32 := Scalar.muli arg0 c4_i32_34
  let v120 : BitVec 32 := Scalar.addi v119 c0_i32_35
  let v121 : Index := Scalar.indexCast v120
  ![14, v121.toNat]
def k0_off16 (i : grid0.Coords) (c0_i32_37 : BitVec 32) : Fin 2 → Nat :=
  let c15 : Index := 15#32
  let arg0 : BitVec 32 := BitVec.ofNat 32 (i 0).val
  let c4_i32_36 : BitVec 32 := 4#32
  let v127 : BitVec 32 := Scalar.muli arg0 c4_i32_36
  let v128 : BitVec 32 := Scalar.addi v127 c0_i32_37
  let v129 : Index := Scalar.indexCast v128
  ![15, v129.toNat]
def k0_off17 (i : grid0.Coords) (c0_i32_39 : BitVec 32) : Fin 2 → Nat :=
  let c16 : Index := 16#32
  let arg0 : BitVec 32 := BitVec.ofNat 32 (i 0).val
  let c4_i32_38 : BitVec 32 := 4#32
  let v135 : BitVec 32 := Scalar.muli arg0 c4_i32_38
  let v136 : BitVec 32 := Scalar.addi v135 c0_i32_39
  let v137 : Index := Scalar.indexCast v136
  ![16, v137.toNat]
def k0_off18 (i : grid0.Coords) (c0_i32_41 : BitVec 32) : Fin 2 → Nat :=
  let c17 : Index := 17#32
  let arg0 : BitVec 32 := BitVec.ofNat 32 (i 0).val
  let c4_i32_40 : BitVec 32 := 4#32
  let v143 : BitVec 32 := Scalar.muli arg0 c4_i32_40
  let v144 : BitVec 32 := Scalar.addi v143 c0_i32_41
  let v145 : Index := Scalar.indexCast v144
  ![17, v145.toNat]
def k0_off19 (i : grid0.Coords) (c0_i32_43 : BitVec 32) : Fin 2 → Nat :=
  let c18 : Index := 18#32
  let arg0 : BitVec 32 := BitVec.ofNat 32 (i 0).val
  let c4_i32_42 : BitVec 32 := 4#32
  let v151 : BitVec 32 := Scalar.muli arg0 c4_i32_42
  let v152 : BitVec 32 := Scalar.addi v151 c0_i32_43
  let v153 : Index := Scalar.indexCast v152
  ![18, v153.toNat]
def k0_off20 (i : grid0.Coords) (c0_i32_45 : BitVec 32) : Fin 2 → Nat :=
  let c19 : Index := 19#32
  let arg0 : BitVec 32 := BitVec.ofNat 32 (i 0).val
  let c4_i32_44 : BitVec 32 := 4#32
  let v159 : BitVec 32 := Scalar.muli arg0 c4_i32_44
  let v160 : BitVec 32 := Scalar.addi v159 c0_i32_45
  let v161 : Index := Scalar.indexCast v160
  ![19, v161.toNat]
def k0_off21 (i : grid0.Coords) (c0_i32_47 : BitVec 32) : Fin 2 → Nat :=
  let c20 : Index := 20#32
  let arg0 : BitVec 32 := BitVec.ofNat 32 (i 0).val
  let c4_i32_46 : BitVec 32 := 4#32
  let v167 : BitVec 32 := Scalar.muli arg0 c4_i32_46
  let v168 : BitVec 32 := Scalar.addi v167 c0_i32_47
  let v169 : Index := Scalar.indexCast v168
  ![20, v169.toNat]
def k0_off22 (i : grid0.Coords) (c0_i32_49 : BitVec 32) : Fin 2 → Nat :=
  let c21 : Index := 21#32
  let arg0 : BitVec 32 := BitVec.ofNat 32 (i 0).val
  let c4_i32_48 : BitVec 32 := 4#32
  let v175 : BitVec 32 := Scalar.muli arg0 c4_i32_48
  let v176 : BitVec 32 := Scalar.addi v175 c0_i32_49
  let v177 : Index := Scalar.indexCast v176
  ![21, v177.toNat]
def k0_off23 (i : grid0.Coords) (c0_i32_51 : BitVec 32) : Fin 2 → Nat :=
  let c22 : Index := 22#32
  let arg0 : BitVec 32 := BitVec.ofNat 32 (i 0).val
  let c4_i32_50 : BitVec 32 := 4#32
  let v183 : BitVec 32 := Scalar.muli arg0 c4_i32_50
  let v184 : BitVec 32 := Scalar.addi v183 c0_i32_51
  let v185 : Index := Scalar.indexCast v184
  ![22, v185.toNat]
def k0_off24 (i : grid0.Coords) (c0_i32_53 : BitVec 32) : Fin 2 → Nat :=
  let c23 : Index := 23#32
  let arg0 : BitVec 32 := BitVec.ofNat 32 (i 0).val
  let c4_i32_52 : BitVec 32 := 4#32
  let v191 : BitVec 32 := Scalar.muli arg0 c4_i32_52
  let v192 : BitVec 32 := Scalar.addi v191 c0_i32_53
  let v193 : Index := Scalar.indexCast v192
  ![23, v193.toNat]
def k0_off25 (i : grid0.Coords) (c0_i32_55 : BitVec 32) : Fin 2 → Nat :=
  let c24 : Index := 24#32
  let arg0 : BitVec 32 := BitVec.ofNat 32 (i 0).val
  let c4_i32_54 : BitVec 32 := 4#32
  let v199 : BitVec 32 := Scalar.muli arg0 c4_i32_54
  let v200 : BitVec 32 := Scalar.addi v199 c0_i32_55
  let v201 : Index := Scalar.indexCast v200
  ![24, v201.toNat]
def k0_off26 (i : grid0.Coords) (c0_i32_57 : BitVec 32) : Fin 2 → Nat :=
  let c25 : Index := 25#32
  let arg0 : BitVec 32 := BitVec.ofNat 32 (i 0).val
  let c4_i32_56 : BitVec 32 := 4#32
  let v207 : BitVec 32 := Scalar.muli arg0 c4_i32_56
  let v208 : BitVec 32 := Scalar.addi v207 c0_i32_57
  let v209 : Index := Scalar.indexCast v208
  ![25, v209.toNat]
def k0_off27 (i : grid0.Coords) (c0_i32_59 : BitVec 32) : Fin 2 → Nat :=
  let c26 : Index := 26#32
  let arg0 : BitVec 32 := BitVec.ofNat 32 (i 0).val
  let c4_i32_58 : BitVec 32 := 4#32
  let v215 : BitVec 32 := Scalar.muli arg0 c4_i32_58
  let v216 : BitVec 32 := Scalar.addi v215 c0_i32_59
  let v217 : Index := Scalar.indexCast v216
  ![26, v217.toNat]
def k0_off28 (i : grid0.Coords) (c0_i32_61 : BitVec 32) : Fin 2 → Nat :=
  let c27 : Index := 27#32
  let arg0 : BitVec 32 := BitVec.ofNat 32 (i 0).val
  let c4_i32_60 : BitVec 32 := 4#32
  let v223 : BitVec 32 := Scalar.muli arg0 c4_i32_60
  let v224 : BitVec 32 := Scalar.addi v223 c0_i32_61
  let v225 : Index := Scalar.indexCast v224
  ![27, v225.toNat]
def k0_off29 (i : grid0.Coords) (c0_i32_63 : BitVec 32) : Fin 2 → Nat :=
  let c28 : Index := 28#32
  let arg0 : BitVec 32 := BitVec.ofNat 32 (i 0).val
  let c4_i32_62 : BitVec 32 := 4#32
  let v231 : BitVec 32 := Scalar.muli arg0 c4_i32_62
  let v232 : BitVec 32 := Scalar.addi v231 c0_i32_63
  let v233 : Index := Scalar.indexCast v232
  ![28, v233.toNat]
def k0_off30 (i : grid0.Coords) (c0_i32_65 : BitVec 32) : Fin 2 → Nat :=
  let c29 : Index := 29#32
  let arg0 : BitVec 32 := BitVec.ofNat 32 (i 0).val
  let c4_i32_64 : BitVec 32 := 4#32
  let v239 : BitVec 32 := Scalar.muli arg0 c4_i32_64
  let v240 : BitVec 32 := Scalar.addi v239 c0_i32_65
  let v241 : Index := Scalar.indexCast v240
  ![29, v241.toNat]
def k0_off31 (i : grid0.Coords) (c0_i32_67 : BitVec 32) : Fin 2 → Nat :=
  let c30 : Index := 30#32
  let arg0 : BitVec 32 := BitVec.ofNat 32 (i 0).val
  let c4_i32_66 : BitVec 32 := 4#32
  let v247 : BitVec 32 := Scalar.muli arg0 c4_i32_66
  let v248 : BitVec 32 := Scalar.addi v247 c0_i32_67
  let v249 : Index := Scalar.indexCast v248
  ![30, v249.toNat]
def k0_off32 (i : grid0.Coords) (c0_i32_69 : BitVec 32) : Fin 2 → Nat :=
  let c31 : Index := 31#32
  let arg0 : BitVec 32 := BitVec.ofNat 32 (i 0).val
  let c4_i32_68 : BitVec 32 := 4#32
  let v255 : BitVec 32 := Scalar.muli arg0 c4_i32_68
  let v256 : BitVec 32 := Scalar.addi v255 c0_i32_69
  let v257 : Index := Scalar.indexCast v256
  ![31, v257.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RelBiasIdeal.lean ====
variable {F : FTy → Type} [FloatOps F] [Named F]
def κ : String → Option EReal := fun
  | "log2e" => some (((Real.log 2)⁻¹ : ℝ) : EReal)
  | _ => none
-- ==== RelBiasRefIdeal.lean ====
abbrev S32x12 : Shape := ⟨2, ![32, 12]⟩
abbrev S128x256 : Shape := ⟨2, ![128, 256]⟩
abbrev S_ : Shape := ⟨0, ![]⟩
abbrev S32x4 : Shape := ⟨2, ![32, 4]⟩
abbrev S32768 : Shape := ⟨1, ![32768]⟩
abbrev S32768x1 : Shape := ⟨2, ![32768, 1]⟩
abbrev S32768x4 : Shape := ⟨2, ![32768, 4]⟩
abbrev S128x256x4 : Shape := ⟨3, ![128, 256, 4]⟩
abbrev S4x128x256 : Shape := ⟨3, ![4, 128, 256]⟩
abbrev S12x128x256 : Shape := ⟨3, ![12, 128, 256]⟩
abbrev S1x12x128x256 : Shape := ⟨4, ![1, 12, 128, 256]⟩
abbrev S2x12x128x256 : Shape := ⟨4, ![2, 12, 128, 256]⟩

abbrev nBuf : Space → Nat
  | .hbm => 327
  | .vmem => 0
  | .smem => 0
  | _ => 0

abbrev hbmTy0_0 (i : Nat) : BufTy := match i % 128 with
  | 0 => ⟨S32x12, .f32⟩
  | 1 => ⟨S128x256, .i32⟩
  | 2 => ⟨S128x256, .i32⟩
  | 3 => ⟨S_, .i32⟩
  | 4 => ⟨S128x256, .i32⟩
  | 5 => ⟨S128x256, .i32⟩
  | 6 => ⟨S128x256, .i32⟩
  | 7 => ⟨S_, .i32⟩
  | 8 => ⟨S128x256, .i32⟩
  | 9 => ⟨S128x256, .i32⟩
  | 10 => ⟨S_, .i32⟩
  | 11 => ⟨S128x256, .i32⟩
  | 12 => ⟨S128x256, .i32⟩
  | 13 => ⟨S_, .i32⟩
  | 14 => ⟨S128x256, .i32⟩
  | 15 => ⟨S128x256, .i32⟩
  | 16 => ⟨S_, .i32⟩
  | 17 => ⟨S128x256, .i32⟩
  | 18 => ⟨S128x256, .i1⟩
  | 19 => ⟨S128x256, .i32⟩
  | 20 => ⟨S128x256, .i32⟩
  | 21 => ⟨S_, .i32⟩
  | 22 => ⟨S128x256, .i32⟩
  | 23 => ⟨S128x256, .i1⟩
  | 24 => ⟨S128x256, .i32⟩
  | 25 => ⟨S128x256, .i32⟩
  | 26 => ⟨S_, .i32⟩
  | 27 => ⟨S128x256, .i32⟩
  | 28 => ⟨S128x256, .i1⟩
  | 29 => ⟨S128x256, .i32⟩
  | 30 => ⟨S128x256, .i32⟩
  | 31 => ⟨S_, .i32⟩
  | 32 => ⟨S128x256, .i32⟩
  | 33 => ⟨S128x256, .i1⟩
  | 34 => ⟨S128x256, .i32⟩
  | 35 => ⟨S128x256, .i32⟩
  | 36 => ⟨S_, .i32⟩
  | 37 => ⟨S128x256, .i32⟩
  | 38 => ⟨S128x256, .i1⟩
  | 39 => ⟨S128x256, .i32⟩
  | 40 => ⟨S128x256, .i32⟩
  | 41 => ⟨S_, .i32⟩
  | 42 => ⟨S128x256, .i32⟩
  | 43 => ⟨S128x256, .i1⟩
  | 44 => ⟨S128x256, .i32⟩
  | 45 => ⟨S128x256, .i32⟩
  | 46 => ⟨S_, .i32⟩
  | 47 => ⟨S128x256, .i32⟩
  | 48 => ⟨S128x256, .i1⟩
  | 49 => ⟨S128x256, .i32⟩
  | 50 => ⟨S128x256, .i32⟩
  | 51 => ⟨S_, .i32⟩
  | 52 => ⟨S128x256, .i32⟩
  | 53 => ⟨S128x256, .i1⟩
  | 54 => ⟨S128x256, .i32⟩
  | 55 => ⟨S128x256, .i32⟩
  | 56 => ⟨S_, .i32⟩
  | 57 => ⟨S128x256, .i32⟩
  | 58 => ⟨S128x256, .i1⟩
  | 59 => ⟨S128x256, .i32⟩
  | 60 => ⟨S128x256, .i32⟩
  | 61 => ⟨S_, .i32⟩
  | 62 => ⟨S128x256, .i32⟩
  | 63 => ⟨S128x256, .i1⟩
  | 64 => ⟨S128x256, .i32⟩
  | 65 => ⟨S128x256, .i32⟩
  | 66 => ⟨S_, .i32⟩
  | 67 => ⟨S128x256, .i32⟩
  | 68 => ⟨S128x256, .i1⟩
  | 69 => ⟨S128x256, .i32⟩
  | 70 => ⟨S128x256, .i32⟩
  | 71 => ⟨S_, .i32⟩
  | 72 => ⟨S128x256, .i32⟩
  | 73 => ⟨S128x256, .i1⟩
  | 74 => ⟨S128x256, .i32⟩
  | 75 => ⟨S128x256, .i32⟩
  | 76 => ⟨S_, .i32⟩
  | 77 => ⟨S128x256, .i32⟩
  | 78 => ⟨S128x256, .i1⟩
  | 79 => ⟨S128x256, .i32⟩
  | 80 => ⟨S128x256, .i32⟩
  | 81 => ⟨S_, .i32⟩
  | 82 => ⟨S128x256, .i32⟩
  | 83 => ⟨S128x256, .i1⟩
  | 84 => ⟨S128x256, .i32⟩
  | 85 => ⟨S128x256, .i32⟩
  | 86 => ⟨S_, .i32⟩
  | 87 => ⟨S128x256, .i32⟩
  | 88 => ⟨S128x256, .i1⟩
  | 89 => ⟨S128x256, .i32⟩
  | 90 => ⟨S128x256, .i32⟩
  | 91 => ⟨S32x4, .f32⟩
  | 92 => ⟨S32768, .i32⟩
  | 93 => ⟨S_, .i32⟩
  | 94 => ⟨S32768, .i32⟩
  | 95 => ⟨S32768, .i1⟩
  | 96 => ⟨S_, .i32⟩
  | 97 => ⟨S32768, .i32⟩
  | 98 => ⟨S32768, .i32⟩
  | 99 => ⟨S32768, .i32⟩
  | 100 => ⟨S32768x1, .i32⟩
  | 101 => ⟨S32768x4, .f32⟩
  | 102 => ⟨S128x256x4, .f32⟩
  | 103 => ⟨S4x128x256, .f32⟩
  | 104 => ⟨S_, .i32⟩
  | 105 => ⟨S128x256, .i32⟩
  | 106 => ⟨S128x256, .i32⟩
  | 107 => ⟨S_, .i32⟩
  | 108 => ⟨S128x256, .i32⟩
  | 109 => ⟨S128x256, .i32⟩
  | 110 => ⟨S_, .i32⟩
  | 111 => ⟨S128x256, .i32⟩
  | 112 => ⟨S128x256, .i32⟩
  | 113 => ⟨S_, .i32⟩
  | 114 => ⟨S128x256, .i32⟩
  | 115 => ⟨S128x256, .i1⟩
  | 116 => ⟨S128x256, .i32⟩
  | 117 => ⟨S128x256, .i32⟩
  | 118 => ⟨S_, .i32⟩
  | 119 => ⟨S128x256, .i32⟩
  | 120 => ⟨S128x256, .i1⟩
  | 121 => ⟨S128x256, .i32⟩
  | 122 => ⟨S128x256, .i32⟩
  | 123 => ⟨S_, .i32⟩
  | 124 => ⟨S128x256, .i32⟩
  | 125 => ⟨S128x256, .i1⟩
  | 126 => ⟨S128x256, .i32⟩
  | 127 => ⟨S128x256, .i32⟩
  | _ => ⟨S32x12, .f32⟩

abbrev hbmTy0_1 (i : Nat) : BufTy := match i % 128 with
  | 0 => ⟨S_, .i32⟩
  | 1 => ⟨S128x256, .i32⟩
  | 2 => ⟨S128x256, .i1⟩
  | 3 => ⟨S128x256, .i32⟩
  | 4 => ⟨S128x256, .i32⟩
  | 5 => ⟨S_, .i32⟩
  | 6 => ⟨S128x256, .i32⟩
  | 7 => ⟨S128x256, .i1⟩
  | 8 => ⟨S128x256, .i32⟩
  | 9 => ⟨S128x256, .i32⟩
  | 10 => ⟨S_, .i32⟩
  | 11 => ⟨S128x256, .i32⟩
  | 12 => ⟨S128x256, .i1⟩
  | 13 => ⟨S128x256, .i32⟩
  | 14 => ⟨S128x256, .i32⟩
  | 15 => ⟨S_, .i32⟩
  | 16 => ⟨S128x256, .i32⟩
  | 17 => ⟨S128x256, .i1⟩
  | 18 => ⟨S128x256, .i32⟩
  | 19 => ⟨S128x256, .i32⟩
  | 20 => ⟨S_, .i32⟩
  | 21 => ⟨S128x256, .i32⟩
  | 22 => ⟨S128x256, .i1⟩
  | 23 => ⟨S128x256, .i32⟩
  | 24 => ⟨S128x256, .i32⟩
  | 25 => ⟨S_, .i32⟩
  | 26 => ⟨S128x256, .i32⟩
  | 27 => ⟨S128x256, .i1⟩
  | 28 => ⟨S128x256, .i32⟩
  | 29 => ⟨S128x256, .i32⟩
  | 30 => ⟨S_, .i32⟩
  | 31 => ⟨S128x256, .i32⟩
  | 32 => ⟨S128x256, .i1⟩
  | 33 => ⟨S128x256, .i32⟩
  | 34 => ⟨S128x256, .i32⟩
  | 35 => ⟨S_, .i32⟩
  | 36 => ⟨S128x256, .i32⟩
  | 37 => ⟨S128x256, .i1⟩
  | 38 => ⟨S128x256, .i32⟩
  | 39 => ⟨S128x256, .i32⟩
  | 40 => ⟨S_, .i32⟩
  | 41 => ⟨S128x256, .i32⟩
  | 42 => ⟨S128x256, .i1⟩
  | 43 => ⟨S128x256, .i32⟩
  | 44 => ⟨S128x256, .i32⟩
  | 45 => ⟨S_, .i32⟩
  | 46 => ⟨S128x256, .i32⟩
  | 47 => ⟨S128x256, .i1⟩
  | 48 => ⟨S128x256, .i32⟩
  | 49 => ⟨S128x256, .i32⟩
  | 50 => ⟨S_, .i32⟩
  | 51 => ⟨S128x256, .i32⟩
  | 52 => ⟨S128x256, .i1⟩
  | 53 => ⟨S128x256, .i32⟩
  | 54 => ⟨S128x256, .i32⟩
  | 55 => ⟨S_, .i32⟩
  | 56 => ⟨S128x256, .i32⟩
  | 57 => ⟨S128x256, .i1⟩
  | 58 => ⟨S128x256, .i32⟩
  | 59 => ⟨S128x256, .i32⟩
  | 60 => ⟨S32x4, .f32⟩
  | 61 => ⟨S32768, .i32⟩
  | 62 => ⟨S_, .i32⟩
  | 63 => ⟨S32768, .i32⟩
  | 64 => ⟨S32768, .i1⟩
  | 65 => ⟨S_, .i32⟩
  | 66 => ⟨S32768, .i32⟩
  | 67 => ⟨S32768, .i32⟩
  | 68 => ⟨S32768, .i32⟩
  | 69 => ⟨S32768x1, .i32⟩
  | 70 => ⟨S32768x4, .f32⟩
  | 71 => ⟨S128x256x4, .f32⟩
  | 72 => ⟨S4x128x256, .f32⟩
  | 73 => ⟨S_, .i32⟩
  | 74 => ⟨S128x256, .i32⟩
  | 75 => ⟨S128x256, .i32⟩
  | 76 => ⟨S_, .i32⟩
  | 77 => ⟨S128x256, .i32⟩
  | 78 => ⟨S128x256, .i32⟩
  | 79 => ⟨S_, .i32⟩
  | 80 => ⟨S128x256, .i32⟩
  | 81 => ⟨S128x256, .i32⟩
  | 82 => ⟨S_, .i32⟩
  | 83 => ⟨S128x256, .i32⟩
  | 84 => ⟨S128x256, .i1⟩
  | 85 => ⟨S128x256, .i32⟩
  | 86 => ⟨S128x256, .i32⟩
  | 87 => ⟨S_, .i32⟩
  | 88 => ⟨S128x256, .i32⟩
  | 89 => ⟨S128x256, .i1⟩
  | 90 => ⟨S128x256, .i32⟩
  | 91 => ⟨S128x256, .i32⟩
  | 92 => ⟨S_, .i32⟩
  | 93 => ⟨S128x256, .i32⟩
  | 94 => ⟨S128x256, .i1⟩
  | 95 => ⟨S128x256, .i32⟩
  | 96 => ⟨S128x256, .i32⟩
  | 97 => ⟨S_, .i32⟩
  | 98 => ⟨S128x256, .i32⟩
  | 99 => ⟨S128x256, .i1⟩
  | 100 => ⟨S128x256, .i32⟩
  | 101 => ⟨S128x256, .i32⟩
  | 102 => ⟨S_, .i32⟩
  | 103 => ⟨S128x256, .i32⟩
  | 104 => ⟨S128x256, .i1⟩
  | 105 => ⟨S128x256, .i32⟩
  | 106 => ⟨S128x256, .i32⟩
  | 107 => ⟨S_, .i32⟩
  | 108 => ⟨S128x256, .i32⟩
  | 109 => ⟨S128x256, .i1⟩
  | 110 => ⟨S128x256, .i32⟩
  | 111 => ⟨S128x256, .i32⟩
  | 112 => ⟨S_, .i32⟩
  | 113 => ⟨S128x256, .i32⟩
  | 114 => ⟨S128x256, .i1⟩
  | 115 => ⟨S128x256, .i32⟩
  | 116 => ⟨S128x256, .i32⟩
  | 117 => ⟨S_, .i32⟩
  | 118 => ⟨S128x256, .i32⟩
  | 119 => ⟨S128x256, .i1⟩
  | 120 => ⟨S128x256, .i32⟩
  | 121 => ⟨S128x256, .i32⟩
  | 122 => ⟨S_, .i32⟩
  | 123 => ⟨S128x256, .i32⟩
  | 124 => ⟨S128x256, .i1⟩
  | 125 => ⟨S128x256, .i32⟩
  | 126 => ⟨S128x256, .i32⟩
  | 127 => ⟨S_, .i32⟩
  | _ => ⟨S32x12, .f32⟩

abbrev hbmTy0_2 (i : Nat) : BufTy := match i % 128 with
  | 0 => ⟨S128x256, .i32⟩
  | 1 => ⟨S128x256, .i1⟩
  | 2 => ⟨S128x256, .i32⟩
  | 3 => ⟨S128x256, .i32⟩
  | 4 => ⟨S_, .i32⟩
  | 5 => ⟨S128x256, .i32⟩
  | 6 => ⟨S128x256, .i1⟩
  | 7 => ⟨S128x256, .i32⟩
  | 8 => ⟨S128x256, .i32⟩
  | 9 => ⟨S_, .i32⟩
  | 10 => ⟨S128x256, .i32⟩
  | 11 => ⟨S128x256, .i1⟩
  | 12 => ⟨S128x256, .i32⟩
  | 13 => ⟨S128x256, .i32⟩
  | 14 => ⟨S_, .i32⟩
  | 15 => ⟨S128x256, .i32⟩
  | 16 => ⟨S128x256, .i1⟩
  | 17 => ⟨S128x256, .i32⟩
  | 18 => ⟨S128x256, .i32⟩
  | 19 => ⟨S_, .i32⟩
  | 20 => ⟨S128x256, .i32⟩
  | 21 => ⟨S128x256, .i1⟩
  | 22 => ⟨S128x256, .i32⟩
  | 23 => ⟨S128x256, .i32⟩
  | 24 => ⟨S_, .i32⟩
  | 25 => ⟨S128x256, .i32⟩
  | 26 => ⟨S128x256, .i1⟩
  | 27 => ⟨S128x256, .i32⟩
  | 28 => ⟨S128x256, .i32⟩
  | 29 => ⟨S32x4, .f32⟩
  | 30 => ⟨S32768, .i32⟩
  | 31 => ⟨S_, .i32⟩
  | 32 => ⟨S32768, .i32⟩
  | 33 => ⟨S32768, .i1⟩
  | 34 => ⟨S_, .i32⟩
  | 35 => ⟨S32768, .i32⟩
  | 36 => ⟨S32768, .i32⟩
  | 37 => ⟨S32768, .i32⟩
  | 38 => ⟨S32768x1, .i32⟩
  | 39 => ⟨S32768x4, .f32⟩
  | 40 => ⟨S128x256x4, .f32⟩
  | 41 => ⟨S4x128x256, .f32⟩
  | 42 => ⟨S12x128x256, .f32⟩
  | 43 => ⟨S_, .f32⟩
  | 44 => ⟨S_, .f32⟩
  | 45 => ⟨S12x128x256, .f32⟩
  | 46 => ⟨S12x128x256, .f32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i1⟩
  | 53 => ⟨S128x256, .i1⟩
  | 54 => ⟨S_, .f32⟩
  | 55 => ⟨S_, .f32⟩
  | 56 => ⟨S12x128x256, .i1⟩
  | 57 => ⟨S12x128x256, .f32⟩
  | 58 => ⟨S12x128x256, .f32⟩
  | 59 => ⟨S_, .i32⟩
  | 60 => ⟨S128x256, .i32⟩
  | 61 => ⟨S128x256, .i1⟩
  | 62 => ⟨S128x256, .i1⟩
  | 63 => ⟨S_, .f32⟩
  | 64 => ⟨S_, .f32⟩
  | 65 => ⟨S12x128x256, .i1⟩
  | 66 => ⟨S12x128x256, .f32⟩
  | 67 => ⟨S12x128x256, .f32⟩
  | 68 => ⟨S1x12x128x256, .f32⟩
  | 69 => ⟨S1x12x128x256, .f32⟩
  | 70 => ⟨S2x12x128x256, .f32⟩
  | _ => ⟨S32x12, .f32⟩

abbrev hbmTy (i : Nat) : BufTy := match i / 128 with
  | 0 => hbmTy0_0 i
  | 1 => hbmTy0_1 i
  | 2 => hbmTy0_2 i
  | _ => ⟨S32x12, .f32⟩

abbrev bufTy : (tb : Table) → Fin (tcTables nBuf tb) → BufTy
  | .hbm, ⟨i, _⟩ => hbmTy i
  | _, _ => ⟨S32x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_8 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_9 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_10 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_11 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_12 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_13 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_14 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_15 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_16 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_17 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_18 : Ref sig .tc := ⟨.hbm, 93, rfl⟩
abbrev main_v73 : Ref sig .tc := ⟨.hbm, 94, rfl⟩
abbrev main_v74 : Ref sig .tc := ⟨.hbm, 95, rfl⟩
abbrev main_c_19 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_20 : Ref sig .tc := ⟨.hbm, 104, rfl⟩
abbrev main_v82 : Ref sig .tc := ⟨.hbm, 105, rfl⟩
abbrev main_v83 : Ref sig .tc := ⟨.hbm, 106, rfl⟩
abbrev main_c_21 : Ref sig .tc := ⟨.hbm, 107, rfl⟩
abbrev main_v84 : Ref sig .tc := ⟨.hbm, 108, rfl⟩
abbrev main_v85 : Ref sig .tc := ⟨.hbm, 109, rfl⟩
abbrev main_c_22 : Ref sig .tc := ⟨.hbm, 110, rfl⟩
abbrev main_v86 : Ref sig .tc := ⟨.hbm, 111, rfl⟩
abbrev main_v87 : Ref sig .tc := ⟨.hbm, 112, rfl⟩
abbrev main_c_23 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_c_24 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c_25 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_c_26 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c_27 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_28 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_c_29 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_30 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_31 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_c_32 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_c_33 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_c_34 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_c_35 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_c_36 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_c_37 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_c_38 : Ref sig .tc := ⟨.hbm, 190, rfl⟩
abbrev main_v150 : Ref sig .tc := ⟨.hbm, 191, rfl⟩
abbrev main_v151 : Ref sig .tc := ⟨.hbm, 192, rfl⟩
abbrev main_c_39 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_c_40 : Ref sig .tc := ⟨.hbm, 201, rfl⟩
abbrev main_v159 : Ref sig .tc := ⟨.hbm, 202, rfl⟩
abbrev main_v160 : Ref sig .tc := ⟨.hbm, 203, rfl⟩
abbrev main_c_41 : Ref sig .tc := ⟨.hbm, 204, rfl⟩
abbrev main_v161 : Ref sig .tc := ⟨.hbm, 205, rfl⟩
abbrev main_v162 : Ref sig .tc := ⟨.hbm, 206, rfl⟩
abbrev main_c_42 : Ref sig .tc := ⟨.hbm, 207, rfl⟩
abbrev main_v163 : Ref sig .tc := ⟨.hbm, 208, rfl⟩
abbrev main_v164 : Ref sig .tc := ⟨.hbm, 209, rfl⟩
abbrev main_c_43 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_c_44 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_c_45 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_c_46 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_c_47 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_c_48 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_c_49 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_c_50 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_c_51 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_c_52 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_c_53 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_c_54 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_c_55 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_c_56 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_c_57 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_c_58 : Ref sig .tc := ⟨.hbm, 287, rfl⟩
abbrev main_v227 : Ref sig .tc := ⟨.hbm, 288, rfl⟩
abbrev main_v228 : Ref sig .tc := ⟨.hbm, 289, rfl⟩
abbrev main_c_59 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_cst : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_c_60 : Ref sig .tc := ⟨.hbm, 303, rfl⟩
abbrev main_v240 : Ref sig .tc := ⟨.hbm, 304, rfl⟩
abbrev main_v241 : Ref sig .tc := ⟨.hbm, 305, rfl⟩
abbrev main_c_61 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_cst_62 : Ref sig .tc := ⟨.hbm, 310, rfl⟩
abbrev main_call0_v0 : Ref sig .tc := ⟨.hbm, 311, rfl⟩
abbrev main_call0_v1 : Ref sig .tc := ⟨.hbm, 312, rfl⟩
abbrev main_call0_v2 : Ref sig .tc := ⟨.hbm, 313, rfl⟩
abbrev main_v245 : Ref sig .tc := ⟨.hbm, 314, rfl⟩
abbrev main_c_63 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_cst_64 : Ref sig .tc := ⟨.hbm, 319, rfl⟩
abbrev main_call1_v0 : Ref sig .tc := ⟨.hbm, 320, rfl⟩
abbrev main_call1_v1 : Ref sig .tc := ⟨.hbm, 321, rfl⟩
abbrev main_call1_v2 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩

abbrev nD : Nat := 1
abbrev τ : Topo := Topo.v7x

variable {F : FTy → Type} [FloatOps F]
-- ==== Proof.Layout.lean ====
/- The layout operations on matrices of any extents, read at a row and a column: slices, broadcasts of a row or of a
   column, concatenations of two matrices below or beside each other, the unit axes of blocks, and the sum and the
   maximum of each row. -/
module

public import Idealize.ShloMosaic.Lib.Pipeline.Value
public import Idealize.ShloMosaic.Lib.ValueIdx
public import Idealize.ShloMosaic.Lib.MatmulPlain
public import Idealize.ShloMosaic.Lib.WordCmp
public import Idealize.ShloMosaic.PureOps.Ideal.Laws

@[expose] public section

noncomputable section

namespace Cert.Proof

open Idealize.ShloMosaic Idealize.ShloMosaic.ValueIdx
open scoped BigOperators

/-- A matrix shape. -/
abbrev Mat (a b : ℕ) : Shape := ⟨2, ![a, b]⟩
/-- A block of one matrix, with its leading unit axis. -/
abbrev Blk (a b : ℕ) : Shape := ⟨3, ![1, a, b]⟩

section
variable {α : Type}

theorem slice_at {a b c d o p : ℕ} (x : (Mat a b).Idx → α) (h : (Mat a b).Slices ![o, p] (Mat c d)) (i : Fin c) (j : Fin d)
    (i' : Fin a) (j' : Fin b) (hi : i'.val = o + i.val) (hj : j'.val = p + j.val) :
    extractStridedSlice (Mat c d) ![o, p] x h (ix2 i j) = x (ix2 i' j') :=
  extractStridedSlice_apply _ x h _ _ fun a => match a with
    | ⟨0, _⟩ => hi
    | ⟨1, _⟩ => hj

theorem row_bcast_at {m n : ℕ} (x : (Mat 1 n).Idx → α) (h : (Mat 1 n).Broadcasts (Mat m n)) (i : Fin m) (j : Fin n) :
    broadcastTo (Mat m n) x h (ix2 i j) = x (ix2 0 j) :=
  broadcastTo_apply x h _ _ fun a => match a with
    | ⟨0, _⟩ => rfl
    | ⟨1, _⟩ => by
      show j.val = if n = 1 then 0 else j.val
      have := j.isLt
      split <;> omega

theorem col_bcast_at {m n : ℕ} (x : (Mat m 1).Idx → α) (h : (Mat m 1).Broadcasts (Mat m n)) (i : Fin m) (j : Fin n) :
    broadcastTo (Mat m n) x h (ix2 i j) = x (ix2 i 0) :=
  broadcastTo_apply x h _ _ fun a => match a with
    | ⟨0, _⟩ => by
      show i.val = if m = 1 then 0 else i.val
      have := i.isLt
      split <;> omega
    | ⟨1, _⟩ => rfl

theorem above_at {a b c n : ℕ} (x : (Mat a n).Idx → α) (y : (Mat b n).Idx → α)
    (h : Shape.Concatenates [Mat a n, Mat b n] (Mat c n) 0) (i : Fin c) (j : Fin n) (i' : Fin a) (hi : i'.val = i.val) :
    concatenate (Mat c n) 0 [⟨Mat a n, x⟩, ⟨Mat b n, y⟩] h (ix2 i j) = x (ix2 i' j) :=
  concatenate_pair_apply_left 0 x y h _ rfl _ fun a => match a with
    | ⟨0, _⟩ => hi
    | ⟨1, _⟩ => rfl

theorem below_at {a b c n : ℕ} (x : (Mat a n).Idx → α) (y : (Mat b n).Idx → α)
    (h : Shape.Concatenates [Mat a n, Mat b n] (Mat c n) 0) (i : Fin c) (j : Fin n) (i' : Fin b) (hi : i'.val + a = i.val) :
    concatenate (Mat c n) 0 [⟨Mat a n, x⟩, ⟨Mat b n, y⟩] h (ix2 i j) = y (ix2 i' j) :=
  concatenate_pair_apply_right 0 x y h _ rfl rfl _ (fun a ha => match a with
    | ⟨0, _⟩ => absurd rfl ha
    | ⟨1, _⟩ => rfl) hi

theorem left_at {a b c n : ℕ} (x : (Mat n a).Idx → α) (y : (Mat n b).Idx → α)
    (h : Shape.Concatenates [Mat n a, Mat n b] (Mat n c) 1) (i : Fin n) (j : Fin c) (j' : Fin a) (hj : j'.val = j.val) :
    concatenate (Mat n c) 1 [⟨Mat n a, x⟩, ⟨Mat n b, y⟩] h (ix2 i j) = x (ix2 i j') :=
  concatenate_pair_apply_left 1 x y h _ rfl _ fun a => match a with
    | ⟨0, _⟩ => rfl
    | ⟨1, _⟩ => hj

theorem right_at {a b c n : ℕ} (x : (Mat n a).Idx → α) (y : (Mat n b).Idx → α)
    (h : Shape.Concatenates [Mat n a, Mat n b] (Mat n c) 1) (i : Fin n) (j : Fin c) (j' : Fin b) (hj : j'.val + a = j.val) :
    concatenate (Mat n c) 1 [⟨Mat n a, x⟩, ⟨Mat n b, y⟩] h (ix2 i j) = y (ix2 i j') :=
  concatenate_pair_apply_right 1 x y h _ rfl rfl _ (fun a ha => match a with
    | ⟨0, _⟩ => rfl
    | ⟨1, _⟩ => absurd rfl ha) hj

theorem unblock_at {a b : ℕ} (x : (Blk a b).Idx → α) (h : (Blk a b).ShapeCasts (Mat a b)) (i : Fin a) (j : Fin b) :
    shapeCast (Mat a b) x h (ix2 i j) = x (ix3 0 i j) := by
  refine (shapeCast_dropUnit_apply ![a, b] x h (ix2 i j)).trans (congrArg x (funext fun d => ?_))
  match d with
  | ⟨0, _⟩ => rfl
  | ⟨1, _⟩ => rfl
  | ⟨2, _⟩ => rfl

theorem block_at {a b : ℕ} (x : (Mat a b).Idx → α) (h : (Mat a b).ShapeCasts (Blk a b)) (z : Fin 1) (i : Fin a) (j : Fin b) :
    shapeCast (Blk a b) x h (ix3 z i j) = x (ix2 i j) := by
  refine (shapeCast_addUnit_apply ![a, b] x h (ix3 z i j)).trans (congrArg x (funext fun d => ?_))
  match d with
  | ⟨0, _⟩ => rfl
  | ⟨1, _⟩ => rfl

theorem column_at {n : ℕ} (x : (⟨1, ![n]⟩ : Shape).Idx → α) (h : (⟨1, ![n]⟩ : Shape).ShapeCasts (Mat n 1)) (i : Fin n) :
    shapeCast (Mat n 1) x h (ix2 i 0) = x (ix1 i) :=
  shapeCast_apply x h _ _ (by
    rewrite [Shape.rowMajor_val_one, Shape.rowMajor_val_two]
    show i.val = i.val * 1 + 0
    omega)
end

/-- The largest entry of a row. -/
def rowMax {n : ℕ} (x : Fin n → EReal) : EReal := (Finset.univ : Finset (Fin n)).fold max ⊥ x

theorem ofBits_ninf : Ideal.ofBits .f32 0xFF800000#32 = ⊥ := by simp [Ideal.ofBits, Ideal.ieee]

theorem rowSum_at {m n : ℕ} (x : FVec Ideal (Mat m n) .f32) (acc : BitVec 32) (h : (Mat m n).Reduces [1] ⟨1, ![m]⟩)
    (hφ : FKind.Formats .f32) (hacc : acc = FKind.add.neutral .f32 hφ) (i : Fin m) :
    multiReduction .add [1] ⟨1, ![m]⟩ x acc h hφ hacc (ix1 i) = ∑ k : Fin n, x (ix2 i k) := by
  refine (Ideal.multiReduction_add_single x acc h hφ hacc (ix1 i)).trans (Finset.sum_congr rfl fun k _ => congrArg x ?_)
  funext a
  match a with
  | ⟨0, _⟩ => rfl
  | ⟨1, _⟩ => rfl

theorem rowMax_at {m n : ℕ} (x : FVec Ideal (Mat m n) .f32) (h : (Mat m n).Reduces [1] ⟨1, ![m]⟩)
    (hφ : FKind.Formats .f32) (hacc : (0xFF800000#32 : BitVec 32) = FKind.maximumf.neutral .f32 hφ) (i : Fin m) :
    multiReduction .maximumf [1] ⟨1, ![m]⟩ x 0xFF800000#32 h hφ hacc (ix1 i) = rowMax fun k : Fin n => x (ix2 i k) := by
  refine (Ideal.multiReduction_maximumf_single x _ h hφ hacc (ix1 i)).trans ?_
  have e : ∀ k : Fin n, h.lift (ix1 i) k = ix2 i k := fun k => funext fun a => match a with
    | ⟨0, _⟩ => rfl
    | ⟨1, _⟩ => rfl
  show Finset.univ.fold max (Ideal.ofBits .f32 0xFF800000#32) (fun k : Fin n => x (h.lift (ix1 i) k)) = _
  simp only [e, ofBits_ninf]
  rfl

end Cert.Proof

end
-- ==== Proof.Softmax.lean ====
/- One row of attention, as an equation of extended reals. The kernel averages the values `v` with the weights
   `2 ^ (x j - max x)` and divides the weighted sum by the weights' sum; the reference divides each weight
   `e ^ (L j - max L)` first and averages afterwards. With real scores at the keys the mask keeps and `-∞` at the others, and
   `L = log 2 * x + c` there, the two rows are equal whatever the values are. -/
module

public import proofs.«01_k».proof.Proof.Layout

@[expose] public section

noncomputable section

namespace Cert.Proof

open Idealize.ShloMosaic
open scoped BigOperators

/-- The kernel's row: powers of two, one division at the end. -/
def avg2 {n : ℕ} (x v : Fin n → EReal) : EReal :=
  Ideal.div (∑ j, Ideal.exp2 (x j - rowMax x) * v j) (∑ j, Ideal.exp2 (x j - rowMax x))

/-- The reference's row: a softmax, then the weighted sum. -/
def avgE {n : ℕ} (x v : Fin n → EReal) : EReal :=
  ∑ j, v j * Ideal.div (Ideal.exp (x j - max ⊥ (rowMax x))) (0 + ∑ k, Ideal.exp (x k - max ⊥ (rowMax x)))

theorem bot_sub (x : EReal) : (⊥ : EReal) - x = ⊥ := by rw [sub_eq_add_neg, EReal.bot_add]

theorem le_rowMax {n : ℕ} (x : Fin n → EReal) (j : Fin n) : x j ≤ rowMax x :=
  (Finset.le_fold_max (x j)).mpr (.inr ⟨j, Finset.mem_univ j, le_rfl⟩)

theorem rowMax_le {n : ℕ} (x : Fin n → EReal) (c : EReal) (h : ∀ j, x j ≤ c) : rowMax x ≤ c :=
  (Finset.fold_max_le c).mpr ⟨bot_le, fun j _ => h j⟩

theorem rowMax_eq {n : ℕ} (x : Fin n → EReal) (j : Fin n) (h : ∀ k, x k ≤ x j) : rowMax x = x j :=
  le_antisymm (rowMax_le x _ h) (le_rowMax x j)

/-- A sum over the first `n` of `N` indices, the rest being zero. -/
theorem sum_castLE {n N : ℕ} (h : n ≤ N) (f : Fin N → EReal) (hf : ∀ j : Fin N, n ≤ j.val → f j = 0) :
    ∑ j : Fin n, f (j.castLE h) = ∑ j, f j := by
  obtain ⟨d, rfl⟩ := Nat.exists_eq_add_of_le h
  rw [Fin.sum_univ_add, Finset.sum_eq_zero (s := Finset.univ) (f := fun i : Fin d => f (Fin.natAdd n i))
    (fun i _ => hf _ (by simp)), add_zero]
  rfl

/-- The kernel's row over the keys of its tile is the row over all keys, those beyond the tile masked. -/
theorem avg2_castLE {n N : ℕ} (h : n ≤ N) (x v : Fin N → EReal) (hx : ∀ j : Fin N, n ≤ j.val → x j = ⊥) :
    avg2 (fun j : Fin n => x (j.castLE h)) (fun j => v (j.castLE h)) = avg2 x v := by
  have hm : rowMax (fun j : Fin n => x (j.castLE h)) = rowMax x := by
    refine le_antisymm (rowMax_le _ _ fun j => le_rowMax x _) (rowMax_le _ _ fun j => ?_)
    by_cases hj : n ≤ j.val
    · rw [hx j hj]; exact bot_le
    · exact le_rowMax (fun j : Fin n => x (j.castLE h)) ⟨j.val, by omega⟩
  unfold avg2
  rw [hm, sum_castLE h (fun j => Ideal.exp2 (x j - rowMax x) * v j) fun j hj => by rw [hx j hj, bot_sub, Ideal.exp2_bot, zero_mul],
    sum_castLE h (fun j => Ideal.exp2 (x j - rowMax x)) fun j hj => by rw [hx j hj, bot_sub, Ideal.exp2_bot]]

theorem sum_mul_coe {n : ℕ} (f : Fin n → EReal) (r : ℝ) (hr : 0 ≤ r) : (∑ j, f j) * (r : EReal) = ∑ j, f j * (r : EReal) := by
  classical
  induction (Finset.univ : Finset (Fin n)) using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem coe_sum {n : ℕ} (f : Fin n → ℝ) : ∑ j, (f j : EReal) = ((∑ j, f j : ℝ) : EReal) := by
  classical
  induction (Finset.univ : Finset (Fin n)) using Finset.induction_on with
  | empty => simp
  | insert a s ha ih => rw [Finset.sum_insert ha, Finset.sum_insert ha, ih, EReal.coe_add]

/-- THE ROW EQUATION. -/
theorem avg2_eq_avgE {n : ℕ} (p : Fin n → Prop) [DecidablePred p] (y : Fin n → ℝ) (c : ℝ) (v : Fin n → EReal) (j₀ : Fin n) (h₀ : p j₀) :
    avg2 (fun j => if p j then (y j : EReal) else ⊥) v
      = avgE (fun j => if p j then ((Real.log 2 * y j + c : ℝ) : EReal) else ⊥) v := by
  classical
  obtain ⟨j₁, h₁, hmax⟩ := Finset.exists_max_image (Finset.univ.filter p) y ⟨j₀, by simp [h₀]⟩
  have h₁ : p j₁ := by simpa using h₁
  have hmax : ∀ j, p j → y j ≤ y j₁ := fun j hj => hmax j (by simp [hj])
  have hlog : (0 : ℝ) < Real.log 2 := Real.log_pos (by norm_num)
  have e2 : rowMax (fun j => if p j then (y j : EReal) else ⊥) = (y j₁ : EReal) := by
    refine (rowMax_eq _ j₁ fun k => ?_).trans (by simp only [if_pos h₁])
    simp only [if_pos h₁]
    by_cases hk : p k
    · rw [if_pos hk]; exact EReal.coe_le_coe_iff.mpr (hmax k hk)
    · rw [if_neg hk]; exact bot_le
  have eE : rowMax (fun j => if p j then ((Real.log 2 * y j + c : ℝ) : EReal) else ⊥) = ((Real.log 2 * y j₁ + c : ℝ) : EReal) := by
    refine (rowMax_eq _ j₁ fun k => ?_).trans (by simp only [if_pos h₁])
    simp only [if_pos h₁]
    by_cases hk : p k
    · rw [if_pos hk]
      exact EReal.coe_le_coe_iff.mpr (by have := mul_le_mul_of_nonneg_left (hmax k hk) hlog.le; linarith)
    · rw [if_neg hk]; exact bot_le
  -- the weights, the same on both sides
  let w : Fin n → ℝ := fun j => if p j then (2 : ℝ) ^ (y j - y j₁) else 0
  have w2 : ∀ j, Ideal.exp2 ((if p j then (y j : EReal) else ⊥) - (y j₁ : EReal)) = (w j : EReal) := fun j => by
    by_cases hj : p j
    · simp only [w, if_pos hj]; rw [← EReal.coe_sub, Ideal.exp2_coe]; rfl
    · simp only [w, if_neg hj]; rw [bot_sub, Ideal.exp2_bot, EReal.coe_zero]
  have wE : ∀ j, Ideal.exp ((if p j then ((Real.log 2 * y j + c : ℝ) : EReal) else ⊥) - ((Real.log 2 * y j₁ + c : ℝ) : EReal)) = (w j : EReal) :=
    fun j => by
    by_cases hj : p j
    · simp only [w, if_pos hj]
      rw [← EReal.coe_sub, Ideal.exp_coe, Real.rpow_def_of_pos (by norm_num)]
      congr 2; ring
    · simp only [w, if_neg hj]; rw [bot_sub, Ideal.exp_bot, EReal.coe_zero]
  have hw : ∀ j, 0 ≤ w j := fun j => by
    show 0 ≤ if p j then (2 : ℝ) ^ (y j - y j₁) else 0
    split
    · exact (Real.rpow_pos_of_pos (by norm_num) _).le
    · exact le_rfl
  have hpos : 0 < ∑ j, w j := by
    refine Finset.sum_pos' (fun j _ => hw j) ⟨j₁, Finset.mem_univ _, ?_⟩
    simp only [w, if_pos h₁]
    exact Real.rpow_pos_of_pos (by norm_num) _
  unfold avg2 avgE
  rw [e2, eE, max_eq_right (bot_le : (⊥ : EReal) ≤ _), zero_add]
  simp only [w2, wE]
  rw [coe_sum, Ideal.div_coe hpos.ne', sum_mul_coe _ _ (by positivity)]
  refine Finset.sum_congr rfl fun j _ => ?_
  rw [Ideal.div_coe hpos.ne', mul_comm (w j : EReal) (v j), mul_assoc]

end Cert.Proof

end
-- ==== Proof.Tile.lean ====
/- ONE QUERY TILE of the forgetting attention: 256 query rows of a pair of heads, against the `n` keys up to and including the
   tile's own. The two heads of a pair share 128 lanes; the tile stacks the query rows twice, the lanes of the other head
   zeroed, so that one product gives both heads' scores. `tile` is that computation written once, for any number of keys;
   `tile_at` reads it: entry (row, lane) is the row average `avg2` of the values in that lane. -/
module

public import proofs.«01_k».proof.Proof.Gen.FoxIdeal.Skeleton
public import proofs.«01_k».proof.Proof.Softmax

@[expose] public section

noncomputable section

namespace Cert.Proof

open Idealize.ShloMosaic Idealize.ShloMosaic.ValueIdx Cert.FoxIdeal Cert.FoxIdeal.Gen
open scoped BigOperators

/-- The layout conditions of a tile with `n` keys. -/
structure TileFacts (n : ℕ) : Prop where
  keys : (Blk n 128).ShapeCasts (Mat n 128)
  top : (Mat 512 n).Slices ![0, 0] (Mat 256 n)
  bottom : (Mat 512 n).Slices ![256, 0] (Mat 256 n)
  gates : (Mat 1 2048).Slices ![0, 0] (Mat 1 n)
  spread : (Mat 1 n).Broadcasts (Mat 256 n)
  stack : Shape.Concatenates [Mat 256 n, Mat 256 n] (Mat 512 n) 0
  reduce : (Mat 512 n).Reduces [1] ⟨1, ![512]⟩
  back : (Mat 512 1).Broadcasts (Mat 512 n)

/-- The layout conditions of a tile whose first `o` keys lie before its own rows. -/
structure MaskFacts (o n : ℕ) : Prop where
  diag : (Mat 256 n).Slices ![0, o] (Mat 256 256)
  before : (Mat 256 n).Slices ![0, 0] (Mat 256 o)
  join : Shape.Concatenates [Mat 256 o, Mat 256 256] (Mat 256 n) 1

section
variable {F : FTy → Type} [FloatOps F]

/-- Which lanes belong to the first head of the pair, and which to the second. -/
def lanesIn (p : CmpIPredicate) : IVec S256x128 1 :=
  broadcastTo S256x128 (shapeCast S1x128 (cmpi p (iota .tc S1x128 32 [1] iota_S1x128_d1_w32) (broadcast S1x128 64#32))
    shapeCasts_S1x128_S1x128) broadcasts_S1x128_S256x128

/-- The tile's queries stacked twice, each copy keeping one head's lanes. -/
def stacked (q : Vec F S1x256x128 .bf16) : FVec F S512x128 .bf16 :=
  concatenate S512x128 0
    [⟨S256x128, select (lanesIn .slt) (shapeCast S256x128 q shapeCasts_S1x256x128_S256x128) (broadcast S256x128 (Scalar.ofBits .bf16 0x0000#16))⟩,
     ⟨S256x128, select (lanesIn .sge) (shapeCast S256x128 q shapeCasts_S1x256x128_S256x128) (broadcast S256x128 (Scalar.ofBits .bf16 0x0000#16))⟩]
    concatenates_S256x128_S256x128_S512x128_d0

/-- Both heads' products of queries and keys. -/
def products {n : ℕ} (h : TileFacts n) (q : Vec F S1x256x128 .bf16) (k : Vec F (Blk n 128) .bf16) : FVec F (Mat 512 n) .f32 :=
  matmul (DotDims.transposedRhs 512 128 n) none (stacked q) (shapeCast (Mat n 128) k h.keys) (constant (Mat 512 n) .f32 0x00000000#32)

/-- The causal mask within the tile's own rows. -/
def causal : IVec S256x256 1 :=
  cmpi .sle (iota .tc S256x256 32 [1] iota_S256x256_d1_w32) (iota .tc S256x256 32 [0] iota_S256x256_d0_w32)

/-- The tile's own columns masked. -/
def masked (s : FVec F S256x256 .f32) : FVec F S256x256 .f32 :=
  select causal s (broadcast S256x256 (Scalar.ofBits .f32 0xFF800000#32))

/-- One head's scores with the mask: the columns before the tile as they are, its own masked. -/
def joined {o n : ℕ} (h : MaskFacts o n) (s : FVec F (Mat 256 n) .f32) : FVec F (Mat 256 n) .f32 :=
  concatenate (Mat 256 n) 1
    [⟨Mat 256 o, extractStridedSlice (Mat 256 o) ![0, 0] s h.before⟩, ⟨Mat 256 256, masked (extractStridedSlice (Mat 256 256) ![0, o] s h.diag)⟩] h.join

/-- One head's scores: its half of the products less the keys' gates. -/
def headScores {n o : ℕ} (h : TileFacts n) (hs : (Mat 512 n).Slices ![o, 0] (Mat 256 n)) (s : FVec F (Mat 512 n) .f32) (ck : FVec F (Mat 1 n) .f32) :
    FVec F (Mat 256 n) .f32 :=
  subf (extractStridedSlice (Mat 256 n) ![o, 0] s hs) (broadcastTo (Mat 256 n) ck h.spread)

/-- The weights of a stack of rows of scores. -/
def weights {n : ℕ} (h : TileFacts n) (s : FVec F (Mat 512 n) .f32) : FVec F (Mat 512 n) .f32 :=
  exp2 (subf s (broadcastTo (Mat 512 n) (shapeCast S512x1 (multiReduction .maximumf [1] S512 s 0xFF800000#32 h.reduce (.inl rfl) rfl)
    shapeCasts_S512_S512x1) h.back))

/-- The weighted averages of the values, both heads' rows. -/
def averages {n : ℕ} (h : TileFacts n) (s : FVec F (Mat 512 n) .f32) (v : Vec F (Blk n 128) .bf16) : FVec F S512x128 .f32 :=
  divf (matmul (DotDims.plain 512 n 128) none (truncf .bf16 (weights h s) bitsLt_bf16_f32) (shapeCast (Mat n 128) v h.keys)
      (constant S512x128 .f32 0x00000000#32))
    (broadcastTo S512x128 (shapeCast S512x1 (multiReduction .add [1] S512 (weights h s) 0x00000000#32 h.reduce (.inl rfl) rfl)
      shapeCasts_S512_S512x1) broadcasts_S512x1_S512x128)

/-- Each lane takes its own head's rows. -/
def merged (o2 : FVec F S512x128 .f32) : FVec F S1x256x128 .bf16 :=
  shapeCast S1x256x128 (truncf .bf16 (select (lanesIn .slt) (extractStridedSlice S256x128 ![0, 0] o2 slices_S512x128_o0_0_S256x128)
    (extractStridedSlice S256x128 ![256, 0] o2 slices_S512x128_o256_0_S256x128)) bitsLt_bf16_f32) shapeCasts_S256x128_S1x256x128

/-- A tile from the two heads' masked scores. -/
def finish {n : ℕ} (h : TileFacts n) (a b : FVec F (Mat 256 n) .f32) (v : Vec F (Blk n 128) .bf16) : FVec F S1x256x128 .bf16 :=
  merged (averages h (concatenate (Mat 512 n) 0 [⟨Mat 256 n, a⟩, ⟨Mat 256 n, b⟩] h.stack) v)

/-- THE TILE with keys before its own rows, the two heads' gates given for its keys. -/
def tile {o n : ℕ} (h : TileFacts n) (hm : MaskFacts o n) (q : Vec F S1x256x128 .bf16) (k v : Vec F (Blk n 128) .bf16)
    (ca cb : FVec F (Mat 1 n) .f32) : FVec F S1x256x128 .bf16 :=
  finish h (joined hm (headScores h h.top (products h q k) ca)) (joined hm (headScores h h.bottom (products h q k) cb)) v

/-- The first tile: its own rows are all its keys. -/
def firstTile (h : TileFacts 256) (q : Vec F S1x256x128 .bf16) (k v : Vec F (Blk 256 128) .bf16) (ca cb : FVec F (Mat 1 256) .f32) :
    FVec F S1x256x128 .bf16 :=
  finish h (masked (headScores h h.top (products h q k) ca)) (masked (headScores h h.bottom (products h q k) cb)) v

end

/-! ## The tile at an index -/

theorem lanesIn_slt (i : Fin 256) (d : Fin 128) : lanesIn .slt (ix2 i d) = BitVec.ofBool (decide (d.val < 64)) := by
  unfold lanesIn
  rw [row_bcast_at, shapeCast_self]
  show IntOp.cmpi .slt (iota .tc S1x128 32 [1] iota_S1x128_d1_w32 (ix2 0 d)) 64#32 = _
  rw [iota_single_apply]
  exact WordCmp.cmpi_slt_ofNat (w := 32) (by have := d.isLt; show d.val < 2147483648; omega) (by norm_num)

theorem lanesIn_sge (i : Fin 256) (d : Fin 128) : lanesIn .sge (ix2 i d) = BitVec.ofBool (decide (64 ≤ d.val)) := by
  unfold lanesIn
  rw [row_bcast_at, shapeCast_self]
  show IntOp.cmpi .sge (iota .tc S1x128 32 [1] iota_S1x128_d1_w32 (ix2 0 d)) 64#32 = _
  rw [iota_single_apply]
  exact WordCmp.cmpi_sge_ofNat (w := 32) (by have := d.isLt; show d.val < 2147483648; omega) (by norm_num)

theorem causal_at (i j : Fin 256) : causal (ix2 i j) = BitVec.ofBool (decide (j.val ≤ i.val)) := by
  show IntOp.cmpi .sle (iota .tc S256x256 32 [1] iota_S256x256_d1_w32 (ix2 i j)) (iota .tc S256x256 32 [0] iota_S256x256_d0_w32 (ix2 i j)) = _
  rw [iota_single_apply, iota_single_apply]
  exact WordCmp.cmpi_sle_ofNat (w := 32) (by have := j.isLt; show j.val < 2147483648; omega) (by have := i.isLt; show i.val < 2147483648; omega)

theorem select_ofBool {α : Type} (p : Prop) [Decidable p] (a b : α) : Scalar.select (BitVec.ofBool (decide p)) a b = if p then a else b := by
  unfold Scalar.select
  by_cases h : p <;> simp [h]

theorem ofBits_zero_bf16 : Ideal.ofBits .bf16 0x0000#16 = 0 := by simp [Ideal.ofBits, Ideal.ieee]

/-- The head a lane belongs to. -/
def inHead (u : Fin 2) (d : Fin 128) : Prop := if u = 0 then d.val < 64 else 64 ≤ d.val
instance (u : Fin 2) (d : Fin 128) : Decidable (inHead u d) := by unfold inHead; infer_instance

/-- Row `i` of head `u` in the stack of two. -/
def stackRow (u : Fin 2) (i : Fin 256) : Fin 512 := ⟨256 * u.val + i.val, by omega⟩

theorem stacked_at (q : Vec Ideal S1x256x128 .bf16) (u : Fin 2) (i : Fin 256) (d : Fin 128) :
    stacked q (ix2 (stackRow u i) d) = if inHead u d then q (ix3 0 i d) else 0 := by
  unfold stacked
  match u with
  | 0 =>
    rw [above_at _ _ _ _ _ i (by simp [stackRow])]
    show Scalar.select (lanesIn .slt (ix2 i d)) (shapeCast S256x128 q shapeCasts_S1x256x128_S256x128 (ix2 i d)) (Ideal.ofBits .bf16 0x0000#16) = _
    rw [lanesIn_slt, select_ofBool, unblock_at, ofBits_zero_bf16]
    simp [inHead]
  | 1 =>
    rw [below_at _ _ _ _ _ i (by simp [stackRow]; omega)]
    show Scalar.select (lanesIn .sge (ix2 i d)) (shapeCast S256x128 q shapeCasts_S1x256x128_S256x128 (ix2 i d)) (Ideal.ofBits .bf16 0x0000#16) = _
    rw [lanesIn_sge, select_ofBool, unblock_at, ofBits_zero_bf16]
    simp [inHead]

theorem products_at {n : ℕ} (h : TileFacts n) (q : Vec Ideal S1x256x128 .bf16) (k : Vec Ideal (Blk n 128) .bf16) (u : Fin 2) (i : Fin 256) (j : Fin n) :
    products h q k (ix2 (stackRow u i) j) = ∑ d : Fin 128, (if inHead u d then q (ix3 0 i d) else 0) * k (ix3 0 j d) := by
  refine (Ideal.matmul_transposedRhs_apply none _ _ _ (stackRow u i) j).trans ?_
  refine (congrArg (· + _) Ideal.ofBits_zero_f32).trans ((zero_add _).trans (Finset.sum_congr rfl fun d _ => ?_))
  rw [stacked_at, unblock_at]

theorem masked_at (s : FVec Ideal S256x256 .f32) (i j : Fin 256) : masked s (ix2 i j) = if j.val ≤ i.val then s (ix2 i j) else ⊥ := by
  show Scalar.select (causal (ix2 i j)) (s (ix2 i j)) (Ideal.ofBits .f32 0xFF800000#32) = _
  rw [causal_at, select_ofBool, ofBits_ninf]

theorem joined_at {o n : ℕ} (hm : MaskFacts o n) (hn : n = o + 256) (s : FVec Ideal (Mat 256 n) .f32) (i : Fin 256) (j : Fin n) :
    joined hm s (ix2 i j) = if j.val ≤ o + i.val then s (ix2 i j) else ⊥ := by
  unfold joined
  by_cases hj : j.val < o
  · rw [left_at _ _ _ i j ⟨j.val, hj⟩ rfl, slice_at _ _ _ _ i j (by simp) (by simp), if_pos (by omega)]
  · have := j.isLt
    rw [right_at _ _ _ i j ⟨j.val - o, by omega⟩ (by show j.val - o + o = j.val; omega), masked_at,
      slice_at _ _ _ _ i j (by simp) (by show j.val = o + (j.val - o); omega)]
    refine if_congr ?_ rfl rfl
    show j.val - o ≤ i.val ↔ _
    omega

theorem headScores_at {n o : ℕ} (h : TileFacts n) (hs : (Mat 512 n).Slices ![o, 0] (Mat 256 n)) (s : FVec Ideal (Mat 512 n) .f32)
    (ck : FVec Ideal (Mat 1 n) .f32) (i : Fin 256) (j : Fin n) (r : Fin 512) (hr : r.val = o + i.val) :
    headScores h hs s ck (ix2 i j) = s (ix2 r j) - ck (ix2 0 j) := by
  show extractStridedSlice (Mat 256 n) ![o, 0] s hs (ix2 i j) - broadcastTo (Mat 256 n) ck h.spread (ix2 i j) = _
  rw [slice_at _ _ _ _ r j hr (by simp), row_bcast_at]

theorem weights_at {n : ℕ} (h : TileFacts n) (s : FVec Ideal (Mat 512 n) .f32) (r : Fin 512) (j : Fin n) :
    weights h s (ix2 r j) = Ideal.exp2 (s (ix2 r j) - rowMax fun k : Fin n => s (ix2 r k)) := by
  show Ideal.exp2 (s (ix2 r j) - broadcastTo (Mat 512 n) _ h.back (ix2 r j)) = _
  rw [col_bcast_at, column_at]
  exact congrArg (fun t => Ideal.exp2 (s (ix2 r j) - t)) (rowMax_at s h.reduce _ _ r)

theorem averages_at {n : ℕ} (h : TileFacts n) (s : FVec Ideal (Mat 512 n) .f32) (v : Vec Ideal (Blk n 128) .bf16) (r : Fin 512) (d : Fin 128) :
    averages h s v (ix2 r d) = avg2 (fun j : Fin n => s (ix2 r j)) (fun j => v (ix3 0 j d)) := by
  have e := Ideal.matmul_plain_apply none (φ₁ := .bf16) (φ₂ := .bf16) (truncf .bf16 (weights h s) bitsLt_bf16_f32) (shapeCast (Mat n 128) v h.keys)
    (constant S512x128 .f32 0x00000000#32) r d
  refine (congrArg₂ Ideal.div e (col_bcast_at _ broadcasts_S512x1_S512x128 r d)).trans ?_
  rw [column_at]
  refine congrArg₂ Ideal.div ?_ ((rowSum_at (weights h s) _ h.reduce _ _ r).trans <| Finset.sum_congr rfl fun j _ => weights_at h s r j)
  refine (congrArg (· + _) Ideal.ofBits_zero_f32).trans ((zero_add _).trans (Finset.sum_congr rfl fun j _ => ?_))
  rw [unblock_at]
  exact congrArg (· * _) (weights_at h s r j)

theorem merged_at (o2 : FVec Ideal S512x128 .f32) (z : Fin 1) (i : Fin 256) (d : Fin 128) :
    merged o2 (ix3 z i d) = o2 (ix2 (stackRow (if d.val < 64 then 0 else 1) i) d) := by
  unfold merged
  rw [block_at]
  show Scalar.select (lanesIn .slt (ix2 i d)) (extractStridedSlice S256x128 ![0, 0] o2 slices_S512x128_o0_0_S256x128 (ix2 i d))
    (extractStridedSlice S256x128 ![256, 0] o2 slices_S512x128_o256_0_S256x128 (ix2 i d)) = _
  rw [lanesIn_slt, select_ofBool]
  by_cases hd : d.val < 64
  · rw [if_pos hd, if_pos hd, slice_at _ _ _ _ (stackRow 0 i) d (by simp [stackRow]) (by simp)]
  · rw [if_neg hd, if_neg hd, slice_at _ _ _ _ (stackRow 1 i) d (by simp [stackRow]) (by simp)]

/-- The scores of head `u` at query row `i` of the tile that starts at row `o`: the head's product less the key's gate, masked. -/
def tileScore {n : ℕ} (o : ℕ) (q : Vec Ideal S1x256x128 .bf16) (k : Vec Ideal (Blk n 128) .bf16) (c : Fin 2 → FVec Ideal (Mat 1 n) .f32)
    (u : Fin 2) (i : Fin 256) (j : Fin n) : EReal :=
  if j.val ≤ o + i.val then (∑ d : Fin 128, (if inHead u d then q (ix3 0 i d) else 0) * k (ix3 0 j d)) - c u (ix2 0 j) else ⊥

theorem finish_at {n : ℕ} (h : TileFacts n) (a : Fin 2 → FVec Ideal (Mat 256 n) .f32) (v : Vec Ideal (Blk n 128) .bf16) (z : Fin 1) (i : Fin 256) (d : Fin 128) :
    finish h (a 0) (a 1) v (ix3 z i d)
      = avg2 (fun j : Fin n => a (if d.val < 64 then 0 else 1) (ix2 i j)) (fun j => v (ix3 0 j d)) := by
  unfold finish
  rw [merged_at, averages_at]
  refine congrArg (avg2 · _) (funext fun j => ?_)
  by_cases hd : d.val < 64
  · rw [if_pos hd, above_at _ _ _ _ _ i (by simp [stackRow])]
  · rw [if_neg hd, below_at _ _ _ _ _ i (by simp [stackRow]; omega)]

/-- THE TILE AT AN INDEX. -/
theorem tile_at {o n : ℕ} (h : TileFacts n) (hm : MaskFacts o n) (hn : n = o + 256) (q : Vec Ideal S1x256x128 .bf16) (k v : Vec Ideal (Blk n 128) .bf16)
    (c : Fin 2 → FVec Ideal (Mat 1 n) .f32) (z : Fin 1) (i : Fin 256) (d : Fin 128) :
    tile h hm q k v (c 0) (c 1) (ix3 z i d)
      = avg2 (tileScore o q k c (if d.val < 64 then 0 else 1) i) (fun j => v (ix3 0 j d)) := by
  refine (finish_at h (fun u => if u = 0 then joined hm (headScores h h.top (products h q k) (c 0))
    else joined hm (headScores h h.bottom (products h q k) (c 1))) v z i d).trans ?_
  refine congrArg (avg2 · _) (funext fun j => ?_)
  by_cases hd : d.val < 64
  · simp only [if_pos hd, if_true]
    rw [joined_at hm hn, headScores_at _ _ _ _ _ _ (stackRow 0 i) (by simp [stackRow]), products_at]
    rfl
  · simp only [if_neg hd, one_ne_zero, if_false]
    rw [joined_at hm hn, headScores_at _ _ _ _ _ _ (stackRow 1 i) (by simp [stackRow]), products_at]
    rfl

theorem firstTile_at (h : TileFacts 256) (q : Vec Ideal S1x256x128 .bf16) (k v : Vec Ideal (Blk 256 128) .bf16)
    (c : Fin 2 → FVec Ideal (Mat 1 256) .f32) (z : Fin 1) (i : Fin 256) (d : Fin 128) :
    firstTile h q k v (c 0) (c 1) (ix3 z i d)
      = avg2 (tileScore 0 q k c (if d.val < 64 then 0 else 1) i) (fun j => v (ix3 0 j d)) := by
  refine (finish_at h (fun u => if u = 0 then masked (headScores h h.top (products h q k) (c 0))
    else masked (headScores h h.bottom (products h q k) (c 1))) v z i d).trans ?_
  refine congrArg (avg2 · _) (funext fun j => ?_)
  by_cases hd : d.val < 64
  · simp only [if_pos hd, if_true]
    rw [masked_at, headScores_at _ _ _ _ _ _ (stackRow 0 i) (by simp [stackRow]), products_at]
    unfold tileScore; rw [zero_add]
  · simp only [if_neg hd, one_ne_zero, if_false]
    rw [masked_at, headScores_at _ _ _ _ _ _ (stackRow 1 i) (by simp [stackRow]), products_at]
    unfold tileScore; rw [zero_add]

end Cert.Proof

end
-- ==== Proof.Block.lean ====
module
public import proofs.«01_k».proof.Proof.Gen.FoxIdeal.Value
public import proofs.«01_k».proof.Proof.Tile
public import Idealize.ShloMosaic.Lib.Pipeline.ValueKit.Tiles

/-! # One block of the attention kernel's output

A grid point holds one batch entry and one pair of heads: 2048 rows of queries, keys and values, 128 lanes wide, and
the gates of all eight heads.  The body stores eight tiles of 256 rows.  Each tile is `tile` of the rows loaded, and
so, at an index, one function of the four blocks: row `r` and lane `d` of the block is the softmax average, over the
keys up to `r`, of the head lane `d` belongs to. -/

@[expose] public section
set_option maxRecDepth 16384
noncomputable section
namespace Cert.Proof
open Idealize.ShloMosaic Idealize.ShloMosaic.TcCoe Idealize.ShloMosaic.ValueIdx Cert.FoxIdeal Cert.FoxIdeal.Gen Idealize.ShloMosaic.Tactic

/-- The row of the gates for head `u` of pair `p`. -/
def gateRow (p : Fin 4) (u : Fin 2) : Fin 8 := ⟨2 * p.val + u.val, by omega⟩

/-- The head of the pair that a lane belongs to. -/
def headOf (d : Fin 128) : Fin 2 := if d.val < 64 then 0 else 1

/-- The score of row `r` and key `j` for head `u` of pair `p`. -/
def blockScore (p : Fin 4) (x0 x1 : Vec Ideal S1x2048x128 .bf16) (x3 : Vec Ideal S1x8x2048 .f32) (u : Fin 2) (r j : Fin 2048) : EReal :=
  if j.val ≤ r.val then (∑ d : Fin 128, (if inHead u d then x0 (ix3 0 r d) else 0) * x1 (ix3 0 j d)) - x3 (ix3 0 (gateRow p u) j) else ⊥

/-- THE BLOCK at a row and a lane. -/
def blockAt (p : Fin 4) (x0 x1 x2 : Vec Ideal S1x2048x128 .bf16) (x3 : Vec Ideal S1x8x2048 .f32) (y : S1x2048x128.Idx) : EReal :=
  avg2 (blockScore p x0 x1 x3 (headOf (y 2)) (y 1)) (fun j => x2 (ix3 0 j (y 2)))

/-- A tile whose operands are rows of the four blocks is those rows of the block. -/
theorem rows_of_block {o n : ℕ} (hn : n = o + 256) (hN : n ≤ 2048) (p : Fin 4)
    (x0 x1 x2 : Vec Ideal S1x2048x128 .bf16) (x3 : Vec Ideal S1x8x2048 .f32)
    (q : Vec Ideal S1x256x128 .bf16) (k v : Vec Ideal (Blk n 128) .bf16) (c : Fin 2 → FVec Ideal (Mat 1 n) .f32)
    (hq : ∀ (i : Fin 256) d, q (ix3 0 i d) = x0 (ix3 0 ⟨o + i.val, by omega⟩ d))
    (hk : ∀ (j : Fin n) d, k (ix3 0 j d) = x1 (ix3 0 (j.castLE hN) d))
    (hv : ∀ (j : Fin n) d, v (ix3 0 j d) = x2 (ix3 0 (j.castLE hN) d))
    (hc : ∀ u (j : Fin n), c u (ix2 0 j) = x3 (ix3 0 (gateRow p u) (j.castLE hN)))
    (i : Fin 256) (d : Fin 128) :
    avg2 (tileScore o q k c (headOf d) i) (fun j => v (ix3 0 j d))
      = blockAt p x0 x1 x2 x3 (ix3 0 ⟨o + i.val, by omega⟩ d) := by
  refine Eq.trans ?_ (avg2_castLE hN (blockScore p x0 x1 x3 (headOf d) ⟨o + i.val, by omega⟩) (fun j => x2 (ix3 0 j d)) fun j hj => if_neg ?_)
  · refine congrArg₂ avg2 (funext fun j => ?_) (funext fun j => hv j d)
    unfold tileScore blockScore
    simp only [hq, hk, hc]
    rfl
  · show ¬ j.val ≤ o + i.val
    omega

/-- Rows loaded from a block, from a fixed first row on. -/
theorem load_rows {o n : ℕ} (X : Vec Ideal S1x2048x128 .bf16)
    (inb : ∀ a : Fin 3, (![0, o, 0] : Fin 3 → ℕ) a + (![1, n, 128] : Fin 3 → ℕ) a ≤ S1x2048x128.size a)
    (i : Fin n) (d : Fin 128) (r : Fin 2048) (hr : r.val = o + i.val) :
    View.ld X (Rect.unit (s := S1x2048x128) ![0, o, 0] ![1, n, 128] inb) (ix3 (0 : Fin 1) i d) = X (ix3 0 r d) := by
  refine congrArg X (funext fun a => Fin.ext ?_)
  rw [Rect.idx_unit_val]
  match a with
  | ⟨0, _⟩ => rfl
  | ⟨1, _⟩ => exact hr.symm
  | ⟨2, _⟩ => exact Nat.zero_add _

/-- One head's row of gates, loaded. -/
theorem load_gate {g : ℕ} (X : Vec Ideal S1x8x2048 .f32)
    (inb : ∀ a : Fin 3, (![0, g, 0] : Fin 3 → ℕ) a + (![1, 1, 2048] : Fin 3 → ℕ) a ≤ S1x8x2048.size a)
    (h : S1x1x2048.ShapeCasts S1x2048) (j : Fin 2048) (r : Fin 8) (hr : r.val = g) :
    shapeCast S1x2048 (View.ld X (Rect.unit (s := S1x8x2048) ![0, g, 0] ![1, 1, 2048] inb)) h (ix2 0 j) = X (ix3 0 r j) := by
  refine (unblock_at (View.ld X (Rect.unit (s := S1x8x2048) ![0, g, 0] ![1, 1, 2048] inb)) h 0 j).trans ?_
  refine congrArg X (funext fun a => Fin.ext ?_)
  rw [Rect.idx_unit_val]
  match a with
  | ⟨0, _⟩ => rfl
  | ⟨1, _⟩ => exact hr.symm
  | ⟨2, _⟩ => exact Nat.zero_add _

theorem gate_word (p : Fin 4) (u : Fin 2) :
    (Scalar.indexCast (Scalar.addi (Scalar.muli 2#32 (BitVec.ofNat 32 p.val)) (BitVec.ofNat 32 u.val))).toNat = 2 * p.val + u.val := by
  revert p u; decide

theorem tf2048 : TileFacts 2048 := by constructor <;> decide
theorem tf1792 : TileFacts 1792 := by constructor <;> decide
theorem tf1536 : TileFacts 1536 := by constructor <;> decide
theorem tf1280 : TileFacts 1280 := by constructor <;> decide
theorem tf1024 : TileFacts 1024 := by constructor <;> decide
theorem tf768 : TileFacts 768 := by constructor <;> decide
theorem tf512 : TileFacts 512 := by constructor <;> decide
theorem tf256 : TileFacts 256 := by constructor <;> decide
theorem mf1792 : MaskFacts 1792 2048 := by constructor <;> decide
theorem mf1536 : MaskFacts 1536 1792 := by constructor <;> decide
theorem mf1280 : MaskFacts 1280 1536 := by constructor <;> decide
theorem mf1024 : MaskFacts 1024 1280 := by constructor <;> decide
theorem mf768 : MaskFacts 768 1024 := by constructor <;> decide
theorem mf512 : MaskFacts 512 768 := by constructor <;> decide
theorem mf256 : MaskFacts 256 512 := by constructor <;> decide

section
variable {F : FTy → Type} [FloatOps F]

/-- The lane number. -/
abbrev lanes : IVec S1x128 32 := iota .tc S1x128 32 [1] iota_S1x128_d1_w32

/-- The gates of a tile's keys. -/
def gatesOf {n : ℕ} (h : TileFacts n) (c : Vec F S1x1x2048 .f32) : FVec F (Mat 1 n) .f32 :=
  extractStridedSlice (Mat 1 n) ![0, 0] (shapeCast S1x2048 c shapeCasts_S1x1x2048_S1x2048) h.gates

theorem stored7 (q : Vec F S1x256x128 .bf16) (k v : Vec F (Blk 2048 128) .bf16) (a b : Vec F S1x1x2048 .f32) :
    k0_pay7 (F := F) lanes k0_pay2 (k0_pay4 b) (k0_pay5 q k) (k0_pay6 a q k) v
      = tile tf2048 mf1792 q k v (shapeCast S1x2048 a shapeCasts_S1x1x2048_S1x2048) (shapeCast S1x2048 b shapeCasts_S1x1x2048_S1x2048) := rfl
theorem stored6 (q : Vec F S1x256x128 .bf16) (k v : Vec F (Blk 1792 128) .bf16) (a b : Vec F S1x1x2048 .f32) :
    k0_pay13 (F := F) (k0_pay12 lanes k0_pay2 (k0_pay3 a) (k0_pay4 b) (k0_pay8 q) k0_pay9 (k0_pay10 lanes q) k0_pay11 k v)
      = tile tf1792 mf1536 q k v (gatesOf tf1792 a) (gatesOf tf1792 b) := rfl
theorem stored5 (q : Vec F S1x256x128 .bf16) (k v : Vec F (Blk 1536 128) .bf16) (a b : Vec F S1x1x2048 .f32) :
    k0_pay16 (F := F) lanes (k0_pay14 lanes k0_pay2 (k0_pay3 a) (k0_pay4 b) q k) (k0_pay15 lanes k0_pay2 (k0_pay3 a) (k0_pay4 b) q k) v
      = tile tf1536 mf1280 q k v (gatesOf tf1536 a) (gatesOf tf1536 b) := rfl
theorem stored4 (q : Vec F S1x256x128 .bf16) (k v : Vec F (Blk 1280 128) .bf16) (a b : Vec F S1x1x2048 .f32) :
    k0_pay20 (F := F) lanes k0_pay2 (k0_pay4 b) (k0_pay17 lanes q k) (k0_pay18 lanes q k) (k0_pay19 (k0_pay3 a)) v
      = tile tf1280 mf1024 q k v (gatesOf tf1280 a) (gatesOf tf1280 b) := rfl
theorem stored3 (q : Vec F S1x256x128 .bf16) (k v : Vec F (Blk 1024 128) .bf16) (a b : Vec F S1x1x2048 .f32) :
    k0_pay25 (F := F) lanes (k0_pay23 lanes k0_pay2 (k0_pay3 a) (k0_pay4 b) (k0_pay21 q) (FloatOps.ofBits .bf16 0#16) k v)
        (k0_pay24 lanes k0_pay2 (k0_pay3 a) (k0_pay4 b) (k0_pay21 q) (FloatOps.ofBits .bf16 0#16) k)
      = tile tf1024 mf768 q k v (gatesOf tf1024 a) (gatesOf tf1024 b) := rfl
theorem stored2 (q : Vec F S1x256x128 .bf16) (k v : Vec F (Blk 768 128) .bf16) (a b : Vec F S1x1x2048 .f32) :
    k0_pay30 (F := F) lanes k0_pay2 (k0_pay27 lanes k0_pay2 (k0_pay3 a) q k) (k0_pay28 lanes (k0_pay4 b) q k) (k0_pay29 lanes (k0_pay4 b) q k)
        (FloatOps.ofBits .f32 0xFF800000#32) v
      = tile tf768 mf512 q k v (gatesOf tf768 a) (gatesOf tf768 b) := rfl
theorem stored1 (q : Vec F S1x256x128 .bf16) (k v : Vec F (Blk 512 128) .bf16) (a b : Vec F S1x1x2048 .f32) :
    k0_pay33 (F := F) (k0_pay32 lanes k0_pay2 (k0_pay3 a) (k0_pay4 b) (k0_pay31 lanes q) k v)
      = tile tf512 mf256 q k v (gatesOf tf512 a) (gatesOf tf512 b) := rfl
theorem stored0 (q : Vec F S1x256x128 .bf16) (k v : Vec F (Blk 256 128) .bf16) (a b : Vec F S1x1x2048 .f32) :
    k0_pay1 (F := F) lanes (k0_pay35 lanes k0_pay2 (k0_pay3 a) (k0_pay4 b) q k) (k0_pay36 lanes k0_pay2 (k0_pay3 a) (k0_pay4 b) q k) (k0_pay37 v)
      = firstTile tf256 q k v (gatesOf tf256 a) (gatesOf tf256 b) := rfl
end

theorem gatesOf_at {n : ℕ} (h : TileFacts n) (hN : n ≤ 2048) (c : Vec Ideal S1x1x2048 .f32) (j : Fin n) :
    gatesOf h c (ix2 0 j) = shapeCast S1x2048 c shapeCasts_S1x1x2048_S1x2048 (ix2 0 (j.castLE hN)) :=
  slice_at _ _ _ _ 0 (j.castLE hN) rfl (Nat.zero_add _).symm

/-- A stored tile whose operands are loads from the four blocks, at its place in the block. -/
theorem stored_rows {o n : ℕ} (hn : n = o + 256) (hN : n ≤ 2048) (p : Fin 4)
    (x0 x1 x2 : Vec Ideal S1x2048x128 .bf16) (x3 : Vec Ideal S1x8x2048 .f32)
    (inq : ∀ a : Fin 3, (![0, o, 0] : Fin 3 → ℕ) a + (![1, 256, 128] : Fin 3 → ℕ) a ≤ S1x2048x128.size a)
    (ink : ∀ a : Fin 3, (![0, 0, 0] : Fin 3 → ℕ) a + (![1, n, 128] : Fin 3 → ℕ) a ≤ S1x2048x128.size a)
    (c : Fin 2 → FVec Ideal (Mat 1 n) .f32)
    (hc : ∀ u (j : Fin n), c u (ix2 0 j) = x3 (ix3 0 (gateRow p u) (j.castLE hN)))
    (T : FVec Ideal S1x256x128 .bf16)
    (hT : ∀ z r d, T (ix3 z r d)
      = avg2 (tileScore o (View.ld x0 (Rect.unit (s := S1x2048x128) ![0, o, 0] ![1, 256, 128] inq))
            (View.ld x1 (Rect.unit (s := S1x2048x128) ![0, 0, 0] ![1, n, 128] ink)) c (headOf d) r)
          (fun j => View.ld x2 (Rect.unit (s := S1x2048x128) ![0, 0, 0] ![1, n, 128] ink) (ix3 (0 : Fin 1) j d)))
    (x : (⟨3, ![1, 256, 128]⟩ : Shape).Idx) :
    T x = blockAt p x0 x1 x2 x3 ((Rect.unit (s := S1x2048x128) ![0, o, 0] ![1, 256, 128] inq).emb x) := by
  obtain ⟨z, r, d, rfl⟩ : ∃ z r d, x = ix3 z r d := ⟨x 0, x 1, x 2, eq_ix3 x⟩
  refine (hT z r d).trans ((rows_of_block hn hN p x0 x1 x2 x3 _ _ _ c
    (fun r d => load_rows x0 inq r d _ rfl) (fun j d => load_rows x1 ink j d _ (Nat.zero_add _).symm)
    (fun j d => load_rows x2 ink j d _ (Nat.zero_add _).symm) hc r d).trans ?_)
  refine congrArg (blockAt p x0 x1 x2 x3) (funext fun a => Fin.ext ?_)
  refine Eq.trans ?_ (Rect.idx_unit_val _ _ inq (ix3 z r d) a).symm
  match a with
  | ⟨0, _⟩ => exact (by have := z.isLt; show 0 = 0 + z.val; omega)
  | ⟨1, _⟩ => rfl
  | ⟨2, _⟩ => exact (Nat.zero_add _).symm

/-- THE BLOCK the body leaves, at an index. -/
theorem out_block (c : Dev nD) (i : grid0.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S1x8x2048 .f32) (harg5 : arg5.IsWhole) (arg6 : Memref sig .tc .vmem S1x2048x128 .bf16) (harg6 : arg6.IsWhole)
    (x0 x1 x2 : Vec Ideal S1x2048x128 .bf16) (x3 : Vec Ideal S1x8x2048 .f32) (y : S1x2048x128.Idx) :
    out0_A_4 c i arg2 harg2 arg3 harg3 arg4 harg4 arg5 harg5 arg6 harg6 x0 x1 x2 x3 y = blockAt (i 1) x0 x1 x2 x3 y := by
  have hy := cover0_A_4 c i arg2 harg2 arg3 harg3 arg4 harg4 arg5 harg5 arg6 harg6 x0 x1 x2 x3 y
  unfold out0_A_4
  rw [View.read_writes_eq_canon _ _ _ (cover0_A_4 c i arg2 harg2 arg3 harg3 arg4 harg4 arg5 harg5 arg6 harg6 x0 x1 x2 x3)]
  revert hy
  unfold kernelRun0_A
  dsimp only
  sl_unfold_words
  simp only [View.readAt_eq_ld, harg2.read_unread, harg3.read_unread, harg4.read_unread, harg5.read_unread]
  intro hy
  refine View.canon_apply_of_pieces (blockAt (i 1) x0 x1 x2 x3) _ ?_ y hy
  clear hy
  have ga := fun inb j => load_gate x3 inb shapeCasts_S1x1x2048_S1x2048 j (gateRow (i 1) 0) (gate_word (i 1) 0).symm
  have gb := fun inb j => load_gate x3 inb shapeCasts_S1x1x2048_S1x2048 j (gateRow (i 1) 1) (gate_word (i 1) 1).symm
  have hc : ∀ {n : ℕ} (h : TileFacts n) (hN : n ≤ 2048) (a b : Vec Ideal S1x1x2048 .f32)
      (ha : ∀ j, shapeCast S1x2048 a shapeCasts_S1x1x2048_S1x2048 (ix2 0 j) = x3 (ix3 0 (gateRow (i 1) 0) j))
      (hb : ∀ j, shapeCast S1x2048 b shapeCasts_S1x1x2048_S1x2048 (ix2 0 j) = x3 (ix3 0 (gateRow (i 1) 1) j)),
      ∀ (u : Fin 2) (j : Fin n), (![gatesOf h a, gatesOf h b] : Fin 2 → FVec Ideal (Mat 1 n) .f32) u (ix2 0 j)
        = x3 (ix3 0 (gateRow (i 1) u) (j.castLE hN)) := by
    intro n h hN a b ha hb u j
    match u with
    | 0 => exact (gatesOf_at h hN a j).trans (ha _)
    | 1 => exact (gatesOf_at h hN b j).trans (hb _)
  refine List.forall_mem_cons.2 ⟨fun x => (congrFun (stored0 _ _ _ _ _) x).trans
    (stored_rows rfl (by norm_num) (i 1) x0 x1 x2 x3 _ _ _ (hc tf256 _ _ _ (ga _) (gb _)) _ (firstTile_at tf256 _ _ _ ![_, _]) x), ?_⟩
  refine List.forall_mem_cons.2 ⟨fun x => (congrFun (stored1 _ _ _ _ _) x).trans
    (stored_rows rfl (by norm_num) (i 1) x0 x1 x2 x3 _ _ _ (hc tf512 _ _ _ (ga _) (gb _)) _ (tile_at tf512 mf256 rfl _ _ _ ![_, _]) x), ?_⟩
  refine List.forall_mem_cons.2 ⟨fun x => (congrFun (stored2 _ _ _ _ _) x).trans
    (stored_rows rfl (by norm_num) (i 1) x0 x1 x2 x3 _ _ _ (hc tf768 _ _ _ (ga _) (gb _)) _ (tile_at tf768 mf512 rfl _ _ _ ![_, _]) x), ?_⟩
  refine List.forall_mem_cons.2 ⟨fun x => (congrFun (stored3 _ _ _ _ _) x).trans
    (stored_rows rfl (by norm_num) (i 1) x0 x1 x2 x3 _ _ _ (hc tf1024 _ _ _ (ga _) (gb _)) _ (tile_at tf1024 mf768 rfl _ _ _ ![_, _]) x), ?_⟩
  refine List.forall_mem_cons.2 ⟨fun x => (congrFun (stored4 _ _ _ _ _) x).trans
    (stored_rows rfl (by norm_num) (i 1) x0 x1 x2 x3 _ _ _ (hc tf1280 _ _ _ (ga _) (gb _)) _ (tile_at tf1280 mf1024 rfl _ _ _ ![_, _]) x), ?_⟩
  refine List.forall_mem_cons.2 ⟨fun x => (congrFun (stored5 _ _ _ _ _) x).trans
    (stored_rows rfl (by norm_num) (i 1) x0 x1 x2 x3 _ _ _ (hc tf1536 _ _ _ (ga _) (gb _)) _ (tile_at tf1536 mf1280 rfl _ _ _ ![_, _]) x), ?_⟩
  refine List.forall_mem_cons.2 ⟨fun x => (congrFun (stored6 _ _ _ _ _) x).trans
    (stored_rows rfl (by norm_num) (i 1) x0 x1 x2 x3 _ _ _ (hc tf1792 _ _ _ (ga _) (gb _)) _ (tile_at tf1792 mf1536 rfl _ _ _ ![_, _]) x), ?_⟩
  refine List.forall_mem_cons.2 ⟨fun x => (congrFun (stored7 _ _ _ _ _) x).trans
    (stored_rows rfl (by norm_num) (i 1) x0 x1 x2 x3 _ _ _ (fun u j => ?_) _ (tile_at tf2048 mf1792 rfl _ _ _ ![_, _]) x), ?_⟩
  · match u with
    | 0 => exact ga _ _
    | 1 => exact gb _ _
  · intro p hp
    cases hp

end Cert.Proof
end
-- ==== Proof.FoxArray.lean ====
module
public import proofs.«01_k».proof.Proof.Block

/-! # The attention kernel's whole output

Grid point `4 b + p` holds batch entry `b` and head pair `p`.  Its blocks of queries, keys and values are the columns
`2048 + 128 p`, `2560 + 128 p` and `3072 + 128 p` on of the projected input, and its output block is the columns `128 p` on.
So the output at batch entry `b`, row `r` and column `col` is the softmax average for head `col / 64`, `foxAt`. -/

@[expose] public section
set_option maxRecDepth 16384
noncomputable section
namespace Cert.Proof
open Idealize.ShloMosaic Idealize.ShloMosaic.TcCoe Idealize.ShloMosaic.ValueIdx Cert.FoxIdeal Cert.FoxIdeal.Gen Idealize.ShloMosaic.Tactic

/-- Column `e` of head `h`, from column `base` on. -/
def headCol (base : ℕ) (hb : base + 512 ≤ 3584) (h : Fin 8) (e : Fin 64) : Fin 3584 := ⟨base + (64 * h.val + e.val), by omega⟩

/-- The head an output column belongs to. -/
def colHead (col : Fin 512) : Fin 8 := ⟨col.val / 64, by omega⟩

/-- The score of row `r` and key `j` in head `h`, less the part that is the same for every key. -/
def foxScore (P : Vec Ideal S8x2048x3584 .bf16) (C : Vec Ideal S8x8x2048 .f32) (b : Fin 8) (h : Fin 8) (r j : Fin 2048) : EReal :=
  (∑ e : Fin 64, P (ix3 b r (headCol 2048 (by norm_num) h e)) * P (ix3 b j (headCol 2560 (by norm_num) h e))) - C (ix3 b h j)

/-- THE KERNEL'S OUTPUT at an index. -/
def foxAt (P : Vec Ideal S8x2048x3584 .bf16) (C : Vec Ideal S8x8x2048 .f32) (b : Fin 8) (r : Fin 2048) (col : Fin 512) : EReal :=
  avg2 (fun j => if j.val ≤ r.val then foxScore P C b (colHead col) r j else ⊥)
    (fun j => P (ix3 b j ⟨3072 + col.val, by omega⟩))

/-- A sum over both heads' lanes in which only one head's lanes count is the sum over that head. -/
theorem head_sum (f g : Fin 128 → EReal) (u : Fin 2) :
    ∑ d : Fin 128, (if inHead u d then f d else 0) * g d
      = ∑ e : Fin 64, f ⟨64 * u.val + e.val, by omega⟩ * g ⟨64 * u.val + e.val, by omega⟩ := by
  have e := Fin.sum_univ_add (a := 64) (b := 64) (fun d : Fin (64 + 64) => (if inHead u d then f d else 0) * g d)
  refine e.trans ?_
  match u with
  | 0 =>
    have z : ∑ i : Fin 64, (if inHead 0 (Fin.natAdd 64 i) then f (Fin.natAdd 64 i) else 0) * g (Fin.natAdd 64 i) = 0 :=
      Finset.sum_eq_zero fun i _ => by
        rw [if_neg (by simp [inHead])]; exact zero_mul _
    refine (congrArg (_ + ·) z).trans ((add_zero _).trans (Finset.sum_congr rfl fun i _ => ?_))
    rw [if_pos (by have := i.isLt; show i.val < 64; omega)]
    have hi : Fin.castAdd 64 i = (⟨64 * (0 : Fin 2).val + i.val, by have := i.isLt; simp; omega⟩ : Fin 128) := Fin.ext (by simp)
    rw [hi]
  | 1 =>
    have z : ∑ i : Fin 64, (if inHead 1 (Fin.castAdd 64 i) then f (Fin.castAdd 64 i) else 0) * g (Fin.castAdd 64 i) = 0 :=
      Finset.sum_eq_zero fun i _ => by
        rw [if_neg (by have := i.isLt; show ¬ 64 ≤ i.val; omega)]; exact zero_mul _
    refine (congrArg (· + _) z).trans ((zero_add _).trans (Finset.sum_congr rfl fun i _ => ?_))
    rw [if_pos (by show 64 ≤ 64 + i.val; omega)]
    rfl

variable (m : (ℓ : Loc nD τ sig) → Buf (Elt Ideal) ℓ)

/-- The grid point of a batch entry and a head pair. -/
def pointOf (b : Fin 8) (p : Fin 4) : Fin grid0.N := ⟨4 * b.val + p.val, by show _ < 32; omega⟩

theorem point_facts : ∀ (b : Fin 8) (p : Fin 4), (grid0.coords (pointOf b p) 1).val = p.val ∧
    win0_0.index (pointOf b p) (0 : Fin 3) = b.val ∧ win0_0.index (pointOf b p) (1 : Fin 3) = 0 ∧ win0_0.index (pointOf b p) (2 : Fin 3) = 16 + p.val ∧
    win0_1.index (pointOf b p) (0 : Fin 3) = b.val ∧ win0_1.index (pointOf b p) (1 : Fin 3) = 0 ∧ win0_1.index (pointOf b p) (2 : Fin 3) = 20 + p.val ∧
    win0_2.index (pointOf b p) (0 : Fin 3) = b.val ∧ win0_2.index (pointOf b p) (1 : Fin 3) = 0 ∧ win0_2.index (pointOf b p) (2 : Fin 3) = 24 + p.val ∧
    win0_3.index (pointOf b p) (0 : Fin 3) = b.val ∧ win0_3.index (pointOf b p) (1 : Fin 3) = 0 ∧ win0_3.index (pointOf b p) (2 : Fin 3) = 0 ∧
    win0_4.index (pointOf b p) (0 : Fin 3) = b.val ∧ win0_4.index (pointOf b p) (1 : Fin 3) = 0 ∧ win0_4.index (pointOf b p) (2 : Fin 3) = p.val := by decide +kernel

theorem point_flush : ∀ t : Fin cfg0.N, (cfg0.win 4).flush t = true :=
  (by decide +kernel : ∀ t : Fin grid0.N, win0_4.flush t = true)

variable (c : Dev nD)

theorem queries_at (b : Fin 8) (p : Fin 4) (r : Fin 2048) (d : Fin 128) :
    iblk m c 0 (pointOf b p) (ix3 0 r d) = m ((c : Thread nD τ).loc main_arg0) (ix3 b r ⟨2048 + (128 * p.val + d.val), by omega⟩) := by
  obtain ⟨_, e0, e1, e2, _⟩ := point_facts b p
  show V m c main_arg0 (((cfg0.win 0).blk (pointOf b p)).view.emb (ix3 0 r d)) = _
  refine congrArg (m ((c : Thread nD τ).loc main_arg0)) (funext fun a => Fin.ext ?_)
  match a with
  | ⟨0, _⟩ => show win0_0.index (pointOf b p) (0 : Fin 3) * 1 + 1 * 0 = b.val; omega
  | ⟨1, _⟩ => show win0_0.index (pointOf b p) (1 : Fin 3) * 2048 + 1 * r.val = r.val; omega
  | ⟨2, _⟩ => show win0_0.index (pointOf b p) (2 : Fin 3) * 128 + 1 * d.val = 2048 + (128 * p.val + d.val); omega

theorem keys_at (b : Fin 8) (p : Fin 4) (r : Fin 2048) (d : Fin 128) :
    iblk m c 1 (pointOf b p) (ix3 0 r d) = m ((c : Thread nD τ).loc main_arg0) (ix3 b r ⟨2560 + (128 * p.val + d.val), by omega⟩) := by
  obtain ⟨_, _, _, _, e0, e1, e2, _⟩ := point_facts b p
  show V m c main_arg0 (((cfg0.win 1).blk (pointOf b p)).view.emb (ix3 0 r d)) = _
  refine congrArg (m ((c : Thread nD τ).loc main_arg0)) (funext fun a => Fin.ext ?_)
  match a with
  | ⟨0, _⟩ => show win0_1.index (pointOf b p) (0 : Fin 3) * 1 + 1 * 0 = b.val; omega
  | ⟨1, _⟩ => show win0_1.index (pointOf b p) (1 : Fin 3) * 2048 + 1 * r.val = r.val; omega
  | ⟨2, _⟩ => show win0_1.index (pointOf b p) (2 : Fin 3) * 128 + 1 * d.val = 2560 + (128 * p.val + d.val); omega

theorem values_at (b : Fin 8) (p : Fin 4) (r : Fin 2048) (d : Fin 128) :
    iblk m c 2 (pointOf b p) (ix3 0 r d) = m ((c : Thread nD τ).loc main_arg0) (ix3 b r ⟨3072 + (128 * p.val + d.val), by omega⟩) := by
  obtain ⟨_, _, _, _, _, _, _, e0, e1, e2, _⟩ := point_facts b p
  show V m c main_arg0 (((cfg0.win 2).blk (pointOf b p)).view.emb (ix3 0 r d)) = _
  refine congrArg (m ((c : Thread nD τ).loc main_arg0)) (funext fun a => Fin.ext ?_)
  match a with
  | ⟨0, _⟩ => show win0_2.index (pointOf b p) (0 : Fin 3) * 1 + 1 * 0 = b.val; omega
  | ⟨1, _⟩ => show win0_2.index (pointOf b p) (1 : Fin 3) * 2048 + 1 * r.val = r.val; omega
  | ⟨2, _⟩ => show win0_2.index (pointOf b p) (2 : Fin 3) * 128 + 1 * d.val = 3072 + (128 * p.val + d.val); omega

theorem gates_at (b : Fin 8) (p : Fin 4) (h : Fin 8) (j : Fin 2048) :
    iblk m c 3 (pointOf b p) (ix3 0 h j) = m ((c : Thread nD τ).loc main_arg1) (ix3 b h j) := by
  obtain ⟨_, _, _, _, _, _, _, _, _, _, e0, e1, e2, _⟩ := point_facts b p
  show V m c main_arg1 (((cfg0.win 3).blk (pointOf b p)).view.emb (ix3 0 h j)) = _
  refine congrArg (m ((c : Thread nD τ).loc main_arg1)) (funext fun a => Fin.ext ?_)
  match a with
  | ⟨0, _⟩ => show win0_3.index (pointOf b p) (0 : Fin 3) * 1 + 1 * 0 = b.val; omega
  | ⟨1, _⟩ => show win0_3.index (pointOf b p) (1 : Fin 3) * 8 + 1 * h.val = h.val; omega
  | ⟨2, _⟩ => show win0_3.index (pointOf b p) (2 : Fin 3) * 2048 + 1 * j.val = j.val; omega

theorem out_place (b : Fin 8) (p : Fin 4) (r : Fin 2048) (d : Fin 128) (col : Fin 512) (h : 128 * p.val + d.val = col.val) :
    (((cfg0.win 4).blk (pointOf b p)).view.emb (ix3 0 r d) : S8x2048x512.Idx) = ix3 b r col := by
  obtain ⟨_, _, _, _, _, _, _, _, _, _, _, _, _, e0, e1, e2⟩ := point_facts b p
  refine funext fun a => Fin.ext ?_
  match a with
  | ⟨0, _⟩ => show win0_4.index (pointOf b p) (0 : Fin 3) * 1 + 1 * 0 = b.val; omega
  | ⟨1, _⟩ => show win0_4.index (pointOf b p) (1 : Fin 3) * 2048 + 1 * r.val = r.val; omega
  | ⟨2, _⟩ => show win0_4.index (pointOf b p) (2 : Fin 3) * 128 + 1 * d.val = col.val; omega

/-- THE ARRAY AFTER THE RUN, at an index. -/
theorem fox_array (b : Fin 8) (r : Fin 2048) (col : Fin 512) :
    (dats m 0 c).arrAt 4 cfg0.N (ix3 b r col)
      = foxAt (m ((c : Thread nD τ).loc main_arg0)) (m ((c : Thread nD τ).loc main_arg1)) b r col := by
  obtain ⟨p, hp⟩ : ∃ p : Fin 4, p = ⟨col.val / 128, by omega⟩ := ⟨_, rfl⟩
  obtain ⟨d, hd⟩ : ∃ d : Fin 128, d = ⟨col.val % 128, by omega⟩ := ⟨_, rfl⟩
  have hpd : 128 * p.val + d.val = col.val := by rw [hp, hd]; show 128 * (col.val / 128) + col.val % 128 = col.val; omega
  have pf := point_facts b p
  have bl := congrFun (Cert.FoxIdeal.Value.blocks4 m c (pointOf b p) (point_flush _)) (ix3 0 r d)
  rw [Cert.FoxIdeal.Value.flushed4_A] at bl
  have bl' : (dats m 0 c).arrAt 4 cfg0.N (((cfg0.win 4).blk (pointOf b p)).view.emb (ix3 0 r d)) = _ := bl
  rw [show (((cfg0.win 4).blk (pointOf b p)).view.emb (ix3 0 r d) : S8x2048x512.Idx) = ix3 b r col from out_place b p r d col hpd] at bl'
  refine bl'.trans ((out_block c (grid0.coords (pointOf b p)) _ _ _ _ _ _ _ _ _ _ _ _ _ _ (ix3 0 r d)).trans ?_)
  rw [show grid0.coords (pointOf b p) 1 = p from Fin.ext pf.1]
  have hh : gateRow p (headOf d) = colHead col := Fin.ext (by
    show 2 * p.val + (headOf d).val = col.val / 64
    unfold headOf
    split
    · show 2 * p.val + 0 = _; omega
    · show 2 * p.val + 1 = _; omega)
  have hv : 2 * p.val + (headOf d).val = (colHead col).val := congrArg Fin.val hh
  unfold foxAt
  refine congrArg₂ avg2 (funext fun j => ?_) (funext fun j => ?_)
  · show blockScore p (iblk m c 0 (pointOf b p)) (iblk m c 1 (pointOf b p)) (iblk m c 3 (pointOf b p)) (headOf d) r j = _
    unfold blockScore foxScore
    refine if_congr Iff.rfl (congrArg₂ (· - ·) ((head_sum (fun x => iblk m c 0 (pointOf b p) (ix3 0 r x))
      (fun x => iblk m c 1 (pointOf b p) (ix3 0 j x)) (headOf d)).trans (Finset.sum_congr rfl fun e _ => ?_)) ?_) rfl
    · rw [queries_at, keys_at]
      refine congrArg₂ (· * ·) (congrArg (fun k => m ((c : Thread nD τ).loc main_arg0) (ix3 b r k)) (Fin.ext ?_))
        (congrArg (fun k => m ((c : Thread nD τ).loc main_arg0) (ix3 b j k)) (Fin.ext ?_))
      · show 2048 + (128 * p.val + (64 * (headOf d).val + e.val)) = 2048 + (64 * (colHead col).val + e.val); omega
      · show 2560 + (128 * p.val + (64 * (headOf d).val + e.val)) = 2560 + (64 * (colHead col).val + e.val); omega
    · rw [gates_at, hh]
  · refine (values_at m c b p j d).trans (congrArg (fun k => m ((c : Thread nD τ).loc main_arg0) (ix3 b j k)) (Fin.ext ?_))
    show 3072 + (128 * p.val + d.val) = 3072 + col.val; omega

end Cert.Proof
end
-- ==== Proof.FoxRef.lean ====
module
public import proofs.«01_k».proof.Proof.Gen.FoxRefIdeal.Run
public import proofs.«01_k».proof.Proof.Gen.FoxRefIdeal.Read
public import proofs.«01_k».proof.Proof.FoxArray
public import Idealize.ShloMosaic.Lib.KernelVsHost

/-! # What the reference of the forgetting attention computes

Head `h` of batch entry `b`: the logit of row `r` and key `j ≤ r` is the scaled product of the query and the key, plus the
cumulative log-forget of the row, less that of the key; other keys have `⊥`.  The output is the softmax's average of the
values.  The queries carry the factor `8 ln 2` and the gates the factor `ln 2`, as the kernel's inputs hold both divided by
it. -/

@[expose] public section
set_option maxRecDepth 16384
noncomputable section
namespace Cert.Proof
open Idealize.ShloMosaic Idealize.ShloMosaic.TcCoe Idealize.ShloMosaic.ValueIdx Cert.FoxRefIdeal Cert.FoxRefIdeal.Read Cert.FoxRefIdeal.Gen

theorem ofBits_two : Ideal.ofBits .f32 0x40000000#32 = ((2 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num

/-- The natural logarithm of two. -/
def ln2 : EReal := (Real.log 2 : ℝ)

/-- The reference's logit of row `r` and key `j`. -/
def refLogit (P : Vec Ideal S8x2048x3584 .bf16) (C : Vec Ideal S8x8x2048 .f32) (b h : Fin 8) (r j : Fin 2048) : EReal :=
  (∑ e : Fin 64, (P (ix3 b r (headCol 2048 (by norm_num) h e)) * (((8 : ℝ) : EReal) * ln2)) * P (ix3 b j (headCol 2560 (by norm_num) h e)))
    * ((1 / 8 : ℝ) : EReal) + C (ix3 b h r) * ln2 - C (ix3 b h j) * ln2

/-- THE REFERENCE at an index. -/
def refAt (P : Vec Ideal S8x2048x3584 .bf16) (C : Vec Ideal S8x8x2048 .f32) (b : Fin 8) (r : Fin 2048) (col : Fin 512) : EReal :=
  avgE (fun j => if j.val ≤ r.val then refLogit P C b (colHead col) r j else ⊥)
    (fun j => P (ix3 b j ⟨3072 + col.val, by omega⟩))

variable (P : Vec Ideal S8x2048x3584 .bf16) (C : Vec Ideal S8x8x2048 .f32)

theorem log_at (i : S_.Idx) : val_main_v0 (F := Ideal) i = ln2 := by
  rw [val_main_v0_apply, val_main_cst_apply]
  show Ideal.log (Ideal.ofBits .f32 0x40000000#32) = _
  rw [ofBits_two, Ideal.log_coe, if_neg (by norm_num)]
  rfl

theorem ref_query (b h : Fin 8) (r : Fin 2048) (e : Fin 64) :
    val_main_v6 (F := Ideal) P (ix4 b r h e) = P (ix3 b r (headCol 2048 (by norm_num) h e)) * (((8 : ℝ) : EReal) * ln2) := by
  rw [val_main_v6_apply, val_main_v3_apply, val_main_v2_apply, val_main_v1_apply, val_main_v5_apply, val_main_v4_apply, log_at, val_main_cst_0_apply]
  show P _ * (Ideal.ofBits .f32 0x41000000#32 * ln2) = _
  rw [ofBits_eight]
  refine congrArg (P · * _) (funext fun a => Fin.ext ?_)
  match a with
  | ⟨0, _⟩ => show (((b.val * 2048 + r.val) * 8 + h.val) * 64 + e.val) / 1048576 = b.val; omega
  | ⟨1, _⟩ => show (((b.val * 2048 + r.val) * 8 + h.val) * 64 + e.val) / 512 % 2048 = r.val; omega
  | ⟨2, _⟩ => show 2048 + (((b.val * 2048 + r.val) * 8 + h.val) * 64 + e.val) % 512 = 2048 + (64 * h.val + e.val); omega

theorem ref_key (b h : Fin 8) (r : Fin 2048) (e : Fin 64) :
    val_main_v8 (F := Ideal) P (ix4 b r h e) = P (ix3 b r (headCol 2560 (by norm_num) h e)) := by
  rw [val_main_v8_apply, val_main_v7_apply, val_main_v1_apply]
  refine congrArg P (funext fun a => Fin.ext ?_)
  match a with
  | ⟨0, _⟩ => show (((b.val * 2048 + r.val) * 8 + h.val) * 64 + e.val) / 1048576 = b.val; omega
  | ⟨1, _⟩ => show (((b.val * 2048 + r.val) * 8 + h.val) * 64 + e.val) / 512 % 2048 = r.val; omega
  | ⟨2, _⟩ => show 2560 + (((b.val * 2048 + r.val) * 8 + h.val) * 64 + e.val) % 512 = 2560 + (64 * h.val + e.val); omega

theorem ref_value (b h : Fin 8) (r : Fin 2048) (e : Fin 64) (k : Fin 3584) (hk : k.val = 3072 + (64 * h.val + e.val)) :
    val_main_v10 (F := Ideal) P (ix4 b r h e) = P (ix3 b r k) := by
  rw [val_main_v10_apply, val_main_v9_apply, val_main_v1_apply]
  refine congrArg P (funext fun a => Fin.ext ?_)
  match a with
  | ⟨0, _⟩ => show (((b.val * 2048 + r.val) * 8 + h.val) * 64 + e.val) / 1048576 = b.val; omega
  | ⟨1, _⟩ => show (((b.val * 2048 + r.val) * 8 + h.val) * 64 + e.val) / 512 % 2048 = r.val; omega
  | ⟨2, _⟩ => show 3072 + (((b.val * 2048 + r.val) * 8 + h.val) * 64 + e.val) % 512 = k.val; omega

theorem ref_gate (b h : Fin 8) (r : Fin 2048) : val_main_v12 (F := Ideal) C (ix3 b h r) = C (ix3 b h r) * ln2 := by
  rw [val_main_v12_apply, val_main_v11_apply, log_at]
  rfl

theorem ref_product (b h : Fin 8) (r j : Fin 2048) :
    val_main_v13 (F := Ideal) P (ix4 b h r j)
      = ∑ e : Fin 64, (P (ix3 b r (headCol 2048 (by norm_num) h e)) * (((8 : ℝ) : EReal) * ln2)) * P (ix3 b j (headCol 2560 (by norm_num) h e)) := by
  rw [val_main_v13_apply]
  refine Finset.sum_congr rfl fun e _ => ?_
  rw [← ref_query P b h r e, ← ref_key P b h j e]
  refine congrArg₂ (fun x y => val_main_v6 (F := Ideal) P x * val_main_v8 (F := Ideal) P y) (funext fun a => ?_) (funext fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem ref_logit (b h : Fin 8) (r j : Fin 2048) : val_main_v21 (F := Ideal) P C (ix4 b h r j) = refLogit P C b h r j := by
  rw [val_main_v21_apply, val_main_v18_apply, val_main_v15_apply, ref_product, val_main_v14_apply, val_main_cst_1_apply, val_main_v17_apply,
    val_main_v16_apply, val_main_v20_apply, val_main_v19_apply]
  show _ * Ideal.ofBits .f32 0x3E000000#32 + _ - _ = _
  rw [ofBits_eighth]
  refine congrArg₂ (fun x y => _ + x - y) ((congrArg (val_main_v12 (F := Ideal) C) (funext fun a => ?_)).trans (ref_gate C b h r))
    ((congrArg (val_main_v12 (F := Ideal) C) (funext fun a => ?_)).trans (ref_gate C b h j))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The masked logits. -/
def refMasked (b h : Fin 8) (r j : Fin 2048) : EReal := if j.val ≤ r.val then refLogit P C b h r j else ⊥

theorem ref_masked (b h : Fin 8) (r j : Fin 2048) : val_main_v29 (F := Ideal) P C (ix4 b h r j) = refMasked P C b h r j := by
  rw [val_main_v29_apply, ref_logit, val_main_call0_v1_apply, val_main_v28_apply, val_main_v26_apply, val_main_v23_apply, val_main_v22_apply,
    val_main_v27_apply, val_main_v25_apply, val_main_v24_apply, val_main_call0_v2_apply, val_main_call0_v0_apply, val_main_cst_2_apply]
  show Scalar.select (IntOp.cmpi .sge (BitVec.ofNat 32 r.val) (BitVec.ofNat 32 j.val)) _ (Ideal.ofBits .f32 0xFF800000#32) = _
  rw [ofBits_ninf, WordCmp.cmpi_sge_ofNat (w := 32) (by have := r.isLt; show r.val < 2147483648; omega) (by have := j.isLt; show j.val < 2147483648; omega),
    select_ofBool]
  rfl

/-- The host's maximum along the last of four axes. -/
theorem host_max_last {n₀ n₁ n₂ n₃ : ℕ} (x : FVec Ideal ⟨4, ![n₀, n₁, n₂, n₃]⟩ .f32)
    (h : (⟨4, ![n₀, n₁, n₂, n₃]⟩ : Shape).ReducesTo [3] ⟨3, ![n₀, n₁, n₂]⟩) (hu : 0 < S_.numel)
    (hr : (⟨4, ![n₀, n₁, n₂, n₃]⟩ : Shape).Reduces [3] ⟨3, ![n₀, n₁, n₂]⟩) (i : Fin n₀) (j : Fin n₁) (k : Fin n₂) :
    Host.reduce (α := Ideal .f32) FloatOps.maximumf x (constant S_ .f32 0xFF800000#32) h hu (ix3 i j k) = rowMax fun l : Fin n₃ => x (ix4 i j k l) := by
  rw [hostReduce_maximumf_eq_multiReduction x 0xFF800000#32 h hu hr (.inl rfl) rfl]
  refine (Ideal.multiReduction_maximumf_single x _ hr (.inl rfl) rfl (ix3 i j k)).trans ?_
  have e : ∀ l : Fin n₃, hr.lift (ix3 i j k) l = ix4 i j k l := fun l => funext fun a => match a with
    | ⟨0, _⟩ => rfl
    | ⟨1, _⟩ => rfl
    | ⟨2, _⟩ => rfl
    | ⟨3, _⟩ => rfl
  show Finset.univ.fold max (Ideal.ofBits .f32 0xFF800000#32) (fun l : Fin n₃ => x (hr.lift (ix3 i j k) l)) = _
  simp only [e, ofBits_ninf]
  rfl

theorem ref_max (b h : Fin 8) (r : Fin 2048) :
    val_main_v30 (F := Ideal) P C (ix3 b h r) = rowMax fun j => refMasked P C b h r j := by
  simp only [← ref_masked]
  unfold val_main_v30 val_main_cst_3
  generalize val_main_v29 (F := Ideal) P C = x
  exact host_max_last x reducesTo_S8x8x2048x2048_S8x8x2048_d3 h_S_ (by decide) b h r

theorem ref_weight (b h : Fin 8) (r j : Fin 2048) :
    val_main_v36 (F := Ideal) P C (ix4 b h r j)
      = Ideal.exp (refMasked P C b h r j - max ⊥ (rowMax fun k => refMasked P C b h r k)) := by
  rw [val_main_v36_apply, val_main_v35_apply, ref_masked, val_main_v34_apply, val_main_v33_apply, val_main_v32_apply, val_main_v31_apply,
    val_main_cst_4_apply]
  show Ideal.exp (_ - max (Ideal.ofBits .f32 0xFF800000#32) _) = _
  rw [ofBits_ninf]
  refine congrArg (fun t => Ideal.exp (refMasked P C b h r j - max ⊥ t)) (Eq.trans ?_ (ref_max P C b h r))
  refine congrArg (val_main_v30 (F := Ideal) P C) (funext fun a => ?_)
  match a with
  | ⟨0, _⟩ => rfl
  | ⟨1, _⟩ => rfl
  | ⟨2, _⟩ => rfl

theorem ref_total (b h : Fin 8) (r : Fin 2048) :
    val_main_v37 (F := Ideal) P C (ix3 b h r)
      = 0 + ∑ k : Fin 2048, Ideal.exp (refMasked P C b h r k - max ⊥ (rowMax fun k => refMasked P C b h r k)) := by
  rw [val_main_v37_apply, val_main_cst_5_apply]
  refine congrArg₂ (· + ·) Ideal.ofBits_zero_f32 (Finset.sum_congr rfl fun k _ => (congrArg (val_main_v36 (F := Ideal) P C) (funext fun a => ?_)).trans (ref_weight P C b h r k))
  match a with
  | ⟨0, _⟩ => rfl
  | ⟨1, _⟩ => rfl
  | ⟨2, _⟩ => rfl
  | ⟨3, _⟩ => rfl

theorem ref_softmax (b h : Fin 8) (r j : Fin 2048) :
    val_main_v40 (F := Ideal) P C (ix4 b h r j)
      = Ideal.div (Ideal.exp (refMasked P C b h r j - max ⊥ (rowMax fun k => refMasked P C b h r k)))
          (0 + ∑ k : Fin 2048, Ideal.exp (refMasked P C b h r k - max ⊥ (rowMax fun k => refMasked P C b h r k))) := by
  rw [val_main_v40_apply, ref_weight, val_main_v39_apply, val_main_v38_apply]
  refine congrArg (Ideal.div _) (Eq.trans (congrArg (val_main_v37 (F := Ideal) P C) (funext fun a => ?_)) (ref_total P C b h r))
  match a with
  | ⟨0, _⟩ => rfl
  | ⟨1, _⟩ => rfl
  | ⟨2, _⟩ => rfl

/-- The result at an index. -/
theorem fox_reference (b : Fin 8) (r : Fin 2048) (col : Fin 512) :
    val_main_v44 (F := Ideal) P C (ix3 b r col) = refAt P C b r col := by
  rw [val_main_v44_apply, val_main_v43_apply, val_main_v42_apply, val_main_v41_apply]
  show (∑ k : Fin 2048, _) = _
  unfold refAt avgE
  refine Finset.sum_congr rfl fun k _ => congrArg₂ (· * ·) ?_ ?_
  · refine Eq.trans (congrArg (val_main_v10 (F := Ideal) P) (funext fun a => Fin.ext ?_))
      (ref_value P b (colHead col) k ⟨col.val % 64, by omega⟩ ⟨3072 + col.val, by omega⟩ (by
        show 3072 + col.val = 3072 + (64 * (col.val / 64) + col.val % 64); omega))
    match a with
    | ⟨0, _⟩ => show ((b.val * 2048 + r.val) * 512 + col.val) / 1048576 = b.val; omega
    | ⟨1, _⟩ => rfl
    | ⟨2, _⟩ => show ((b.val * 2048 + r.val) * 512 + col.val) / 64 % 8 = col.val / 64; omega
    | ⟨3, _⟩ => show ((b.val * 2048 + r.val) * 512 + col.val) % 64 = col.val % 64; omega
  · refine Eq.trans (congrArg (val_main_v40 (F := Ideal) P C) (funext fun a => Fin.ext ?_)) (ref_softmax P C b (colHead col) r k)
    match a with
    | ⟨0, _⟩ => show ((b.val * 2048 + r.val) * 512 + col.val) / 1048576 = b.val; omega
    | ⟨1, _⟩ => show ((b.val * 2048 + r.val) * 512 + col.val) / 64 % 8 = col.val / 64; omega
    | ⟨2, _⟩ => show ((b.val * 2048 + r.val) * 512 + col.val) / 512 % 2048 = r.val; omega
    | ⟨3, _⟩ => rfl

end Cert.Proof
end
-- ==== Proof.FoxEq.lean ====
module
public import proofs.«01_k».proof.Pre_fox_finite
public import proofs.«01_k».proof.Proof.FoxRef
public import proofs.«01_k».proof.Proof.Softmax
public import Idealize.ShloMosaic.Lib.ReduceAll

/-! # The kernel's attention is the reference's

When the queries, the keys and the gates are real numbers, the reference's logit is `ln 2` times the kernel's score plus a
number that is the same for every key of the row, so the two rows of weights are equal (`avg2_eq_avgE`).  The values may be
anything. -/

@[expose] public section
set_option maxRecDepth 16384
noncomputable section
namespace Cert.Proof
open Idealize.ShloMosaic Idealize.ShloMosaic.TcCoe Idealize.ShloMosaic.ValueIdx Cert.FoxRefIdeal

instance preFacts : Cert.Pre_fox_finite.Facts where
  slices_S8x2048x3584_S8x2048x1024_0_0_2048 := by decide
  bitsLt_bf16_f32 := by decide
  bcast_S_S8x2048x1024 := by decide
  reducesTo_S8x2048x1024_S_d0_1_2 := by decide
  h_S_ := by decide
  bcast_S_S8x8x2048 := by decide
  reducesTo_S8x8x2048_S_d0_1_2 := by decide

theorem ofBits_inf : Ideal.ofBits .f32 0x7F800000#32 = ⊤ := by simp [Ideal.ofBits, Ideal.ieee]

/-- A number whose magnitude is below infinity is a real number. -/
theorem real_of_olt (x : EReal) (h : Ideal.cmp .olt (max x (-x)) ⊤ = 1#1) : ∃ y : ℝ, x = y := by
  induction x with
  | bot => simp [Ideal.cmp] at h
  | coe y => exact ⟨y, rfl⟩
  | top => simp [Ideal.cmp] at h

instance : Subsingleton Cert.Pre_fox_finite.S_.Idx := ⟨fun a b => funext fun i => i.elim0⟩

/-- The precondition at the elements that the attention multiplies. -/
theorem finite_of_pre (P : Vec Ideal S8x2048x3584 .bf16) (C : Vec Ideal S8x8x2048 .f32)
    (hp : Cert.Pre_fox_finite.fn (F := Ideal) P C = fun _ => 1#1) :
    (∀ (b : Fin 8) (r : Fin 2048) (k : Fin 3584), 2048 ≤ k.val → k.val < 3072 → ∃ y : ℝ, P (ix3 b r k) = y)
      ∧ (∀ (b h : Fin 8) (r : Fin 2048), ∃ y : ℝ, C (ix3 b h r) = y) := by
  have e := congrFun hp (fun a => a.elim0)
  dsimp only [Cert.Pre_fox_finite.fn] at e
  obtain ⟨e1, e2⟩ : _ = 1#1 ∧ _ = 1#1 := IntOp.andi_eq_one.1 e
  refine ⟨fun b r k h0 h1 => ?_, fun b h r => ?_⟩
  · have := Host.reduce_andi_all _ _ _ _ _ e1 (ix3 b r (⟨k.val - 2048, by omega⟩ : Fin 1024))
    have t : Ideal.cmp .olt (max (P (ix3 b r k)) (-(P (ix3 b r k)))) (Ideal.ofBits .f32 0x7F800000#32) = 1#1 := by
      rw [← extractStridedSlice_apply (t := Cert.Pre_fox_finite.S8x2048x1024) ![0, 0, 2048] P (by decide) (ix3 b r (⟨k.val - 2048, by omega⟩ : Fin 1024)) (ix3 b r k)
        (fun a => match a with
          | ⟨0, _⟩ => (Nat.zero_add _).symm
          | ⟨1, _⟩ => (Nat.zero_add _).symm
          | ⟨2, _⟩ => by show k.val = 2048 + (k.val - 2048); omega)]
      exact this
    rw [ofBits_inf] at t
    exact real_of_olt _ t
  · have := Host.reduce_andi_all _ _ _ _ _ e2 (ix3 b h r)
    have t : Ideal.cmp .olt (max (C (ix3 b h r)) (-(C (ix3 b h r)))) (Ideal.ofBits .f32 0x7F800000#32) = 1#1 := this
    rw [ofBits_inf] at t
    exact real_of_olt _ t

/-- THE EQUATION, index by index. -/
theorem fox_eq (P : Vec Ideal S8x2048x3584 .bf16) (C : Vec Ideal S8x8x2048 .f32)
    (hp : Cert.Pre_fox_finite.fn (F := Ideal) P C = fun _ => 1#1) (b : Fin 8) (r : Fin 2048) (col : Fin 512) :
    foxAt P C b r col = refAt P C b r col := by
  obtain ⟨hP, hC⟩ := finite_of_pre P C hp
  have hq : ∀ (j : Fin 2048) (e : Fin 64), ∃ y : ℝ, P (ix3 b j (headCol 2048 (by norm_num) (colHead col) e)) = y := fun j e =>
    hP b j _ (by show 2048 ≤ 2048 + (64 * (colHead col).val + e.val); omega)
      (by have := (colHead col).isLt; show 2048 + (64 * (colHead col).val + e.val) < 3072; omega)
  have hk : ∀ (j : Fin 2048) (e : Fin 64), ∃ y : ℝ, P (ix3 b j (headCol 2560 (by norm_num) (colHead col) e)) = y := fun j e =>
    hP b j _ (by show 2048 ≤ 2560 + (64 * (colHead col).val + e.val); omega)
      (by have := (colHead col).isLt; show 2560 + (64 * (colHead col).val + e.val) < 3072; omega)
  choose q hq using hq
  choose k hk using hk
  choose g hg using fun j => hC b (colHead col) j
  have hs : ∀ j, foxScore P C b (colHead col) r j = ((∑ e, q r e * k j e - g j : ℝ) : EReal) := fun j => by
    unfold foxScore
    simp only [hq, hk, hg, ← EReal.coe_mul, coe_sum, ← EReal.coe_sub]
  have hl : ∀ j, refLogit P C b (colHead col) r j = ((Real.log 2 * (∑ e, q r e * k j e - g j) + Real.log 2 * g r : ℝ) : EReal) := fun j => by
    unfold refLogit ln2
    simp only [hq, hk, hg, ← EReal.coe_mul, coe_sum, ← EReal.coe_sub, ← EReal.coe_add]
    refine congrArg _ ?_
    have : ∑ e, q r e * (8 * Real.log 2) * k j e = (8 * Real.log 2) * ∑ e, q r e * k j e := by
      rw [Finset.mul_sum]; exact Finset.sum_congr rfl fun e _ => by ring
    rw [this]; ring
  unfold foxAt refAt
  simp only [hs, hl]
  exact avg2_eq_avgE (fun j : Fin 2048 => j.val ≤ r.val) (fun j => ∑ e, q r e * k j e - g j) (Real.log 2 * g r) _ r le_rfl

end Cert.Proof
end
-- ==== Proof.InRun.lean ====
/- THE INPUT PROJECTION'S RUN. After the two launches each result array holds what the launch that writes it leaves: the first
   launch the block of gates, queries, keys and values and the forget block, the second the dilated attention's queries, keys
   and values. The set-up of the launches is the frame's; only what is read off the last state differs. -/
module

public import proofs.«01_k».proof.Proof.Gen.InProjIdeal.Frame

@[expose] public section

set_option maxRecDepth 16384

noncomputable section

namespace Cert.Proof.In

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem result_main (c : Dev nD) : W5 m ρ c (Proc.devRef .tc main_v23_0) = (dat0 (V3 m ρ) c).arrAt 12 cfg0.N :=
  (W5_of_ne m ρ c main_v23_0 (by decide)).trans (W4_arr m ρ c 12)
theorem result_forget (c : Dev nD) : W5 m ρ c (Proc.devRef .tc main_v23_1) = (dat0 (V3 m ρ) c).arrAt 13 cfg0.N :=
  (W5_of_ne m ρ c main_v23_1 (by decide)).trans (W4_arr m ρ c 13)
theorem result_queries (c : Dev nD) : W5 m ρ c (Proc.devRef .tc main_v24_0) = (dat1 (V4 m ρ) c).arrAt 1 cfg1.N := W5_arr m ρ c 1
theorem result_keys (c : Dev nD) : W5 m ρ c (Proc.devRef .tc main_v24_1) = (dat1 (V4 m ρ) c).arrAt 2 cfg1.N := W5_arr m ρ c 2
theorem result_values (c : Dev nD) : W5 m ρ c (Proc.devRef .tc main_v24_2) = (dat1 (V4 m ρ) c).arrAt 3 cfg1.N := W5_arr m ρ c 3

set_option backward.isDefEq.respectTransparency.types false in
/-- THE RUN: it terminates, the five results hold what the launches leave, and the arguments end unchanged. -/
theorem run_results : θ_run defs (onTc (τ := τ) (main (F := F))) ⟨m, fun _ => 0, ρ⟩ (fun r => ∀ c : Dev nD,
      r.2.mem ((c.tc : Thread nD τ).loc main_v23_0) = (dat0 (V3 m ρ) c).arrAt 12 cfg0.N
      ∧ r.2.mem ((c.tc : Thread nD τ).loc main_v23_1) = (dat0 (V3 m ρ) c).arrAt 13 cfg0.N
      ∧ r.2.mem ((c.tc : Thread nD τ).loc main_v24_0) = (dat1 (V4 m ρ) c).arrAt 1 cfg1.N
      ∧ r.2.mem ((c.tc : Thread nD τ).loc main_v24_1) = (dat1 (V4 m ρ) c).arrAt 2 cfg1.N
      ∧ r.2.mem ((c.tc : Thread nD τ).loc main_v24_2) = (dat1 (V4 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v23_0 (by decide))).trans (result_main m ρ c),
       (h c _ (mem_uc main_v23_1 (by decide))).trans (result_forget m ρ c),
       (h c _ (mem_uc main_v24_0 (by decide))).trans (result_queries m ρ c),
       (h c _ (mem_uc main_v24_1 (by decide))).trans (result_keys m ρ c),
       (h c _ (mem_uc main_v24_2 (by decide))).trans (result_values m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Proof.In
end
-- ==== Proof.Rows.lean ====
/- ROWS of activations: the modulated root-mean-square normalisation of a row, the normalisation of one head's 64 entries, and
   the tile that normalises and modulates many rows at once, read at a row and a column. -/
module

public import proofs.«01_k».proof.Proof.Layout

@[expose] public section

noncomputable section

namespace Cert.Proof

open Idealize.ShloMosaic Idealize.ShloMosaic.ValueIdx
open scoped BigOperators

/-- The small constant added to a mean square. -/
abbrev epsMs : EReal := Ideal.ofBits .f32 0x358637BD#32

/-- A row over its root mean square, times a gain, times one plus a scale, plus a shift. -/
def modRow (x g sc sh : Fin 1024 → EReal) (k : Fin 1024) : EReal :=
  x k * Ideal.rsqrt (Ideal.div (∑ q : Fin 1024, x q * x q) (Ideal.ofBits .f32 0x44800000#32) + epsMs) * g k
    * (Ideal.ofBits .f32 0x3F800000#32 + sc k) + sh k

/-- One head's entries over their root mean square, times a gain. -/
def headNorm (a : Fin 64 → EReal) (e : Fin 64) (g : EReal) : EReal :=
  a e * Ideal.rsqrt (Ideal.div (∑ q : Fin 64, a q * a q) (Ideal.ofBits .f32 0x42800000#32) + epsMs) * g

/-- A row times a column of a matrix. -/
def dotRow {n : ℕ} (h : Fin n → EReal) (w : Fin n → EReal) : EReal := ∑ k : Fin n, h k * w k

/-- Dividing by 64 is multiplying by the constant one sixty-fourth. -/
theorem div_heads (x : EReal) : Ideal.div x (Ideal.ofBits .f32 0x42800000#32) = x * Ideal.ofBits .f32 0x3C800000#32 := by
  have h64 : Ideal.ofBits .f32 0x42800000#32 = ((64 : ℝ) : EReal) := by
    simp [Ideal.ofBits, Ideal.ieee, -EReal.coe_mul]; norm_num
  have hi : Ideal.ofBits .f32 0x3C800000#32 = ((64⁻¹ : ℝ) : EReal) := by
    simp [Ideal.ofBits, Ideal.ieee, -EReal.coe_mul]; norm_num
  rw [h64, hi]
  unfold Ideal.div
  rw [if_neg (by norm_num), EReal.coe_inv]

/-- The layout conditions of normalising `m` rows. -/
structure RowFacts (m : ℕ) : Prop where
  reduce : (Mat m 1024).Reduces [1] ⟨1, ![m]⟩
  column : (⟨1, ![m]⟩ : Shape).ShapeCasts (Mat m 1)
  back : (Mat m 1).Broadcasts (Mat m 1024)
  row : (Mat 1 1024).Broadcasts (Mat m 1024)
  drop : (Blk 1 1024).ShapeCasts (Mat 1 1024)

section
variable {F : FTy → Type} [FloatOps F]

/-- The rows normalised and modulated. -/
def modTile {m : ℕ} (h : RowFacts m) (x : FVec F (Mat m 1024) .f32) (g : FVec F (Mat 1 1024) .f32) (sc sh : FVec F (Blk 1 1024) .f32) :
    FVec F (Mat m 1024) .bf16 :=
  truncf .bf16 (addf (mulf (mulf (mulf x (broadcastTo (Mat m 1024)
      (rsqrt (addf (divf (shapeCast (Mat m 1) (multiReduction .add [1] ⟨1, ![m]⟩ (mulf x x) 0x00000000#32 h.reduce (.inl rfl) rfl) h.column)
        (broadcast (Mat m 1) (Scalar.ofBits .f32 0x44800000#32))) (broadcast (Mat m 1) (Scalar.ofBits .f32 0x358637BD#32)))) h.back))
      (broadcastTo (Mat m 1024) g h.row))
      (broadcastTo (Mat m 1024) (addf (broadcast (Mat 1 1024) (Scalar.ofBits .f32 0x3F800000#32)) (shapeCast (Mat 1 1024) sc h.drop)) h.row))
      (broadcastTo (Mat m 1024) (shapeCast (Mat 1 1024) sh h.drop) h.row))
end

theorem modTile_at {m : ℕ} (h : RowFacts m) (x : FVec Ideal (Mat m 1024) .f32) (g : FVec Ideal (Mat 1 1024) .f32)
    (sc sh : FVec Ideal (Blk 1 1024) .f32) (r : Fin m) (k : Fin 1024) :
    modTile h x g sc sh (ix2 r k)
      = modRow (fun q => x (ix2 r q)) (fun q => g (ix2 0 q)) (fun q => sc (ix3 0 0 q)) (fun q => sh (ix3 0 0 q)) k := by
  have hs : broadcastTo (Mat m 1024) (shapeCast (Mat 1 1024) sh h.drop) h.row (ix2 r k) = sh (ix3 0 0 k) :=
    (row_bcast_at _ h.row r k).trans (unblock_at sh h.drop 0 k)
  have hc : broadcastTo (Mat m 1024) (addf (F := Ideal) (broadcast (Mat 1 1024) (Scalar.ofBits .f32 0x3F800000#32)) (shapeCast (Mat 1 1024) sc h.drop)) h.row
      (ix2 r k) = Ideal.ofBits .f32 0x3F800000#32 + sc (ix3 0 0 k) :=
    (row_bcast_at _ h.row r k).trans (congrArg (Ideal.ofBits .f32 0x3F800000#32 + ·) (unblock_at sc h.drop 0 k))
  have hm : broadcastTo (Mat m 1024)
      (rsqrt (addf (divf (shapeCast (Mat m 1) (multiReduction .add [1] ⟨1, ![m]⟩ (mulf x x) 0x00000000#32 h.reduce (.inl rfl) rfl) h.column)
        (broadcast (Mat m 1) (Scalar.ofBits .f32 0x44800000#32))) (broadcast (Mat m 1) (Scalar.ofBits .f32 0x358637BD#32)))) h.back (ix2 r k)
      = Ideal.rsqrt (Ideal.div (∑ q : Fin 1024, x (ix2 r q) * x (ix2 r q)) (Ideal.ofBits .f32 0x44800000#32) + epsMs) := by
    refine (col_bcast_at _ h.back r k).trans ?_
    refine congrArg (fun s => Ideal.rsqrt (Ideal.div s (Ideal.ofBits .f32 0x44800000#32) + epsMs)) ?_
    exact (column_at _ h.column r).trans (rowSum_at (mulf x x) _ h.reduce (.inl rfl) rfl r)
  exact congrArg₂ (· + ·) (congrArg₂ (· * ·) (congrArg₂ (· * ·) (congrArg (x (ix2 r k) * ·) hm) (row_bcast_at g h.row r k)) hc) hs

/-- A product of matrices onto zeros, at a row and a column. -/
theorem product_at {m k n : ℕ} {φ₁ φ₂ : FTy} (a : FVec Ideal (Mat m k) φ₁) (b : FVec Ideal (Mat k n) φ₂) (i : Fin m) (j : Fin n) :
    matmul (F := Ideal) (DotDims.plain m k n) none a b (constant (Mat m n) .f32 0x00000000#32) (ix2 i j)
      = dotRow (fun q => a (ix2 i q)) (fun q => b (ix2 q j)) :=
  (Ideal.matmul_plain_apply none a b _ i j).trans ((congrArg (· + _) Ideal.ofBits_zero_f32).trans (zero_add _))

end Cert.Proof
end
-- ==== Proof.HostRows.lean ====
/- THE REFERENCES' NORMALISATIONS, READ AT AN INDEX. A reference works on arrays of 8 batch entries of 2048 tokens. Its rows are
   divided by their root mean square, scaled and shifted (`modHost`); a part of its projection is cut into heads of 64 columns,
   and each head divided by its own root mean square and scaled by the gains (`headsHost`), for any number of heads. -/
module

public import proofs.«01_k».proof.Proof.Rows
public import Idealize.ShloMosaic.Lib.IdealHost

@[expose] public section

set_option maxRecDepth 16384

noncomputable section

namespace Cert.Proof

open Idealize.ShloMosaic Idealize.ShloMosaic.ValueIdx
open scoped BigOperators

/-- An array of three axes, and of four. -/
abbrev Cube (a b c : ℕ) : Shape := ⟨3, ![a, b, c]⟩
abbrev Four (a b c d : ℕ) : Shape := ⟨4, ![a, b, c, d]⟩
abbrev Point : Shape := ⟨0, ![]⟩

/-- The shape facts of the rows' normalisation. -/
structure ModFacts : Prop where
  point : 0 < Point.numel
  reduce : (Cube 8 2048 1024).ReducesTo [2] (Mat 8 2048)
  sum : (Cube 8 2048 1024).Reduces [2] (Mat 8 2048)
  column : (Mat 8 2048).BroadcastsInDim (Cube 8 2048 1) (![0, 1] : Fin 2 → Fin 3)
  fill : Point.BroadcastsInDim (Cube 8 2048 1) (![] : Fin 0 → Fin 3)
  across : (Cube 8 2048 1).BroadcastsInDim (Cube 8 2048 1024) (![0, 1, 2] : Fin 3 → Fin 3)
  lift : (Mat 1 1024).BroadcastsInDim (Cube 1 1 1024) (![1, 2] : Fin 2 → Fin 3)
  spread : (Cube 1 1 1024).BroadcastsInDim (Cube 8 2048 1024) (![0, 1, 2] : Fin 3 → Fin 3)
  ones : Point.BroadcastsInDim (Cube 8 1 1024) (![] : Fin 0 → Fin 3)
  batch : (Cube 8 1 1024).BroadcastsInDim (Cube 8 2048 1024) (![0, 1, 2] : Fin 3 → Fin 3)

/-- The rows divided by their root mean square, scaled and shifted. -/
def modHost (f : ModFacts) (x : FVec Ideal (Cube 8 2048 1024) .f32) (g : FVec Ideal (Mat 1 1024) .f32) (sc sh : FVec Ideal (Cube 8 1 1024) .f32) :
    FVec Ideal (Cube 8 2048 1024) .f32 :=
  addf (mulf (mulf (mulf x (broadcastInDim (Cube 8 2048 1024) ![0, 1, 2] f.across (Host.rsqrt (addf
      (Host.divf (broadcastInDim (Cube 8 2048 1) ![0, 1] f.column (Host.reduceAdd (mulf x x) (constant Point .f32 0x00000000#32) f.reduce f.point))
        (broadcastInDim (Cube 8 2048 1) ![] f.fill (constant Point .f32 0x44800000#32)))
      (broadcastInDim (Cube 8 2048 1) ![] f.fill (constant Point .f32 0x358637BD#32))))))
    (broadcastInDim (Cube 8 2048 1024) ![0, 1, 2] f.spread (broadcastInDim (Cube 1 1 1024) ![1, 2] f.lift g)))
    (broadcastInDim (Cube 8 2048 1024) ![0, 1, 2] f.batch (addf (broadcastInDim (Cube 8 1 1024) ![] f.ones (constant Point .f32 0x3F800000#32)) sc)))
    (broadcastInDim (Cube 8 2048 1024) ![0, 1, 2] f.batch sh)

/-- A broadcast along the token and column axes, at an index. -/
theorem batch_at {α : Type} (h : (Cube 8 1 1024).BroadcastsInDim (Cube 8 2048 1024) (![0, 1, 2] : Fin 3 → Fin 3)) (x : (Cube 8 1 1024).Idx → α)
    (b : Fin 8) (r : Fin 2048) (k : Fin 1024) : broadcastInDim (Cube 8 2048 1024) ![0, 1, 2] h x (ix3 b r k) = x (ix3 b 0 k) :=
  broadcastInDim_apply _ h x (ix3 b r k) (ix3 b 0 k) (fun a => match a with
    | ⟨0, _⟩ => by show b.val = if (8 : Nat) = 1 then 0 else b.val; rw [if_neg (by decide)]
    | ⟨1, _⟩ => by show 0 = if (1 : Nat) = 1 then 0 else r.val; rw [if_pos rfl]
    | ⟨2, _⟩ => by show k.val = if (1024 : Nat) = 1 then 0 else k.val; rw [if_neg (by decide)])

theorem spread_at {α : Type} (h : (Cube 1 1 1024).BroadcastsInDim (Cube 8 2048 1024) (![0, 1, 2] : Fin 3 → Fin 3))
    (h' : (Mat 1 1024).BroadcastsInDim (Cube 1 1 1024) (![1, 2] : Fin 2 → Fin 3)) (x : (Mat 1 1024).Idx → α)
    (b : Fin 8) (r : Fin 2048) (k : Fin 1024) :
    broadcastInDim (Cube 8 2048 1024) ![0, 1, 2] h (broadcastInDim (Cube 1 1 1024) ![1, 2] h' x) (ix3 b r k) = x (ix2 0 k) :=
  (broadcastInDim_apply _ h _ (ix3 b r k) (ix3 0 0 k) (fun a => match a with
    | ⟨0, _⟩ => by show 0 = if (1 : Nat) = 1 then 0 else b.val; rw [if_pos rfl]
    | ⟨1, _⟩ => by show 0 = if (1 : Nat) = 1 then 0 else r.val; rw [if_pos rfl]
    | ⟨2, _⟩ => by show k.val = if (1024 : Nat) = 1 then 0 else k.val; rw [if_neg (by decide)])).trans
  (broadcastInDim_apply _ h' x (ix3 0 0 k) (ix2 0 k) (fun a => match a with
    | ⟨0, _⟩ => by show 0 = if (1 : Nat) = 1 then 0 else 0; rw [if_pos rfl]
    | ⟨1, _⟩ => by show k.val = if (1024 : Nat) = 1 then 0 else k.val; rw [if_neg (by decide)]))

/-- The mean of a row's squares, from its sum along the last axis. -/
theorem meanRow_at (f : ModFacts) (y : FVec Ideal (Cube 8 2048 1024) .f32) (b : Fin 8) (r : Fin 2048) (z : Fin 1) :
    broadcastInDim (Cube 8 2048 1) ![0, 1] f.column (Host.reduceAdd y (constant Point .f32 0x00000000#32) f.reduce f.point) (ix3 b r z)
      = ∑ k : Fin 1024, y (ix3 b r k) := by
  refine (broadcastInDim_apply _ f.column _ (ix3 b r z) (ix2 b r) (fun a => match a with
    | ⟨0, _⟩ => by show b.val = if (8 : Nat) = 1 then 0 else b.val; rw [if_neg (by decide)]
    | ⟨1, _⟩ => by show r.val = if (2048 : Nat) = 1 then 0 else r.val; rw [if_neg (by decide)])).trans ?_
  simp only [Host.reduceAdd, Ideal.hostReduceAdd_def]
  rw [Ideal.hostReduceAdd_single f.reduce f.sum]
  refine (congrArg₂ (· + ·) Ideal.ofBits_zero_f32 (Finset.sum_congr rfl fun k _ => ?_)).trans (zero_add _)
  exact congrArg y (funext fun a => Fin.ext (by match a with | ⟨0, _⟩ => rfl | ⟨1, _⟩ => rfl | ⟨2, _⟩ => rfl))

/-- THE NORMALISED ROWS at an index. -/
theorem modHost_at (f : ModFacts) (x : FVec Ideal (Cube 8 2048 1024) .f32) (g : FVec Ideal (Mat 1 1024) .f32) (sc sh : FVec Ideal (Cube 8 1 1024) .f32)
    (b : Fin 8) (r : Fin 2048) (k : Fin 1024) :
    modHost f x g sc sh (ix3 b r k) = modRow (fun q => x (ix3 b r q)) (fun q => g (ix2 0 q)) (fun q => sc (ix3 b 0 q)) (fun q => sh (ix3 b 0 q)) k := by
  have e1 := spread_at f.spread f.lift g b r k
  have e2 := batch_at f.batch (addf (broadcastInDim (Cube 8 1 1024) ![] f.ones (constant Point .f32 0x3F800000#32)) sc) b r k
  have e3 := batch_at f.batch sh b r k
  have e4 : broadcastInDim (Cube 8 2048 1024) ![0, 1, 2] f.across (Host.rsqrt (addf
      (Host.divf (broadcastInDim (Cube 8 2048 1) ![0, 1] f.column (Host.reduceAdd (mulf x x) (constant Point .f32 0x00000000#32) f.reduce f.point))
        (broadcastInDim (Cube 8 2048 1) ![] f.fill (constant Point .f32 0x44800000#32)))
      (broadcastInDim (Cube 8 2048 1) ![] f.fill (constant Point .f32 0x358637BD#32)))) (ix3 b r k)
      = Ideal.rsqrt (Ideal.div (∑ q : Fin 1024, x (ix3 b r q) * x (ix3 b r q)) (Ideal.ofBits .f32 0x44800000#32) + epsMs) := by
    refine (broadcastInDim_apply _ f.across _ (ix3 b r k) (ix3 b r 0) (fun a => match a with
      | ⟨0, _⟩ => by show b.val = if (8 : Nat) = 1 then 0 else b.val; rw [if_neg (by decide)]
      | ⟨1, _⟩ => by show r.val = if (2048 : Nat) = 1 then 0 else r.val; rw [if_neg (by decide)]
      | ⟨2, _⟩ => by show 0 = if (1 : Nat) = 1 then 0 else k.val; rw [if_pos rfl])).trans ?_
    exact congrArg (fun s => Ideal.rsqrt (Ideal.div s (Ideal.ofBits .f32 0x44800000#32) + epsMs)) (meanRow_at f (mulf x x) b r 0)
  unfold modHost modRow
  exact congrArg₂ (· + ·) (congrArg₂ (· * ·) (congrArg₂ (· * ·) (congrArg₂ (· * ·) rfl e4) e1) e2) e3

/-- Columns `o` on of an array of tokens, at an index. -/
theorem part_at {α : Type} {N n o : ℕ} (y : (Cube 8 2048 N).Idx → α) (h : (Cube 8 2048 N).Slices ![0, 0, o] (Cube 8 2048 n))
    (b : Fin 8) (r : Fin 2048) (j : Fin n) (j' : Fin N) (hj : j'.val = o + j.val) :
    extractStridedSlice (Cube 8 2048 n) ![0, 0, o] y h (ix3 b r j) = y (ix3 b r j') :=
  extractStridedSlice_apply _ y h _ _ fun a => match a with
    | ⟨0, _⟩ => (Nat.zero_add _).symm
    | ⟨1, _⟩ => (Nat.zero_add _).symm
    | ⟨2, _⟩ => hj

/-- An array of tokens by batch entry, as one of tokens. -/
theorem tokens_at {α : Type} {n : ℕ} (y : (Cube 8 2048 n).Idx → α) (h : (Cube 8 2048 n).ShapeCasts (Mat 16384 n)) (T : Fin 16384) (j : Fin n) :
    shapeCast (Mat 16384 n) y h (ix2 T j) = y (ix3 ⟨T.val / 2048, by omega⟩ ⟨T.val % 2048, by omega⟩ j) :=
  shapeCast_apply y h (ix2 T j) (ix3 ⟨T.val / 2048, by omega⟩ ⟨T.val % 2048, by omega⟩ j) (by
    rw [Shape.rowMajor_val_three, Shape.rowMajor_val_two]
    show (T.val / 2048 * 2048 + T.val % 2048) * n + j.val = T.val * n + j.val
    rw [Nat.div_add_mod'])

/-- An array of tokens, by batch entry. -/
theorem entries_at {α : Type} {n : ℕ} (y : (Mat 16384 n).Idx → α) (h : (Mat 16384 n).ShapeCasts (Cube 8 2048 n)) (T : Fin 16384) (b : Fin 8) (r : Fin 2048)
    (hT : T.val = b.val * 2048 + r.val) (j : Fin n) : shapeCast (Cube 8 2048 n) y h (ix3 b r j) = y (ix2 T j) :=
  shapeCast_apply y h (ix3 b r j) (ix2 T j) (by
    rw [Shape.rowMajor_val_three, Shape.rowMajor_val_two]
    show T.val * n + j.val = (b.val * 2048 + r.val) * n + j.val
    rw [hT])

/-- The shape facts of the heads' normalisation. -/
structure HeadFacts (H n : ℕ) : Prop where
  cells : n = H * 64
  point : 0 < Point.numel
  split : (Cube 8 2048 n).ShapeCasts (Four 8 2048 H 64)
  reduce : (Four 8 2048 H 64).ReducesTo [3] (Cube 8 2048 H)
  sum : (Four 8 2048 H 64).Reduces [3] (Cube 8 2048 H)
  column : (Cube 8 2048 H).BroadcastsInDim (Four 8 2048 H 1) (![0, 1, 2] : Fin 3 → Fin 4)
  fill : Point.BroadcastsInDim (Four 8 2048 H 1) (![] : Fin 0 → Fin 4)
  across : (Four 8 2048 H 1).BroadcastsInDim (Four 8 2048 H 64) (![0, 1, 2, 3] : Fin 4 → Fin 4)
  gsplit : (Mat 1 n).ShapeCasts (Mat H 64)
  lift : (Mat H 64).BroadcastsInDim (Four 1 1 H 64) (![2, 3] : Fin 2 → Fin 4)
  spread : (Four 1 1 H 64).BroadcastsInDim (Four 8 2048 H 64) (![0, 1, 2, 3] : Fin 4 → Fin 4)
  join : (Four 8 2048 H 64).ShapeCasts (Mat 16384 n)

variable {H n : ℕ}

/-- The heads, each divided by its root mean square and scaled by the gains. -/
def headsFour (f : HeadFacts H n) (y : FVec Ideal (Cube 8 2048 n) .f32) (g : FVec Ideal (Mat 1 n) .f32) : FVec Ideal (Four 8 2048 H 64) .f32 :=
  mulf (mulf (shapeCast (Four 8 2048 H 64) y f.split)
      (broadcastInDim (Four 8 2048 H 64) ![0, 1, 2, 3] f.across (Host.rsqrt (addf
        (Host.divf (broadcastInDim (Four 8 2048 H 1) ![0, 1, 2] f.column (Host.reduceAdd (mulf (shapeCast (Four 8 2048 H 64) y f.split)
            (shapeCast (Four 8 2048 H 64) y f.split)) (constant Point .f32 0x00000000#32) f.reduce f.point))
          (broadcastInDim (Four 8 2048 H 1) ![] f.fill (constant Point .f32 0x42800000#32)))
        (broadcastInDim (Four 8 2048 H 1) ![] f.fill (constant Point .f32 0x358637BD#32))))))
    (broadcastInDim (Four 8 2048 H 64) ![0, 1, 2, 3] f.spread (broadcastInDim (Four 1 1 H 64) ![2, 3] f.lift (shapeCast (Mat H 64) g f.gsplit)))

/-- The same, as columns of the tokens. -/
def headsHost (f : HeadFacts H n) (y : FVec Ideal (Cube 8 2048 n) .f32) (g : FVec Ideal (Mat 1 n) .f32) : FVec Ideal (Mat 16384 n) .f32 :=
  shapeCast (Mat 16384 n) (headsFour f y g) f.join

theorem head_cell (f : HeadFacts H n) (h : Fin H) (e : Fin 64) : 64 * h.val + e.val < n := by
  have := f.cells; have := h.isLt; have := e.isLt; omega

theorem split_at (f : HeadFacts H n) {α : Type} (y : (Cube 8 2048 n).Idx → α) (b : Fin 8) (r : Fin 2048) (h : Fin H) (e : Fin 64) :
    shapeCast (Four 8 2048 H 64) y f.split (ix4 b r h e) = y (ix3 b r ⟨64 * h.val + e.val, head_cell f h e⟩) :=
  shapeCast_apply y f.split (ix4 b r h e) (ix3 b r ⟨64 * h.val + e.val, head_cell f h e⟩) (by
    rw [Shape.rowMajor_val_three, Shape.rowMajor_val_four]
    show (b.val * 2048 + r.val) * n + (64 * h.val + e.val) = ((b.val * 2048 + r.val) * H + h.val) * 64 + e.val
    rw [f.cells]; ring)

theorem gsplit_at (f : HeadFacts H n) {α : Type} (g : (Mat 1 n).Idx → α) (h : Fin H) (e : Fin 64) :
    shapeCast (Mat H 64) g f.gsplit (ix2 h e) = g (ix2 0 ⟨64 * h.val + e.val, head_cell f h e⟩) :=
  shapeCast_apply g f.gsplit (ix2 h e) (ix2 0 ⟨64 * h.val + e.val, head_cell f h e⟩) (by
    rw [Shape.rowMajor_val_two, Shape.rowMajor_val_two]
    show 0 * n + (64 * h.val + e.val) = h.val * 64 + e.val
    ring)

theorem head_of (f : HeadFacts H n) (j : Fin n) : j.val / 64 < H := by
  have := f.cells; have := j.isLt; omega

theorem join_at (f : HeadFacts H n) {α : Type} (z : (Four 8 2048 H 64).Idx → α) (T : Fin 16384) (j : Fin n) :
    shapeCast (Mat 16384 n) z f.join (ix2 T j)
      = z (ix4 ⟨T.val / 2048, by omega⟩ ⟨T.val % 2048, by omega⟩ ⟨j.val / 64, head_of f j⟩ ⟨j.val % 64, by omega⟩) :=
  shapeCast_apply z f.join (ix2 T j) (ix4 ⟨T.val / 2048, by omega⟩ ⟨T.val % 2048, by omega⟩ ⟨j.val / 64, head_of f j⟩ ⟨j.val % 64, by omega⟩) (by
    rw [Shape.rowMajor_val_four, Shape.rowMajor_val_two]
    show ((T.val / 2048 * 2048 + T.val % 2048) * H + j.val / 64) * 64 + j.val % 64 = T.val * n + j.val
    have hc : T.val * n = T.val * (H * 64) := congrArg (T.val * ·) f.cells
    rw [Nat.div_add_mod', hc, add_mul, mul_assoc, add_assoc, Nat.div_add_mod'])

theorem meanHead_at (f : HeadFacts H n) (y : FVec Ideal (Four 8 2048 H 64) .f32) (b : Fin 8) (r : Fin 2048) (h : Fin H) (z : Fin 1) :
    broadcastInDim (Four 8 2048 H 1) ![0, 1, 2] f.column (Host.reduceAdd y (constant Point .f32 0x00000000#32) f.reduce f.point) (ix4 b r h z)
      = ∑ e : Fin 64, y (ix4 b r h e) := by
  refine (broadcastInDim_apply _ f.column _ (ix4 b r h z) (ix3 b r h) (fun a => match a with
    | ⟨0, _⟩ => by show b.val = if (8 : Nat) = 1 then 0 else b.val; rw [if_neg (by decide)]
    | ⟨1, _⟩ => by show r.val = if (2048 : Nat) = 1 then 0 else r.val; rw [if_neg (by decide)]
    | ⟨2, _⟩ => by show h.val = if H = 1 then 0 else h.val; have := h.isLt; split <;> omega)).trans ?_
  simp only [Host.reduceAdd, Ideal.hostReduceAdd_def]
  rw [Ideal.hostReduceAdd_single f.reduce f.sum]
  refine (congrArg₂ (· + ·) Ideal.ofBits_zero_f32 (Finset.sum_congr rfl fun k _ => ?_)).trans (zero_add _)
  exact congrArg y (funext fun a => Fin.ext (by match a with | ⟨0, _⟩ => rfl | ⟨1, _⟩ => rfl | ⟨2, _⟩ => rfl | ⟨3, _⟩ => rfl))

theorem gains_at (f : HeadFacts H n) (g : FVec Ideal (Mat 1 n) .f32) (b : Fin 8) (r : Fin 2048) (h : Fin H) (e : Fin 64) :
    broadcastInDim (Four 8 2048 H 64) ![0, 1, 2, 3] f.spread (broadcastInDim (Four 1 1 H 64) ![2, 3] f.lift (shapeCast (Mat H 64) g f.gsplit)) (ix4 b r h e)
      = g (ix2 0 ⟨64 * h.val + e.val, head_cell f h e⟩) := by
  refine ((broadcastInDim_apply _ f.spread _ (ix4 b r h e) (ix4 0 0 h e) (fun a => match a with
    | ⟨0, _⟩ => by show 0 = if (1 : Nat) = 1 then 0 else b.val; rw [if_pos rfl]
    | ⟨1, _⟩ => by show 0 = if (1 : Nat) = 1 then 0 else r.val; rw [if_pos rfl]
    | ⟨2, _⟩ => by show h.val = if H = 1 then 0 else h.val; have := h.isLt; split <;> omega
    | ⟨3, _⟩ => by show e.val = if (64 : Nat) = 1 then 0 else e.val; rw [if_neg (by decide)])).trans
   (broadcastInDim_apply _ f.lift _ (ix4 0 0 h e) (ix2 h e) (fun a => match a with
    | ⟨0, _⟩ => by show h.val = if H = 1 then 0 else h.val; have := h.isLt; split <;> omega
    | ⟨1, _⟩ => by show e.val = if (64 : Nat) = 1 then 0 else e.val; rw [if_neg (by decide)]))).trans (gsplit_at f g h e)

/-- THE NORMALISED HEADS at an index. -/
theorem headsFour_at (f : HeadFacts H n) (y : FVec Ideal (Cube 8 2048 n) .f32) (g : FVec Ideal (Mat 1 n) .f32) (b : Fin 8) (r : Fin 2048) (h : Fin H) (e : Fin 64) :
    headsFour f y g (ix4 b r h e) = headNorm (fun q => y (ix3 b r ⟨64 * h.val + q.val, head_cell f h q⟩)) e (g (ix2 0 ⟨64 * h.val + e.val, head_cell f h e⟩)) := by
  have e4 : broadcastInDim (Four 8 2048 H 64) ![0, 1, 2, 3] f.across (Host.rsqrt (addf
        (Host.divf (broadcastInDim (Four 8 2048 H 1) ![0, 1, 2] f.column (Host.reduceAdd (mulf (shapeCast (Four 8 2048 H 64) y f.split)
            (shapeCast (Four 8 2048 H 64) y f.split)) (constant Point .f32 0x00000000#32) f.reduce f.point))
          (broadcastInDim (Four 8 2048 H 1) ![] f.fill (constant Point .f32 0x42800000#32)))
        (broadcastInDim (Four 8 2048 H 1) ![] f.fill (constant Point .f32 0x358637BD#32)))) (ix4 b r h e)
      = Ideal.rsqrt (Ideal.div (∑ q : Fin 64, y (ix3 b r ⟨64 * h.val + q.val, head_cell f h q⟩) * y (ix3 b r ⟨64 * h.val + q.val, head_cell f h q⟩))
          (Ideal.ofBits .f32 0x42800000#32) + epsMs) := by
    refine (broadcastInDim_apply _ f.across _ (ix4 b r h e) (ix4 b r h 0) (fun a => match a with
      | ⟨0, _⟩ => by show b.val = if (8 : Nat) = 1 then 0 else b.val; rw [if_neg (by decide)]
      | ⟨1, _⟩ => by show r.val = if (2048 : Nat) = 1 then 0 else r.val; rw [if_neg (by decide)]
      | ⟨2, _⟩ => by show h.val = if H = 1 then 0 else h.val; have := h.isLt; split <;> omega
      | ⟨3, _⟩ => by show 0 = if (1 : Nat) = 1 then 0 else e.val; rw [if_pos rfl])).trans ?_
    refine congrArg (fun s => Ideal.rsqrt (Ideal.div s (Ideal.ofBits .f32 0x42800000#32) + epsMs)) ((meanHead_at f _ b r h 0).trans
      (Finset.sum_congr rfl fun q _ => ?_))
    exact congrArg₂ (· * ·) (split_at f y b r h q) (split_at f y b r h q)
  unfold headsFour headNorm
  exact congrArg₂ (· * ·) (congrArg₂ (· * ·) (split_at f y b r h e) e4) (gains_at f g b r h e)

theorem headsHost_at (f : HeadFacts H n) (y : FVec Ideal (Cube 8 2048 n) .f32) (g : FVec Ideal (Mat 1 n) .f32) (T : Fin 16384) (j : Fin n) :
    headsHost f y g (ix2 T j) = headNorm (fun e => y (ix3 ⟨T.val / 2048, by omega⟩ ⟨T.val % 2048, by omega⟩
      ⟨64 * (j.val / 64) + e.val, head_cell f ⟨j.val / 64, head_of f j⟩ e⟩)) ⟨j.val % 64, by omega⟩ (g (ix2 0 j)) :=
  (join_at f _ T j).trans ((headsFour_at f y g _ _ _ _).trans (congrArg (fun k => headNorm _ _ (g (ix2 0 k)))
    (Fin.ext (by show 64 * (j.val / 64) + j.val % 64 = j.val; omega))))

/-- Two arrays of tokens equal index by index are equal. -/
theorem array_ext {α : Type} {n : ℕ} {x y : (Mat 16384 n).Idx → α} (h : ∀ (T : Fin 16384) (j : Fin n), x (ix2 T j) = y (ix2 T j)) : x = y :=
  funext fun i => by rw [eq_ix2 i]; exact h _ _

end Cert.Proof
end
-- ==== Proof.InTile.lean ====
/- TILES OF THE INPUT PROJECTION: 1024 normalised rows times 256 columns of the weights, and what the kernel makes of such a
   product — the columns as they are, their sigmoid, or each head's 64 columns normalised, the sums over a head being a
   product with a matrix of zeros and ones — and the storing of two tiles as the two halves of words. Each is written
   once; the lemmas read it at a row and a column. -/
module

public import proofs.«01_k».proof.Proof.Gen.InProjIdeal.Skeleton
public import proofs.«01_k».proof.Proof.Rows

@[expose] public section

noncomputable section

namespace Cert.Proof.In

open Idealize.ShloMosaic Idealize.ShloMosaic.ValueIdx Cert.InProjIdeal Cert.InProjIdeal.Gen
open scoped BigOperators

theorem rowFacts : RowFacts 1024 :=
  ⟨reduces_S1024x1024_S1024, shapeCasts_S1024_S1024x1, broadcasts_S1024x1_S1024x1024, broadcasts_S1x1024_S1024x1024, shapeCasts_S1x1x1024_S1x1024⟩

section
variable {F : FTy → Type} [FloatOps F]

/-- The rows times 256 columns of weights. -/
def columns (h : FVec F S1024x1024 .bf16) (w : Vec F S1024x256 .bf16) : FVec F S1024x256 .f32 :=
  matmul (DotDims.plain 1024 1024 256) none h (shapeCast S1024x256 w shapeCasts_S1024x256_S1024x256) (constant S1024x256 .f32 0x00000000#32)

/-- Their sigmoid. -/
def gates (h : FVec F S1024x1024 .bf16) (w : Vec F S1024x256 .bf16) : FVec F S1024x256 .bf16 :=
  truncf .bf16 (logistic (columns h w))

/-- Every column's mean square over its head. -/
def headMeans (a : FVec F S1024x256 .f32) (bd : Vec F S256x256 .bf16) : FVec F S1024x256 .f32 :=
  mulf (matmul (DotDims.plain 1024 256 256) none (truncf .bf16 (mulf a a) : FVec F S1024x256 .bf16)
    (shapeCast S256x256 bd shapeCasts_S256x256_S256x256) (constant S1024x256 .f32 0x00000000#32))
    (broadcast S1024x256 (Scalar.ofBits .f32 0x3C800000#32))

/-- The columns normalised head by head, times their gains. -/
def heads (h : FVec F S1024x1024 .bf16) (w : Vec F S1024x256 .bf16) (bd : Vec F S256x256 .bf16) (g : Vec F S1x256 .f32) : FVec F S1024x256 .f32 :=
  mulf (mulf (columns h w) (rsqrt (addf (headMeans (columns h w) bd) (broadcast S1024x256 (Scalar.ofBits .f32 0x358637BD#32)))))
    (broadcastTo S1024x256 g broadcasts_S1x256_S1024x256)

/-- Half a tile, with the axes of a row of words. -/
def half (a : FVec F S1024x128 .f32) : FVec F S1x1x1024x1x128 .bf16 :=
  shapeCast S1x1x1024x1x128 (truncf .bf16 (extf .f32 (truncf .bf16 (shapeCast S1x1x1024x128 a shapeCasts_S1024x128_S1x1x1024x128) bitsLt_bf16_f32 :
    FVec F S1x1x1024x128 .bf16) bitsLt_bf16_f32 : FVec F S1x1x1024x128 .f32) : FVec F S1x1x1024x128 .bf16) shapeCasts_S1x1x1024x128_S1x1x1024x1x128

/-- Two half tiles as the halves of words. -/
def pairOf (a b : FVec F S1024x128 .f32) : Vec F S1x1x1024x2x128 .bf16 :=
  interleaveRows S1x1x1024x2x128 (half a) (half b) bitcasts_S1x1x1024x2x128_w16_S1x1x1024x1x128_w32

/-- The first and the last 128 columns of a tile. -/
def leftHalf (a : FVec F S1024x256 .f32) : FVec F S1024x128 .f32 := extractStridedSlice S1024x128 ![0, 0] a slices_S1024x256_o0_0_S1024x128
def rightHalf (a : FVec F S1024x256 .f32) : FVec F S1024x128 .f32 := extractStridedSlice S1024x128 ![0, 128] a slices_S1024x256_o0_128_S1024x128

/-- One parity's rows of a tile of words. -/
def unpair (p : Fin 2) (x : Vec F S1x1x1024x2x128 .bf16) : FVec F S1024x128 .bf16 :=
  shapeCast S1024x128 (shapeCast S1x1x1024x128 (rowsOfParity p S1x1x1024x1x128 x bitcasts_S1x1x1024x2x128_w16_S1x1x1024x1x128_w32)
    shapeCasts_S1x1x1024x1x128_S1x1x1024x128) shapeCasts_S1x1x1024x128_S1024x128
end

/-- A row's product with column `n` of the weights. -/
def proj (h : Fin 1024 → EReal) (W : Fin 1024 → ℕ → EReal) (n : ℕ) : EReal := dotRow h fun k => W k n

/-- Entry `c` of a row of heads, normalised. -/
def normAt (a : ℕ → EReal) (c : ℕ) (g : EReal) : EReal :=
  headNorm (fun e => a (64 * (c / 64) + e.val)) ⟨c % 64, Nat.mod_lt _ (by norm_num)⟩ g

theorem columns_at (h : FVec Ideal S1024x1024 .bf16) (w : Vec Ideal S1024x256 .bf16) (W : Fin 1024 → ℕ → EReal) (o : ℕ)
    (hw : ∀ k (j : Fin 256), w (ix2 k j) = W k (o + j.val)) (r : Fin 1024) (j : Fin 256) :
    columns h w (ix2 r j) = proj (fun q => h (ix2 r q)) W (o + j.val) := by
  refine (product_at h (shapeCast S1024x256 w shapeCasts_S1024x256_S1024x256) r j).trans ?_
  rw [shapeCast_self]
  exact congrArg (dotRow _) (funext fun k => hw k j)

theorem gates_at (h : FVec Ideal S1024x1024 .bf16) (w : Vec Ideal S1024x256 .bf16) (W : Fin 1024 → ℕ → EReal) (o : ℕ)
    (hw : ∀ k (j : Fin 256), w (ix2 k j) = W k (o + j.val)) (r : Fin 1024) (j : Fin 256) :
    gates h w (ix2 r j) = Ideal.logistic (proj (fun q => h (ix2 r q)) W (o + j.val)) :=
  congrArg Ideal.logistic (columns_at h w W o hw r j)

/-- A sum over 256 columns in which only those of column `j`'s head count. -/
theorem sum_head (f : Fin 256 → EReal) (j : Fin 256) :
    (∑ q : Fin 256, f q * (if q.val / 64 = j.val / 64 then 1 else 0)) = ∑ e : Fin 64, f ⟨64 * (j.val / 64) + e.val, by omega⟩ := by
  have hj : j.val / 64 < 4 := by have := j.isLt; omega
  rw [← (finProdFinEquiv (m := 4) (n := 64)).sum_comp (fun q : Fin 256 => f q * (if q.val / 64 = j.val / 64 then 1 else 0)), Fintype.sum_prod_type]
  refine (Finset.sum_eq_single (⟨j.val / 64, hj⟩ : Fin 4) (fun b _ hb => Finset.sum_eq_zero fun e _ => ?_) (fun h => absurd (Finset.mem_univ _) h)).trans ?_
  · rw [if_neg ?_, mul_zero]
    intro he
    apply hb
    refine Fin.ext ?_
    have hv : (finProdFinEquiv (b, e) : Fin (4 * 64)).val = e.val + 64 * b.val := rfl
    have := e.isLt
    rw [hv] at he
    show b.val = j.val / 64
    omega
  · refine Finset.sum_congr rfl fun e _ => ?_
    have hv : (finProdFinEquiv ((⟨j.val / 64, hj⟩ : Fin 4), e) : Fin (4 * 64)).val = e.val + 64 * (j.val / 64) := rfl
    have := e.isLt
    rw [if_pos (by rw [hv]; omega), mul_one]
    exact congrArg f (Fin.ext (by rw [hv]; show _ = 64 * (j.val / 64) + e.val; omega))

theorem heads_at (h : FVec Ideal S1024x1024 .bf16) (w : Vec Ideal S1024x256 .bf16) (bd : Vec Ideal S256x256 .bf16) (g : Vec Ideal S1x256 .f32)
    (W : Fin 1024 → ℕ → EReal) (b o : ℕ) (ho : 64 ∣ o) (hw : ∀ k (j : Fin 256), w (ix2 k j) = W k (b + (o + j.val)))
    (hbd : ∀ q j : Fin 256, bd (ix2 q j) = if q.val / 64 = j.val / 64 then 1 else 0) (r : Fin 1024) (j : Fin 256) :
    heads h w bd g (ix2 r j) = normAt (fun n => proj (fun q => h (ix2 r q)) W (b + n)) (o + j.val) (g (ix2 0 j)) := by
  have hc : ∀ j : Fin 256, columns h w (ix2 r j) = proj (fun q => h (ix2 r q)) W (b + (o + j.val)) := fun j =>
    (columns_at h w (fun k n => W k (b + n)) o hw r j)
  obtain ⟨s, rfl⟩ := ho
  have hm : headMeans (columns h w) bd (ix2 r j)
      = Ideal.div (∑ e : Fin 64, proj (fun q => h (ix2 r q)) W (b + (64 * ((64 * s + j.val) / 64) + e.val))
          * proj (fun q => h (ix2 r q)) W (b + (64 * ((64 * s + j.val) / 64) + e.val))) (Ideal.ofBits .f32 0x42800000#32) := by
    rw [div_heads]
    refine congrArg (· * Ideal.ofBits .f32 0x3C800000#32) ?_
    refine (product_at (truncf .bf16 (mulf (columns h w) (columns h w)) : FVec Ideal S1024x256 .bf16)
      (shapeCast S256x256 bd shapeCasts_S256x256_S256x256) r j).trans ?_
    rw [shapeCast_self]
    refine (Finset.sum_congr rfl fun q _ => congrArg (_ * ·) (hbd q j)).trans ((sum_head _ j).trans (Finset.sum_congr rfl fun e _ => ?_))
    show columns h w (ix2 r _) * columns h w (ix2 r _) = _
    rw [hc]
    have e1 : s * 64 = 64 * s := Nat.mul_comm _ _
    have : 64 * s + (64 * (j.val / 64) + e.val) = 64 * ((64 * s + j.val) / 64) + e.val := by omega
    show proj _ W (b + (64 * s + (64 * (j.val / 64) + e.val))) * proj _ W (b + (64 * s + (64 * (j.val / 64) + e.val))) = _
    rw [this]
  have ha : columns h w (ix2 r j) = proj (fun q => h (ix2 r q)) W (b + (64 * ((64 * s + j.val) / 64) + (64 * s + j.val) % 64)) := by
    rw [hc, Nat.div_add_mod]
  exact congrArg₂ (· * ·) (congrArg₂ (· * ·) ha (congrArg (fun m => Ideal.rsqrt (m + epsMs)) hm)) (row_bcast_at g broadcasts_S1x256_S1024x256 r j)

theorem leftHalf_at (a : FVec Ideal S1024x256 .f32) (r : Fin 1024) (d : Fin 128) : leftHalf a (ix2 r d) = a (ix2 r ⟨d.val, by omega⟩) :=
  slice_at a slices_S1024x256_o0_0_S1024x128 r d r ⟨d.val, by omega⟩ (Nat.zero_add _).symm (Nat.zero_add _).symm

theorem rightHalf_at (a : FVec Ideal S1024x256 .f32) (r : Fin 1024) (d : Fin 128) : rightHalf a (ix2 r d) = a (ix2 r ⟨128 + d.val, by omega⟩) :=
  slice_at a slices_S1024x256_o0_128_S1024x128 r d r ⟨128 + d.val, by omega⟩ (Nat.zero_add _).symm rfl

theorem half_at (a : FVec Ideal S1024x128 .f32) (z z' z'' : Fin 1) (r : Fin 1024) (d : Fin 128) :
    half a (ix5 z z' r z'' d) = a (ix2 r d) := by
  have h0 := z.isLt; have h1 := z'.isLt; have h2 := z''.isLt
  refine (shapeCast_apply _ shapeCasts_S1x1x1024x128_S1x1x1024x1x128 _ (ix4 z z' r d) ?_).trans
    (shapeCast_apply a shapeCasts_S1024x128_S1x1x1024x128 _ (ix2 r d) ?_)
  · rewrite [Shape.rowMajor_val_four, Shape.rowMajor_val_five]
    show ((z.val * 1 + z'.val) * 1024 + r.val) * 128 + d.val = (((z.val * 1 + z'.val) * 1024 + r.val) * 1 + z''.val) * 128 + d.val
    omega
  · rewrite [Shape.rowMajor_val_two, Shape.rowMajor_val_four]
    show r.val * 128 + d.val = ((z.val * 1 + z'.val) * 1024 + r.val) * 128 + d.val
    omega

theorem pairOf_at (a b : FVec Ideal S1024x128 .f32) (z z' : Fin 1) (r : Fin 1024) (u : Fin 2) (d : Fin 128) :
    pairOf a b (ix5 z z' r u d) = if u.val = 0 then a (ix2 r d) else b (ix2 r d) := by
  have hr : S1x1x1024x2x128.row (ix5 z z' r u d) = u.val := rfl
  unfold pairOf interleaveRows
  dsimp only
  rw [hr]
  have hu := u.isLt
  have key : ∀ x : FVec Ideal S1024x128 .f32, ∀ i : S1x1x1024x1x128.Idx, (i 2).val = r.val → (i 4).val = d.val → half x i = x (ix2 r d) := by
    intro x i h2 h4
    obtain ⟨i0, i1, i2, i3, i4, rfl⟩ : ∃ i0 i1 i2 i3 i4, i = ix5 i0 i1 i2 i3 i4 := ⟨i 0, i 1, i 2, i 3, i 4, eq_ix5 i⟩
    rw [half_at]
    exact congrArg₂ (fun p q => x (ix2 p q)) (Fin.ext h2) (Fin.ext h4)
  by_cases h : u.val = 0
  · rw [if_pos (by omega), if_pos h]
    exact key a _ rfl rfl
  · rw [if_neg (by omega), if_neg h]
    exact key b _ rfl rfl

theorem unpair_at (p : Fin 2) (x : Vec Ideal S1x1x1024x2x128 .bf16) (r : Fin 1024) (d : Fin 128) :
    unpair p x (ix2 r d) = x (ix5 0 0 r p d) := by
  refine (shapeCast_apply _ shapeCasts_S1x1x1024x128_S1024x128 _ (ix4 0 0 r d) ?_).trans
    ((shapeCast_apply _ shapeCasts_S1x1x1024x1x128_S1x1x1024x128 _ (ix5 0 0 r 0 d) ?_).trans (congrArg x (funext fun a => Fin.ext ?_)))
  · rewrite [Shape.rowMajor_val_two, Shape.rowMajor_val_four]
    show ((0 * 1 + 0) * 1024 + r.val) * 128 + d.val = r.val * 128 + d.val
    omega
  · rewrite [Shape.rowMajor_val_four, Shape.rowMajor_val_five]
    show (((0 * 1 + 0) * 1024 + r.val) * 1 + 0) * 128 + d.val = ((0 * 1 + 0) * 1024 + r.val) * 128 + d.val
    omega
  · match a with
    | ⟨0, _⟩ => rfl
    | ⟨1, _⟩ => rfl
    | ⟨2, _⟩ => rfl
    | ⟨3, _⟩ => show 2 * 0 + p.val = p.val; omega
    | ⟨4, _⟩ => rfl

end Cert.Proof.In
end
-- ==== Proof.InBlock.lean ====
/- THE BLOCKS THE INPUT PROJECTION LEAVES. A grid point's 1024 rows, normalised, times all the weights' columns; the block of
   3584 columns holds the gates, the normalised queries and keys and the values of the attention; the forget block the
   forget columns; the nine slabs of words hold, for each group of the dilated attention's heads, the queries beside the
   keys twice and the two halves of the values. -/
module

public import proofs.«01_k».proof.Proof.InTile
public import proofs.«01_k».proof.Proof.Gen.InProjIdeal.Frame
public import Idealize.ShloMosaic.Lib.Pipeline.ValueKit.Tiles

@[expose] public section

set_option maxRecDepth 16384

noncomputable section

namespace Cert.Proof.In

open Idealize.ShloMosaic Idealize.ShloMosaic.ValueIdx Cert.InProjIdeal Cert.InProjIdeal.Gen
open scoped BigOperators

/-- The first column of the weights for each part. -/
abbrev foxQ : ℕ := 0
abbrev forget : ℕ := 1536
abbrev dilQ : ℕ := 1544
abbrev dilK : ℕ := 2312
abbrev dilV : ℕ := 3080
abbrev gateA : ℕ := 3848

/-- Entry `c` of the block of gates, queries, keys and values, from the row's projection and the gains. -/
def mainAt (a : ℕ → EReal) (g : ℕ → EReal) (c : ℕ) : EReal :=
  if c < 2048 then Ideal.logistic (a (gateA + c))
  else if c < 3072 then normAt (fun n => a (foxQ + n)) (c - 2048) (g (c - 2048))
  else a (foxQ + (c - 2048))

/-- Entry `c` of the forget block. -/
def forgetAt (a : ℕ → EReal) (c : ℕ) : EReal := if c < 8 then a (forget + c) else 0

/-- Entry `c` of the dilated attention's queries, keys and values. -/
def dilQAt (a : ℕ → EReal) (g : ℕ → EReal) (c : ℕ) : EReal := normAt (fun n => a (dilQ + n)) c (g (1024 + c))
def dilKAt (a : ℕ → EReal) (g : ℕ → EReal) (c : ℕ) : EReal := normAt (fun n => a (dilK + n)) c (g (1792 + c))
def dilVAt (a : ℕ → EReal) (c : ℕ) : EReal := a (dilV + c)

/-- Lane `d` of half `u` of slab `s`. -/
def slabAt (a : ℕ → EReal) (g : ℕ → EReal) (s u d : ℕ) : EReal :=
  if s % 3 = 2 then dilVAt a (256 * (s / 3) + (128 * u + d))
  else if u = 0 then dilQAt a g (256 * (s / 3) + (128 * (s % 3) + d)) else dilKAt a g (256 * (s / 3) + (128 * (s % 3) + d))

/-- The gains as a function of the column. -/
def gainAt (x : Vec Ideal S1x2560 .f32) (n : ℕ) : EReal := if h : n < 2560 then x (ix2 0 ⟨n, h⟩) else 0

/-- What the weight blocks hold: columns of one matrix, and the zeros and ones that sum over a head. -/
structure Weights (x4 : Vec Ideal S1024x2048 .bf16) (x5 : Vec Ideal S1024x1536 .bf16) (x6 x7 x8 : Vec Ideal S1024x768 .bf16)
    (x9 : Vec Ideal S1024x256 .bf16) (x11 : Vec Ideal S256x256 .bf16) (W : Fin 1024 → ℕ → EReal) : Prop where
  gate : ∀ k j, x4 (ix2 k j) = W k (gateA + j.val)
  fox : ∀ k j, x5 (ix2 k j) = W k (foxQ + j.val)
  dq : ∀ k j, x6 (ix2 k j) = W k (dilQ + j.val)
  dk : ∀ k j, x7 (ix2 k j) = W k (dilK + j.val)
  dv : ∀ k j, x8 (ix2 k j) = W k (dilV + j.val)
  fgt : ∀ k j, x9 (ix2 k j) = if j.val < 8 then W k (forget + j.val) else 0
  same : ∀ q j : Fin 256, x11 (ix2 q j) = if q.val / 64 = j.val / 64 then 1 else 0

/-- A load of a rectangle of a matrix. -/
theorem load2 {a b m n o p : ℕ} (X : Vec Ideal (Mat a b) .bf16)
    (inb : ∀ d : Fin 2, (![o, p] : Fin 2 → ℕ) d + (![m, n] : Fin 2 → ℕ) d ≤ (Mat a b).size d) (i : Fin m) (j : Fin n) (i' : Fin a) (j' : Fin b)
    (hi : i'.val = o + i.val) (hj : j'.val = p + j.val) :
    View.ld X (Rect.unit (s := Mat a b) ![o, p] ![m, n] inb) (ix2 i j) = X (ix2 i' j') := by
  refine congrArg X (funext fun d => Fin.ext ?_)
  rw [Rect.idx_unit_val]
  match d with
  | ⟨0, _⟩ => exact hi.symm
  | ⟨1, _⟩ => exact hj.symm

theorem load2f {a b m n o p : ℕ} (X : Vec Ideal (Mat a b) .f32)
    (inb : ∀ d : Fin 2, (![o, p] : Fin 2 → ℕ) d + (![m, n] : Fin 2 → ℕ) d ≤ (Mat a b).size d) (i : Fin m) (j : Fin n) (i' : Fin a) (j' : Fin b)
    (hi : i'.val = o + i.val) (hj : j'.val = p + j.val) :
    View.ld X (Rect.unit (s := Mat a b) ![o, p] ![m, n] inb) (ix2 i j) = X (ix2 i' j') := by
  refine congrArg X (funext fun d => Fin.ext ?_)
  rw [Rect.idx_unit_val]
  match d with
  | ⟨0, _⟩ => exact hi.symm
  | ⟨1, _⟩ => exact hj.symm

theorem load3 (X : Vec Ideal S1x1x1024 .f32)
    (inb : ∀ d : Fin 3, (![0, 0, 0] : Fin 3 → ℕ) d + S1x1x1024.size d ≤ S1x1x1024.size d) (j : Fin 1024) :
    View.ld X (Rect.unit (s := S1x1x1024) ![0, 0, 0] S1x1x1024.size inb) (ix3 0 0 j) = X (ix3 0 0 j) := by
  refine congrArg X (funext fun d => Fin.ext ?_)
  rw [Rect.idx_unit_val]
  match d with
  | ⟨0, _⟩ => rfl
  | ⟨1, _⟩ => rfl
  | ⟨2, _⟩ => exact Nat.zero_add _

/-- The normalised row `r` of a block. -/
def rowOf (x0 : Vec Ideal S1024x1024 .f32) (x1 : Vec Ideal S1x1024 .f32) (x2 x3 : Vec Ideal S1x1x1024 .f32) (r : Fin 1024) : Fin 1024 → EReal :=
  modRow (fun q => x0 (ix2 r q)) (fun q => x1 (ix2 0 q)) (fun q => x2 (ix3 0 0 q)) (fun q => x3 (ix3 0 0 q))

/-- The block's normalised rows, as the body computes them once. -/
abbrev hiddenOf (x0 : Vec Ideal S1024x1024 .f32) (x1 : Vec Ideal S1x1024 .f32) (x2 x3 : Vec Ideal S1x1x1024 .f32) : FVec Ideal S1024x1024 .bf16 :=
  modTile rowFacts (View.ld x0 r0_0) (View.ld x1 r0_1) (View.ld x2 r0_2) (View.ld x3 r0_2)

theorem hiddenOf_at (x0 : Vec Ideal S1024x1024 .f32) (x1 : Vec Ideal S1x1024 .f32) (x2 x3 : Vec Ideal S1x1x1024 .f32) (r : Fin 1024) :
    (fun k => hiddenOf x0 x1 x2 x3 (ix2 r k)) = rowOf x0 x1 x2 x3 r := by
  funext k
  refine (modTile_at rowFacts _ _ _ _ r k).trans ?_
  unfold rowOf
  congr 1
  · exact funext fun q => load2f x0 _ r q r q (Nat.zero_add _).symm (Nat.zero_add _).symm
  · exact funext fun q => load2f x1 _ 0 q 0 q rfl (Nat.zero_add _).symm
  · exact funext fun q => load3 x2 _ q
  · exact funext fun q => load3 x3 _ q

section
variable {x0 : Vec Ideal S1024x1024 .f32} {x1 : Vec Ideal S1x1024 .f32} {x2 x3 : Vec Ideal S1x1x1024 .f32}
  {x4 : Vec Ideal S1024x2048 .bf16} {x5 : Vec Ideal S1024x1536 .bf16} {x6 x7 x8 : Vec Ideal S1024x768 .bf16}
  {x9 : Vec Ideal S1024x256 .bf16} {x10 : Vec Ideal S1x2560 .f32} {x11 : Vec Ideal S256x256 .bf16} {W : Fin 1024 → ℕ → EReal}

/-- A row's projection. -/
abbrev projRow (x0 : Vec Ideal S1024x1024 .f32) (x1 : Vec Ideal S1x1024 .f32) (x2 x3 : Vec Ideal S1x1x1024 .f32) (W : Fin 1024 → ℕ → EReal) (r : Fin 1024) : ℕ → EReal :=
  proj (rowOf x0 x1 x2 x3 r) W

/-- 256 columns of a weight block, loaded. -/
theorem slice_weights {n o : ℕ} (X : Vec Ideal (Mat 1024 n) .bf16) (b : ℕ) (hX : ∀ k (j : Fin n), X (ix2 k j) = W k (b + j.val))
    (inb : ∀ d : Fin 2, (![0, o] : Fin 2 → ℕ) d + (![1024, 256] : Fin 2 → ℕ) d ≤ (Mat 1024 n).size d) (k : Fin 1024) (j : Fin 256) :
    View.ld X (Rect.unit (s := Mat 1024 n) ![0, o] ![1024, 256] inb) (ix2 k j) = W k (b + (o + j.val)) := by
  have hj := j.isLt
  have hi : o + 256 ≤ n := inb 1
  exact (load2 X inb k j k ⟨o + j.val, by omega⟩ (Nat.zero_add _).symm rfl).trans (hX _ _)

theorem tile_columns {n o : ℕ} (X : Vec Ideal (Mat 1024 n) .bf16) (b : ℕ) (hX : ∀ k (j : Fin n), X (ix2 k j) = W k (b + j.val))
    (inb : ∀ d : Fin 2, (![0, o] : Fin 2 → ℕ) d + (![1024, 256] : Fin 2 → ℕ) d ≤ (Mat 1024 n).size d) (r : Fin 1024) (j : Fin 256) :
    columns (hiddenOf x0 x1 x2 x3) (View.ld X (Rect.unit (s := Mat 1024 n) ![0, o] ![1024, 256] inb)) (ix2 r j)
      = projRow x0 x1 x2 x3 W r (b + (o + j.val)) := by
  refine (columns_at _ _ (fun k n => W k (b + n)) o (fun k j => slice_weights X b hX inb k j) r j).trans ?_
  rw [hiddenOf_at]
  rfl

theorem tile_heads {n o og : ℕ} (ho : 64 ∣ o) (X : Vec Ideal (Mat 1024 n) .bf16) (b : ℕ) (hX : ∀ k (j : Fin n), X (ix2 k j) = W k (b + j.val))
    (hbd : ∀ q j : Fin 256, x11 (ix2 q j) = if q.val / 64 = j.val / 64 then 1 else 0)
    (inb : ∀ d : Fin 2, (![0, o] : Fin 2 → ℕ) d + (![1024, 256] : Fin 2 → ℕ) d ≤ (Mat 1024 n).size d)
    (inbd : ∀ d : Fin 2, (![0, 0] : Fin 2 → ℕ) d + (![256, 256] : Fin 2 → ℕ) d ≤ (Mat 256 256).size d)
    (ing : ∀ d : Fin 2, (![0, og] : Fin 2 → ℕ) d + (![1, 256] : Fin 2 → ℕ) d ≤ (Mat 1 2560).size d) (r : Fin 1024) (j : Fin 256) :
    heads (hiddenOf x0 x1 x2 x3) (View.ld X (Rect.unit (s := Mat 1024 n) ![0, o] ![1024, 256] inb))
      (View.ld x11 (Rect.unit (s := Mat 256 256) ![0, 0] ![256, 256] inbd)) (View.ld x10 (Rect.unit (s := Mat 1 2560) ![0, og] ![1, 256] ing)) (ix2 r j)
      = normAt (fun n => projRow x0 x1 x2 x3 W r (b + n)) (o + j.val) (gainAt x10 (og + j.val)) := by
  have hj := j.isLt
  have hg : og + 256 ≤ 2560 := ing 1
  refine (heads_at _ _ _ _ W b o ho (fun k j => slice_weights X b hX inb k j)
    (fun q j => (load2 x11 inbd q j q j (Nat.zero_add _).symm (Nat.zero_add _).symm).trans (hbd q j)) r j).trans ?_
  rw [hiddenOf_at, load2f x10 ing 0 j 0 ⟨og + j.val, by omega⟩ rfl rfl]
  unfold gainAt
  rw [dif_pos (by omega : og + j.val < 2560)]

/-! ## The block of gates, queries, keys and values -/

/-- The block at an index. -/
def mainBlock (x0 : Vec Ideal S1024x1024 .f32) (x1 : Vec Ideal S1x1024 .f32) (x2 x3 : Vec Ideal S1x1x1024 .f32) (W : Fin 1024 → ℕ → EReal)
    (x10 : Vec Ideal S1x2560 .f32) : S1024x3584.Idx → EReal :=
  fun y => mainAt (projRow x0 x1 x2 x3 W (y 0)) (gainAt x10) (y 1).val

/-- A tile stored from column `o` on, where it holds the block's columns. -/
theorem main_piece {o : ℕ} (T : FVec Ideal S1024x256 .bf16)
    (inb : ∀ d : Fin 2, (![0, o] : Fin 2 → ℕ) d + (![1024, 256] : Fin 2 → ℕ) d ≤ (Mat 1024 3584).size d)
    (hT : ∀ (r : Fin 1024) (j : Fin 256), T (ix2 r j) = mainAt (projRow x0 x1 x2 x3 W r) (gainAt x10) (o + j.val)) (x : S1024x256.Idx) :
    T x = mainBlock x0 x1 x2 x3 W x10 ((Rect.unit (s := Mat 1024 3584) ![0, o] ![1024, 256] inb).emb x) := by
  obtain ⟨r, j, rfl⟩ : ∃ r j, x = ix2 r j := ⟨x 0, x 1, eq_ix2 x⟩
  refine (hT r j).trans ?_
  have e0 := Rect.idx_unit_val (s := Mat 1024 3584) ![0, o] ![1024, 256] inb (ix2 r j) 0
  have e1 := Rect.idx_unit_val (s := Mat 1024 3584) ![0, o] ![1024, 256] inb (ix2 r j) 1
  refine congrArg₂ (fun r c => mainAt (projRow x0 x1 x2 x3 W r) (gainAt x10) c) (Fin.ext ?_) ?_
  · exact ((e0.trans (Nat.zero_add _)).symm : r.val = _)
  · exact (e1.symm : o + j.val = _)

theorem gate_tile {o : ℕ} (ho : o + 256 ≤ 2048) (h4 : ∀ k (j : Fin 2048), x4 (ix2 k j) = W k (gateA + j.val))
    (inb : ∀ d : Fin 2, (![0, o] : Fin 2 → ℕ) d + (![1024, 256] : Fin 2 → ℕ) d ≤ (Mat 1024 2048).size d)  (r : Fin 1024) (j : Fin 256) :
    gates (hiddenOf x0 x1 x2 x3) (View.ld x4 (Rect.unit (s := Mat 1024 2048) ![0, o] ![1024, 256] inb)) (ix2 r j)
      = mainAt (projRow x0 x1 x2 x3 W r) (gainAt x10) (o + j.val) := by
  have hj := j.isLt
  refine (congrArg Ideal.logistic (tile_columns x4 gateA h4 inb r j)).trans ?_
  unfold mainAt
  rw [if_pos (by omega)]

theorem norm_tile {o p : ℕ} (hp : p = 2048 + o) (h64 : 64 ∣ o) (ho : o + 256 ≤ 1024) (h5 : ∀ k (j : Fin 1536), x5 (ix2 k j) = W k (foxQ + j.val))
    (hbd : ∀ q j : Fin 256, x11 (ix2 q j) = if q.val / 64 = j.val / 64 then 1 else 0)
    (inb : ∀ d : Fin 2, (![0, o] : Fin 2 → ℕ) d + (![1024, 256] : Fin 2 → ℕ) d ≤ (Mat 1024 1536).size d)
    (inbd : ∀ d : Fin 2, (![0, 0] : Fin 2 → ℕ) d + (![256, 256] : Fin 2 → ℕ) d ≤ (Mat 256 256).size d)
    (ing : ∀ d : Fin 2, (![0, o] : Fin 2 → ℕ) d + (![1, 256] : Fin 2 → ℕ) d ≤ (Mat 1 2560).size d) (r : Fin 1024) (j : Fin 256) :
    (truncf .bf16 (heads (hiddenOf x0 x1 x2 x3) (View.ld x5 (Rect.unit (s := Mat 1024 1536) ![0, o] ![1024, 256] inb))
      (View.ld x11 (Rect.unit (s := Mat 256 256) ![0, 0] ![256, 256] inbd)) (View.ld x10 (Rect.unit (s := Mat 1 2560) ![0, o] ![1, 256] ing)))
      bitsLt_bf16_f32 : FVec Ideal S1024x256 .bf16) (ix2 r j)
      = mainAt (projRow x0 x1 x2 x3 W r) (gainAt x10) (p + j.val) := by
  have hj := j.isLt
  refine (tile_heads h64 x5 foxQ h5 hbd inb inbd ing r j).trans ?_
  unfold mainAt
  rw [if_neg (by omega), if_pos (by omega), show p + j.val - 2048 = o + j.val by omega]

theorem value_tile {o p : ℕ} (hp : p = 2048 + o) (ho : 1024 ≤ o) (h5 : ∀ k (j : Fin 1536), x5 (ix2 k j) = W k (foxQ + j.val))
    (inb : ∀ d : Fin 2, (![0, o] : Fin 2 → ℕ) d + (![1024, 256] : Fin 2 → ℕ) d ≤ (Mat 1024 1536).size d) (r : Fin 1024) (j : Fin 256) :
    (truncf .bf16 (columns (hiddenOf x0 x1 x2 x3) (View.ld x5 (Rect.unit (s := Mat 1024 1536) ![0, o] ![1024, 256] inb)))
      bitsLt_bf16_f32 : FVec Ideal S1024x256 .bf16) (ix2 r j)
      = mainAt (projRow x0 x1 x2 x3 W r) (gainAt x10) (p + j.val) := by
  have hj := j.isLt
  refine (tile_columns x5 foxQ h5 inb r j).trans ?_
  unfold mainAt
  rw [if_neg (by omega), if_neg (by omega), show p + j.val - 2048 = o + j.val by omega]

theorem main_block (w : Weights x4 x5 x6 x7 x8 x9 x11 W) (y : S1024x3584.Idx) :
    out0_12 x0 x1 x2 x3 x4 x5 x6 x7 x8 x9 x10 x11 y = mainBlock x0 x1 x2 x3 W x10 y := by
  unfold out0_12
  refine View.canon_apply_of_pieces (Val := Elt Ideal) (mainBlock x0 x1 x2 x3 W x10) _ ?_ y (cover0_12 _ _ _ _ _ _ _ _ _ _ _ _ _ _ y)
  refine List.forall_mem_cons.2 ⟨fun x => main_piece _ inb_S1024x3584_S1024x256_0_3328 (value_tile (o := 1280) rfl (by norm_num) w.fox inb_S1024x1536_S1024x256_0_1280) x, ?_⟩
  refine List.forall_mem_cons.2 ⟨fun x => main_piece _ inb_S1024x3584_S1024x256_0_3072 (value_tile (o := 1024) rfl (by norm_num) w.fox inb_S1024x1536_S1024x256_0_1024) x, ?_⟩
  refine List.forall_mem_cons.2 ⟨fun x => main_piece _ inb_S1024x3584_S1024x256_0_1792 (gate_tile (o := 1792) (by norm_num) w.gate inb_S1024x2048_S1024x256_0_1792) x, ?_⟩
  refine List.forall_mem_cons.2 ⟨fun x => main_piece _ inb_S1024x3584_S1024x256_0_1536 (gate_tile (o := 1536) (by norm_num) w.gate inb_S1024x2048_S1024x256_0_1536) x, ?_⟩
  refine List.forall_mem_cons.2 ⟨fun x => main_piece _ inb_S1024x3584_S1024x256_0_1280 (gate_tile (o := 1280) (by norm_num) w.gate inb_S1024x2048_S1024x256_0_1280) x, ?_⟩
  refine List.forall_mem_cons.2 ⟨fun x => main_piece _ inb_S1024x3584_S1024x256_0_1024 (gate_tile (o := 1024) (by norm_num) w.gate inb_S1024x2048_S1024x256_0_1024) x, ?_⟩
  refine List.forall_mem_cons.2 ⟨fun x => main_piece _ inb_S1024x3584_S1024x256_0_2816 (norm_tile (o := 768) rfl (by norm_num) (by norm_num) w.fox w.same inb_S1024x1536_S1024x256_0_768 inb_S256x256_S256x256_0_0 inb_S1x2560_S1x256_0_768) x, ?_⟩
  refine List.forall_mem_cons.2 ⟨fun x => main_piece _ inb_S1024x3584_S1024x256_0_768 (gate_tile (o := 768) (by norm_num) w.gate inb_S1024x2048_S1024x256_0_768) x, ?_⟩
  refine List.forall_mem_cons.2 ⟨fun x => main_piece _ inb_S1024x3584_S1024x256_0_2560 (norm_tile (o := 512) rfl (by norm_num) (by norm_num) w.fox w.same inb_S1024x1536_S1024x256_0_512 inb_S256x256_S256x256_0_0 inb_S1x2560_S1x256_0_512) x, ?_⟩
  refine List.forall_mem_cons.2 ⟨fun x => main_piece _ inb_S1024x3584_S1024x256_0_512 (gate_tile (o := 512) (by norm_num) w.gate inb_S1024x2048_S1024x256_0_512) x, ?_⟩
  refine List.forall_mem_cons.2 ⟨fun x => main_piece _ inb_S1024x3584_S1024x256_0_2304 (norm_tile (o := 256) rfl (by norm_num) (by norm_num) w.fox w.same inb_S1024x1536_S1024x256_0_256 inb_S256x256_S256x256_0_0 inb_S1x2560_S1x256_0_256) x, ?_⟩
  refine List.forall_mem_cons.2 ⟨fun x => main_piece _ inb_S1024x3584_S1024x256_0_256 (gate_tile (o := 256) (by norm_num) w.gate inb_S1024x2048_S1024x256_0_256) x, ?_⟩
  refine List.forall_mem_cons.2 ⟨fun x => main_piece _ inb_S1024x3584_S1024x256_0_2048 (norm_tile (o := 0) rfl (by norm_num) (by norm_num) w.fox w.same inb_S1024x1536_S1024x256_0_0 inb_S256x256_S256x256_0_0 inb_S1x2560_S1x256_0_0) x, ?_⟩
  refine List.forall_mem_cons.2 ⟨fun x => main_piece _ inb_S1024x3584_S1024x256_0_0 (gate_tile (o := 0) (by norm_num) w.gate inb_S1024x2048_S1024x256_0_0) x, ?_⟩
  intro p hp
  cases hp

/-! ## The forget block -/

theorem forget_block (w : Weights x4 x5 x6 x7 x8 x9 x11 W) (r : Fin 1024) (j : Fin 128) :
    out0_13 x0 x1 x2 x3 x4 x5 x6 x7 x8 x9 x10 x11 (ix2 r j) = forgetAt (projRow x0 x1 x2 x3 W r) j.val := by
  have hj := j.isLt
  unfold out0_13
  refine View.canon_apply_of_pieces (Val := Elt Ideal) (fun y : S1024x128.Idx => forgetAt (projRow x0 x1 x2 x3 W (y 0)) (y 1).val) _ ?_ (ix2 r j) (cover0_13 _ _)
  refine List.forall_mem_cons.2 ⟨fun x => ?_, fun p hp => by cases hp⟩
  obtain ⟨r, j, rfl⟩ : ∃ r j, x = ix2 r j := ⟨x 0, x 1, eq_ix2 x⟩
  have hj := j.isLt
  have e0 := Rect.idx_unit_val (s := S1024x128) ![0, 0] ![1024, 128] inb_S1024x128_S1024x128_0_0 (ix2 r j) 0
  have e1 := Rect.idx_unit_val (s := S1024x128) ![0, 0] ![1024, 128] inb_S1024x128_S1024x128_0_0 (ix2 r j) 1
  have h : ∀ k (j : Fin 256), View.ld x9 r0_54 (ix2 k j) = (fun k n => if n < 8 then W k (forget + n) else 0) k (0 + j.val) := fun k j => by
    refine (load2 x9 _ k j k j (Nat.zero_add _).symm (Nat.zero_add _).symm).trans ((w.fgt k j).trans ?_)
    show _ = if 0 + j.val < 8 then W k (forget + (0 + j.val)) else 0
    rw [Nat.zero_add]
  have main : leftHalf (columns (hiddenOf x0 x1 x2 x3) (View.ld x9 r0_54)) (ix2 r j) = forgetAt (projRow x0 x1 x2 x3 W r) j.val := by
    refine (leftHalf_at _ r j).trans ((columns_at _ _ (fun k n => if n < 8 then W k (forget + n) else 0) 0 h r _).trans ?_)
    rw [hiddenOf_at]
    show dotRow _ (fun k => if 0 + j.val < 8 then W k (forget + (0 + j.val)) else 0) = _
    rw [Nat.zero_add]
    unfold forgetAt
    by_cases c : j.val < 8
    · rw [if_pos c]; simp only [if_pos c]; rfl
    · rw [if_neg c]; simp only [if_neg c]
      exact Finset.sum_eq_zero fun k _ => mul_zero _
  refine Eq.trans main (congrArg₂ (fun r c => forgetAt (projRow x0 x1 x2 x3 W r) c) (Fin.ext ?_) ?_)
  · exact ((e0.trans (Nat.zero_add _)).symm : r.val = _)
  · exact ((e1.trans (Nat.zero_add _)).symm : j.val = _)

/-! ## The slabs -/

/-- The slabs at an index. -/
def slabBlock (x0 : Vec Ideal S1024x1024 .f32) (x1 : Vec Ideal S1x1024 .f32) (x2 x3 : Vec Ideal S1x1x1024 .f32) (W : Fin 1024 → ℕ → EReal)
    (x10 : Vec Ideal S1x2560 .f32) : S1x9x1024x2x128.Idx → EReal :=
  fun y => slabAt (projRow x0 x1 x2 x3 W (y 2)) (gainAt x10) (y 1).val (y 3).val (y 4).val

theorem slab_piece {s : ℕ} (a b : FVec Ideal S1024x128 .f32)
    (inb : ∀ d : Fin 5, (![0, s, 0, 0, 0] : Fin 5 → ℕ) d + S1x1x1024x2x128.size d ≤ S1x9x1024x2x128.size d)
    (ha : ∀ (r : Fin 1024) (d : Fin 128), a (ix2 r d) = slabAt (projRow x0 x1 x2 x3 W r) (gainAt x10) s 0 d.val)
    (hb : ∀ (r : Fin 1024) (d : Fin 128), b (ix2 r d) = slabAt (projRow x0 x1 x2 x3 W r) (gainAt x10) s 1 d.val) (x : S1x1x1024x2x128.Idx) :
    pairOf a b x = slabBlock x0 x1 x2 x3 W x10 ((Rect.unit (s := S1x9x1024x2x128) ![0, s, 0, 0, 0] S1x1x1024x2x128.size inb).emb x) := by
  obtain ⟨z, z', r, u, d, rfl⟩ : ∃ z z' r u d, x = ix5 z z' r u d := ⟨x 0, x 1, x 2, x 3, x 4, eq_ix5 x⟩
  have hz := z'.isLt
  have hu := u.isLt
  have e := Rect.idx_unit_val (s := S1x9x1024x2x128) ![0, s, 0, 0, 0] S1x1x1024x2x128.size inb (ix5 z z' r u d)
  have e1 : _ = s + z'.val := e 1
  have e2 : _ = 0 + r.val := e 2
  have e3 : _ = 0 + u.val := e 3
  have e4 : _ = 0 + d.val := e 4
  have main : pairOf a b (ix5 z z' r u d) = slabAt (projRow x0 x1 x2 x3 W r) (gainAt x10) s u.val d.val := by
    refine (pairOf_at a b z z' r u d).trans ?_
    by_cases h : u.val = 0
    · rw [if_pos h, h]; exact ha r d
    · rw [if_neg h, show u.val = 1 by omega]; exact hb r d
  refine main.trans ?_
  unfold slabBlock
  have er : r = (((Rect.unit (s := S1x9x1024x2x128) ![0, s, 0, 0, 0] S1x1x1024x2x128.size inb).emb (ix5 z z' r u d)) 2 : Fin 1024) :=
    Fin.ext ((e2.trans (Nat.zero_add _)).symm)
  have es : s = (((Rect.unit (s := S1x9x1024x2x128) ![0, s, 0, 0, 0] S1x1x1024x2x128.size inb).emb (ix5 z z' r u d)) 1).val :=
    (e1.trans (by omega)).symm
  have eu : u.val = (((Rect.unit (s := S1x9x1024x2x128) ![0, s, 0, 0, 0] S1x1x1024x2x128.size inb).emb (ix5 z z' r u d)) 3).val :=
    (e3.trans (Nat.zero_add _)).symm
  have ed : d.val = (((Rect.unit (s := S1x9x1024x2x128) ![0, s, 0, 0, 0] S1x1x1024x2x128.size inb).emb (ix5 z z' r u d)) 4).val :=
    (e4.trans (Nat.zero_add _)).symm
  rw [← er, ← es, ← eu, ← ed]

section
variable (w : Weights x4 x5 x6 x7 x8 x9 x11 W)
include w

/-- One group's queries, keys and values as tiles. -/
theorem q_tile {g o og : ℕ} (ho : o = 256 * g) (hog : og = 1024 + o)
    (inb : ∀ d : Fin 2, (![0, o] : Fin 2 → ℕ) d + (![1024, 256] : Fin 2 → ℕ) d ≤ (Mat 1024 768).size d)
    (inbd : ∀ d : Fin 2, (![0, 0] : Fin 2 → ℕ) d + (![256, 256] : Fin 2 → ℕ) d ≤ (Mat 256 256).size d)
    (ing : ∀ d : Fin 2, (![0, og] : Fin 2 → ℕ) d + (![1, 256] : Fin 2 → ℕ) d ≤ (Mat 1 2560).size d) (r : Fin 1024) (j : Fin 256) :
    heads (hiddenOf x0 x1 x2 x3) (View.ld x6 (Rect.unit (s := Mat 1024 768) ![0, o] ![1024, 256] inb))
      (View.ld x11 (Rect.unit (s := Mat 256 256) ![0, 0] ![256, 256] inbd)) (View.ld x10 (Rect.unit (s := Mat 1 2560) ![0, og] ![1, 256] ing)) (ix2 r j)
      = dilQAt (projRow x0 x1 x2 x3 W r) (gainAt x10) (256 * g + j.val) := by
  subst ho hog
  refine (tile_heads (by omega) x6 dilQ w.dq w.same inb inbd ing r j).trans ?_
  unfold dilQAt
  rw [Nat.add_assoc 1024]

theorem k_tile {g o og : ℕ} (ho : o = 256 * g) (hog : og = 1792 + o)
    (inb : ∀ d : Fin 2, (![0, o] : Fin 2 → ℕ) d + (![1024, 256] : Fin 2 → ℕ) d ≤ (Mat 1024 768).size d)
    (inbd : ∀ d : Fin 2, (![0, 0] : Fin 2 → ℕ) d + (![256, 256] : Fin 2 → ℕ) d ≤ (Mat 256 256).size d)
    (ing : ∀ d : Fin 2, (![0, og] : Fin 2 → ℕ) d + (![1, 256] : Fin 2 → ℕ) d ≤ (Mat 1 2560).size d) (r : Fin 1024) (j : Fin 256) :
    heads (hiddenOf x0 x1 x2 x3) (View.ld x7 (Rect.unit (s := Mat 1024 768) ![0, o] ![1024, 256] inb))
      (View.ld x11 (Rect.unit (s := Mat 256 256) ![0, 0] ![256, 256] inbd)) (View.ld x10 (Rect.unit (s := Mat 1 2560) ![0, og] ![1, 256] ing)) (ix2 r j)
      = dilKAt (projRow x0 x1 x2 x3 W r) (gainAt x10) (256 * g + j.val) := by
  subst ho hog
  refine (tile_heads (by omega) x7 dilK w.dk w.same inb inbd ing r j).trans ?_
  unfold dilKAt
  rw [Nat.add_assoc 1792]

theorem v_tile {g o : ℕ} (ho : o = 256 * g)
    (inb : ∀ d : Fin 2, (![0, o] : Fin 2 → ℕ) d + (![1024, 256] : Fin 2 → ℕ) d ≤ (Mat 1024 768).size d) (r : Fin 1024) (j : Fin 256) :
    columns (hiddenOf x0 x1 x2 x3) (View.ld x8 (Rect.unit (s := Mat 1024 768) ![0, o] ![1024, 256] inb)) (ix2 r j)
      = dilVAt (projRow x0 x1 x2 x3 W r) (256 * g + j.val) := by
  subst ho
  exact tile_columns x8 dilV w.dv inb r j
end

/-- The slab of a group's first and of its second 128 queries beside its keys, and of its values. -/
theorem slab_first {s g : ℕ} (hs : s = 3 * g) (q k : FVec Ideal S1024x256 .f32)
    (hq : ∀ (r : Fin 1024) (j : Fin 256), q (ix2 r j) = dilQAt (projRow x0 x1 x2 x3 W r) (gainAt x10) (256 * g + j.val))
    (hk : ∀ (r : Fin 1024) (j : Fin 256), k (ix2 r j) = dilKAt (projRow x0 x1 x2 x3 W r) (gainAt x10) (256 * g + j.val))
    (inb : ∀ d : Fin 5, (![0, s, 0, 0, 0] : Fin 5 → ℕ) d + S1x1x1024x2x128.size d ≤ S1x9x1024x2x128.size d) (x : S1x1x1024x2x128.Idx) :
    pairOf (leftHalf q) (leftHalf k) x
      = slabBlock x0 x1 x2 x3 W x10 ((Rect.unit (s := S1x9x1024x2x128) ![0, s, 0, 0, 0] S1x1x1024x2x128.size inb).emb x) := by
  subst hs
  refine slab_piece _ _ inb (fun r d => ?_) (fun r d => ?_) x
  · refine (leftHalf_at q r d).trans ((hq r _).trans ?_)
    unfold slabAt
    rw [if_neg (by omega), if_pos rfl, show 256 * (3 * g / 3) + (128 * (3 * g % 3) + d.val) = 256 * g + d.val by omega]
  · refine (leftHalf_at k r d).trans ((hk r _).trans ?_)
    unfold slabAt
    rw [if_neg (by omega), if_neg (by norm_num), show 256 * (3 * g / 3) + (128 * (3 * g % 3) + d.val) = 256 * g + d.val by omega]

theorem slab_second {s g : ℕ} (hs : s = 3 * g + 1) (q k : FVec Ideal S1024x256 .f32)
    (hq : ∀ (r : Fin 1024) (j : Fin 256), q (ix2 r j) = dilQAt (projRow x0 x1 x2 x3 W r) (gainAt x10) (256 * g + j.val))
    (hk : ∀ (r : Fin 1024) (j : Fin 256), k (ix2 r j) = dilKAt (projRow x0 x1 x2 x3 W r) (gainAt x10) (256 * g + j.val))
    (inb : ∀ d : Fin 5, (![0, s, 0, 0, 0] : Fin 5 → ℕ) d + S1x1x1024x2x128.size d ≤ S1x9x1024x2x128.size d) (x : S1x1x1024x2x128.Idx) :
    pairOf (rightHalf q) (rightHalf k) x
      = slabBlock x0 x1 x2 x3 W x10 ((Rect.unit (s := S1x9x1024x2x128) ![0, s, 0, 0, 0] S1x1x1024x2x128.size inb).emb x) := by
  subst hs
  refine slab_piece _ _ inb (fun r d => ?_) (fun r d => ?_) x
  · refine (rightHalf_at q r d).trans ((hq r _).trans ?_)
    unfold slabAt
    rw [if_neg (by omega), if_pos rfl, show 256 * ((3 * g + 1) / 3) + (128 * ((3 * g + 1) % 3) + d.val) = 256 * g + (128 + d.val) by omega]
  · refine (rightHalf_at k r d).trans ((hk r _).trans ?_)
    unfold slabAt
    rw [if_neg (by omega), if_neg (by norm_num), show 256 * ((3 * g + 1) / 3) + (128 * ((3 * g + 1) % 3) + d.val) = 256 * g + (128 + d.val) by omega]

theorem slab_third {s g : ℕ} (hs : s = 3 * g + 2) (v : FVec Ideal S1024x256 .f32)
    (hv : ∀ (r : Fin 1024) (j : Fin 256), v (ix2 r j) = dilVAt (projRow x0 x1 x2 x3 W r) (256 * g + j.val))
    (inb : ∀ d : Fin 5, (![0, s, 0, 0, 0] : Fin 5 → ℕ) d + S1x1x1024x2x128.size d ≤ S1x9x1024x2x128.size d) (x : S1x1x1024x2x128.Idx) :
    pairOf (leftHalf v) (rightHalf v) x
      = slabBlock x0 x1 x2 x3 W x10 ((Rect.unit (s := S1x9x1024x2x128) ![0, s, 0, 0, 0] S1x1x1024x2x128.size inb).emb x) := by
  subst hs
  refine slab_piece _ _ inb (fun r d => ?_) (fun r d => ?_) x
  · refine (leftHalf_at v r d).trans ((hv r _).trans ?_)
    unfold slabAt
    rw [if_pos (by omega), show 256 * ((3 * g + 2) / 3) + (128 * 0 + d.val) = 256 * g + d.val by omega]
  · refine (rightHalf_at v r d).trans ((hv r _).trans ?_)
    unfold slabAt
    rw [if_pos (by omega), show 256 * ((3 * g + 2) / 3) + (128 * 1 + d.val) = 256 * g + (128 + d.val) by omega]

theorem slab_block (w : Weights x4 x5 x6 x7 x8 x9 x11 W) (y : S1x9x1024x2x128.Idx) :
    out0_14 x0 x1 x2 x3 x4 x5 x6 x7 x8 x9 x10 x11 y = slabBlock x0 x1 x2 x3 W x10 y := by
  unfold out0_14
  refine View.canon_apply_of_pieces (Val := Elt Ideal) (slabBlock x0 x1 x2 x3 W x10) _ ?_ y (cover0_14 _ _ _ _ _ _ _ _ _ y)
  refine List.forall_mem_cons.2 ⟨fun x => slab_third (g := 2) rfl _ (v_tile w rfl inb_S1024x768_S1024x256_0_512) inb_S1x9x1024x2x128_S1x1x1024x2x128_0_8_0_0_0 x, ?_⟩
  refine List.forall_mem_cons.2 ⟨fun x => slab_third (g := 1) rfl _ (v_tile w rfl inb_S1024x768_S1024x256_0_256) inb_S1x9x1024x2x128_S1x1x1024x2x128_0_5_0_0_0 x, ?_⟩
  refine List.forall_mem_cons.2 ⟨fun x => slab_third (g := 0) rfl _ (v_tile w rfl inb_S1024x768_S1024x256_0_0) inb_S1x9x1024x2x128_S1x1x1024x2x128_0_2_0_0_0 x, ?_⟩
  refine List.forall_mem_cons.2 ⟨fun x => slab_second (g := 2) rfl _ _ (q_tile w rfl rfl inb_S1024x768_S1024x256_0_512 inb_S256x256_S256x256_0_0 inb_S1x2560_S1x256_0_1536) (k_tile w rfl rfl inb_S1024x768_S1024x256_0_512 inb_S256x256_S256x256_0_0 inb_S1x2560_S1x256_0_2304) inb_S1x9x1024x2x128_S1x1x1024x2x128_0_7_0_0_0 x, ?_⟩
  refine List.forall_mem_cons.2 ⟨fun x => slab_first (g := 2) rfl _ _ (q_tile w rfl rfl inb_S1024x768_S1024x256_0_512 inb_S256x256_S256x256_0_0 inb_S1x2560_S1x256_0_1536) (k_tile w rfl rfl inb_S1024x768_S1024x256_0_512 inb_S256x256_S256x256_0_0 inb_S1x2560_S1x256_0_2304) inb_S1x9x1024x2x128_S1x1x1024x2x128_0_6_0_0_0 x, ?_⟩
  refine List.forall_mem_cons.2 ⟨fun x => slab_second (g := 1) rfl _ _ (q_tile w rfl rfl inb_S1024x768_S1024x256_0_256 inb_S256x256_S256x256_0_0 inb_S1x2560_S1x256_0_1280) (k_tile w rfl rfl inb_S1024x768_S1024x256_0_256 inb_S256x256_S256x256_0_0 inb_S1x2560_S1x256_0_2048) inb_S1x9x1024x2x128_S1x1x1024x2x128_0_4_0_0_0 x, ?_⟩
  refine List.forall_mem_cons.2 ⟨fun x => slab_first (g := 1) rfl _ _ (q_tile w rfl rfl inb_S1024x768_S1024x256_0_256 inb_S256x256_S256x256_0_0 inb_S1x2560_S1x256_0_1280) (k_tile w rfl rfl inb_S1024x768_S1024x256_0_256 inb_S256x256_S256x256_0_0 inb_S1x2560_S1x256_0_2048) inb_S1x9x1024x2x128_S1x1x1024x2x128_0_3_0_0_0 x, ?_⟩
  refine List.forall_mem_cons.2 ⟨fun x => slab_second (g := 0) rfl _ _ (q_tile w rfl rfl inb_S1024x768_S1024x256_0_0 inb_S256x256_S256x256_0_0 inb_S1x2560_S1x256_0_1024) (k_tile w rfl rfl inb_S1024x768_S1024x256_0_0 inb_S256x256_S256x256_0_0 inb_S1x2560_S1x256_0_1792) inb_S1x9x1024x2x128_S1x1x1024x2x128_0_1_0_0_0 x, ?_⟩
  refine List.forall_mem_cons.2 ⟨fun x => slab_first (g := 0) rfl _ _ (q_tile w rfl rfl inb_S1024x768_S1024x256_0_0 inb_S256x256_S256x256_0_0 inb_S1x2560_S1x256_0_1024) (k_tile w rfl rfl inb_S1024x768_S1024x256_0_0 inb_S256x256_S256x256_0_0 inb_S1x2560_S1x256_0_1792) inb_S1x9x1024x2x128_S1x1x1024x2x128_0_0_0_0_0 x, ?_⟩
  intro p hp
  cases hp

end
end Cert.Proof.In
end
-- ==== Proof.InHost.lean ====
/- WHAT THE HOST PREPARES for the input projection: the columns of the weight matrix in the order the kernel takes them — the
   gates', the attention's, the dilated attention's queries', keys' and values', and the forget columns beside zeros — and
   the matrix that is one where two of 256 columns belong to the same head and zero elsewhere. -/
module

public import proofs.«01_k».proof.Proof.InBlock
public import Idealize.ShloMosaic.Lib.StableHlo.Run
public import Idealize.ShloMosaic.Lib.Claim
public import Idealize.ShloMosaic.Lib.IdealHost

@[expose] public section

set_option maxRecDepth 16384

noncomputable section

namespace Cert.Proof.In

open Idealize.ShloMosaic Idealize.ShloMosaic.TcCoe Idealize.ShloMosaic.ValueIdx Cert.InProjIdeal Cert.InProjIdeal.Gen Idealize.ShloMosaic.Tactic

/-- The weight matrix's columns, zero past its last. -/
def weightAt (X : Vec Ideal S1024x5896 .f32) (k : Fin 1024) (n : ℕ) : EReal := if h : n < 5896 then X (ix2 k ⟨n, h⟩) else 0

variable (m : (ℓ : Loc nD τ sig) → Buf (Elt Ideal) ℓ) (ρ : Dev nD → PrngReg) (c : Dev nD)

/-- A slice of the weights, rounded, at an index. -/
theorem weights_at {n o : ℕ} (X : Vec Ideal S1024x5896 .f32) (h : S1024x5896.Slices ![0, o] (Mat 1024 n)) (k : Fin 1024) (j : Fin n) :
    (truncf .bf16 (extractStridedSlice (Mat 1024 n) ![0, o] X h : FVec Ideal (Mat 1024 n) .f32) bitsLt_bf16_f32 : FVec Ideal (Mat 1024 n) .bf16) (ix2 k j)
      = weightAt X k (o + j.val) := by
  have hj := j.isLt
  have ho : o + n ≤ 5896 := h.2 1
  refine (slice_at X h k j k ⟨o + j.val, by omega⟩ (Nat.zero_add _).symm rfl).trans ?_
  unfold weightAt
  rw [dif_pos (by omega : o + j.val < 5896)]

theorem entry_of (r : Ref sig .tc) (h : r ∉ hostOps0_2_W) (h' : r ∉ hostOps0_1_W) :
    V3 m ρ c r = W1 m ρ c (Proc.devRef .tc r) := (W3_of m ρ c r h).trans (W2_of m ρ c r h')

theorem gates_entry : V3 m ρ c main_v8 = (truncf .bf16 (extractStridedSlice S1024x2048 ![0, 3848] (m ((c : Thread nD τ).loc main_arg4))
    slices_S1024x5896_S1024x2048_0_3848 : FVec Ideal S1024x2048 .f32) bitsLt_bf16_f32 : FVec Ideal S1024x2048 .bf16) := by
  rw [entry_of m ρ c main_v8 (by decide) (by decide)]
  unfold_abbrev_sides
  after_results
  try rfl

theorem fox_entry : V3 m ρ c main_v9 = (truncf .bf16 (extractStridedSlice S1024x1536 ![0, 0] (m ((c : Thread nD τ).loc main_arg4))
    slices_S1024x5896_S1024x1536_0_0 : FVec Ideal S1024x1536 .f32) bitsLt_bf16_f32 : FVec Ideal S1024x1536 .bf16) := by
  rw [entry_of m ρ c main_v9 (by decide) (by decide)]
  unfold_abbrev_sides
  after_results
  try rfl

theorem dilQ_entry : V3 m ρ c main_v10 = (truncf .bf16 (extractStridedSlice S1024x768 ![0, 1544] (m ((c : Thread nD τ).loc main_arg4))
    slices_S1024x5896_S1024x768_0_1544 : FVec Ideal S1024x768 .f32) bitsLt_bf16_f32 : FVec Ideal S1024x768 .bf16) := by
  rw [entry_of m ρ c main_v10 (by decide) (by decide)]
  unfold_abbrev_sides
  after_results
  try rfl

theorem dilK_entry : V3 m ρ c main_v11 = (truncf .bf16 (extractStridedSlice S1024x768 ![0, 2312] (m ((c : Thread nD τ).loc main_arg4))
    slices_S1024x5896_S1024x768_0_2312 : FVec Ideal S1024x768 .f32) bitsLt_bf16_f32 : FVec Ideal S1024x768 .bf16) := by
  rw [entry_of m ρ c main_v11 (by decide) (by decide)]
  unfold_abbrev_sides
  after_results
  try rfl

theorem dilV_entry : V3 m ρ c main_v12 = (truncf .bf16 (extractStridedSlice S1024x768 ![0, 3080] (m ((c : Thread nD τ).loc main_arg4))
    slices_S1024x5896_S1024x768_0_3080 : FVec Ideal S1024x768 .f32) bitsLt_bf16_f32 : FVec Ideal S1024x768 .bf16) := by
  rw [entry_of m ρ c main_v12 (by decide) (by decide)]
  unfold_abbrev_sides
  after_results
  try rfl

theorem forget_entry : V3 m ρ c main_v13 = (truncf .bf16 (concatenate S1024x256 1
      [⟨S1024x8, extractStridedSlice S1024x8 ![0, 1536] (m ((c : Thread nD τ).loc main_arg4)) slices_S1024x5896_S1024x8_0_1536⟩,
       ⟨S1024x248, broadcastInDim S1024x248 ![] bcast_S_S1024x248 (constant (F := Ideal) S_ .f32 0x00000000#32)⟩]
      concatenates_S1024x8_S1024x248_S1024x256_d1 : FVec Ideal S1024x256 .f32) bitsLt_bf16_f32 : FVec Ideal S1024x256 .bf16) := by
  rw [entry_of m ρ c main_v13 (by decide) (by decide)]
  unfold_abbrev_sides
  after_results
  try rfl

theorem same_entry : V3 m ρ c main_v22 = (truncf .bf16 (select
      (cmpi .eq (Host.shrsi (iotaInDim S256x256 32 0) (broadcastInDim S256x256 ![] bcast_S_S256x256 (constantI S_ 32 6#32)))
        (Host.shrsi (iotaInDim S256x256 32 1) (broadcastInDim S256x256 ![] bcast_S_S256x256 (constantI S_ 32 6#32))))
      (broadcastInDim S256x256 ![] bcast_S_S256x256 (constant (F := Ideal) S_ .f32 0x3F800000#32))
      (broadcastInDim S256x256 ![] bcast_S_S256x256 (constant (F := Ideal) S_ .f32 0x00000000#32)) : FVec Ideal S256x256 .f32)
      bitsLt_bf16_f32 : FVec Ideal S256x256 .bf16) := by
  show StableHlo.after hostOps0_2 (StableHlo.after hostOps0_1 (StableHlo.after hostOps0 (W0 m ρ c))) (Proc.devRef .tc main_v22) = _
  unfold_abbrev_sides
  after_results
  try rfl

/-- The forget columns beside zeros, at an index. -/
theorem forget_at (X : Vec Ideal S1024x5896 .f32) (k : Fin 1024) (j : Fin 256) :
    (truncf .bf16 (concatenate S1024x256 1
      [⟨S1024x8, extractStridedSlice S1024x8 ![0, 1536] X slices_S1024x5896_S1024x8_0_1536⟩,
       ⟨S1024x248, broadcastInDim S1024x248 ![] bcast_S_S1024x248 (constant (F := Ideal) S_ .f32 0x00000000#32)⟩]
      concatenates_S1024x8_S1024x248_S1024x256_d1 : FVec Ideal S1024x256 .f32) bitsLt_bf16_f32 : FVec Ideal S1024x256 .bf16) (ix2 k j)
      = if j.val < 8 then weightAt X k (1536 + j.val) else 0 := by
  by_cases h : j.val < 8
  · rw [if_pos h]
    exact (left_at _ _ concatenates_S1024x8_S1024x248_S1024x256_d1 k j ⟨j.val, h⟩ rfl).trans
      (weights_at (n := 8) X slices_S1024x5896_S1024x8_0_1536 k ⟨j.val, h⟩)
  · rw [if_neg h]
    have hj := j.isLt
    refine (right_at _ _ concatenates_S1024x8_S1024x248_S1024x256_d1 k j ⟨j.val - 8, by omega⟩ ?_).trans Ideal.ofBits_zero_f32
    show j.val - 8 + 8 = j.val
    omega

/-- A column's head as a word. -/
theorem head_word : ∀ q : Fin 256, (IntOp.shrsi .host (BitVec.ofNat 32 q.val) 6#32 : BitVec 32) = BitVec.ofNat 32 (q.val / 64) := by
  decide +kernel

/-- Two heads compared as words. -/
theorem same_word : ∀ a b : Fin 4, (IntOp.cmpi .eq (BitVec.ofNat 32 a.val) (BitVec.ofNat 32 b.val) : BitVec 1)
    = if a.val = b.val then 1#1 else 0#1 := by decide +kernel

/-- The matrix of zeros and ones, at an index. -/
theorem same_at (q j : Fin 256) : (truncf .bf16 (select
      (cmpi .eq (Host.shrsi (iotaInDim S256x256 32 0) (broadcastInDim S256x256 ![] bcast_S_S256x256 (constantI S_ 32 6#32)))
        (Host.shrsi (iotaInDim S256x256 32 1) (broadcastInDim S256x256 ![] bcast_S_S256x256 (constantI S_ 32 6#32))))
      (broadcastInDim S256x256 ![] bcast_S_S256x256 (constant (F := Ideal) S_ .f32 0x3F800000#32))
      (broadcastInDim S256x256 ![] bcast_S_S256x256 (constant (F := Ideal) S_ .f32 0x00000000#32)) : FVec Ideal S256x256 .f32)
      bitsLt_bf16_f32 : FVec Ideal S256x256 .bf16) (ix2 q j) = if q.val / 64 = j.val / 64 then 1 else 0 := by
  show Scalar.select (IntOp.cmpi .eq (IntOp.shrsi .host (BitVec.ofNat 32 q.val) 6#32) (IntOp.shrsi .host (BitVec.ofNat 32 j.val) 6#32))
    (Ideal.ofBits .f32 0x3F800000#32) (Ideal.ofBits .f32 0x00000000#32) = _
  rw [head_word, head_word, Ideal.ofBits_zero_f32, Ideal.ofBits_one_f32]
  have e := same_word ⟨q.val / 64, by have := q.isLt; omega⟩ ⟨j.val / 64, by have := j.isLt; omega⟩
  rw [show (IntOp.cmpi .eq (BitVec.ofNat 32 (q.val / 64)) (BitVec.ofNat 32 (j.val / 64)) : BitVec 1)
    = if q.val / 64 = j.val / 64 then 1#1 else 0#1 from e]
  unfold Scalar.select
  by_cases h : q.val / 64 = j.val / 64
  · rw [if_pos h, if_pos h]; exact if_pos rfl
  · rw [if_neg h, if_neg h]; exact if_neg (by decide)

/-- THE WEIGHTS THE KERNEL TAKES are columns of the weight matrix. -/
theorem entry_weights : Weights (V3 m ρ c main_v8) (V3 m ρ c main_v9) (V3 m ρ c main_v10) (V3 m ρ c main_v11) (V3 m ρ c main_v12)
    (V3 m ρ c main_v13) (V3 m ρ c main_v22) (weightAt (m ((c : Thread nD τ).loc main_arg4))) where
  gate k j := (congrFun (gates_entry m ρ c) (ix2 k j)).trans (weights_at _ slices_S1024x5896_S1024x2048_0_3848 k j)
  fox k j := (congrFun (fox_entry m ρ c) (ix2 k j)).trans (weights_at _ slices_S1024x5896_S1024x1536_0_0 k j)
  dq k j := (congrFun (dilQ_entry m ρ c) (ix2 k j)).trans (weights_at _ slices_S1024x5896_S1024x768_0_1544 k j)
  dk k j := (congrFun (dilK_entry m ρ c) (ix2 k j)).trans (weights_at _ slices_S1024x5896_S1024x768_0_2312 k j)
  dv k j := (congrFun (dilV_entry m ρ c) (ix2 k j)).trans (weights_at _ slices_S1024x5896_S1024x768_0_3080 k j)
  fgt k j := (congrFun (forget_entry m ρ c) (ix2 k j)).trans (forget_at _ k j)
  same q j := (congrFun (same_entry m ρ c) (ix2 q j)).trans (same_at q j)

end Cert.Proof.In
end
-- ==== Proof.InRead.lean ====
/- THE SLABS READ BACK: 1024 rows of the dilated attention's queries, keys and values from the slabs of words. Columns 256 g
   and 256 g + 128 of the queries are the low halves of slabs 3 g and 3 g + 1, of the keys their high halves, and of the
   values the low and the high half of slab 3 g + 2. -/
module

public import proofs.«01_k».proof.Proof.InBlock

@[expose] public section

set_option maxRecDepth 16384

noncomputable section

namespace Cert.Proof.In

open Idealize.ShloMosaic Idealize.ShloMosaic.ValueIdx Cert.InProjIdeal Cert.InProjIdeal.Gen

/-- Entry (row, column) of a parity's columns, and of the values. -/
def rowsRead (x : Vec Ideal S1x9x1024x2x128 .bf16) (u : Fin 2) : S1024x768.Idx → EReal :=
  fun y => x (ix5 0 ⟨3 * ((y 1).val / 256) + (y 1).val / 128 % 2, by have h : (y 1).val < 768 := (y 1).isLt; omega⟩ (y 0) u ⟨(y 1).val % 128, by omega⟩)

def valuesRead (x : Vec Ideal S1x9x1024x2x128 .bf16) : S1024x768.Idx → EReal :=
  fun y => x (ix5 0 ⟨3 * ((y 1).val / 256) + 2, by have h : (y 1).val < 768 := (y 1).isLt; omega⟩ (y 0) ⟨(y 1).val / 128 % 2, by omega⟩ ⟨(y 1).val % 128, by omega⟩)

/-- One slab, loaded. -/
theorem load_slab {s : ℕ} (X : Vec Ideal S1x9x1024x2x128 .bf16)
    (inb : ∀ d : Fin 5, (![0, s, 0, 0, 0] : Fin 5 → ℕ) d + S1x1x1024x2x128.size d ≤ S1x9x1024x2x128.size d)
    (r : Fin 1024) (u : Fin 2) (d : Fin 128) (s' : Fin 9) (hs : s'.val = s) :
    View.ld X (Rect.unit (s := S1x9x1024x2x128) ![0, s, 0, 0, 0] S1x1x1024x2x128.size inb) (ix5 0 0 r u d) = X (ix5 0 s' r u d) := by
  refine congrArg X (funext fun a => Fin.ext ?_)
  rw [Rect.idx_unit_val]
  match a with
  | ⟨0, _⟩ => rfl
  | ⟨1, _⟩ => exact hs.symm
  | ⟨2, _⟩ => exact Nat.zero_add _
  | ⟨3, _⟩ => exact Nat.zero_add _
  | ⟨4, _⟩ => exact Nat.zero_add _

/-- 128 columns stored, where they hold a function of the row and the column. -/
theorem read_piece {o : ℕ} (G : Fin 1024 → Fin 768 → EReal) (T : FVec Ideal S1024x128 .bf16)
    (inb : ∀ d : Fin 2, (![0, o] : Fin 2 → ℕ) d + S1024x128.size d ≤ S1024x768.size d)
    (hT : ∀ (r : Fin 1024) (j : Fin 128) (c : Fin 768), c.val = o + j.val → T (ix2 r j) = G r c) (x : S1024x128.Idx) :
    T x = (fun y : S1024x768.Idx => G (y 0) (y 1)) ((Rect.unit (s := S1024x768) ![0, o] S1024x128.size inb).emb x) := by
  obtain ⟨r, j, rfl⟩ : ∃ r j, x = ix2 r j := ⟨x 0, x 1, eq_ix2 x⟩
  have e0 := Rect.idx_unit_val (s := S1024x768) ![0, o] S1024x128.size inb (ix2 r j) 0
  have e1 := Rect.idx_unit_val (s := S1024x768) ![0, o] S1024x128.size inb (ix2 r j) 1
  refine (hT r j _ e1).trans ?_
  exact congrArg (fun r => G r _) (Fin.ext ((e0.trans (Nat.zero_add _)).symm : r.val = _))

variable (x : Vec Ideal S1x9x1024x2x128 .bf16)

theorem rows_piece (u : Fin 2) {s o : ℕ} (hs : 3 * (o / 256) + o / 128 % 2 = s) (ho : 128 ∣ o)
    (inb : ∀ d : Fin 2, (![0, o] : Fin 2 → ℕ) d + S1024x128.size d ≤ S1024x768.size d)
    (ins : ∀ d : Fin 5, (![0, s, 0, 0, 0] : Fin 5 → ℕ) d + S1x1x1024x2x128.size d ≤ S1x9x1024x2x128.size d) (y : S1024x128.Idx) :
    unpair u (View.ld x (Rect.unit (s := S1x9x1024x2x128) ![0, s, 0, 0, 0] S1x1x1024x2x128.size ins)) y
      = rowsRead x u ((Rect.unit (s := S1024x768) ![0, o] S1024x128.size inb).emb y) := by
  refine read_piece (fun r c => x (ix5 0 ⟨3 * (c.val / 256) + c.val / 128 % 2, by have := c.isLt; omega⟩ r u ⟨c.val % 128, by omega⟩)) _ inb
    (fun r j c hc => ?_) y
  have hj := j.isLt
  refine (unpair_at u _ r j).trans ((load_slab x ins r u j ⟨3 * (c.val / 256) + c.val / 128 % 2, by have := c.isLt; omega⟩ ?_).trans ?_)
  · show 3 * (c.val / 256) + c.val / 128 % 2 = s; omega
  · exact congrArg (fun d => x (ix5 0 _ r u d)) (Fin.ext (by show j.val = c.val % 128; omega))

theorem values_piece (u : Fin 2) {s o : ℕ} (hs : 3 * (o / 256) + 2 = s) (hu : o / 128 % 2 = u.val) (ho : 128 ∣ o)
    (inb : ∀ d : Fin 2, (![0, o] : Fin 2 → ℕ) d + S1024x128.size d ≤ S1024x768.size d)
    (ins : ∀ d : Fin 5, (![0, s, 0, 0, 0] : Fin 5 → ℕ) d + S1x1x1024x2x128.size d ≤ S1x9x1024x2x128.size d) (y : S1024x128.Idx) :
    unpair u (View.ld x (Rect.unit (s := S1x9x1024x2x128) ![0, s, 0, 0, 0] S1x1x1024x2x128.size ins)) y
      = valuesRead x ((Rect.unit (s := S1024x768) ![0, o] S1024x128.size inb).emb y) := by
  refine read_piece (fun r c => x (ix5 0 ⟨3 * (c.val / 256) + 2, by have := c.isLt; omega⟩ r ⟨c.val / 128 % 2, by omega⟩ ⟨c.val % 128, by omega⟩)) _ inb
    (fun r j c hc => ?_) y
  have hj := j.isLt
  refine (unpair_at u _ r j).trans ((load_slab x ins r u j ⟨3 * (c.val / 256) + 2, by have := c.isLt; omega⟩ ?_).trans ?_)
  · show 3 * (c.val / 256) + 2 = s; omega
  · exact congrArg₂ (fun u d => x (ix5 0 _ r u d)) (Fin.ext (by show u.val = c.val / 128 % 2; omega)) (Fin.ext (by show j.val = c.val % 128; omega))

theorem queries_block (y : S1024x768.Idx) : out1_1 x y = rowsRead x 0 y := by
  unfold out1_1
  refine View.canon_apply_of_pieces (Val := Elt Ideal) (rowsRead x 0) _ ?_ y (cover1_1 _ _ _ _ _ _ y)
  refine List.forall_mem_cons.2 ⟨fun y => rows_piece x 0 (o := 640) rfl (by norm_num) inb_S1024x768_S1024x128_0_640 inb_S1x9x1024x2x128_S1x1x1024x2x128_0_7_0_0_0 y, ?_⟩
  refine List.forall_mem_cons.2 ⟨fun y => rows_piece x 0 (o := 512) rfl (by norm_num) inb_S1024x768_S1024x128_0_512 inb_S1x9x1024x2x128_S1x1x1024x2x128_0_6_0_0_0 y, ?_⟩
  refine List.forall_mem_cons.2 ⟨fun y => rows_piece x 0 (o := 384) rfl (by norm_num) inb_S1024x768_S1024x128_0_384 inb_S1x9x1024x2x128_S1x1x1024x2x128_0_4_0_0_0 y, ?_⟩
  refine List.forall_mem_cons.2 ⟨fun y => rows_piece x 0 (o := 256) rfl (by norm_num) inb_S1024x768_S1024x128_0_256 inb_S1x9x1024x2x128_S1x1x1024x2x128_0_3_0_0_0 y, ?_⟩
  refine List.forall_mem_cons.2 ⟨fun y => rows_piece x 0 (o := 128) rfl (by norm_num) inb_S1024x768_S1024x128_0_128 inb_S1x9x1024x2x128_S1x1x1024x2x128_0_1_0_0_0 y, ?_⟩
  refine List.forall_mem_cons.2 ⟨fun y => rows_piece x 0 (o := 0) rfl (by norm_num) inb_S1024x768_S1024x128_0_0 inb_S1x9x1024x2x128_S1x1x1024x2x128_0_0_0_0_0 y, ?_⟩
  intro p hp
  cases hp

theorem keys_block (y : S1024x768.Idx) : out1_2 x y = rowsRead x 1 y := by
  unfold out1_2
  refine View.canon_apply_of_pieces (Val := Elt Ideal) (rowsRead x 1) _ ?_ y (cover1_2 _ _ _ _ _ _ y)
  refine List.forall_mem_cons.2 ⟨fun y => rows_piece x 1 (o := 640) rfl (by norm_num) inb_S1024x768_S1024x128_0_640 inb_S1x9x1024x2x128_S1x1x1024x2x128_0_7_0_0_0 y, ?_⟩
  refine List.forall_mem_cons.2 ⟨fun y => rows_piece x 1 (o := 512) rfl (by norm_num) inb_S1024x768_S1024x128_0_512 inb_S1x9x1024x2x128_S1x1x1024x2x128_0_6_0_0_0 y, ?_⟩
  refine List.forall_mem_cons.2 ⟨fun y => rows_piece x 1 (o := 384) rfl (by norm_num) inb_S1024x768_S1024x128_0_384 inb_S1x9x1024x2x128_S1x1x1024x2x128_0_4_0_0_0 y, ?_⟩
  refine List.forall_mem_cons.2 ⟨fun y => rows_piece x 1 (o := 256) rfl (by norm_num) inb_S1024x768_S1024x128_0_256 inb_S1x9x1024x2x128_S1x1x1024x2x128_0_3_0_0_0 y, ?_⟩
  refine List.forall_mem_cons.2 ⟨fun y => rows_piece x 1 (o := 128) rfl (by norm_num) inb_S1024x768_S1024x128_0_128 inb_S1x9x1024x2x128_S1x1x1024x2x128_0_1_0_0_0 y, ?_⟩
  refine List.forall_mem_cons.2 ⟨fun y => rows_piece x 1 (o := 0) rfl (by norm_num) inb_S1024x768_S1024x128_0_0 inb_S1x9x1024x2x128_S1x1x1024x2x128_0_0_0_0_0 y, ?_⟩
  intro p hp
  cases hp

theorem values_block (y : S1024x768.Idx) : out1_3 x y = valuesRead x y := by
  unfold out1_3
  refine View.canon_apply_of_pieces (Val := Elt Ideal) (valuesRead x) _ ?_ y (cover1_3 _ _ _ _ _ _ y)
  refine List.forall_mem_cons.2 ⟨fun y => values_piece x 1 (o := 640) rfl rfl (by norm_num) inb_S1024x768_S1024x128_0_640 inb_S1x9x1024x2x128_S1x1x1024x2x128_0_8_0_0_0 y, ?_⟩
  refine List.forall_mem_cons.2 ⟨fun y => values_piece x 0 (o := 512) rfl rfl (by norm_num) inb_S1024x768_S1024x128_0_512 inb_S1x9x1024x2x128_S1x1x1024x2x128_0_8_0_0_0 y, ?_⟩
  refine List.forall_mem_cons.2 ⟨fun y => values_piece x 1 (o := 384) rfl rfl (by norm_num) inb_S1024x768_S1024x128_0_384 inb_S1x9x1024x2x128_S1x1x1024x2x128_0_5_0_0_0 y, ?_⟩
  refine List.forall_mem_cons.2 ⟨fun y => values_piece x 0 (o := 256) rfl rfl (by norm_num) inb_S1024x768_S1024x128_0_256 inb_S1x9x1024x2x128_S1x1x1024x2x128_0_5_0_0_0 y, ?_⟩
  refine List.forall_mem_cons.2 ⟨fun y => values_piece x 1 (o := 128) rfl rfl (by norm_num) inb_S1024x768_S1024x128_0_128 inb_S1x9x1024x2x128_S1x1x1024x2x128_0_2_0_0_0 y, ?_⟩
  refine List.forall_mem_cons.2 ⟨fun y => values_piece x 0 (o := 0) rfl rfl (by norm_num) inb_S1024x768_S1024x128_0_0 inb_S1x9x1024x2x128_S1x1x1024x2x128_0_2_0_0_0 y, ?_⟩
  intro p hp
  cases hp

end Cert.Proof.In
end
-- ==== Proof.InArray.lean ====
/- THE INPUT PROJECTION'S RESULTS, whole arrays. Grid point `t` works on the 1024 tokens from `1024 t` on, which belong to
   batch entry `t / 2`. So the first launch leaves, at token `T`, the gates, queries, keys and values of `T`'s projection; the
   nine slabs of a batch entry hold the dilated attention's parts, and the second launch reads them back, token by token, into
   three arrays in plain order. -/
module

public import proofs.«01_k».proof.Proof.InHost
public import proofs.«01_k».proof.Proof.InRead
public import proofs.«01_k».proof.Proof.InRun

@[expose] public section

set_option maxRecDepth 16384

noncomputable section

namespace Cert.Proof.In

open Idealize.ShloMosaic Idealize.ShloMosaic.TcCoe Idealize.ShloMosaic.ValueIdx Cert.InProjIdeal Cert.InProjIdeal.Gen

/-- The first launch's blocks at each grid point: rows, batch entry, and the whole of every weight. -/
theorem point_in : ∀ t : Fin 16,
    win0_0.index (t : Fin grid0.N) (0 : Fin 2) = t.val ∧ win0_0.index (t : Fin grid0.N) (1 : Fin 2) = 0 ∧
    win0_1.index (t : Fin grid0.N) (0 : Fin 2) = 0 ∧ win0_1.index (t : Fin grid0.N) (1 : Fin 2) = 0 ∧
    win0_2.index (t : Fin grid0.N) (0 : Fin 3) = t.val / 2 ∧ win0_2.index (t : Fin grid0.N) (1 : Fin 3) = 0 ∧ win0_2.index (t : Fin grid0.N) (2 : Fin 3) = 0 ∧
    win0_3.index (t : Fin grid0.N) (0 : Fin 3) = t.val / 2 ∧ win0_3.index (t : Fin grid0.N) (1 : Fin 3) = 0 ∧ win0_3.index (t : Fin grid0.N) (2 : Fin 3) = 0 := by
  decide +kernel

theorem point_first : ∀ t : Fin 16,
    win0_4.index (t : Fin grid0.N) (0 : Fin 2) = 0 ∧
    win0_5.index (t : Fin grid0.N) (0 : Fin 2) = 0 ∧
    win0_6.index (t : Fin grid0.N) (0 : Fin 2) = 0 ∧
    win0_7.index (t : Fin grid0.N) (0 : Fin 2) = 0 ∧
    win0_8.index (t : Fin grid0.N) (0 : Fin 2) = 0 ∧
    win0_9.index (t : Fin grid0.N) (0 : Fin 2) = 0 ∧
    win0_10.index (t : Fin grid0.N) (0 : Fin 2) = 0 ∧
    win0_11.index (t : Fin grid0.N) (0 : Fin 2) = 0 := by
  decide +kernel

theorem point_second : ∀ t : Fin 16,
    win0_4.index (t : Fin grid0.N) (1 : Fin 2) = 0 ∧
    win0_5.index (t : Fin grid0.N) (1 : Fin 2) = 0 ∧
    win0_6.index (t : Fin grid0.N) (1 : Fin 2) = 0 ∧
    win0_7.index (t : Fin grid0.N) (1 : Fin 2) = 0 ∧
    win0_8.index (t : Fin grid0.N) (1 : Fin 2) = 0 ∧
    win0_9.index (t : Fin grid0.N) (1 : Fin 2) = 0 ∧
    win0_10.index (t : Fin grid0.N) (1 : Fin 2) = 0 ∧
    win0_11.index (t : Fin grid0.N) (1 : Fin 2) = 0 := by
  decide +kernel

theorem point_out : ∀ t : Fin 16,
    win0_12.index (t : Fin grid0.N) (0 : Fin 2) = t.val ∧ win0_12.index (t : Fin grid0.N) (1 : Fin 2) = 0 ∧
    win0_13.index (t : Fin grid0.N) (0 : Fin 2) = t.val ∧ win0_13.index (t : Fin grid0.N) (1 : Fin 2) = 0 ∧
    win0_14.index (t : Fin grid0.N) (0 : Fin 5) = t.val / 2 ∧ win0_14.index (t : Fin grid0.N) (1 : Fin 5) = 0 ∧
    win0_14.index (t : Fin grid0.N) (2 : Fin 5) = t.val % 2 ∧ win0_14.index (t : Fin grid0.N) (3 : Fin 5) = 0 ∧
    win0_14.index (t : Fin grid0.N) (4 : Fin 5) = 0 := by
  decide +kernel

theorem point_read : ∀ t : Fin 16,
    win1_0.index (t : Fin grid1.N) (0 : Fin 5) = t.val / 2 ∧ win1_0.index (t : Fin grid1.N) (1 : Fin 5) = 0 ∧
    win1_0.index (t : Fin grid1.N) (2 : Fin 5) = t.val % 2 ∧ win1_0.index (t : Fin grid1.N) (3 : Fin 5) = 0 ∧
    win1_0.index (t : Fin grid1.N) (4 : Fin 5) = 0 ∧
    win1_1.index (t : Fin grid1.N) (0 : Fin 2) = t.val ∧ win1_1.index (t : Fin grid1.N) (1 : Fin 2) = 0 ∧
    win1_2.index (t : Fin grid1.N) (0 : Fin 2) = t.val ∧ win1_2.index (t : Fin grid1.N) (1 : Fin 2) = 0 ∧
    win1_3.index (t : Fin grid1.N) (0 : Fin 2) = t.val ∧ win1_3.index (t : Fin grid1.N) (1 : Fin 2) = 0 := by
  decide +kernel

/-- No two grid points leave the same block. -/
theorem apart_main : ∀ t t' : Fin grid0.N, win0_12.index t = win0_12.index t' → t = t' := by decide +kernel
theorem apart_forget : ∀ t t' : Fin grid0.N, win0_13.index t = win0_13.index t' → t = t' := by decide +kernel
theorem apart_slab : ∀ t t' : Fin grid0.N, win0_14.index t = win0_14.index t' → t = t' := by decide +kernel
theorem apart_queries : ∀ t t' : Fin grid1.N, win1_1.index t = win1_1.index t' → t = t' := by decide +kernel
theorem apart_keys : ∀ t t' : Fin grid1.N, win1_2.index t = win1_2.index t' → t = t' := by decide +kernel
theorem apart_values : ∀ t t' : Fin grid1.N, win1_3.index t = win1_3.index t' → t = t' := by decide +kernel

/-- The token of a grid point's row. -/
def tokenOf (t : Fin 16) (r : Fin 1024) : Fin 16384 := ⟨1024 * t.val + r.val, by omega⟩

/-- A token's normalised row. -/
def tokenRow (X : Vec Ideal S16384x1024 .f32) (G : Vec Ideal S1x1024 .f32) (A B : Vec Ideal S8x1x1024 .f32) (T : Fin 16384) : Fin 1024 → EReal :=
  modRow (fun k => X (ix2 T k)) (fun k => G (ix2 0 k)) (fun k => A (ix3 ⟨T.val / 2048, by omega⟩ 0 k)) (fun k => B (ix3 ⟨T.val / 2048, by omega⟩ 0 k))

/-- A token's projection. -/
def tokenProj (X : Vec Ideal S16384x1024 .f32) (G : Vec Ideal S1x1024 .f32) (A B : Vec Ideal S8x1x1024 .f32) (W : Vec Ideal S1024x5896 .f32)
    (T : Fin 16384) : ℕ → EReal := proj (tokenRow X G A B T) (weightAt W)

variable (m : (ℓ : Loc nD τ sig) → Buf (Elt Ideal) ℓ) (ρ : Dev nD → PrngReg) (c : Dev nD)

/-- The launch's projections and gains. -/
abbrev launchProj (T : Fin 16384) : ℕ → EReal :=
  tokenProj (m ((c : Thread nD τ).loc main_arg0)) (m ((c : Thread nD τ).loc main_arg1)) (m ((c : Thread nD τ).loc main_arg2))
    (m ((c : Thread nD τ).loc main_arg3)) (m ((c : Thread nD τ).loc main_arg4)) T
abbrev launchGain : ℕ → EReal := gainAt (m ((c : Thread nD τ).loc main_arg5))

theorem rows_in (t : Fin 16) (r k : Fin 1024) :
    iblk0 (V3 m ρ) c 0 t (ix2 r k) = m ((c : Thread nD τ).loc main_arg0) (ix2 (tokenOf t r) k) := by
  obtain ⟨e0, e1, _⟩ := point_in t
  show V3 m ρ c main_arg0 (((cfg0.win 0).blk t).view.emb (ix2 r k)) = _
  rw [show V3 m ρ c main_arg0 = m ((c : Thread nD τ).loc main_arg0) from W3_args m ρ c main_arg0 (by decide)]
  refine congrArg (m ((c : Thread nD τ).loc main_arg0)) (funext fun a => Fin.ext ?_)
  match a with
  | ⟨0, _⟩ => show win0_0.index t (0 : Fin 2) * 1024 + 1 * r.val = 1024 * t.val + r.val; omega
  | ⟨1, _⟩ => show win0_0.index t (1 : Fin 2) * 1024 + 1 * k.val = k.val; omega

theorem scale_in (t : Fin 16) (k : Fin 1024) :
    iblk0 (V3 m ρ) c 1 t (ix2 0 k) = m ((c : Thread nD τ).loc main_arg1) (ix2 0 k) := by
  obtain ⟨_, _, e0, e1, _⟩ := point_in t
  show V3 m ρ c main_arg1 (((cfg0.win 1).blk t).view.emb (ix2 0 k)) = _
  rw [show V3 m ρ c main_arg1 = m ((c : Thread nD τ).loc main_arg1) from W3_args m ρ c main_arg1 (by decide)]
  refine congrArg (m ((c : Thread nD τ).loc main_arg1)) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem sc_in (t : Fin 16) (r k : Fin 1024) :
    iblk0 (V3 m ρ) c 2 t (ix3 0 0 k) = m ((c : Thread nD τ).loc main_arg2) (ix3 ⟨(tokenOf t r).val / 2048, by omega⟩ 0 k) := by
  obtain ⟨_, _, _, _, e0, e1, e2, _⟩ := point_in t
  show V3 m ρ c main_arg2 (((cfg0.win 2).blk t).view.emb (ix3 0 0 k)) = _
  rw [show V3 m ρ c main_arg2 = m ((c : Thread nD τ).loc main_arg2) from W3_args m ρ c main_arg2 (by decide)]
  refine congrArg (m ((c : Thread nD τ).loc main_arg2)) (funext fun a => Fin.ext ?_)
  match a with
  | ⟨0, _⟩ => show win0_2.index t (0 : Fin 3) * 1 + 1 * 0 = (1024 * t.val + r.val) / 2048; omega
  | ⟨1, _⟩ => show win0_2.index t (1 : Fin 3) * 1 + 1 * 0 = 0; omega
  | ⟨2, _⟩ => show win0_2.index t (2 : Fin 3) * 1024 + 1 * k.val = k.val; omega

theorem sh_in (t : Fin 16) (r k : Fin 1024) :
    iblk0 (V3 m ρ) c 3 t (ix3 0 0 k) = m ((c : Thread nD τ).loc main_arg3) (ix3 ⟨(tokenOf t r).val / 2048, by omega⟩ 0 k) := by
  obtain ⟨_, _, _, _, _, _, _, e0, e1, e2⟩ := point_in t
  show V3 m ρ c main_arg3 (((cfg0.win 3).blk t).view.emb (ix3 0 0 k)) = _
  rw [show V3 m ρ c main_arg3 = m ((c : Thread nD τ).loc main_arg3) from W3_args m ρ c main_arg3 (by decide)]
  refine congrArg (m ((c : Thread nD τ).loc main_arg3)) (funext fun a => Fin.ext ?_)
  match a with
  | ⟨0, _⟩ => show win0_3.index t (0 : Fin 3) * 1 + 1 * 0 = (1024 * t.val + r.val) / 2048; omega
  | ⟨1, _⟩ => show win0_3.index t (1 : Fin 3) * 1 + 1 * 0 = 0; omega
  | ⟨2, _⟩ => show win0_3.index t (2 : Fin 3) * 1024 + 1 * k.val = k.val; omega

/-- A window that is the whole array holds the array. -/
theorem gates_in (t : Fin 16) : iblk0 (V3 m ρ) c 4 t = V3 m ρ c main_v8 := by
  refine funext fun (y : S1024x2048.Idx) => ?_
  show V3 m ρ c main_v8 (((cfg0.win 4).blk t).view.emb y) = _
  refine congrArg (V3 m ρ c main_v8) (funext fun a => Fin.ext ?_)
  match a with
  | ⟨0, _⟩ => show win0_4.index t (0 : Fin 2) * 1024 + 1 * (y 0).val = (y 0).val; have := (point_first t).1; omega
  | ⟨1, _⟩ => show win0_4.index t (1 : Fin 2) * 2048 + 1 * (y 1).val = (y 1).val; have := (point_second t).1; omega
theorem fox_in (t : Fin 16) : iblk0 (V3 m ρ) c 5 t = V3 m ρ c main_v9 := by
  refine funext fun (y : S1024x1536.Idx) => ?_
  show V3 m ρ c main_v9 (((cfg0.win 5).blk t).view.emb y) = _
  refine congrArg (V3 m ρ c main_v9) (funext fun a => Fin.ext ?_)
  match a with
  | ⟨0, _⟩ => show win0_5.index t (0 : Fin 2) * 1024 + 1 * (y 0).val = (y 0).val; have := (point_first t).2.1; omega
  | ⟨1, _⟩ => show win0_5.index t (1 : Fin 2) * 1536 + 1 * (y 1).val = (y 1).val; have := (point_second t).2.1; omega
theorem dilQ_in (t : Fin 16) : iblk0 (V3 m ρ) c 6 t = V3 m ρ c main_v10 := by
  refine funext fun (y : S1024x768.Idx) => ?_
  show V3 m ρ c main_v10 (((cfg0.win 6).blk t).view.emb y) = _
  refine congrArg (V3 m ρ c main_v10) (funext fun a => Fin.ext ?_)
  match a with
  | ⟨0, _⟩ => show win0_6.index t (0 : Fin 2) * 1024 + 1 * (y 0).val = (y 0).val; have := (point_first t).2.2.1; omega
  | ⟨1, _⟩ => show win0_6.index t (1 : Fin 2) * 768 + 1 * (y 1).val = (y 1).val; have := (point_second t).2.2.1; omega
theorem dilK_in (t : Fin 16) : iblk0 (V3 m ρ) c 7 t = V3 m ρ c main_v11 := by
  refine funext fun (y : S1024x768.Idx) => ?_
  show V3 m ρ c main_v11 (((cfg0.win 7).blk t).view.emb y) = _
  refine congrArg (V3 m ρ c main_v11) (funext fun a => Fin.ext ?_)
  match a with
  | ⟨0, _⟩ => show win0_7.index t (0 : Fin 2) * 1024 + 1 * (y 0).val = (y 0).val; have := (point_first t).2.2.2.1; omega
  | ⟨1, _⟩ => show win0_7.index t (1 : Fin 2) * 768 + 1 * (y 1).val = (y 1).val; have := (point_second t).2.2.2.1; omega
theorem dilV_in (t : Fin 16) : iblk0 (V3 m ρ) c 8 t = V3 m ρ c main_v12 := by
  refine funext fun (y : S1024x768.Idx) => ?_
  show V3 m ρ c main_v12 (((cfg0.win 8).blk t).view.emb y) = _
  refine congrArg (V3 m ρ c main_v12) (funext fun a => Fin.ext ?_)
  match a with
  | ⟨0, _⟩ => show win0_8.index t (0 : Fin 2) * 1024 + 1 * (y 0).val = (y 0).val; have := (point_first t).2.2.2.2.1; omega
  | ⟨1, _⟩ => show win0_8.index t (1 : Fin 2) * 768 + 1 * (y 1).val = (y 1).val; have := (point_second t).2.2.2.2.1; omega
theorem forget_in (t : Fin 16) : iblk0 (V3 m ρ) c 9 t = V3 m ρ c main_v13 := by
  refine funext fun (y : S1024x256.Idx) => ?_
  show V3 m ρ c main_v13 (((cfg0.win 9).blk t).view.emb y) = _
  refine congrArg (V3 m ρ c main_v13) (funext fun a => Fin.ext ?_)
  match a with
  | ⟨0, _⟩ => show win0_9.index t (0 : Fin 2) * 1024 + 1 * (y 0).val = (y 0).val; have := (point_first t).2.2.2.2.2.1; omega
  | ⟨1, _⟩ => show win0_9.index t (1 : Fin 2) * 256 + 1 * (y 1).val = (y 1).val; have := (point_second t).2.2.2.2.2.1; omega
theorem gains_in (t : Fin 16) : iblk0 (V3 m ρ) c 10 t = m ((c : Thread nD τ).loc main_arg5) := by
  refine funext fun (y : S1x2560.Idx) => ?_
  show V3 m ρ c main_arg5 (((cfg0.win 10).blk t).view.emb y) = _
  rw [show V3 m ρ c main_arg5 = m ((c : Thread nD τ).loc main_arg5) from W3_args m ρ c main_arg5 (by decide)]
  refine congrArg (m ((c : Thread nD τ).loc main_arg5)) (funext fun a => Fin.ext ?_)
  match a with
  | ⟨0, _⟩ => show win0_10.index t (0 : Fin 2) * 1 + 1 * (y 0).val = (y 0).val; have := (point_first t).2.2.2.2.2.2.1; omega
  | ⟨1, _⟩ => show win0_10.index t (1 : Fin 2) * 2560 + 1 * (y 1).val = (y 1).val; have := (point_second t).2.2.2.2.2.2.1; omega
theorem same_in (t : Fin 16) : iblk0 (V3 m ρ) c 11 t = V3 m ρ c main_v22 := by
  refine funext fun (y : S256x256.Idx) => ?_
  show V3 m ρ c main_v22 (((cfg0.win 11).blk t).view.emb y) = _
  refine congrArg (V3 m ρ c main_v22) (funext fun a => Fin.ext ?_)
  match a with
  | ⟨0, _⟩ => show win0_11.index t (0 : Fin 2) * 256 + 1 * (y 0).val = (y 0).val; have := (point_first t).2.2.2.2.2.2.2; omega
  | ⟨1, _⟩ => show win0_11.index t (1 : Fin 2) * 256 + 1 * (y 1).val = (y 1).val; have := (point_second t).2.2.2.2.2.2.2; omega

theorem weights_in (t : Fin 16) : Weights (iblk0 (V3 m ρ) c 4 t) (iblk0 (V3 m ρ) c 5 t) (iblk0 (V3 m ρ) c 6 t) (iblk0 (V3 m ρ) c 7 t)
    (iblk0 (V3 m ρ) c 8 t) (iblk0 (V3 m ρ) c 9 t) (iblk0 (V3 m ρ) c 11 t) (weightAt (m ((c : Thread nD τ).loc main_arg4))) := by
  rw [gates_in, fox_in, dilQ_in, dilK_in, dilV_in, forget_in, same_in]
  exact entry_weights m ρ c

/-- A row's projection in a block is its token's. -/
theorem proj_in (t : Fin 16) (r : Fin 1024) :
    projRow (iblk0 (V3 m ρ) c 0 t) (iblk0 (V3 m ρ) c 1 t) (iblk0 (V3 m ρ) c 2 t) (iblk0 (V3 m ρ) c 3 t) (weightAt (m ((c : Thread nD τ).loc main_arg4))) r
      = launchProj m c (tokenOf t r) := by
  refine congrArg (fun h => proj h (weightAt (m ((c : Thread nD τ).loc main_arg4)))) ?_
  unfold rowOf tokenRow
  have e0 : (fun q => iblk0 (V3 m ρ) c 0 t (ix2 r q)) = fun q => m ((c : Thread nD τ).loc main_arg0) (ix2 (tokenOf t r) q) := funext fun q => rows_in m ρ c t r q
  have e1 : (fun q => iblk0 (V3 m ρ) c 1 t (ix2 0 q)) = fun q => m ((c : Thread nD τ).loc main_arg1) (ix2 0 q) := funext fun q => scale_in m ρ c t q
  have e2 := funext fun q => sc_in m ρ c t r q
  have e3 := funext fun q => sh_in m ρ c t r q
  rw [e0, e1, e2, e3]

theorem main_place (t : Fin 16) (r : Fin 1024) (j : Fin 3584) :
    (((cfg0.win 12).blk t).view.emb (ix2 r j) : S16384x3584.Idx) = ix2 (tokenOf t r) j := by
  obtain ⟨e0, e1, _⟩ := point_out t
  refine funext fun a => Fin.ext ?_
  match a with
  | ⟨0, _⟩ => show win0_12.index t (0 : Fin 2) * 1024 + 1 * r.val = 1024 * t.val + r.val; omega
  | ⟨1, _⟩ => show win0_12.index t (1 : Fin 2) * 3584 + 1 * j.val = j.val; omega

theorem token_cases (T : Fin 16384) : ∃ (t : Fin 16) (r : Fin 1024), T = tokenOf t r :=
  ⟨⟨T.val / 1024, by omega⟩, ⟨T.val % 1024, by omega⟩, Fin.ext (by show T.val = 1024 * (T.val / 1024) + T.val % 1024; omega)⟩

/-- THE GATES, QUERIES, KEYS AND VALUES after the first launch. -/
theorem main_array (T : Fin 16384) (j : Fin 3584) :
    (dat0 (V3 m ρ) c).arrAt 12 cfg0.N (ix2 T j) = mainAt (launchProj m c T) (launchGain m c) j.val := by
  obtain ⟨t, r, rfl⟩ := token_cases T
  have bl := congrFun ((dat0 (V3 m ρ) c).read_blk_arrAt_eq_flushed 12
    (fun t t' _ _ hne => (cfg0.win 12).disjoint_blk fun h => hne (apart_main t t' h)) cfg0.N t t.isLt (flush0_12 t)) (ix2 r j)
  have bl' : (dat0 (V3 m ρ) c).arrAt 12 cfg0.N (((cfg0.win 12).blk t).view.emb (ix2 r j)) = (dat0 (V3 m ρ) c).after 12 t (ix2 r j) := bl
  rw [show (((cfg0.win 12).blk t).view.emb (ix2 r j) : S16384x3584.Idx) = _ from main_place t r j] at bl'
  refine (bl'.trans (congrFun (after0_12 (V3 m ρ) c t) _)).trans ((main_block (weights_in m ρ c t) (ix2 r j)).trans ?_)
  show mainAt (projRow _ _ _ _ _ r) (gainAt _) j.val = _
  rw [proj_in, gains_in]

theorem forget_place (t : Fin 16) (r : Fin 1024) (j : Fin 128) :
    (((cfg0.win 13).blk t).view.emb (ix2 r j) : S16384x128.Idx) = ix2 (tokenOf t r) j := by
  obtain ⟨_, _, e0, e1, _⟩ := point_out t
  refine funext fun a => Fin.ext ?_
  match a with
  | ⟨0, _⟩ => show win0_13.index t (0 : Fin 2) * 1024 + 1 * r.val = 1024 * t.val + r.val; omega
  | ⟨1, _⟩ => show win0_13.index t (1 : Fin 2) * 128 + 1 * j.val = j.val; omega

/-- THE FORGET COLUMNS after the first launch. -/
theorem forget_array (T : Fin 16384) (j : Fin 128) :
    (dat0 (V3 m ρ) c).arrAt 13 cfg0.N (ix2 T j) = forgetAt (launchProj m c T) j.val := by
  obtain ⟨t, r, rfl⟩ := token_cases T
  have bl := congrFun ((dat0 (V3 m ρ) c).read_blk_arrAt_eq_flushed 13
    (fun t t' _ _ hne => (cfg0.win 13).disjoint_blk fun h => hne (apart_forget t t' h)) cfg0.N t t.isLt (flush0_13 t)) (ix2 r j)
  have bl' : (dat0 (V3 m ρ) c).arrAt 13 cfg0.N (((cfg0.win 13).blk t).view.emb (ix2 r j)) = (dat0 (V3 m ρ) c).after 13 t (ix2 r j) := bl
  rw [show (((cfg0.win 13).blk t).view.emb (ix2 r j) : S16384x128.Idx) = _ from forget_place t r j] at bl'
  refine (bl'.trans (congrFun (after0_13 (V3 m ρ) c t) _)).trans ((forget_block (weights_in m ρ c t) r j).trans ?_)
  rw [proj_in]

/-- The batch entry and the position of a token. -/
def batchOf (T : Fin 16384) : Fin 8 := ⟨T.val / 2048, by omega⟩
def placeOf (T : Fin 16384) : Fin 2048 := ⟨T.val % 2048, by omega⟩

theorem slab_place (t : Fin 16) (s : Fin 9) (r : Fin 1024) (u : Fin 2) (d : Fin 128) :
    (((cfg0.win 14).blk t).view.emb (ix5 0 s r u d) : S8x9x2048x2x128.Idx) = ix5 (batchOf (tokenOf t r)) s (placeOf (tokenOf t r)) u d := by
  obtain ⟨_, _, _, _, e0, e1, e2, e3, e4⟩ := point_out t
  refine funext fun a => Fin.ext ?_
  match a with
  | ⟨0, _⟩ => show win0_14.index t (0 : Fin 5) * 1 + 1 * 0 = (1024 * t.val + r.val) / 2048; omega
  | ⟨1, _⟩ => show win0_14.index t (1 : Fin 5) * 9 + 1 * s.val = s.val; omega
  | ⟨2, _⟩ => show win0_14.index t (2 : Fin 5) * 1024 + 1 * r.val = (1024 * t.val + r.val) % 2048; omega
  | ⟨3, _⟩ => show win0_14.index t (3 : Fin 5) * 2 + 1 * u.val = u.val; omega
  | ⟨4, _⟩ => show win0_14.index t (4 : Fin 5) * 128 + 1 * d.val = d.val; omega

/-- THE SLABS after the first launch. -/
theorem slab_array (T : Fin 16384) (s : Fin 9) (u : Fin 2) (d : Fin 128) :
    (dat0 (V3 m ρ) c).arrAt 14 cfg0.N (ix5 (batchOf T) s (placeOf T) u d) = slabAt (launchProj m c T) (launchGain m c) s.val u.val d.val := by
  obtain ⟨t, r, rfl⟩ := token_cases T
  have bl := congrFun ((dat0 (V3 m ρ) c).read_blk_arrAt_eq_flushed 14
    (fun t t' _ _ hne => (cfg0.win 14).disjoint_blk fun h => hne (apart_slab t t' h)) cfg0.N t t.isLt (flush0_14 t)) (ix5 0 s r u d)
  have bl' : (dat0 (V3 m ρ) c).arrAt 14 cfg0.N (((cfg0.win 14).blk t).view.emb (ix5 0 s r u d)) = (dat0 (V3 m ρ) c).after 14 t (ix5 0 s r u d) := bl
  rw [show (((cfg0.win 14).blk t).view.emb (ix5 0 s r u d) : S8x9x2048x2x128.Idx) = _ from slab_place t s r u d] at bl'
  refine (bl'.trans (congrFun (after0_14 (V3 m ρ) c t) _)).trans ((slab_block (weights_in m ρ c t) (ix5 0 s r u d)).trans ?_)
  show slabAt (projRow _ _ _ _ _ r) (gainAt _) s.val u.val d.val = _
  rw [proj_in, gains_in]

/-- The second launch's block of slabs. -/
theorem slab_in (t : Fin 16) (s : Fin 9) (r : Fin 1024) (u : Fin 2) (d : Fin 128) :
    iblk1 (V4 m ρ) c 0 t (ix5 0 s r u d) = slabAt (launchProj m c (tokenOf t r)) (launchGain m c) s.val u.val d.val := by
  refine Eq.trans ?_ (slab_array m ρ c (tokenOf t r) s u d)
  obtain ⟨e0, e1, e2, e3, e4, _⟩ := point_read t
  show V4 m ρ c main_v23_2 (((cfg1.win 0).blk t).view.emb (ix5 0 s r u d)) = _
  rw [show V4 m ρ c main_v23_2 = (dat0 (V3 m ρ) c).arrAt 14 cfg0.N from W4_arr m ρ c 14]
  refine congrArg ((dat0 (V3 m ρ) c).arrAt 14 cfg0.N) (funext fun a => Fin.ext ?_)
  match a with
  | ⟨0, _⟩ => show win1_0.index t (0 : Fin 5) * 1 + 1 * 0 = (1024 * t.val + r.val) / 2048; omega
  | ⟨1, _⟩ => show win1_0.index t (1 : Fin 5) * 9 + 1 * s.val = s.val; omega
  | ⟨2, _⟩ => show win1_0.index t (2 : Fin 5) * 1024 + 1 * r.val = (1024 * t.val + r.val) % 2048; omega
  | ⟨3, _⟩ => show win1_0.index t (3 : Fin 5) * 2 + 1 * u.val = u.val; omega
  | ⟨4, _⟩ => show win1_0.index t (4 : Fin 5) * 128 + 1 * d.val = d.val; omega

/-- The slabs' queries and keys read back, and the values. -/
theorem rows_read (t : Fin 16) (u : Fin 2) (r : Fin 1024) (j : Fin 768) :
    rowsRead (iblk1 (V4 m ρ) c 0 t) u (ix2 r j) = if u.val = 0 then dilQAt (launchProj m c (tokenOf t r)) (launchGain m c) j.val
      else dilKAt (launchProj m c (tokenOf t r)) (launchGain m c) j.val := by
  have hj := j.isLt
  refine (slab_in m ρ c t ⟨3 * (j.val / 256) + j.val / 128 % 2, by omega⟩ r u ⟨j.val % 128, by omega⟩).trans ?_
  unfold slabAt
  rw [if_neg (by show ¬ (3 * (j.val / 256) + j.val / 128 % 2) % 3 = 2; omega)]
  rw [show 256 * ((3 * (j.val / 256) + j.val / 128 % 2) / 3) + (128 * ((3 * (j.val / 256) + j.val / 128 % 2) % 3) + j.val % 128) = j.val by omega]

theorem values_read (t : Fin 16) (r : Fin 1024) (j : Fin 768) :
    valuesRead (iblk1 (V4 m ρ) c 0 t) (ix2 r j) = dilVAt (launchProj m c (tokenOf t r)) j.val := by
  have hj := j.isLt
  refine (slab_in m ρ c t ⟨3 * (j.val / 256) + 2, by omega⟩ r ⟨j.val / 128 % 2, by omega⟩ ⟨j.val % 128, by omega⟩).trans ?_
  unfold slabAt
  rw [if_pos (by show (3 * (j.val / 256) + 2) % 3 = 2; omega)]
  rw [show 256 * ((3 * (j.val / 256) + 2) / 3) + (128 * (j.val / 128 % 2) + j.val % 128) = j.val by omega]

theorem queries_place (t : Fin 16) (r : Fin 1024) (j : Fin 768) :
    (((cfg1.win 1).blk t).view.emb (ix2 r j) : S16384x768.Idx) = ix2 (tokenOf t r) j := by
  obtain ⟨_, _, _, _, _, e0, e1, _⟩ := point_read t
  refine funext fun a => Fin.ext ?_
  match a with
  | ⟨0, _⟩ => show win1_1.index t (0 : Fin 2) * 1024 + 1 * r.val = 1024 * t.val + r.val; omega
  | ⟨1, _⟩ => show win1_1.index t (1 : Fin 2) * 768 + 1 * j.val = j.val; omega
theorem keys_place (t : Fin 16) (r : Fin 1024) (j : Fin 768) :
    (((cfg1.win 2).blk t).view.emb (ix2 r j) : S16384x768.Idx) = ix2 (tokenOf t r) j := by
  obtain ⟨_, _, _, _, _, _, _, e0, e1, _⟩ := point_read t
  refine funext fun a => Fin.ext ?_
  match a with
  | ⟨0, _⟩ => show win1_2.index t (0 : Fin 2) * 1024 + 1 * r.val = 1024 * t.val + r.val; omega
  | ⟨1, _⟩ => show win1_2.index t (1 : Fin 2) * 768 + 1 * j.val = j.val; omega
theorem values_place (t : Fin 16) (r : Fin 1024) (j : Fin 768) :
    (((cfg1.win 3).blk t).view.emb (ix2 r j) : S16384x768.Idx) = ix2 (tokenOf t r) j := by
  obtain ⟨_, _, _, _, _, _, _, _, _, e0, e1⟩ := point_read t
  refine funext fun a => Fin.ext ?_
  match a with
  | ⟨0, _⟩ => show win1_3.index t (0 : Fin 2) * 1024 + 1 * r.val = 1024 * t.val + r.val; omega
  | ⟨1, _⟩ => show win1_3.index t (1 : Fin 2) * 768 + 1 * j.val = j.val; omega

/-- THE DILATED ATTENTION'S QUERIES after the second launch. -/
theorem queries_array (T : Fin 16384) (j : Fin 768) :
    (dat1 (V4 m ρ) c).arrAt 1 cfg1.N (ix2 T j) = dilQAt (launchProj m c T) (launchGain m c) j.val := by
  obtain ⟨t, r, rfl⟩ := token_cases T
  have bl := congrFun ((dat1 (V4 m ρ) c).read_blk_arrAt_eq_flushed 1
    (fun t t' _ _ hne => (cfg1.win 1).disjoint_blk fun h => hne (apart_queries t t' h)) cfg1.N t t.isLt (flush1_1 t)) (ix2 r j)
  have bl' : (dat1 (V4 m ρ) c).arrAt 1 cfg1.N (((cfg1.win 1).blk t).view.emb (ix2 r j)) = (dat1 (V4 m ρ) c).after 1 t (ix2 r j) := bl
  rw [show (((cfg1.win 1).blk t).view.emb (ix2 r j) : S16384x768.Idx) = _ from queries_place t r j] at bl'
  exact (bl'.trans (congrFun (after1_1 (V4 m ρ) c t) _)).trans ((queries_block _ (ix2 r j)).trans (rows_read m ρ c t 0 r j))

/-- THE KEYS. -/
theorem keys_array (T : Fin 16384) (j : Fin 768) :
    (dat1 (V4 m ρ) c).arrAt 2 cfg1.N (ix2 T j) = dilKAt (launchProj m c T) (launchGain m c) j.val := by
  obtain ⟨t, r, rfl⟩ := token_cases T
  have bl := congrFun ((dat1 (V4 m ρ) c).read_blk_arrAt_eq_flushed 2
    (fun t t' _ _ hne => (cfg1.win 2).disjoint_blk fun h => hne (apart_keys t t' h)) cfg1.N t t.isLt (flush1_2 t)) (ix2 r j)
  have bl' : (dat1 (V4 m ρ) c).arrAt 2 cfg1.N (((cfg1.win 2).blk t).view.emb (ix2 r j)) = (dat1 (V4 m ρ) c).after 2 t (ix2 r j) := bl
  rw [show (((cfg1.win 2).blk t).view.emb (ix2 r j) : S16384x768.Idx) = _ from keys_place t r j] at bl'
  exact (bl'.trans (congrFun (after1_2 (V4 m ρ) c t) _)).trans ((keys_block _ (ix2 r j)).trans (rows_read m ρ c t 1 r j))

/-- THE VALUES. -/
theorem values_array (T : Fin 16384) (j : Fin 768) :
    (dat1 (V4 m ρ) c).arrAt 3 cfg1.N (ix2 T j) = dilVAt (launchProj m c T) j.val := by
  obtain ⟨t, r, rfl⟩ := token_cases T
  have bl := congrFun ((dat1 (V4 m ρ) c).read_blk_arrAt_eq_flushed 3
    (fun t t' _ _ hne => (cfg1.win 3).disjoint_blk fun h => hne (apart_values t t' h)) cfg1.N t t.isLt (flush1_3 t)) (ix2 r j)
  have bl' : (dat1 (V4 m ρ) c).arrAt 3 cfg1.N (((cfg1.win 3).blk t).view.emb (ix2 r j)) = (dat1 (V4 m ρ) c).after 3 t (ix2 r j) := bl
  rw [show (((cfg1.win 3).blk t).view.emb (ix2 r j) : S16384x768.Idx) = _ from values_place t r j] at bl'
  exact (bl'.trans (congrFun (after1_3 (V4 m ρ) c t) _)).trans ((values_block _ (ix2 r j)).trans (values_read m ρ c t r j))

end Cert.Proof.In
end
-- ==== Proof.InRef.lean ====
/- WHAT THE REFERENCE OF THE INPUT PROJECTION COMPUTES. Its product is, at batch entry `b`, token `r` and column `n`, the
   normalised row of token `2048 b + r` times column `n` of the weights; each result is read from it at the columns of its part. -/
module

public import Idealize.ShloMosaic.Lib.KernelVsHost
public import proofs.«01_k».proof.Proof.HostRows
public import proofs.«01_k».proof.Proof.InArray
public import proofs.«01_k».proof.Proof.Gen.InProjRefIdeal.Read

@[expose] public section

set_option maxRecDepth 16384

noncomputable section

namespace Cert.Proof.In

open Idealize.ShloMosaic Idealize.ShloMosaic.TcCoe Idealize.ShloMosaic.ValueIdx Cert.InProjRefIdeal Cert.InProjRefIdeal.Gen Cert.InProjRefIdeal.Read

/-- The shape facts of the reference's normalisations. -/
theorem modFacts : ModFacts := ⟨h_S_, reducesTo_S8x2048x1024_S8x2048_d2, by decide, bcast_S8x2048_S8x2048x1_0_1, bcast_S_S8x2048x1,
  bcast_S8x2048x1_S8x2048x1024_0_1_2, bcast_S1x1024_S1x1x1024_1_2, bcast_S1x1x1024_S8x2048x1024_0_1_2, bcast_S_S8x1x1024, bcast_S8x1x1024_S8x2048x1024_0_1_2⟩
theorem foxHeads : HeadFacts 8 512 := ⟨rfl, h_S_, shapeCasts_S8x2048x512_S8x2048x8x64, reducesTo_S8x2048x8x64_S8x2048x8_d3, by decide,
  bcast_S8x2048x8_S8x2048x8x1_0_1_2, bcast_S_S8x2048x8x1, bcast_S8x2048x8x1_S8x2048x8x64_0_1_2_3, shapeCasts_S1x512_S8x64, bcast_S8x64_S1x1x8x64_2_3,
  bcast_S1x1x8x64_S8x2048x8x64_0_1_2_3, shapeCasts_S8x2048x8x64_S16384x512⟩
theorem dilHeads : HeadFacts 12 768 := ⟨rfl, h_S_, shapeCasts_S8x2048x768_S8x2048x12x64, reducesTo_S8x2048x12x64_S8x2048x12_d3, by decide,
  bcast_S8x2048x12_S8x2048x12x1_0_1_2, bcast_S_S8x2048x12x1, bcast_S8x2048x12x1_S8x2048x12x64_0_1_2_3, shapeCasts_S1x768_S12x64, bcast_S12x64_S1x1x12x64_2_3,
  bcast_S1x1x12x64_S8x2048x12x64_0_1_2_3, shapeCasts_S8x2048x12x64_S16384x768⟩

variable (x0 : Vec Ideal S16384x1024 .f32) (x1 : Vec Ideal S1x1024 .f32) (x2 x3 : Vec Ideal S8x1x1024 .f32) (x4 : Vec Ideal S1024x5896 .f32) (x5 : Vec Ideal S1x2560 .f32)

/-- The normalised rows. -/
theorem rows_reference (T : Fin 16384) (b : Fin 8) (r : Fin 2048) (hb : b.val = T.val / 2048) (hr : r.val = T.val % 2048) (k : Fin 1024) :
    val_main_v19 (F := Ideal) x0 x1 x2 x3 (ix3 b r k) = tokenRow x0 x1 x2 x3 T k := by
  have e : val_main_v19 (F := Ideal) x0 x1 x2 x3 = modHost modFacts (val_main_v0 (F := Ideal) x0) x1 x2 x3 := rfl
  rw [e]
  refine (modHost_at modFacts _ x1 x2 x3 b r k).trans ?_
  have hB : b = ⟨T.val / 2048, by omega⟩ := Fin.ext hb
  have e0 : (fun q => val_main_v0 (F := Ideal) x0 (ix3 b r q)) = fun q => x0 (ix2 T q) := funext fun q =>
    entries_at x0 shapeCasts_S16384x1024_S8x2048x1024 T b r (by omega) q
  unfold tokenRow
  rw [e0, ← hB]

/-- THE PRODUCT at an index. -/
theorem product_reference (T : Fin 16384) (b : Fin 8) (r : Fin 2048) (hb : b.val = T.val / 2048) (hr : r.val = T.val % 2048) (n : Fin 5896) :
    val_main_v20 (F := Ideal) x0 x1 x2 x3 x4 (ix3 b r n) = tokenProj x0 x1 x2 x3 x4 T n.val := by
  rw [val_main_v20_apply]
  show _ = ∑ k : Fin 1024, (tokenRow x0 x1 x2 x3 T k * weightAt x4 k n.val : EReal)
  refine Finset.sum_congr rfl fun k _ => ?_
  have el : lidx_main_v20 (ix3 b r n) k = ix3 b r k := funext fun a => match a with | ⟨0, _⟩ => rfl | ⟨1, _⟩ => rfl | ⟨2, _⟩ => rfl
  have er : ridx_main_v20 (ix3 b r n) k = ix2 k n := funext fun a => match a with | ⟨0, _⟩ => rfl | ⟨1, _⟩ => rfl
  rw [el, er, rows_reference x0 x1 x2 x3 T b r hb hr k]
  have ew : x4 (ix2 k n) = weightAt x4 k n.val := by
    unfold weightAt
    rw [dif_pos n.isLt]
  exact congrArg (fun w : EReal => tokenRow x0 x1 x2 x3 T k * w) ew

variable (Y : FVec Ideal (Cube 8 2048 5896) .f32) (a : Fin 16384 → ℕ → EReal)

/-- A part of the projection in heads, normalised, at an index. -/
theorem heads_reference {H n o og : ℕ} (f : HeadFacts H n) (hY : ∀ (T : Fin 16384) (b : Fin 8) (r : Fin 2048), b.val = T.val / 2048 → r.val = T.val % 2048 → ∀ k : Fin 5896, Y (ix3 b r k) = a T k.val)
    (hs : (Cube 8 2048 5896).Slices ![0, 0, o] (Cube 8 2048 n)) (hg : (Mat 1 2560).Slices ![0, og] (Mat 1 n)) (T : Fin 16384) (j : Fin n) :
    headsHost f (extractStridedSlice (Cube 8 2048 n) ![0, 0, o] Y hs) (extractStridedSlice (Mat 1 n) ![0, og] x5 hg) (ix2 T j)
      = normAt (fun q => a T (o + q)) j.val (gainAt x5 (og + j.val)) := by
  have ho : o + n ≤ 5896 := hs.2 2
  have hog : og + n ≤ 2560 := hg.2 1
  have hj := j.isLt
  refine (headsHost_at f _ _ T j).trans ?_
  unfold normAt gainAt
  rw [dif_pos (by omega : og + j.val < 2560)]
  refine congrArg₂ (fun p q => headNorm p ⟨j.val % 64, _⟩ q) (funext fun e => ?_) ?_
  · have he := head_cell f ⟨j.val / 64, head_of f j⟩ e
    exact (part_at Y hs _ _ _ ⟨o + (64 * (j.val / 64) + e.val), by have : 64 * (j.val / 64) + e.val < n := he; omega⟩ rfl).trans (hY T _ _ rfl rfl _)
  · exact slice_at x5 hg 0 j 0 ⟨og + j.val, by omega⟩ rfl rfl

/-- A part of the projection as it is, at an index. -/
theorem plain_reference {n o : ℕ} (hY : ∀ (T : Fin 16384) (b : Fin 8) (r : Fin 2048), b.val = T.val / 2048 → r.val = T.val % 2048 → ∀ k : Fin 5896, Y (ix3 b r k) = a T k.val)
    (hs : (Cube 8 2048 5896).Slices ![0, 0, o] (Cube 8 2048 n)) (hc : (Cube 8 2048 n).ShapeCasts (Mat 16384 n)) (T : Fin 16384) (j : Fin n) :
    shapeCast (Mat 16384 n) (extractStridedSlice (Cube 8 2048 n) ![0, 0, o] Y hs) hc (ix2 T j) = a T (o + j.val) := by
  have ho : o + n ≤ 5896 := hs.2 2
  have hj := j.isLt
  exact (tokens_at _ hc T j).trans ((part_at Y hs _ _ j ⟨o + j.val, by omega⟩ rfl).trans (hY T _ _ rfl rfl _))

/-- The gates at an index. -/
theorem gates_reference (T : Fin 16384) (j : Fin 2048) :
    val_main_v114 (F := Ideal) x0 x1 x2 x3 x4 (ix2 T j) = Ideal.logistic (tokenProj x0 x1 x2 x3 x4 T (gateA + j.val)) := by
  have hj := j.isLt
  have e := (part_at (val_main_v20 (F := Ideal) x0 x1 x2 x3 x4) slices_S8x2048x5896_S8x2048x2048_0_0_3848 ⟨T.val / 2048, by omega⟩ ⟨T.val % 2048, by omega⟩ j
    ⟨gateA + j.val, by show 3848 + j.val < 5896; omega⟩ rfl).trans (product_reference x0 x1 x2 x3 x4 T _ _ rfl rfl _)
  refine (tokens_at (val_main_v112 (F := Ideal) x0 x1 x2 x3 x4) shapeCasts_S8x2048x2048_S16384x2048 T j).trans ?_
  show Ideal.div (Ideal.ofBits .f32 0x3F800000#32) (Ideal.ofBits .f32 0x3F800000#32 + Ideal.exp (- val_main_v106 (F := Ideal) x0 x1 x2 x3 x4 _)) = _
  rw [Ideal.ofBits_one_f32]
  unfold Ideal.logistic
  exact congrArg (fun z => Ideal.div 1 (1 + Ideal.exp (-z))) e

/-- The forget columns at an index. -/
theorem forget_reference (T : Fin 16384) (j : Fin 128) :
    val_main_v64 (F := Ideal) x0 x1 x2 x3 x4 (ix2 T j) = forgetAt (tokenProj x0 x1 x2 x3 x4 T) j.val := by
  have hj := j.isLt
  unfold val_main_v64 forgetAt
  by_cases h : j.val < 8
  · rw [if_pos h]
    refine (pad_apply_of_inside _ _ _ _ _ pads_S16384x8_S16384x128_000_01200 h_S_ (ix2 T j) (ix2 T ⟨j.val, h⟩) (fun a => match a with
      | ⟨0, _⟩ => by show T.val = 0 + T.val * 1; omega
      | ⟨1, _⟩ => by show j.val = 0 + j.val * 1; omega)).trans ?_
    exact plain_reference (val_main_v20 (F := Ideal) x0 x1 x2 x3 x4) (tokenProj x0 x1 x2 x3 x4)
      (product_reference x0 x1 x2 x3 x4) slices_S8x2048x5896_S8x2048x8_0_0_1536 shapeCasts_S8x2048x8_S16384x8 T ⟨j.val, h⟩
  · rw [if_neg h]
    refine (pad_apply_of_not_inside _ _ _ _ _ pads_S16384x8_S16384x128_000_01200 h_S_ (ix2 T j) 1 (fun hin => ?_)).trans ?_
    · have h' : (j.val - 0) / (0 + 1) < 8 := hin.2.2
      omega
    · show (((0#32 : BitVec 32).toInt : ℝ) : EReal) = 0
      simp

/-- The dilated attention's queries, keys and values at an index. -/
theorem dilQ_reference (T : Fin 16384) (j : Fin 768) :
    val_main_v83 (F := Ideal) x0 x1 x2 x3 x4 x5 (ix2 T j) = dilQAt (tokenProj x0 x1 x2 x3 x4 T) (gainAt x5) j.val :=
  heads_reference x5 (val_main_v20 (F := Ideal) x0 x1 x2 x3 x4) (tokenProj x0 x1 x2 x3 x4) dilHeads (product_reference x0 x1 x2 x3 x4)
    slices_S8x2048x5896_S8x2048x768_0_0_1544 slices_S1x2560_S1x768_0_1024 T j
theorem dilK_reference (T : Fin 16384) (j : Fin 768) :
    val_main_v102 (F := Ideal) x0 x1 x2 x3 x4 x5 (ix2 T j) = dilKAt (tokenProj x0 x1 x2 x3 x4 T) (gainAt x5) j.val :=
  heads_reference x5 (val_main_v20 (F := Ideal) x0 x1 x2 x3 x4) (tokenProj x0 x1 x2 x3 x4) dilHeads (product_reference x0 x1 x2 x3 x4)
    slices_S8x2048x5896_S8x2048x768_0_0_2312 slices_S1x2560_S1x768_0_1792 T j
theorem dilV_reference (T : Fin 16384) (j : Fin 768) :
    val_main_v105 (F := Ideal) x0 x1 x2 x3 x4 (ix2 T j) = dilVAt (tokenProj x0 x1 x2 x3 x4 T) j.val :=
  plain_reference (val_main_v20 (F := Ideal) x0 x1 x2 x3 x4) (tokenProj x0 x1 x2 x3 x4) (product_reference x0 x1 x2 x3 x4)
    slices_S8x2048x5896_S8x2048x768_0_0_3080 shapeCasts_S8x2048x768_S16384x768 T j

/-- The gates, queries, keys and values side by side, at an index. -/
theorem main_reference (T : Fin 16384) (j : Fin 3584) :
    val_main_v115 (F := Ideal) x0 x1 x2 x3 x4 x5 (ix2 T j) = mainAt (tokenProj x0 x1 x2 x3 x4 T) (gainAt x5) j.val := by
  have hj := j.isLt
  have side : ∀ {n : ℕ} (b : Fin 2) (j' : Fin n), b.cast (rfl : (Mat 16384 n).rank = S16384x3584.rank) ≠ 1 →
      ((ix2 T j' : (Mat 16384 n).Idx) b).val = ((ix2 T j : S16384x3584.Idx) b).val := fun b j' hb => match b with
    | ⟨0, _⟩ => rfl
    | ⟨1, _⟩ => absurd rfl hb
  unfold val_main_v115 mainAt
  by_cases h0 : j.val < 2048
  · rw [if_pos h0]
    exact (concatenate_apply_piece (t := S16384x3584) 1 _ _ (ix2 T j) 0 (by show 0 < 4; omega)
      S16384x2048 _ rfl rfl 0 rfl (ix2 T ⟨j.val, h0⟩) (fun b hb => side b _ hb) (Nat.zero_add _)).trans (gates_reference x0 x1 x2 x3 x4 T ⟨j.val, h0⟩)
  · rw [if_neg h0]
    by_cases h1 : j.val < 2560
    · rw [if_pos (by omega : j.val < 3072)]
      exact (concatenate_apply_piece (t := S16384x3584) 1 _ _ (ix2 T j) 1 (by show 1 < 4; omega)
        S16384x512 _ rfl rfl 2048 rfl (ix2 T ⟨j.val - 2048, by omega⟩) (fun b hb => side b _ hb) (by show 2048 + (j.val - 2048) = j.val; omega)).trans
        ((heads_reference x5 (val_main_v20 (F := Ideal) x0 x1 x2 x3 x4) (tokenProj x0 x1 x2 x3 x4) foxHeads (product_reference x0 x1 x2 x3 x4)
          slices_S8x2048x5896_S8x2048x512_0_0_0 slices_S1x2560_S1x512_0_0 T ⟨j.val - 2048, by omega⟩).trans (by
            show normAt _ _ (gainAt x5 (0 + (j.val - 2048))) = _
            rw [Nat.zero_add]))
    · by_cases h2 : j.val < 3072
      · rw [if_pos h2]
        refine (concatenate_apply_piece (t := S16384x3584) 1 _ _ (ix2 T j) 2 (by show 2 < 4; omega)
          S16384x512 _ rfl rfl 2560 rfl (ix2 T ⟨j.val - 2560, by omega⟩) (fun b hb => side b _ hb) (by show 2560 + (j.val - 2560) = j.val; omega)).trans
          ((heads_reference x5 (val_main_v20 (F := Ideal) x0 x1 x2 x3 x4) (tokenProj x0 x1 x2 x3 x4) foxHeads (product_reference x0 x1 x2 x3 x4)
            slices_S8x2048x5896_S8x2048x512_0_0_512 slices_S1x2560_S1x512_0_512 T ⟨j.val - 2560, by omega⟩).trans ?_)
        have hm : (j.val - 2560) % 64 = (j.val - 2048) % 64 := by omega
        have hd : ∀ e : ℕ, 512 + (64 * ((j.val - 2560) / 64) + e) = foxQ + (64 * ((j.val - 2048) / 64) + e) := fun e => by show _ = 0 + _; omega
        have hq : 512 + (j.val - 2560) = j.val - 2048 := by omega
        unfold normAt
        simp only [hm, hd, hq]
      · rw [if_neg h2]
        exact (concatenate_apply_piece (t := S16384x3584) 1 _ _ (ix2 T j) 3 (by show 3 < 4; omega)
          S16384x512 _ rfl rfl 3072 rfl (ix2 T ⟨j.val - 3072, by omega⟩) (fun b hb => side b _ hb) (by show 3072 + (j.val - 3072) = j.val; omega)).trans
          ((plain_reference (val_main_v20 (F := Ideal) x0 x1 x2 x3 x4) (tokenProj x0 x1 x2 x3 x4) (product_reference x0 x1 x2 x3 x4)
            slices_S8x2048x5896_S8x2048x512_0_0_1024 shapeCasts_S8x2048x512_S16384x512 T ⟨j.val - 3072, by omega⟩).trans
            (congrArg (tokenProj x0 x1 x2 x3 x4 T) (by show 1024 + (j.val - 3072) = 0 + (j.val - 2048); omega)))

end Cert.Proof.In
end
-- ==== Proof.InEq.lean ====
/- THE INPUT PROJECTION AND ITS REFERENCE end with the same five arrays: each element of each is the same expression of the
   arguments, read from the launches in Proof/InArray.lean and from the reference in Proof/InRef.lean. -/
module

public import proofs.«01_k».proof.Defs
public import proofs.«01_k».proof.Proof.InRun
public import proofs.«01_k».proof.Proof.InRef
public import proofs.«01_k».proof.Proof.Gen.InProjRefIdeal.Run
public import Idealize.ShloMosaic.Lib.Bf16Pair
public import Idealize.ShloMosaic.Lib.Bf16PairInverse
public import Idealize.ShloMosaic.Lib.Quiescent

@[expose] public section

noncomputable section

namespace Cert.Proof.In

open Idealize.ShloMosaic Idealize.ShloMosaic.TcCoe Idealize.ShloMosaic.ValueIdx Idealize.SL.Sem

theorem algebraic : Cert.algebraic_InProjIdeal_InProjRefIdeal := by
  intro m ρ m' ρ' hpre hagree
  refine ⟨_, _, _, _, _, Cert.Proof.In.run_results (F := Ideal) m ρ, ?_⟩
  refine (θ_run Cert.InProjRefIdeal.defs _ _).mono (fun _ h c => ⟨(h c).1.trans ?_, (h c).2.1.trans ?_, (h c).2.2.1.trans ?_, (h c).2.2.2.1.trans ?_,
    (h c).2.2.2.2.1.trans ?_, (h c).2.2.2.2.2⟩) (Cert.InProjRefIdeal.Value.run (F := Ideal) m' ρ')
  · refine (Cert.InProjRefIdeal.Read.val_main_v115_eq (F := Ideal) m' c).trans ?_
    rw [(hagree c).1, (hagree c).2.1, (hagree c).2.2.1, (hagree c).2.2.2.1, (hagree c).2.2.2.2.1, (hagree c).2.2.2.2.2]
    exact array_ext fun T j => (main_reference _ _ _ _ _ _ T j).trans (main_array m ρ c T j).symm
  · refine (Cert.InProjRefIdeal.Read.val_main_v64_eq (F := Ideal) _ _ _ _ _).trans ?_
    rw [(hagree c).1, (hagree c).2.1, (hagree c).2.2.1, (hagree c).2.2.2.1, (hagree c).2.2.2.2.1]
    exact array_ext fun T j => (forget_reference _ _ _ _ _ T j).trans (forget_array m ρ c T j).symm
  · refine (Cert.InProjRefIdeal.Read.val_main_v83_eq (F := Ideal) m' c).trans ?_
    rw [(hagree c).1, (hagree c).2.1, (hagree c).2.2.1, (hagree c).2.2.2.1, (hagree c).2.2.2.2.1, (hagree c).2.2.2.2.2]
    exact array_ext fun T j => (dilQ_reference _ _ _ _ _ _ T j).trans (queries_array m ρ c T j).symm
  · refine (Cert.InProjRefIdeal.Read.val_main_v102_eq (F := Ideal) m' c).trans ?_
    rw [(hagree c).1, (hagree c).2.1, (hagree c).2.2.1, (hagree c).2.2.2.1, (hagree c).2.2.2.2.1, (hagree c).2.2.2.2.2]
    exact array_ext fun T j => (dilK_reference _ _ _ _ _ _ T j).trans (keys_array m ρ c T j).symm
  · refine (Cert.InProjRefIdeal.Read.val_main_v105_eq (F := Ideal) _ _ _ _ _).trans ?_
    rw [(hagree c).1, (hagree c).2.1, (hagree c).2.2.1, (hagree c).2.2.2.1, (hagree c).2.2.2.2.1]
    exact array_ext fun T j => (dilV_reference _ _ _ _ _ T j).trans (values_array m ρ c T j).symm

/-- The reference's frame. -/
theorem reference_frame : Cert.quiescent_InProjRefIdeal := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)

/-- What the program's words are, at each shape the idealization reads one at. -/
theorem preserves : Cert.preserves_InProj_InProjIdeal :=
  ⟨IdealRules.bf16_pair.bufferStatement _ _, IdealRules.bf16_pair.bufferStatement _ _, IdealRules.bf16_pair.statement _ _,
    IdealRules.bf16_pack.statement _, IdealRules.bf16_pair.statement _ _⟩

end Cert.Proof.In
end
-- ==== Proof.OutTile.lean ====
/- TILES OF THE OUTPUT PROJECTION: 512 rows of both branches through their projections, gated, summed and projected, added to
   the residual; those rows normalised and modulated; and the router's logits of the result. Each is written once; the lemmas
   read it at a row and a column. -/
module

public import proofs.«01_k».proof.Proof.Gen.OutProjIdeal.Skeleton
public import proofs.«01_k».proof.Proof.Rows

@[expose] public section

noncomputable section

namespace Cert.Proof.Out

open Idealize.ShloMosaic Idealize.ShloMosaic.ValueIdx Cert.OutProjIdeal Cert.OutProjIdeal.Gen
open scoped BigOperators

theorem rowFacts : RowFacts 512 :=
  ⟨reduces_S512x1024_S512, shapeCasts_S512_S512x1, broadcasts_S512x1_S512x1024, broadcasts_S1x1024_S512x1024, shapeCasts_S1x1x1024_S1x1024⟩

section
variable {F : FTy → Type} [FloatOps F]
variable (ya : Vec F S512x512 .bf16) (wa : Vec F S512x1024 .bf16) (yd : Vec F S512x256 .bf16) (wb : Vec F S256x1024 .bf16)
  (ga gb : Vec F S512x1024 .bf16) (wo : Vec F S1024x1024 .bf16) (x : Vec F S512x1024 .f32) (g1 sc sh : Vec F S1x1x1024 .f32) (ng : Vec F S1x1024 .f32)

/-- Both branches projected, gated and summed. -/
def mergedTile : FVec F S512x1024 .f32 :=
  addf (mulf (extf .f32 (ga : FVec F S512x1024 .bf16) bitsLt_bf16_f32)
      (matmul (DotDims.plain 512 512 1024) none ya (shapeCast S512x1024 wa shapeCasts_S512x1024_S512x1024) (constant S512x1024 .f32 0x00000000#32)))
    (mulf (extf .f32 (gb : FVec F S512x1024 .bf16) bitsLt_bf16_f32)
      (matmul (DotDims.plain 512 256 1024) none yd (shapeCast S256x1024 wb shapeCasts_S256x1024_S256x1024) (constant S512x1024 .f32 0x00000000#32)))

/-- The residual plus their gated projection. -/
def addTile : FVec F S512x1024 .f32 :=
  addf x (mulf (broadcastTo S512x1024 (shapeCast S1x1024 g1 shapeCasts_S1x1x1024_S1x1024) broadcasts_S1x1024_S512x1024)
    (matmul (DotDims.plain 512 1024 1024) none (truncf .bf16 (mergedTile ya wa yd wb ga gb) bitsLt_bf16_f32 : FVec F S512x1024 .bf16)
      (shapeCast S1024x1024 wo shapeCasts_S1024x1024_S1024x1024) (constant S512x1024 .f32 0x00000000#32)))

/-- The router's logits of normalised rows. -/
def logitTile (h : FVec F S512x1024 .bf16) (wr : Vec F S1024x128 .bf16) (br : Vec F S1x128 .f32) : FVec F S512x128 .f32 :=
  addf (matmul (DotDims.plain 512 1024 128) none h (shapeCast S1024x128 wr shapeCasts_S1024x128_S1024x128) (constant S512x128 .f32 0x00000000#32))
    (broadcastTo S512x128 (shapeCast S1x128 br shapeCasts_S1x128_S1x128) broadcasts_S1x128_S512x128)

/-! What the body stores, in these terms: the first 512 rows, and the last. -/

theorem first_rows : k0_pay3 ya wa yd wb ga gb wo x g1 = addTile ya wa yd wb ga gb wo x g1 := rfl
theorem last_rows : k0_pay8 (k0_pay7 ya wa) yd wb ga gb wo x g1 = addTile ya wa yd wb ga gb wo x g1 := rfl
theorem first_norm : k0_pay5 (k0_pay3 ya wa yd wb ga gb wo x g1) (k0_pay4 ya wa yd wb ga gb wo x g1) (Scalar.ofBits .f32 0x358637BD#32) ng sc sh
    = modTile rowFacts (addTile ya wa yd wb ga gb wo x g1) ng sc sh := rfl
theorem last_norm : k0_pay1 (k0_pay9 (k0_pay7 ya wa) yd wb ga gb wo x g1 ng) sc sh
    = modTile rowFacts (addTile ya wa yd wb ga gb wo x g1) ng sc sh := rfl
theorem first_logits (wr : Vec F S1024x128 .bf16) (br : Vec F S1x128 .f32) :
    k0_pay6 (k0_pay3 ya wa yd wb ga gb wo x g1) (k0_pay4 ya wa yd wb ga gb wo x g1) (Scalar.ofBits .f32 0x358637BD#32) ng sc sh wr br
      = logitTile (modTile rowFacts (addTile ya wa yd wb ga gb wo x g1) ng sc sh) wr br := rfl
theorem last_logits (wr : Vec F S1024x128 .bf16) (br : Vec F S1x128 .f32) :
    k0_pay2 (k0_pay9 (k0_pay7 ya wa) yd wb ga gb wo x g1 ng) sc sh wr br
      = logitTile (modTile rowFacts (addTile ya wa yd wb ga gb wo x g1) ng sc sh) wr br := rfl
end

/-- A residual row plus the gated projection of the gated sum of both branches' projections. -/
def addRow (x g1 : Fin 1024 → EReal) (ya : Fin 512 → EReal) (yd : Fin 256 → EReal) (ga gb : Fin 1024 → EReal)
    (A : Fin 512 → Fin 1024 → EReal) (B : Fin 256 → Fin 1024 → EReal) (O : Fin 1024 → Fin 1024 → EReal) (k : Fin 1024) : EReal :=
  x k + g1 k * dotRow (fun q => ga q * dotRow ya (fun e => A e q) + gb q * dotRow yd (fun e => B e q)) (fun q => O q k)

theorem addTile_at (ya : Vec Ideal S512x512 .bf16) (wa : Vec Ideal S512x1024 .bf16) (yd : Vec Ideal S512x256 .bf16) (wb : Vec Ideal S256x1024 .bf16)
    (ga gb : Vec Ideal S512x1024 .bf16) (wo : Vec Ideal S1024x1024 .bf16) (x : Vec Ideal S512x1024 .f32) (g1 : Vec Ideal S1x1x1024 .f32)
    (r : Fin 512) (k : Fin 1024) :
    addTile ya wa yd wb ga gb wo x g1 (ix2 r k)
      = addRow (fun q => x (ix2 r q)) (fun q => g1 (ix3 0 0 q)) (fun e => ya (ix2 r e)) (fun e => yd (ix2 r e)) (fun q => ga (ix2 r q)) (fun q => gb (ix2 r q))
        (fun e q => wa (ix2 e q)) (fun e q => wb (ix2 e q)) (fun q j => wo (ix2 q j)) k := by
  have hm : ∀ q : Fin 1024, mergedTile ya wa yd wb ga gb (ix2 r q)
      = ga (ix2 r q) * dotRow (fun e => ya (ix2 r e)) (fun e => wa (ix2 e q)) + gb (ix2 r q) * dotRow (fun e => yd (ix2 r e)) (fun e => wb (ix2 e q)) := fun q => by
    unfold mergedTile
    rw [shapeCast_self, shapeCast_self]
    exact congrArg₂ (· + ·) (congrArg (ga (ix2 r q) * ·) (product_at ya wa r q)) (congrArg (gb (ix2 r q) * ·) (product_at yd wb r q))
  unfold addTile addRow
  rw [shapeCast_self]
  refine congrArg (x (ix2 r k) + ·) (congrArg₂ (· * ·) ((row_bcast_at _ broadcasts_S1x1024_S512x1024 r k).trans (unblock_at g1 shapeCasts_S1x1x1024_S1x1024 0 k)) ?_)
  refine (product_at (φ₁ := .bf16) _ wo r k).trans (congrArg (fun h => dotRow h fun q => wo (ix2 q k)) (funext fun q => hm q))

theorem logitTile_at (h : FVec Ideal S512x1024 .bf16) (wr : Vec Ideal S1024x128 .bf16) (br : Vec Ideal S1x128 .f32) (r : Fin 512) (j : Fin 128) :
    logitTile h wr br (ix2 r j) = dotRow (fun q => h (ix2 r q)) (fun q => wr (ix2 q j)) + br (ix2 0 j) := by
  unfold logitTile
  rw [shapeCast_self, shapeCast_self]
  exact congrArg₂ (· + ·) (product_at h wr r j) (row_bcast_at br broadcasts_S1x128_S512x128 r j)

end Cert.Proof.Out
end
-- ==== Proof.OutBlock.lean ====
/- THE BLOCKS THE OUTPUT PROJECTION LEAVES. A grid point's 1024 rows are worked in two halves. Each row of the first output is
   the residual plus the gated projection; the second output holds that row normalised and modulated, the third the
   router's logits of it. -/
module

public import proofs.«01_k».proof.Proof.OutTile
public import proofs.«01_k».proof.Proof.Gen.OutProjIdeal.Value
public import Idealize.ShloMosaic.Lib.Pipeline.ValueKit.Tiles

@[expose] public section

set_option maxRecDepth 16384

noncomputable section

namespace Cert.Proof.Out

open Idealize.ShloMosaic Idealize.ShloMosaic.TcCoe Idealize.ShloMosaic.ValueIdx Cert.OutProjIdeal Cert.OutProjIdeal.Gen Idealize.ShloMosaic.Tactic

/-- A load of a rectangle of a matrix. -/
theorem load2 {φ : EltTy} {a b m n o p : ℕ} (X : Vec Ideal (Mat a b) φ)
    (inb : ∀ d : Fin 2, (![o, p] : Fin 2 → ℕ) d + (![m, n] : Fin 2 → ℕ) d ≤ (Mat a b).size d) (i : Fin m) (j : Fin n) (i' : Fin a) (j' : Fin b)
    (hi : i'.val = o + i.val) (hj : j'.val = p + j.val) :
    View.ld X (Rect.unit (s := Mat a b) ![o, p] ![m, n] inb) (ix2 i j) = X (ix2 i' j') := by
  refine congrArg X (funext fun d => Fin.ext ?_)
  rw [Rect.idx_unit_val]
  match d with
  | ⟨0, _⟩ => exact hi.symm
  | ⟨1, _⟩ => exact hj.symm

/-- A whole matrix, loaded. -/
theorem loadAll {φ : EltTy} {a b : ℕ} (X : Vec Ideal (Mat a b) φ)
    (inb : ∀ d : Fin 2, (![0, 0] : Fin 2 → ℕ) d + (![a, b] : Fin 2 → ℕ) d ≤ (Mat a b).size d) (i : Fin a) (j : Fin b) :
    View.ld X (Rect.unit (s := Mat a b) ![0, 0] ![a, b] inb) (ix2 i j) = X (ix2 i j) :=
  load2 X inb i j i j (Nat.zero_add _).symm (Nat.zero_add _).symm

theorem load3 (X : Vec Ideal S1x1x1024 .f32)
    (inb : ∀ d : Fin 3, (![0, 0, 0] : Fin 3 → ℕ) d + S1x1x1024.size d ≤ S1x1x1024.size d) (j : Fin 1024) :
    View.ld X (Rect.unit (s := S1x1x1024) ![0, 0, 0] S1x1x1024.size inb) (ix3 0 0 j) = X (ix3 0 0 j) := by
  refine congrArg X (funext fun d => Fin.ext ?_)
  rw [Rect.idx_unit_val]
  match d with
  | ⟨0, _⟩ => rfl
  | ⟨1, _⟩ => rfl
  | ⟨2, _⟩ => exact Nat.zero_add _

section
variable (x0 : Vec Ideal S1024x1024 .f32) (x1 : Vec Ideal S1024x512 .bf16) (x2 : Vec Ideal S1024x256 .bf16) (x3 x4 : Vec Ideal S1024x1024 .bf16)
  (x5 x6 x7 : Vec Ideal S1x1x1024 .f32) (x8 : Vec Ideal S1x1024 .f32) (x9 : Vec Ideal S512x1024 .bf16) (x10 : Vec Ideal S256x1024 .bf16)
  (x11 : Vec Ideal S1024x1024 .bf16) (x12 : Vec Ideal S1024x128 .bf16) (x13 : Vec Ideal S1x128 .f32)

/-- Row `r` of the first output's block. -/
def sumRow (r : Fin 1024) : Fin 1024 → EReal :=
  addRow (fun q => x0 (ix2 r q)) (fun q => x5 (ix3 0 0 q)) (fun e => x1 (ix2 r e)) (fun e => x2 (ix2 r e)) (fun q => x3 (ix2 r q)) (fun q => x4 (ix2 r q))
    (fun e q => x9 (ix2 e q)) (fun e q => x10 (ix2 e q)) (fun q j => x11 (ix2 q j))

/-- Row `r` of the second output's block. -/
def normRow (r : Fin 1024) : Fin 1024 → EReal :=
  modRow (sumRow x0 x1 x2 x3 x4 x5 x9 x10 x11 r) (fun q => x8 (ix2 0 q)) (fun q => x6 (ix3 0 0 q)) (fun q => x7 (ix3 0 0 q))

/-- Row `r` of the third output's block. -/
def logitRow (r : Fin 1024) (j : Fin 128) : EReal :=
  dotRow (normRow x0 x1 x2 x3 x4 x5 x6 x7 x8 x9 x10 x11 r) (fun q => x12 (ix2 q j)) + x13 (ix2 0 j)

section
variable {o : ℕ} (ho : o + 512 ≤ 1024)
  (in0 : ∀ d : Fin 2, (![o, 0] : Fin 2 → ℕ) d + (![512, 1024] : Fin 2 → ℕ) d ≤ (Mat 1024 1024).size d)
  (in1 : ∀ d : Fin 2, (![o, 0] : Fin 2 → ℕ) d + (![512, 512] : Fin 2 → ℕ) d ≤ (Mat 1024 512).size d)
  (in2 : ∀ d : Fin 2, (![o, 0] : Fin 2 → ℕ) d + (![512, 256] : Fin 2 → ℕ) d ≤ (Mat 1024 256).size d)

/-- Half of the rows, from row `o` on. -/
abbrev sumHalf : FVec Ideal S512x1024 .f32 :=
  addTile (View.ld x1 (Rect.unit (s := Mat 1024 512) ![o, 0] ![512, 512] in1)) (View.ld x9 (Rect.unit (s := Mat 512 1024) ![0, 0] ![512, 1024] inb_S512x1024_S512x1024_0_0))
    (View.ld x2 (Rect.unit (s := Mat 1024 256) ![o, 0] ![512, 256] in2)) (View.ld x10 (Rect.unit (s := Mat 256 1024) ![0, 0] ![256, 1024] inb_S256x1024_S256x1024_0_0))
    (View.ld x3 (Rect.unit (s := Mat 1024 1024) ![o, 0] ![512, 1024] in0)) (View.ld x4 (Rect.unit (s := Mat 1024 1024) ![o, 0] ![512, 1024] in0))
    (View.ld x11 (Rect.unit (s := Mat 1024 1024) ![0, 0] ![1024, 1024] inb_S1024x1024_S1024x1024_0_0))
    (View.ld x0 (Rect.unit (s := Mat 1024 1024) ![o, 0] ![512, 1024] in0))
    (View.ld x5 (Rect.unit (s := S1x1x1024) ![0, 0, 0] S1x1x1024.size inb_S1x1x1024_S1x1x1024_0_0_0))

abbrev normHalf : FVec Ideal S512x1024 .bf16 :=
  modTile rowFacts (sumHalf x0 x1 x2 x3 x4 x5 x9 x10 x11 in0 in1 in2) (View.ld x8 (Rect.unit (s := Mat 1 1024) ![0, 0] ![1, 1024] inb_S1x1024_S1x1024_0_0))
    (View.ld x6 (Rect.unit (s := S1x1x1024) ![0, 0, 0] S1x1x1024.size inb_S1x1x1024_S1x1x1024_0_0_0))
    (View.ld x7 (Rect.unit (s := S1x1x1024) ![0, 0, 0] S1x1x1024.size inb_S1x1x1024_S1x1x1024_0_0_0))

abbrev logitHalf : FVec Ideal S512x128 .f32 :=
  logitTile (normHalf x0 x1 x2 x3 x4 x5 x6 x7 x8 x9 x10 x11 in0 in1 in2)
    (View.ld x12 (Rect.unit (s := Mat 1024 128) ![0, 0] ![1024, 128] inb_S1024x128_S1024x128_0_0))
    (View.ld x13 (Rect.unit (s := Mat 1 128) ![0, 0] ![1, 128] inb_S1x128_S1x128_0_0))

theorem sumHalf_at (r : Fin 512) (R : Fin 1024) (hR : R.val = o + r.val) (k : Fin 1024) :
    sumHalf x0 x1 x2 x3 x4 x5 x9 x10 x11 in0 in1 in2 (ix2 r k) = sumRow x0 x1 x2 x3 x4 x5 x9 x10 x11 R k := by
  refine (addTile_at _ _ _ _ _ _ _ _ _ r k).trans ?_
  unfold sumRow
  congr 1
  · exact funext fun q => load2 x0 in0 r q R q hR (Nat.zero_add _).symm
  · exact funext fun q => load3 x5 _ q
  · exact funext fun q => load2 x1 in1 r q R q hR (Nat.zero_add _).symm
  · exact funext fun q => load2 x2 in2 r q R q hR (Nat.zero_add _).symm
  · exact funext fun q => load2 x3 in0 r q R q hR (Nat.zero_add _).symm
  · exact funext fun q => load2 x4 in0 r q R q hR (Nat.zero_add _).symm
  · exact funext fun e => funext fun q => loadAll x9 _ e q
  · exact funext fun e => funext fun q => loadAll x10 _ e q
  · exact funext fun e => funext fun q => loadAll x11 _ e q

theorem normHalf_at (r : Fin 512) (R : Fin 1024) (hR : R.val = o + r.val) (k : Fin 1024) :
    normHalf x0 x1 x2 x3 x4 x5 x6 x7 x8 x9 x10 x11 in0 in1 in2 (ix2 r k) = normRow x0 x1 x2 x3 x4 x5 x6 x7 x8 x9 x10 x11 R k := by
  refine (modTile_at rowFacts _ _ _ _ r k).trans ?_
  unfold normRow
  congr 1
  · exact funext fun q => sumHalf_at x0 x1 x2 x3 x4 x5 x9 x10 x11 in0 in1 in2 r R hR q
  · exact funext fun q => loadAll x8 _ 0 q
  · exact funext fun q => load3 x6 _ q
  · exact funext fun q => load3 x7 _ q

theorem logitHalf_at (r : Fin 512) (R : Fin 1024) (hR : R.val = o + r.val) (j : Fin 128) :
    logitHalf x0 x1 x2 x3 x4 x5 x6 x7 x8 x9 x10 x11 x12 x13 in0 in1 in2 (ix2 r j)
      = logitRow x0 x1 x2 x3 x4 x5 x6 x7 x8 x9 x10 x11 x12 x13 R j := by
  refine (logitTile_at _ _ _ r j).trans (congrArg₂ (· + ·) ?_ (loadAll x13 _ 0 j))
  congr 1
  · exact funext fun q => normHalf_at x0 x1 x2 x3 x4 x5 x6 x7 x8 x9 x10 x11 in0 in1 in2 r R hR q
  · exact funext fun q => loadAll x12 _ q j
end

/-- Half the rows stored, where they hold a function of the row and the column. -/
theorem half_piece {φ : EltTy} {n o : ℕ} (G : Fin 1024 → Fin n → Elt Ideal φ) (T : Vec Ideal (Mat 512 n) φ)
    (inb : ∀ d : Fin 2, (![o, 0] : Fin 2 → ℕ) d + (![512, n] : Fin 2 → ℕ) d ≤ (Mat 1024 n).size d)
    (hT : ∀ (r : Fin 512) (R : Fin 1024), R.val = o + r.val → ∀ j : Fin n, T (ix2 r j) = G R j) (x : (Mat 512 n).Idx) :
    T x = (fun y : (Mat 1024 n).Idx => G (y 0) (y 1)) ((Rect.unit (s := Mat 1024 n) ![o, 0] ![512, n] inb).emb x) := by
  obtain ⟨r, j, rfl⟩ : ∃ r j, x = ix2 r j := ⟨x 0, x 1, eq_ix2 x⟩
  have e0 := Rect.idx_unit_val (s := Mat 1024 n) ![o, 0] ![512, n] inb (ix2 r j) 0
  have e1 := Rect.idx_unit_val (s := Mat 1024 n) ![o, 0] ![512, n] inb (ix2 r j) 1
  refine (hT r _ e0 j).trans (congrArg (G _) (Fin.ext ?_))
  exact ((e1.trans (Nat.zero_add _)).symm : j.val = _)

theorem sum_block (c : Dev nD) (i : grid0.Coords)
    (arg1 : Memref sig .tc .vmem S1024x1024 .f32) (harg1 : arg1.IsWhole) (arg2 : Memref sig .tc .vmem S1024x512 .bf16) (harg2 : arg2.IsWhole)
    (arg3 : Memref sig .tc .vmem S1024x256 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S1x1024 .f32) (harg9 : arg9.IsWhole) (arg10 : Memref sig .tc .vmem S512x1024 .bf16) (harg10 : arg10.IsWhole)
    (arg11 : Memref sig .tc .vmem S256x1024 .bf16) (harg11 : arg11.IsWhole) (arg12 : Memref sig .tc .vmem S1024x1024 .bf16) (harg12 : arg12.IsWhole)
    (arg13 : Memref sig .tc .vmem S1024x128 .bf16) (harg13 : arg13.IsWhole) (arg14 : Memref sig .tc .vmem S1x128 .f32) (harg14 : arg14.IsWhole)
    (arg15 : Memref sig .tc .vmem S1024x1024 .f32) (harg15 : arg15.IsWhole) (arg16 : Memref sig .tc .vmem S1024x1024 .bf16) (harg16 : arg16.IsWhole)
    (arg17 : Memref sig .tc .vmem S1024x128 .f32) (harg17 : arg17.IsWhole)
    (y : S1024x1024.Idx) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      x0 x1 x2 x3 x4 x5 x6 x7 x8 x9 x10 x11 x12 x13 y = sumRow x0 x1 x2 x3 x4 x5 x9 x10 x11 (y 0) (y 1) := by
  have hy := cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    x0 x1 x2 x3 x4 x5 x6 x7 x8 x9 x10 x11 x12 x13 y
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    x0 x1 x2 x3 x4 x5 x6 x7 x8 x9 x10 x11 x12 x13)]
  revert hy
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  intro hy
  refine View.canon_apply_of_pieces (Val := Elt Ideal) (fun y : S1024x1024.Idx => sumRow x0 x1 x2 x3 x4 x5 x9 x10 x11 (y 0) (y 1)) _ ?_ y hy
  clear hy
  refine List.forall_mem_cons.2 ⟨fun x => half_piece (φ := .f32) (o := 512) (sumRow x0 x1 x2 x3 x4 x5 x9 x10 x11) _ inb_S1024x1024_S512x1024_512_0
    (fun r R hR k => (congrFun (last_rows _ _ _ _ _ _ _ _ _) _).trans (sumHalf_at x0 x1 x2 x3 x4 x5 x9 x10 x11 inb_S1024x1024_S512x1024_512_0 inb_S1024x512_S512x512_512_0 inb_S1024x256_S512x256_512_0 r R hR k)) x, ?_⟩
  refine List.forall_mem_cons.2 ⟨fun x => half_piece (φ := .f32) (o := 0) (sumRow x0 x1 x2 x3 x4 x5 x9 x10 x11) _ inb_S1024x1024_S512x1024_0_0
    (fun r R hR k => (congrFun (first_rows _ _ _ _ _ _ _ _ _) _).trans (sumHalf_at x0 x1 x2 x3 x4 x5 x9 x10 x11 inb_S1024x1024_S512x1024_0_0 inb_S1024x512_S512x512_0_0 inb_S1024x256_S512x256_0_0 r R hR k)) x, ?_⟩
  intro p hp
  cases hp

theorem norm_block (c : Dev nD) (i : grid0.Coords)
    (arg1 : Memref sig .tc .vmem S1024x1024 .f32) (harg1 : arg1.IsWhole) (arg2 : Memref sig .tc .vmem S1024x512 .bf16) (harg2 : arg2.IsWhole)
    (arg3 : Memref sig .tc .vmem S1024x256 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S1x1024 .f32) (harg9 : arg9.IsWhole) (arg10 : Memref sig .tc .vmem S512x1024 .bf16) (harg10 : arg10.IsWhole)
    (arg11 : Memref sig .tc .vmem S256x1024 .bf16) (harg11 : arg11.IsWhole) (arg12 : Memref sig .tc .vmem S1024x1024 .bf16) (harg12 : arg12.IsWhole)
    (arg13 : Memref sig .tc .vmem S1024x128 .bf16) (harg13 : arg13.IsWhole) (arg14 : Memref sig .tc .vmem S1x128 .f32) (harg14 : arg14.IsWhole)
    (arg15 : Memref sig .tc .vmem S1024x1024 .f32) (harg15 : arg15.IsWhole) (arg16 : Memref sig .tc .vmem S1024x1024 .bf16) (harg16 : arg16.IsWhole)
    (arg17 : Memref sig .tc .vmem S1024x128 .f32) (harg17 : arg17.IsWhole)
    (y : S1024x1024.Idx) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      x0 x1 x2 x3 x4 x5 x6 x7 x8 x9 x10 x11 x12 x13 y = normRow x0 x1 x2 x3 x4 x5 x6 x7 x8 x9 x10 x11 (y 0) (y 1) := by
  have hy := cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    x0 x1 x2 x3 x4 x5 x6 x7 x8 x9 x10 x11 x12 x13 y
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    x0 x1 x2 x3 x4 x5 x6 x7 x8 x9 x10 x11 x12 x13)]
  revert hy
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  intro hy
  refine View.canon_apply_of_pieces (Val := Elt Ideal) (fun y : S1024x1024.Idx => normRow x0 x1 x2 x3 x4 x5 x6 x7 x8 x9 x10 x11 (y 0) (y 1)) _ ?_ y hy
  clear hy
  refine List.forall_mem_cons.2 ⟨fun x => half_piece (φ := .bf16) (o := 512) (normRow x0 x1 x2 x3 x4 x5 x6 x7 x8 x9 x10 x11) _ inb_S1024x1024_S512x1024_512_0
    (fun r R hR k => (congrFun (last_norm _ _ _ _ _ _ _ _ _ _ _ _) _).trans (normHalf_at x0 x1 x2 x3 x4 x5 x6 x7 x8 x9 x10 x11 inb_S1024x1024_S512x1024_512_0 inb_S1024x512_S512x512_512_0 inb_S1024x256_S512x256_512_0 r R hR k)) x, ?_⟩
  refine List.forall_mem_cons.2 ⟨fun x => half_piece (φ := .bf16) (o := 0) (normRow x0 x1 x2 x3 x4 x5 x6 x7 x8 x9 x10 x11) _ inb_S1024x1024_S512x1024_0_0
    (fun r R hR k => (congrFun (first_norm _ _ _ _ _ _ _ _ _ _ _ _) _).trans (normHalf_at x0 x1 x2 x3 x4 x5 x6 x7 x8 x9 x10 x11 inb_S1024x1024_S512x1024_0_0 inb_S1024x512_S512x512_0_0 inb_S1024x256_S512x256_0_0 r R hR k)) x, ?_⟩
  intro p hp
  cases hp

theorem logit_block (c : Dev nD) (i : grid0.Coords)
    (arg1 : Memref sig .tc .vmem S1024x1024 .f32) (harg1 : arg1.IsWhole) (arg2 : Memref sig .tc .vmem S1024x512 .bf16) (harg2 : arg2.IsWhole)
    (arg3 : Memref sig .tc .vmem S1024x256 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S1x1024 .f32) (harg9 : arg9.IsWhole) (arg10 : Memref sig .tc .vmem S512x1024 .bf16) (harg10 : arg10.IsWhole)
    (arg11 : Memref sig .tc .vmem S256x1024 .bf16) (harg11 : arg11.IsWhole) (arg12 : Memref sig .tc .vmem S1024x1024 .bf16) (harg12 : arg12.IsWhole)
    (arg13 : Memref sig .tc .vmem S1024x128 .bf16) (harg13 : arg13.IsWhole) (arg14 : Memref sig .tc .vmem S1x128 .f32) (harg14 : arg14.IsWhole)
    (arg15 : Memref sig .tc .vmem S1024x1024 .f32) (harg15 : arg15.IsWhole) (arg16 : Memref sig .tc .vmem S1024x1024 .bf16) (harg16 : arg16.IsWhole)
    (arg17 : Memref sig .tc .vmem S1024x128 .f32) (harg17 : arg17.IsWhole)
    (y : S1024x128.Idx) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      x0 x1 x2 x3 x4 x5 x6 x7 x8 x9 x10 x11 x12 x13 y = logitRow x0 x1 x2 x3 x4 x5 x6 x7 x8 x9 x10 x11 x12 x13 (y 0) (y 1) := by
  have hy := cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    x0 x1 x2 x3 x4 x5 x6 x7 x8 x9 x10 x11 x12 x13 y
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    x0 x1 x2 x3 x4 x5 x6 x7 x8 x9 x10 x11 x12 x13)]
  revert hy
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  intro hy
  refine View.canon_apply_of_pieces (Val := Elt Ideal) (fun y : S1024x128.Idx => logitRow x0 x1 x2 x3 x4 x5 x6 x7 x8 x9 x10 x11 x12 x13 (y 0) (y 1)) _ ?_ y hy
  clear hy
  refine List.forall_mem_cons.2 ⟨fun x => half_piece (φ := .f32) (o := 512) (logitRow x0 x1 x2 x3 x4 x5 x6 x7 x8 x9 x10 x11 x12 x13) _ inb_S1024x128_S512x128_512_0
    (fun r R hR k => (congrFun (last_logits _ _ _ _ _ _ _ _ _ _ _ _ _ _) _).trans (logitHalf_at x0 x1 x2 x3 x4 x5 x6 x7 x8 x9 x10 x11 x12 x13 inb_S1024x1024_S512x1024_512_0 inb_S1024x512_S512x512_512_0 inb_S1024x256_S512x256_512_0 r R hR k)) x, ?_⟩
  refine List.forall_mem_cons.2 ⟨fun x => half_piece (φ := .f32) (o := 0) (logitRow x0 x1 x2 x3 x4 x5 x6 x7 x8 x9 x10 x11 x12 x13) _ inb_S1024x128_S512x128_0_0
    (fun r R hR k => (congrFun (first_logits _ _ _ _ _ _ _ _ _ _ _ _ _ _) _).trans (logitHalf_at x0 x1 x2 x3 x4 x5 x6 x7 x8 x9 x10 x11 x12 x13 inb_S1024x1024_S512x1024_0_0 inb_S1024x512_S512x512_0_0 inb_S1024x256_S512x256_0_0 r R hR k)) x, ?_⟩
  intro p hp
  cases hp
end

end Cert.Proof.Out
end
-- ==== Proof.OutHost.lean ====
/- WHAT THE HOST PREPARES for the output projection: the three weight matrices rounded, and the router's weights and biases of
   the groups and of the experts side by side, filled with zeros to 128 columns. -/
module

public import proofs.«01_k».proof.Proof.OutBlock
public import Idealize.ShloMosaic.Lib.StableHlo.Run
public import Idealize.ShloMosaic.Lib.Claim
public import Idealize.ShloMosaic.Lib.IdealHost

@[expose] public section

set_option maxRecDepth 16384

noncomputable section

namespace Cert.Proof.Out

open Idealize.ShloMosaic Idealize.ShloMosaic.TcCoe Idealize.ShloMosaic.ValueIdx Cert.OutProjIdeal Cert.OutProjIdeal.Gen Idealize.ShloMosaic.Tactic

variable (m : (ℓ : Loc nD τ sig) → Buf (Elt Ideal) ℓ) (c : Dev nD)

theorem first_entry : V m c main_v6 = (truncf .bf16 (m ((c : Thread nD τ).loc main_arg8) : FVec Ideal S512x1024 .f32) bitsLt_bf16_f32 : FVec Ideal S512x1024 .bf16) := by
  unfold_abbrev_sides
  after_results
  try rfl

theorem second_entry : V m c main_v7 = (truncf .bf16 (m ((c : Thread nD τ).loc main_arg9) : FVec Ideal S256x1024 .f32) bitsLt_bf16_f32 : FVec Ideal S256x1024 .bf16) := by
  unfold_abbrev_sides
  after_results
  try rfl

theorem out_entry : V m c main_v8 = (truncf .bf16 (m ((c : Thread nD τ).loc main_arg10) : FVec Ideal S1024x1024 .f32) bitsLt_bf16_f32 : FVec Ideal S1024x1024 .bf16) := by
  unfold_abbrev_sides
  after_results
  try rfl

theorem router_entry : V m c main_v2 = (truncf .bf16 (concatenate S1024x128 1
      [⟨S1024x4, (m ((c : Thread nD τ).loc main_arg11) : FVec Ideal S1024x4 .f32)⟩, ⟨S1024x32, (m ((c : Thread nD τ).loc main_arg13) : FVec Ideal S1024x32 .f32)⟩,
       ⟨S1024x92, broadcastInDim S1024x92 ![] bcast_S_S1024x92 (constant (F := Ideal) S_ .f32 0x00000000#32)⟩]
      concatenates_S1024x4_S1024x32_S1024x92_S1024x128_d1 : FVec Ideal S1024x128 .f32) bitsLt_bf16_f32 : FVec Ideal S1024x128 .bf16) := by
  unfold_abbrev_sides
  after_results
  try rfl

theorem bias_entry : V m c main_v5 = (shapeCast S1x128 (concatenate S128 0
      [⟨S4, (m ((c : Thread nD τ).loc main_arg12) : FVec Ideal S4 .f32)⟩, ⟨S32, (m ((c : Thread nD τ).loc main_arg14) : FVec Ideal S32 .f32)⟩,
       ⟨S92, broadcastInDim S92 ![] bcast_S_S92 (constant (F := Ideal) S_ .f32 0x00000000#32)⟩]
      concatenates_S4_S32_S92_S128_d0 : FVec Ideal S128 .f32) shapeCasts_S128_S1x128 : FVec Ideal S1x128 .f32) := by
  unfold_abbrev_sides
  after_results
  try rfl

/-- Column `j` of the router: the groups' four, the experts' 32, zeros. -/
def routeAt (g : Fin 4 → EReal) (e : Fin 32 → EReal) (j : Fin 128) : EReal :=
  if h : j.val < 4 then g ⟨j.val, h⟩ else if h' : j.val < 36 then e ⟨j.val - 4, by omega⟩ else 0

theorem router_at (g : FVec Ideal S1024x4 .f32) (e : FVec Ideal S1024x32 .f32) (k : Fin 1024) (j : Fin 128) :
    (concatenate S1024x128 1 [⟨S1024x4, g⟩, ⟨S1024x32, e⟩,
       ⟨S1024x92, broadcastInDim S1024x92 ![] bcast_S_S1024x92 (constant (F := Ideal) S_ .f32 0x00000000#32)⟩]
      concatenates_S1024x4_S1024x32_S1024x92_S1024x128_d1 : FVec Ideal S1024x128 .f32) (ix2 k j)
      = routeAt (fun a => g (ix2 k a)) (fun a => e (ix2 k a)) j := by
  have side : ∀ {n : ℕ} (j' : Fin n) (b : Fin 2), b ≠ 1 → ((ix2 k j' : (Mat 1024 n).Idx) b).val = ((ix2 k j : (Mat 1024 128).Idx) b).val := by
    intro n j' b hb
    match b with
    | ⟨0, _⟩ => rfl
    | ⟨1, _⟩ => exact absurd rfl hb
  have hj := j.isLt
  unfold routeAt
  by_cases h : j.val < 4
  · rw [dif_pos h]
    exact concatenate_apply_piece (t := S1024x128) 1 _ _ (ix2 k j) 0 (by show 0 < 3; omega)
      S1024x4 _ rfl rfl 0 rfl (ix2 k ⟨j.val, h⟩) (fun b hb => side _ b hb) (Nat.zero_add _)
  · rw [dif_neg h]
    by_cases h' : j.val < 36
    · rw [dif_pos h']
      exact concatenate_apply_piece (t := S1024x128) 1 _ _ (ix2 k j) 1 (by show 1 < 3; omega)
        S1024x32 _ rfl rfl 4 rfl (ix2 k ⟨j.val - 4, by omega⟩) (fun b hb => side _ b hb) (by show 4 + (j.val - 4) = j.val; omega)
    · rw [dif_neg h']
      exact (concatenate_apply_piece (t := S1024x128) 1 _ _ (ix2 k j) 2 (by show 2 < 3; omega)
        S1024x92 _ rfl rfl 36 rfl (ix2 k ⟨j.val - 36, by omega⟩) (fun b hb => side _ b hb) (by show 36 + (j.val - 36) = j.val; omega)).trans
        Ideal.ofBits_zero_f32

theorem bias_at (g : FVec Ideal S4 .f32) (e : FVec Ideal S32 .f32) (j : Fin 128) :
    (shapeCast S1x128 (concatenate S128 0 [⟨S4, g⟩, ⟨S32, e⟩,
       ⟨S92, broadcastInDim S92 ![] bcast_S_S92 (constant (F := Ideal) S_ .f32 0x00000000#32)⟩]
      concatenates_S4_S32_S92_S128_d0 : FVec Ideal S128 .f32) shapeCasts_S128_S1x128 : FVec Ideal S1x128 .f32) (ix2 0 j)
      = routeAt (fun a => g (ix1 a)) (fun a => e (ix1 a)) j := by
  have side : ∀ {n : ℕ} (j' : Fin n) (b : Fin 1), b ≠ 0 → ((ix1 j' : (⟨1, ![n]⟩ : Shape).Idx) b).val = ((ix1 j : S128.Idx) b).val :=
    fun j' b hb => absurd (Subsingleton.elim b 0) hb
  have hj := j.isLt
  refine (shapeCast_apply _ shapeCasts_S128_S1x128 (ix2 0 j) (ix1 j) (by
    rw [Shape.rowMajor_val_two, Shape.rowMajor_val_one]; show j.val = 0 * 128 + j.val; omega)).trans ?_
  unfold routeAt
  by_cases h : j.val < 4
  · rw [dif_pos h]
    exact concatenate_apply_piece (t := S128) 0 _ _ (ix1 j) 0 (by show 0 < 3; omega)
      S4 _ rfl rfl 0 rfl (ix1 ⟨j.val, h⟩) (fun b hb => side _ b hb) (Nat.zero_add _)
  · rw [dif_neg h]
    by_cases h' : j.val < 36
    · rw [dif_pos h']
      exact concatenate_apply_piece (t := S128) 0 _ _ (ix1 j) 1 (by show 1 < 3; omega)
        S32 _ rfl rfl 4 rfl (ix1 ⟨j.val - 4, by omega⟩) (fun b hb => side _ b hb) (by show 4 + (j.val - 4) = j.val; omega)
    · rw [dif_neg h']
      exact (concatenate_apply_piece (t := S128) 0 _ _ (ix1 j) 2 (by show 2 < 3; omega)
        S92 _ rfl rfl 36 rfl (ix1 ⟨j.val - 36, by omega⟩) (fun b hb => side _ b hb) (by show 36 + (j.val - 36) = j.val; omega)).trans
        Ideal.ofBits_zero_f32

end Cert.Proof.Out
end
-- ==== Proof.OutArray.lean ====
/- THE OUTPUT PROJECTION'S RESULTS, whole arrays. Grid point `t` works on the 1024 tokens from `1024 t` on, which belong to batch
   entry `t / 2`; it reads the first gate in columns 0 to 1023 of the projected input and the second in the next 1024. So each
   result holds, at every token, that token's row. -/
module

public import proofs.«01_k».proof.Proof.OutHost

@[expose] public section

set_option maxRecDepth 16384

noncomputable section

namespace Cert.Proof.Out

open Idealize.ShloMosaic Idealize.ShloMosaic.TcCoe Idealize.ShloMosaic.ValueIdx Cert.OutProjIdeal Cert.OutProjIdeal.Gen

/-- The blocks at each grid point. -/
theorem point_rows : ∀ t : Fin 16,
    win0_0.index (t : Fin grid0.N) (0 : Fin 2) = t.val ∧ win0_0.index (t : Fin grid0.N) (1 : Fin 2) = 0 ∧
    win0_1.index (t : Fin grid0.N) (0 : Fin 2) = t.val ∧ win0_1.index (t : Fin grid0.N) (1 : Fin 2) = 0 ∧
    win0_2.index (t : Fin grid0.N) (0 : Fin 2) = t.val ∧ win0_2.index (t : Fin grid0.N) (1 : Fin 2) = 0 := by
  decide +kernel

theorem point_gates : ∀ t : Fin 16,
    win0_3.index (t : Fin grid0.N) (0 : Fin 2) = t.val ∧ win0_3.index (t : Fin grid0.N) (1 : Fin 2) = 0 ∧
    win0_4.index (t : Fin grid0.N) (0 : Fin 2) = t.val ∧ win0_4.index (t : Fin grid0.N) (1 : Fin 2) = 1 := by
  decide +kernel

theorem point_mod : ∀ t : Fin 16,
    win0_5.index (t : Fin grid0.N) (0 : Fin 3) = t.val / 2 ∧ win0_5.index (t : Fin grid0.N) (1 : Fin 3) = 0 ∧ win0_5.index (t : Fin grid0.N) (2 : Fin 3) = 0 ∧
    win0_6.index (t : Fin grid0.N) (0 : Fin 3) = t.val / 2 ∧ win0_6.index (t : Fin grid0.N) (1 : Fin 3) = 0 ∧ win0_6.index (t : Fin grid0.N) (2 : Fin 3) = 0 ∧
    win0_7.index (t : Fin grid0.N) (0 : Fin 3) = t.val / 2 ∧ win0_7.index (t : Fin grid0.N) (1 : Fin 3) = 0 ∧ win0_7.index (t : Fin grid0.N) (2 : Fin 3) = 0 := by
  decide +kernel

theorem point_first : ∀ t : Fin 16,
    win0_8.index (t : Fin grid0.N) (0 : Fin 2) = 0 ∧ win0_9.index (t : Fin grid0.N) (0 : Fin 2) = 0 ∧ win0_10.index (t : Fin grid0.N) (0 : Fin 2) = 0 ∧
    win0_11.index (t : Fin grid0.N) (0 : Fin 2) = 0 ∧ win0_12.index (t : Fin grid0.N) (0 : Fin 2) = 0 ∧ win0_13.index (t : Fin grid0.N) (0 : Fin 2) = 0 := by
  decide +kernel

theorem point_second : ∀ t : Fin 16,
    win0_8.index (t : Fin grid0.N) (1 : Fin 2) = 0 ∧ win0_9.index (t : Fin grid0.N) (1 : Fin 2) = 0 ∧ win0_10.index (t : Fin grid0.N) (1 : Fin 2) = 0 ∧
    win0_11.index (t : Fin grid0.N) (1 : Fin 2) = 0 ∧ win0_12.index (t : Fin grid0.N) (1 : Fin 2) = 0 ∧ win0_13.index (t : Fin grid0.N) (1 : Fin 2) = 0 := by
  decide +kernel

theorem point_out : ∀ t : Fin 16,
    win0_14.index (t : Fin grid0.N) (0 : Fin 2) = t.val ∧ win0_14.index (t : Fin grid0.N) (1 : Fin 2) = 0 ∧
    win0_15.index (t : Fin grid0.N) (0 : Fin 2) = t.val ∧ win0_15.index (t : Fin grid0.N) (1 : Fin 2) = 0 ∧
    win0_16.index (t : Fin grid0.N) (0 : Fin 2) = t.val ∧ win0_16.index (t : Fin grid0.N) (1 : Fin 2) = 0 := by
  decide +kernel

theorem flush_sum : ∀ t : Fin cfg0.N, (cfg0.win 14).flush t = true := (by decide +kernel : ∀ t : Fin grid0.N, win0_14.flush t = true)
theorem flush_norm : ∀ t : Fin cfg0.N, (cfg0.win 15).flush t = true := (by decide +kernel : ∀ t : Fin grid0.N, win0_15.flush t = true)
theorem flush_logit : ∀ t : Fin cfg0.N, (cfg0.win 16).flush t = true := (by decide +kernel : ∀ t : Fin grid0.N, win0_16.flush t = true)

/-- The token of a grid point's row, and a token's batch entry. -/
def tokenOf (t : Fin 16) (r : Fin 1024) : Fin 16384 := ⟨1024 * t.val + r.val, by omega⟩
def batchOf (T : Fin 16384) : Fin 8 := ⟨T.val / 2048, by omega⟩

theorem token_cases (T : Fin 16384) : ∃ (t : Fin 16) (r : Fin 1024), T = tokenOf t r :=
  ⟨⟨T.val / 1024, by omega⟩, ⟨T.val % 1024, by omega⟩, Fin.ext (by show T.val = 1024 * (T.val / 1024) + T.val % 1024; omega)⟩

section
variable (X : Vec Ideal S16384x1024 .f32) (YA : Vec Ideal S16384x512 .bf16) (YD : Vec Ideal S16384x256 .bf16) (P : Vec Ideal S16384x3584 .bf16)
  (G1 SC SH : Vec Ideal S8x1x1024 .f32) (NG : Vec Ideal S1x1024 .f32) (A : Vec Ideal S512x1024 .f32) (B : Vec Ideal S256x1024 .f32) (O : Vec Ideal S1024x1024 .f32)
  (RG : Vec Ideal S1024x4 .f32) (bG : Vec Ideal S4 .f32) (RE : Vec Ideal S1024x32 .f32) (bE : Vec Ideal S32 .f32)

/-- A token's residual row plus the gated projection of its branches. -/
def tokenSum (T : Fin 16384) : Fin 1024 → EReal :=
  addRow (fun q => X (ix2 T q)) (fun q => G1 (ix3 (batchOf T) 0 q)) (fun e => YA (ix2 T e)) (fun e => YD (ix2 T e))
    (fun q => P (ix2 T ⟨q.val, by omega⟩)) (fun q => P (ix2 T ⟨1024 + q.val, by omega⟩)) (fun e q => A (ix2 e q)) (fun e q => B (ix2 e q)) (fun q j => O (ix2 q j))

/-- That row normalised and modulated. -/
def tokenNorm (T : Fin 16384) : Fin 1024 → EReal :=
  modRow (tokenSum X YA YD P G1 A B O T) (fun q => NG (ix2 0 q)) (fun q => SC (ix3 (batchOf T) 0 q)) (fun q => SH (ix3 (batchOf T) 0 q))

/-- The router's logits of it. -/
def tokenLogit (T : Fin 16384) (j : Fin 128) : EReal :=
  dotRow (tokenNorm X YA YD P G1 SC SH NG A B O T) (fun q => routeAt (fun a => RG (ix2 q a)) (fun a => RE (ix2 q a)) j) + routeAt (fun a => bG (ix1 a)) (fun a => bE (ix1 a)) j
end

variable (m : (ℓ : Loc nD τ sig) → Buf (Elt Ideal) ℓ) (c : Dev nD)

theorem rows_in (t : Fin 16) (r : Fin 1024) (k : Fin 1024) :
    iblk m c 0 t (ix2 r k) = m ((c : Thread nD τ).loc main_arg0) (ix2 (tokenOf t r) k) := by
  have e := point_rows t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 1024 + 1 * r.val = 1024 * t.val + r.val; omega
  | ⟨1, _⟩ => show win0_0.index t (1 : Fin 2) * 1024 + 1 * k.val = k.val; omega

theorem first_in (t : Fin 16) (r : Fin 1024) (k : Fin 512) :
    iblk m c 1 t (ix2 r k) = m ((c : Thread nD τ).loc main_arg1) (ix2 (tokenOf t r) k) := by
  have e := point_rows t
  show V m c main_arg1 (((cfg0.win 1).blk t).view.emb (ix2 r k)) = _
  rw [V_main_arg1]
  refine congrArg (m ((c : Thread nD τ).loc main_arg1)) (funext fun a => Fin.ext ?_)
  match a with
  | ⟨0, _⟩ => show win0_1.index t (0 : Fin 2) * 1024 + 1 * r.val = 1024 * t.val + r.val; omega
  | ⟨1, _⟩ => show win0_1.index t (1 : Fin 2) * 512 + 1 * k.val = k.val; omega

theorem second_in (t : Fin 16) (r : Fin 1024) (k : Fin 256) :
    iblk m c 2 t (ix2 r k) = m ((c : Thread nD τ).loc main_arg2) (ix2 (tokenOf t r) k) := by
  have e := point_rows t
  show V m c main_arg2 (((cfg0.win 2).blk t).view.emb (ix2 r k)) = _
  rw [V_main_arg2]
  refine congrArg (m ((c : Thread nD τ).loc main_arg2)) (funext fun a => Fin.ext ?_)
  match a with
  | ⟨0, _⟩ => show win0_2.index t (0 : Fin 2) * 1024 + 1 * r.val = 1024 * t.val + r.val; omega
  | ⟨1, _⟩ => show win0_2.index t (1 : Fin 2) * 256 + 1 * k.val = k.val; omega

theorem gateA_in (t : Fin 16) (r k : Fin 1024) :
    X0_3 m c t (ix2 r k) = m ((c : Thread nD τ).loc main_arg3) (ix2 (tokenOf t r) ⟨k.val, by omega⟩) := by
  have e := point_gates t
  unfold X0_3 Pipeline.Window.fill
  rw [dif_pos (moved0_3 t _)]
  show V m c main_arg3 (((cfg0.win 3).blk t).view.emb _) = _
  rw [V_main_arg3]
  refine congrArg (m ((c : Thread nD τ).loc main_arg3)) (funext fun a => Fin.ext ?_)
  match a with
  | ⟨0, _⟩ => show win0_3.index t (0 : Fin 2) * 1024 + 1 * r.val = 1024 * t.val + r.val; omega
  | ⟨1, _⟩ => show win0_3.index t (1 : Fin 2) * 1024 + 1 * k.val = k.val; omega

theorem gateB_in (t : Fin 16) (r k : Fin 1024) :
    X0_4 m c t (ix2 r k) = m ((c : Thread nD τ).loc main_arg3) (ix2 (tokenOf t r) ⟨1024 + k.val, by omega⟩) := by
  have e := point_gates t
  unfold X0_4 Pipeline.Window.fill
  rw [dif_pos (moved0_4 t _)]
  show V m c main_arg3 (((cfg0.win 4).blk t).view.emb _) = _
  rw [V_main_arg3]
  refine congrArg (m ((c : Thread nD τ).loc main_arg3)) (funext fun a => Fin.ext ?_)
  match a with
  | ⟨0, _⟩ => show win0_4.index t (0 : Fin 2) * 1024 + 1 * r.val = 1024 * t.val + r.val; omega
  | ⟨1, _⟩ => show win0_4.index t (1 : Fin 2) * 1024 + 1 * k.val = 1024 + k.val; omega

theorem gain_in (t : Fin 16) (r k : Fin 1024) :
    iblk m c 5 t (ix3 0 0 k) = m ((c : Thread nD τ).loc main_arg4) (ix3 (batchOf (tokenOf t r)) 0 k) := by
  have e := point_mod t
  show V m c main_arg4 (((cfg0.win 5).blk t).view.emb (ix3 0 0 k)) = _
  rw [V_main_arg4]
  refine congrArg (m ((c : Thread nD τ).loc main_arg4)) (funext fun a => Fin.ext ?_)
  match a with
  | ⟨0, _⟩ => show win0_5.index t (0 : Fin 3) * 1 + 1 * 0 = (1024 * t.val + r.val) / 2048; omega
  | ⟨1, _⟩ => show win0_5.index t (1 : Fin 3) * 1 + 1 * 0 = 0; omega
  | ⟨2, _⟩ => show win0_5.index t (2 : Fin 3) * 1024 + 1 * k.val = k.val; omega

theorem scale_in (t : Fin 16) (r k : Fin 1024) :
    iblk m c 6 t (ix3 0 0 k) = m ((c : Thread nD τ).loc main_arg5) (ix3 (batchOf (tokenOf t r)) 0 k) := by
  have e := point_mod t
  show V m c main_arg5 (((cfg0.win 6).blk t).view.emb (ix3 0 0 k)) = _
  rw [V_main_arg5]
  refine congrArg (m ((c : Thread nD τ).loc main_arg5)) (funext fun a => Fin.ext ?_)
  match a with
  | ⟨0, _⟩ => show win0_6.index t (0 : Fin 3) * 1 + 1 * 0 = (1024 * t.val + r.val) / 2048; omega
  | ⟨1, _⟩ => show win0_6.index t (1 : Fin 3) * 1 + 1 * 0 = 0; omega
  | ⟨2, _⟩ => show win0_6.index t (2 : Fin 3) * 1024 + 1 * k.val = k.val; omega

theorem shift_in (t : Fin 16) (r k : Fin 1024) :
    iblk m c 7 t (ix3 0 0 k) = m ((c : Thread nD τ).loc main_arg6) (ix3 (batchOf (tokenOf t r)) 0 k) := by
  have e := point_mod t
  show V m c main_arg6 (((cfg0.win 7).blk t).view.emb (ix3 0 0 k)) = _
  rw [V_main_arg6]
  refine congrArg (m ((c : Thread nD τ).loc main_arg6)) (funext fun a => Fin.ext ?_)
  match a with
  | ⟨0, _⟩ => show win0_7.index t (0 : Fin 3) * 1 + 1 * 0 = (1024 * t.val + r.val) / 2048; omega
  | ⟨1, _⟩ => show win0_7.index t (1 : Fin 3) * 1 + 1 * 0 = 0; omega
  | ⟨2, _⟩ => show win0_7.index t (2 : Fin 3) * 1024 + 1 * k.val = k.val; omega

/-! A window that is the whole array holds the array. -/

theorem norm_in (t : Fin 16) : iblk m c 8 t = V m c main_arg7 := by
  have e := point_first t
  have e' := point_second t
  refine funext fun (y : S1x1024.Idx) => ?_
  show V m c main_arg7 (((cfg0.win 8).blk t).view.emb y) = _
  refine congrArg (V m c main_arg7) (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega

theorem weightA_in (t : Fin 16) : iblk m c 9 t = V m c main_v6 := by
  have e := point_first t
  have e' := point_second t
  refine funext fun (y : S512x1024.Idx) => ?_
  show V m c main_v6 (((cfg0.win 9).blk t).view.emb y) = _
  refine congrArg (V m c main_v6) (funext fun a => Fin.ext ?_)
  match a with
  | ⟨0, _⟩ => show win0_9.index t (0 : Fin 2) * 512 + 1 * (y 0).val = (y 0).val; omega
  | ⟨1, _⟩ => show win0_9.index t (1 : Fin 2) * 1024 + 1 * (y 1).val = (y 1).val; omega

theorem weightB_in (t : Fin 16) : iblk m c 10 t = V m c main_v7 := by
  have e := point_first t
  have e' := point_second t
  refine funext fun (y : S256x1024.Idx) => ?_
  show V m c main_v7 (((cfg0.win 10).blk t).view.emb y) = _
  refine congrArg (V m c main_v7) (funext fun a => Fin.ext ?_)
  match a with
  | ⟨0, _⟩ => show win0_10.index t (0 : Fin 2) * 256 + 1 * (y 0).val = (y 0).val; omega
  | ⟨1, _⟩ => show win0_10.index t (1 : Fin 2) * 1024 + 1 * (y 1).val = (y 1).val; omega

theorem weightO_in (t : Fin 16) : iblk m c 11 t = V m c main_v8 := by
  have e := point_first t
  have e' := point_second t
  refine funext fun (y : S1024x1024.Idx) => ?_
  show V m c main_v8 (((cfg0.win 11).blk t).view.emb y) = _
  refine congrArg (V m c main_v8) (funext fun a => Fin.ext ?_)
  match a with
  | ⟨0, _⟩ => show win0_11.index t (0 : Fin 2) * 1024 + 1 * (y 0).val = (y 0).val; omega
  | ⟨1, _⟩ => show win0_11.index t (1 : Fin 2) * 1024 + 1 * (y 1).val = (y 1).val; omega

theorem router_in (t : Fin 16) : iblk m c 12 t = V m c main_v2 := by
  have e := point_first t
  have e' := point_second t
  refine funext fun (y : S1024x128.Idx) => ?_
  show V m c main_v2 (((cfg0.win 12).blk t).view.emb y) = _
  refine congrArg (V m c main_v2) (funext fun a => Fin.ext ?_)
  match a with
  | ⟨0, _⟩ => show win0_12.index t (0 : Fin 2) * 1024 + 1 * (y 0).val = (y 0).val; omega
  | ⟨1, _⟩ => show win0_12.index t (1 : Fin 2) * 128 + 1 * (y 1).val = (y 1).val; omega

theorem bias_in (t : Fin 16) : iblk m c 13 t = V m c main_v5 := by
  have e := point_first t
  have e' := point_second t
  refine funext fun (y : S1x128.Idx) => ?_
  show V m c main_v5 (((cfg0.win 13).blk t).view.emb y) = _
  refine congrArg (V m c main_v5) (funext fun a => Fin.ext ?_)
  match a with
  | ⟨0, _⟩ => show win0_13.index t (0 : Fin 2) * 1 + 1 * (y 0).val = (y 0).val; omega
  | ⟨1, _⟩ => show win0_13.index t (1 : Fin 2) * 128 + 1 * (y 1).val = (y 1).val; omega

/-! A token's results in the launch. -/

abbrev launchSum (T : Fin 16384) : Fin 1024 → EReal :=
  tokenSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) T
abbrev launchNorm (T : Fin 16384) : Fin 1024 → EReal :=
  tokenNorm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) T
abbrev launchLogit (T : Fin 16384) : Fin 128 → EReal :=
  tokenLogit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) T

/-- A row of each block is its token's. -/
theorem sum_in (t : Fin 16) (r : Fin 1024) :
    sumRow (iblk m c 0 t) (iblk m c 1 t) (iblk m c 2 t) (X0_3 m c t) (X0_4 m c t) (iblk m c 5 t) (iblk m c 9 t) (iblk m c 10 t) (iblk m c 11 t) r = launchSum m c (tokenOf t r) := by
  unfold launchSum tokenSum sumRow
  rw [weightA_in, weightB_in, weightO_in, first_entry, second_entry, out_entry]
  congr 1
  · exact funext fun q => rows_in m c t r q
  · exact funext fun q => gain_in m c t r q
  · exact funext fun e => first_in m c t r e
  · exact funext fun e => second_in m c t r e
  · exact funext fun q => gateA_in m c t r q
  · exact funext fun q => gateB_in m c t r q

theorem norm_row_in (t : Fin 16) (r : Fin 1024) :
    normRow (iblk m c 0 t) (iblk m c 1 t) (iblk m c 2 t) (X0_3 m c t) (X0_4 m c t) (iblk m c 5 t) (iblk m c 6 t) (iblk m c 7 t) (iblk m c 8 t) (iblk m c 9 t) (iblk m c 10 t) (iblk m c 11 t) r = launchNorm m c (tokenOf t r) := by
  unfold launchNorm tokenNorm normRow
  rw [norm_in, V_main_arg7]
  congr 1
  · exact sum_in m c t r
  · exact funext fun q => scale_in m c t r q
  · exact funext fun q => shift_in m c t r q

theorem logit_in (t : Fin 16) (r : Fin 1024) (j : Fin 128) :
    logitRow (iblk m c 0 t) (iblk m c 1 t) (iblk m c 2 t) (X0_3 m c t) (X0_4 m c t) (iblk m c 5 t) (iblk m c 6 t) (iblk m c 7 t) (iblk m c 8 t) (iblk m c 9 t) (iblk m c 10 t) (iblk m c 11 t) (iblk m c 12 t) (iblk m c 13 t) r j = launchLogit m c (tokenOf t r) j := by
  unfold launchLogit tokenLogit logitRow
  rw [router_in, bias_in, router_entry, bias_entry]
  refine congrArg₂ (· + ·) (congrArg₂ dotRow (norm_row_in m c t r) (funext fun q => ?_)) (bias_at _ _ j)
  exact router_at (m ((c : Thread nD τ).loc main_arg11)) (m ((c : Thread nD τ).loc main_arg13)) q j

theorem sum_place (t : Fin 16) (r : Fin 1024) (j : Fin 1024) :
    (((cfg0.win 14).blk t).view.emb (ix2 r j) : S16384x1024.Idx) = ix2 (tokenOf t r) j := by
  have e := point_out t
  refine funext fun a => Fin.ext ?_
  match a with
  | ⟨0, _⟩ => show win0_14.index t (0 : Fin 2) * 1024 + 1 * r.val = 1024 * t.val + r.val; omega
  | ⟨1, _⟩ => show win0_14.index t (1 : Fin 2) * 1024 + 1 * j.val = j.val; omega

theorem sum_array (T : Fin 16384) (j : Fin 1024) : (dats m 0 c).arrAt 14 cfg0.N (ix2 T j) = launchSum m c T j := by
  obtain ⟨t, r, rfl⟩ := token_cases T
  have bl := congrFun ((Cert.OutProjIdeal.Value.blocks14 m c t (flush_sum t)).trans (Cert.OutProjIdeal.Value.flushed14_A m c t)) (ix2 r j)
  have bl' : (dats m 0 c).arrAt 14 cfg0.N (((cfg0.win 14).blk t).view.emb (ix2 r j)) = _ := bl
  rw [show (((cfg0.win 14).blk t).view.emb (ix2 r j) : S16384x1024.Idx) = _ from sum_place t r j] at bl'
  refine bl'.trans ((sum_block _ _ _ _ _ _ _ _ _ _ _ _ _ _ c (grid0.coords t) _ _ _ _ _ _ _ _ _ _ _ _ _ _ _ _ _ _ _ _ _ _ _ _ _ _ _ _ _ _ _ _ _ _ (ix2 r j)).trans ?_)
  exact congrFun (sum_in m c t r) j

theorem norm_place (t : Fin 16) (r : Fin 1024) (j : Fin 1024) :
    (((cfg0.win 15).blk t).view.emb (ix2 r j) : S16384x1024.Idx) = ix2 (tokenOf t r) j := by
  have e := point_out t
  refine funext fun a => Fin.ext ?_
  match a with
  | ⟨0, _⟩ => show win0_15.index t (0 : Fin 2) * 1024 + 1 * r.val = 1024 * t.val + r.val; omega
  | ⟨1, _⟩ => show win0_15.index t (1 : Fin 2) * 1024 + 1 * j.val = j.val; omega

theorem norm_array (T : Fin 16384) (j : Fin 1024) : (dats m 0 c).arrAt 15 cfg0.N (ix2 T j) = launchNorm m c T j := by
  obtain ⟨t, r, rfl⟩ := token_cases T
  have bl := congrFun ((Cert.OutProjIdeal.Value.blocks15 m c t (flush_norm t)).trans (Cert.OutProjIdeal.Value.flushed15_A m c t)) (ix2 r j)
  have bl' : (dats m 0 c).arrAt 15 cfg0.N (((cfg0.win 15).blk t).view.emb (ix2 r j)) = _ := bl
  rw [show (((cfg0.win 15).blk t).view.emb (ix2 r j) : S16384x1024.Idx) = _ from norm_place t r j] at bl'
  refine bl'.trans ((norm_block _ _ _ _ _ _ _ _ _ _ _ _ _ _ c (grid0.coords t) _ _ _ _ _ _ _ _ _ _ _ _ _ _ _ _ _ _ _ _ _ _ _ _ _ _ _ _ _ _ _ _ _ _ (ix2 r j)).trans ?_)
  exact congrFun (norm_row_in m c t r) j

theorem logit_place (t : Fin 16) (r : Fin 1024) (j : Fin 128) :
    (((cfg0.win 16).blk t).view.emb (ix2 r j) : S16384x128.Idx) = ix2 (tokenOf t r) j := by
  have e := point_out t
  refine funext fun a => Fin.ext ?_
  match a with
  | ⟨0, _⟩ => show win0_16.index t (0 : Fin 2) * 1024 + 1 * r.val = 1024 * t.val + r.val; omega
  | ⟨1, _⟩ => show win0_16.index t (1 : Fin 2) * 128 + 1 * j.val = j.val; omega

theorem logit_array (T : Fin 16384) (j : Fin 128) : (dats m 0 c).arrAt 16 cfg0.N (ix2 T j) = launchLogit m c T j := by
  obtain ⟨t, r, rfl⟩ := token_cases T
  have bl := congrFun ((Cert.OutProjIdeal.Value.blocks16 m c t (flush_logit t)).trans (Cert.OutProjIdeal.Value.flushed16_A m c t)) (ix2 r j)
  have bl' : (dats m 0 c).arrAt 16 cfg0.N (((cfg0.win 16).blk t).view.emb (ix2 r j)) = _ := bl
  rw [show (((cfg0.win 16).blk t).view.emb (ix2 r j) : S16384x128.Idx) = _ from logit_place t r j] at bl'
  refine bl'.trans ((logit_block _ _ _ _ _ _ _ _ _ _ _ _ _ _ c (grid0.coords t) _ _ _ _ _ _ _ _ _ _ _ _ _ _ _ _ _ _ _ _ _ _ _ _ _ _ _ _ _ _ _ _ _ _ (ix2 r j)).trans ?_)
  exact logit_in m c t r j

end Cert.Proof.Out
end
-- ==== Proof.OutRef.lean ====
/- WHAT THE REFERENCE OF THE OUTPUT PROJECTION COMPUTES: at each token, its residual row plus the gated projection of its branches,
   that row normalised and modulated, and the router's logits of it, those of the groups before those of the experts. -/
module

public import Idealize.ShloMosaic.Lib.KernelVsHost
public import proofs.«01_k».proof.Proof.HostRows
public import proofs.«01_k».proof.Proof.OutArray
public import proofs.«01_k».proof.Proof.Gen.OutProjRefIdeal.Read

@[expose] public section

set_option maxRecDepth 16384

noncomputable section

namespace Cert.Proof.Out

open Idealize.ShloMosaic Idealize.ShloMosaic.TcCoe Idealize.ShloMosaic.ValueIdx Cert.OutProjRefIdeal Cert.OutProjRefIdeal.Gen Cert.OutProjRefIdeal.Read

/-- The shape facts of the reference's normalisation. -/
theorem modFacts : ModFacts := ⟨h_S_, reducesTo_S8x2048x1024_S8x2048_d2, by decide, bcast_S8x2048_S8x2048x1_0_1, bcast_S_S8x2048x1,
  bcast_S8x2048x1_S8x2048x1024_0_1_2, bcast_S1x1024_S1x1x1024_1_2, bcast_S1x1x1024_S8x2048x1024_0_1_2, bcast_S_S8x1x1024, bcast_S8x1x1024_S8x2048x1024_0_1_2⟩

variable (x0 : Vec Ideal S16384x1024 .f32) (x1 : Vec Ideal S16384x512 .bf16) (x2 : Vec Ideal S16384x256 .bf16) (x3 : Vec Ideal S16384x3584 .bf16)
  (x4 x5 x6 : Vec Ideal S8x1x1024 .f32) (x7 : Vec Ideal S1x1024 .f32) (x8 : Vec Ideal S512x1024 .f32) (x9 : Vec Ideal S256x1024 .f32) (x10 : Vec Ideal S1024x1024 .f32)
  (x11 : Vec Ideal S1024x4 .f32) (x12 : Vec Ideal S4 .f32) (x13 : Vec Ideal S1024x32 .f32) (x14 : Vec Ideal S32 .f32)

/-! The branches' projections, and their gated sum. -/

theorem first_reference (T : Fin 16384) (q : Fin 1024) :
    val_main_v5 (F := Ideal) x1 x8 (ix2 T q) = dotRow (fun e => x1 (ix2 T e)) (fun e => x8 (ix2 e q)) := by
  rw [val_main_v5_apply]
  refine Finset.sum_congr rfl fun e _ => ?_
  have el : lidx_main_v5 (ix2 T q) e = ix2 T e := funext fun a => match a with | ⟨0, _⟩ => rfl | ⟨1, _⟩ => rfl
  have er : ridx_main_v5 (ix2 T q) e = ix2 e q := funext fun a => match a with | ⟨0, _⟩ => rfl | ⟨1, _⟩ => rfl
  rw [el, er]
  rfl

theorem second_reference (T : Fin 16384) (q : Fin 1024) :
    val_main_v8 (F := Ideal) x2 x9 (ix2 T q) = dotRow (fun e => x2 (ix2 T e)) (fun e => x9 (ix2 e q)) := by
  rw [val_main_v8_apply]
  refine Finset.sum_congr rfl fun e _ => ?_
  have el : lidx_main_v8 (ix2 T q) e = ix2 T e := funext fun a => match a with | ⟨0, _⟩ => rfl | ⟨1, _⟩ => rfl
  have er : ridx_main_v8 (ix2 T q) e = ix2 e q := funext fun a => match a with | ⟨0, _⟩ => rfl | ⟨1, _⟩ => rfl
  rw [el, er]
  rfl

theorem merged_reference (T : Fin 16384) (q : Fin 1024) :
    val_main_v10 (F := Ideal) x1 x2 x3 x8 x9 (ix2 T q)
      = x3 (ix2 T ⟨q.val, by omega⟩) * dotRow (fun e => x1 (ix2 T e)) (fun e => x8 (ix2 e q))
        + x3 (ix2 T ⟨1024 + q.val, by omega⟩) * dotRow (fun e => x2 (ix2 T e)) (fun e => x9 (ix2 e q)) := by
  have ha : val_main_v1 (F := Ideal) x3 (ix2 T q) = x3 (ix2 T ⟨q.val, by omega⟩) :=
    slice_at x3 slices_S16384x3584_S16384x1024_0_0 T q T ⟨q.val, by omega⟩ (Nat.zero_add _).symm (Nat.zero_add _).symm
  have hb : val_main_v3 (F := Ideal) x3 (ix2 T q) = x3 (ix2 T ⟨1024 + q.val, by omega⟩) :=
    slice_at x3 slices_S16384x3584_S16384x1024_0_1024 T q T ⟨1024 + q.val, by omega⟩ (Nat.zero_add _).symm rfl
  show (val_main_v1 (F := Ideal) x3 (ix2 T q) * val_main_v5 (F := Ideal) x1 x8 (ix2 T q)
    + val_main_v3 (F := Ideal) x3 (ix2 T q) * val_main_v8 (F := Ideal) x2 x9 (ix2 T q) : EReal) = _
  rw [first_reference, second_reference, ha, hb]

/-- Their projection. -/
theorem project_reference (T : Fin 16384) (k : Fin 1024) :
    val_main_v12 (F := Ideal) x1 x2 x3 x8 x9 x10 (ix2 T k)
      = dotRow (fun q => x3 (ix2 T ⟨q.val, by omega⟩) * dotRow (fun e => x1 (ix2 T e)) (fun e => x8 (ix2 e q))
        + x3 (ix2 T ⟨1024 + q.val, by omega⟩) * dotRow (fun e => x2 (ix2 T e)) (fun e => x9 (ix2 e q))) (fun q => x10 (ix2 q k)) := by
  rw [val_main_v12_apply]
  refine Finset.sum_congr rfl fun q _ => ?_
  have el : lidx_main_v12 (ix2 T k) q = ix2 T q := funext fun a => match a with | ⟨0, _⟩ => rfl | ⟨1, _⟩ => rfl
  have er : ridx_main_v12 (ix2 T k) q = ix2 q k := funext fun a => match a with | ⟨0, _⟩ => rfl | ⟨1, _⟩ => rfl
  rw [el, er, merged_reference]

/-- THE RESIDUAL at an index. -/
theorem residual_reference (T : Fin 16384) (b : Fin 8) (r : Fin 2048) (hb : b.val = T.val / 2048) (hr : r.val = T.val % 2048) (k : Fin 1024) :
    val_main_v16 (F := Ideal) x0 x1 x2 x3 x4 x8 x9 x10 (ix3 b r k) = tokenSum x0 x1 x2 x3 x4 x8 x9 x10 T k := by
  have hB : b = batchOf T := Fin.ext hb
  have h0 : val_main_v11 (F := Ideal) x0 (ix3 b r k) = x0 (ix2 T k) := entries_at x0 shapeCasts_S16384x1024_S8x2048x1024 T b r (by omega) k
  have h1 : val_main_v13 (F := Ideal) x1 x2 x3 x8 x9 x10 (ix3 b r k) = val_main_v12 (F := Ideal) x1 x2 x3 x8 x9 x10 (ix2 T k) :=
    entries_at _ shapeCasts_S16384x1024_S8x2048x1024 T b r (by omega) k
  have h2 : val_main_v14 (F := Ideal) x4 (ix3 b r k) = x4 (ix3 (batchOf T) 0 k) := by
    rw [val_main_v14_apply, ← hB]
    exact congrArg x4 (funext fun a => match a with | ⟨0, _⟩ => rfl | ⟨1, _⟩ => rfl | ⟨2, _⟩ => rfl)
  show (val_main_v11 (F := Ideal) x0 (ix3 b r k)
    + val_main_v14 (F := Ideal) x4 (ix3 b r k) * val_main_v13 (F := Ideal) x1 x2 x3 x8 x9 x10 (ix3 b r k) : EReal) = _
  rw [h0, h1, h2, project_reference]
  rfl

theorem sum_reference (T : Fin 16384) (k : Fin 1024) :
    val_main_v47 (F := Ideal) x0 x1 x2 x3 x4 x8 x9 x10 (ix2 T k) = tokenSum x0 x1 x2 x3 x4 x8 x9 x10 T k :=
  (tokens_at _ shapeCasts_S8x2048x1024_S16384x1024 T k).trans (residual_reference x0 x1 x2 x3 x4 x8 x9 x10 T _ _ rfl rfl k)

/-- THE NORMALISED ROWS at an index. -/
theorem hidden_reference (T : Fin 16384) (k : Fin 1024) :
    val_main_v36 (F := Ideal) x0 x1 x2 x3 x4 x5 x6 x7 x8 x9 x10 (ix2 T k) = tokenNorm x0 x1 x2 x3 x4 x5 x6 x7 x8 x9 x10 T k := by
  refine (tokens_at (val_main_v35 (F := Ideal) x0 x1 x2 x3 x4 x5 x6 x7 x8 x9 x10) shapeCasts_S8x2048x1024_S16384x1024 T k).trans ?_
  have e : val_main_v35 (F := Ideal) x0 x1 x2 x3 x4 x5 x6 x7 x8 x9 x10
    = modHost modFacts (val_main_v16 (F := Ideal) x0 x1 x2 x3 x4 x8 x9 x10) x7 x5 x6 := rfl
  rw [e]
  refine (modHost_at modFacts _ x7 x5 x6 _ _ k).trans ?_
  have e0 := funext fun q => residual_reference x0 x1 x2 x3 x4 x8 x9 x10 T ⟨T.val / 2048, by omega⟩ ⟨T.val % 2048, by omega⟩ rfl rfl q
  unfold tokenNorm
  rw [e0]
  rfl

theorem norm_reference (T : Fin 16384) (k : Fin 1024) :
    val_main_v48 (F := Ideal) x0 x1 x2 x3 x4 x5 x6 x7 x8 x9 x10 (ix2 T k) = tokenNorm x0 x1 x2 x3 x4 x5 x6 x7 x8 x9 x10 T k :=
  hidden_reference x0 x1 x2 x3 x4 x5 x6 x7 x8 x9 x10 T k

/-! The groups' logits, and the experts'. -/

theorem groups_reference (T : Fin 16384) (j : Fin 4) :
    val_main_v40 (F := Ideal) x0 x1 x2 x3 x4 x5 x6 x7 x8 x9 x10 x11 x12 (ix2 T j)
      = dotRow (tokenNorm x0 x1 x2 x3 x4 x5 x6 x7 x8 x9 x10 T) (fun q => x11 (ix2 q j)) + x12 (ix1 j) := by
  refine congrArg₂ (fun a b : EReal => a + b) ?_ ?_
  · rw [val_main_v37_apply]
    refine Finset.sum_congr rfl fun q _ => ?_
    have el : lidx_main_v37 (ix2 T j) q = ix2 T q := funext fun a => match a with | ⟨0, _⟩ => rfl | ⟨1, _⟩ => rfl
    have er : ridx_main_v37 (ix2 T j) q = ix2 q j := funext fun a => match a with | ⟨0, _⟩ => rfl | ⟨1, _⟩ => rfl
    rw [el, er, hidden_reference]
  · rw [val_main_v39_apply, val_main_v38_apply]
    exact congrArg x12 (funext fun a => match a with | ⟨0, _⟩ => rfl)

theorem experts_reference (T : Fin 16384) (j : Fin 32) :
    val_main_v44 (F := Ideal) x0 x1 x2 x3 x4 x5 x6 x7 x8 x9 x10 x13 x14 (ix2 T j)
      = dotRow (tokenNorm x0 x1 x2 x3 x4 x5 x6 x7 x8 x9 x10 T) (fun q => x13 (ix2 q j)) + x14 (ix1 j) := by
  refine congrArg₂ (fun a b : EReal => a + b) ?_ ?_
  · rw [val_main_v41_apply]
    refine Finset.sum_congr rfl fun q _ => ?_
    have el : lidx_main_v41 (ix2 T j) q = ix2 T q := funext fun a => match a with | ⟨0, _⟩ => rfl | ⟨1, _⟩ => rfl
    have er : ridx_main_v41 (ix2 T j) q = ix2 q j := funext fun a => match a with | ⟨0, _⟩ => rfl | ⟨1, _⟩ => rfl
    rw [el, er, hidden_reference]
  · rw [val_main_v43_apply, val_main_v42_apply]
    exact congrArg x14 (funext fun a => match a with | ⟨0, _⟩ => rfl)

/-- THE LOGITS, filled with zeros, at an index. -/
theorem logit_reference (T : Fin 16384) (j : Fin 128) :
    val_main_v46 (F := Ideal) x0 x1 x2 x3 x4 x5 x6 x7 x8 x9 x10 x11 x12 x13 x14 (ix2 T j)
      = tokenLogit x0 x1 x2 x3 x4 x5 x6 x7 x8 x9 x10 x11 x12 x13 x14 T j := by
  have hj := j.isLt
  unfold val_main_v46 tokenLogit
  by_cases h : j.val < 36
  · refine (pad_apply_of_inside _ _ _ _ _ pads_S16384x36_S16384x128_000_0920 h_S_ (ix2 T j) (ix2 T ⟨j.val, h⟩) (fun a => match a with
      | ⟨0, _⟩ => by show T.val = 0 + T.val * 1; omega
      | ⟨1, _⟩ => by show j.val = 0 + j.val * 1; omega)).trans ?_
    unfold val_main_v45
    by_cases h4 : j.val < 4
    · refine (left_at _ _ concatenates_S16384x4_S16384x32_S16384x36_d1 T ⟨j.val, h⟩ ⟨j.val, h4⟩ rfl).trans ((groups_reference _ _ _ _ _ _ _ _ _ _ _ _ _ T ⟨j.val, h4⟩).trans ?_)
      unfold routeAt
      simp only [dif_pos h4]
    · refine (right_at _ _ concatenates_S16384x4_S16384x32_S16384x36_d1 T ⟨j.val, h⟩ ⟨j.val - 4, by omega⟩ (by show j.val - 4 + 4 = j.val; omega)).trans
        ((experts_reference _ _ _ _ _ _ _ _ _ _ _ _ _ T ⟨j.val - 4, by omega⟩).trans ?_)
      unfold routeAt
      simp only [dif_neg h4, dif_pos h]
  · have h4 : ¬ j.val < 4 := by omega
    refine (pad_apply_of_not_inside _ _ _ _ _ pads_S16384x36_S16384x128_000_0920 h_S_ (ix2 T j) 1 (fun hin => ?_)).trans ?_
    · have h' : (j.val - 0) / (0 + 1) < 36 := hin.2.2
      omega
    · unfold routeAt
      simp only [dif_neg h4, dif_neg h]
      have hz : dotRow (tokenNorm x0 x1 x2 x3 x4 x5 x6 x7 x8 x9 x10 T) (fun _ => 0) = 0 := Finset.sum_eq_zero fun k _ => mul_zero _
      rw [hz]
      show (((0#32 : BitVec 32).toInt : ℝ) : EReal) = 0 + 0
      simp

end Cert.Proof.Out
end
-- ==== Proof.OutEq.lean ====
/- THE OUTPUT PROJECTION AND ITS REFERENCE end with the same three arrays: each element of each is the same expression of the
   arguments, read from the launch in Proof/OutArray.lean and from the reference in Proof/OutRef.lean. -/
module

public import proofs.«01_k».proof.Defs
public import proofs.«01_k».proof.Proof.OutRef
public import proofs.«01_k».proof.Proof.Gen.OutProjRefIdeal.Run
public import Idealize.ShloMosaic.Lib.Quiescent

@[expose] public section

noncomputable section

namespace Cert.Proof.Out

open Idealize.ShloMosaic Idealize.ShloMosaic.TcCoe Idealize.ShloMosaic.ValueIdx Idealize.SL.Sem

theorem algebraic : Cert.algebraic_OutProjIdeal_OutProjRefIdeal := by
  intro m ρ m' ρ' hpre hagree
  refine ⟨_, _, _, Cert.OutProjIdeal.Value.run_blocks (F := Ideal) m ρ, ?_⟩
  refine (θ_run Cert.OutProjRefIdeal.defs _ _).mono (fun _ h c => ?_) (Cert.OutProjRefIdeal.Value.run (F := Ideal) m' ρ')
  obtain ⟨a0, a1, a2, a3, a4, a5, a6, a7, a8, a9, a10, a11, a12, a13, a14⟩ := hagree c
  refine ⟨(h c).1.trans ?_, (h c).2.1.trans ?_, (h c).2.2.1.trans ?_, (h c).2.2.2⟩
  · refine (Cert.OutProjRefIdeal.Read.val_main_v47_eq (F := Ideal) _ _ _ _ _ _ _ _).trans ?_
    rw [a0, a1, a2, a3, a4, a8, a9, a10]
    exact array_ext fun T j => (sum_reference _ _ _ _ _ _ _ _ T j).trans (sum_array m c T j).symm
  · refine (Cert.OutProjRefIdeal.Read.val_main_v48_eq (F := Ideal) m' c).trans ?_
    rw [a0, a1, a2, a3, a4, a5, a6, a7, a8, a9, a10]
    exact array_ext fun T j => (norm_reference _ _ _ _ _ _ _ _ _ _ _ T j).trans (norm_array m c T j).symm
  · refine (Cert.OutProjRefIdeal.Read.val_main_v46_eq (F := Ideal) m' c).trans ?_
    rw [a0, a1, a2, a3, a4, a5, a6, a7, a8, a9, a10, a11, a12, a13, a14]
    exact array_ext fun T j => (logit_reference _ _ _ _ _ _ _ _ _ _ _ _ _ _ _ T j).trans (logit_array m c T j).symm

/-- The reference's frame. -/
theorem reference_frame : Cert.quiescent_OutProjRefIdeal := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

end Cert.Proof.Out
end
-- ==== Proof.ForGate.lean ====
/- THE LOGARITHM OF A FORGET GATE in units of log 2, as the kernel computes it and as the reference does, and the running
   sum of such logarithms: adding 256 of them to the sum of those before. A gate's logarithm is never `+∞`, so its three
   rounded parts add up to it, at `-∞` too. -/
module

public import proofs.«01_k».proof.Proof.FoxRef

@[expose] public section

noncomputable section

namespace Cert.Proof.Forget

open Idealize.ShloMosaic Idealize.ShloMosaic.ValueIdx
open scoped BigOperators

/-- The kernel's logarithm of a gate. -/
def gate (x : EReal) : EReal := (min x 0 - Ideal.log (1 + Ideal.exp (0 - max x (-x)))) * (((Real.log 2)⁻¹ : ℝ) : EReal)

/-- The reference's: minus the logarithm of one plus the exponential of the opposite, over log 2. -/
def gateRef (x : EReal) : EReal :=
  Ideal.div (-(max (-x) 0 + Ideal.log (1 + Ideal.exp (-(max (-x - 0) (-(-x - 0))))))) ((Real.log 2 : ℝ) : EReal)

theorem log2_pos : 0 < Real.log 2 := Real.log_pos (by norm_num)

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem gateRef_eq (x : EReal) : gateRef x = gate x := by
  unfold gateRef gate
  rw [Ideal.div_coe log2_pos.ne', one_div]
  refine congrArg (· * (((Real.log 2)⁻¹ : ℝ) : EReal)) ?_
  have h1 : Ideal.log 1 = 0 := by
    rw [← EReal.coe_one, Ideal.log_coe, if_neg (by norm_num), Real.log_one, EReal.coe_zero]
  induction x using EReal.rec with
  | bot => simp [sub_eq_add_neg, h1]
  | top => simp [sub_eq_add_neg, h1]
  | coe r =>
    have hp : ¬ (1 + Real.exp (-|r|) ≤ 0) := not_le.mpr (by positivity)
    have ha : max ((-r : ℝ) : EReal) (r : EReal) = ((|r| : ℝ) : EReal) := by
      rw [← coe_max, max_comm]; rfl
    have hb : max (r : EReal) ((-r : ℝ) : EReal) = ((|r| : ℝ) : EReal) := by
      rw [← coe_max]; rfl
    rw [sub_zero, ← EReal.coe_neg, ← EReal.coe_neg, neg_neg, ha, hb, zero_sub, ← EReal.coe_neg, Ideal.exp_coe, ← EReal.coe_one, ← EReal.coe_add, Ideal.log_coe, if_neg hp,
      ← EReal.coe_zero, ← coe_max, ← coe_min, ← EReal.coe_add, ← EReal.coe_sub, ← EReal.coe_neg]
    refine congrArg _ ?_
    rcases le_total r 0 with h | h
    · rw [min_eq_left h, max_eq_left (by linarith)]; ring
    · rw [min_eq_right h, max_eq_right (by linarith)]; ring

theorem gate_ne_top (x : EReal) : gate x ≠ ⊤ := by
  unfold gate
  have h1 : Ideal.log 1 = 0 := by
    rw [← EReal.coe_one, Ideal.log_coe, if_neg (by norm_num), Real.log_one, EReal.coe_zero]
  induction x using EReal.rec with
  | bot =>
    have hi : (0 : ℝ) < (Real.log 2)⁻¹ := inv_pos.mpr log2_pos
    simp [sub_eq_add_neg, h1]
    rw [EReal.bot_mul_coe_of_pos hi]
    exact bot_ne_top
  | top => simp [sub_eq_add_neg, h1]
  | coe r =>
    have hp : ¬ (1 + Real.exp (-|r|) ≤ 0) := not_le.mpr (by positivity)
    have hb : max (r : EReal) ((-r : ℝ) : EReal) = ((|r| : ℝ) : EReal) := by
      rw [← coe_max]; rfl
    rw [← EReal.coe_neg, hb, zero_sub, ← EReal.coe_neg, Ideal.exp_coe, ← EReal.coe_one, ← EReal.coe_add, Ideal.log_coe, if_neg hp,
      ← EReal.coe_zero, ← coe_min, ← EReal.coe_sub, ← EReal.coe_mul]
    exact EReal.coe_ne_top _

/-- Three parts of a value, times one or zero. -/
theorem parts_eq (x : EReal) (h : x ≠ ⊤) (p : Prop) [Decidable p] :
    x * (if p then 1 else 0) + (x - x) * (if p then 1 else 0) + ((x - x) - (x - x)) * (if p then 1 else 0) = if p then x else 0 := by
  by_cases hp : p
  · simp only [if_pos hp, mul_one]
    induction x using EReal.rec with
    | bot => simp [sub_eq_add_neg]
    | top => exact absurd rfl h
    | coe r =>
      have e : (r : EReal) - r = ((0 : ℝ) : EReal) := by rw [← EReal.coe_sub, sub_self]
      rw [e]; simp
  · simp only [if_neg hp, mul_zero, add_zero]

/-- The first `n` values of a row, added up; a row is read as zero past its end. -/
def upTo {N : ℕ} (v : Fin N → EReal) (n : ℕ) : EReal := ∑ q ∈ Finset.range n, if h : q < N then v ⟨q, h⟩ else 0

/-- The values from `o` on, `c + 1` of the next 256, added to the `o` before. -/
theorem upTo_add {N : ℕ} (v : Fin N → EReal) (o c : ℕ) (ho : o + 256 ≤ N) (hc : c < 256) :
    (∑ q : Fin 256, if q.val ≤ c then v ⟨o + q.val, by omega⟩ else 0) + upTo v o = upTo v (o + (c + 1)) := by
  unfold upTo
  rw [Finset.sum_range_add, add_comm]
  refine congrArg (_ + ·) ?_
  let f : ℕ → EReal := fun q => if q ∈ Finset.range (c + 1) then (if h : o + q < N then v ⟨o + q, h⟩ else 0) else 0
  have e : ∀ q : Fin 256, (if q.val ≤ c then v ⟨o + q.val, by omega⟩ else 0) = f q.val := fun q => by
    have hq := q.isLt
    show _ = if q.val ∈ Finset.range (c + 1) then (if h : o + q.val < N then v ⟨o + q.val, h⟩ else 0) else 0
    rw [dif_pos (by omega : o + q.val < N)]
    refine if_congr ?_ rfl rfl
    rw [Finset.mem_range]; omega
  rw [Finset.sum_congr rfl fun q _ => e q, Fin.sum_univ_eq_sum_range f 256, Finset.sum_ite_mem, Finset.inter_eq_right.mpr]
  intro q hq
  rw [Finset.mem_range] at hq ⊢
  omega

/-- All 256 of them. -/
theorem upTo_next {N : ℕ} (v : Fin N → EReal) (o : ℕ) (ho : o + 256 ≤ N) :
    upTo v o + (∑ q : Fin 256, v ⟨o + q.val, by omega⟩) = upTo v (o + 256) := by
  rw [add_comm, ← upTo_add v o 255 ho (by norm_num)]
  refine congrArg (· + _) (Finset.sum_congr rfl fun q _ => ?_)
  rw [if_pos (by omega : q.val ≤ 255)]

end Cert.Proof.Forget
end
-- ==== Proof.ForTile.lean ====
/- THE TILES of the forget gates' running sum, read at a row and a column: a block of 256 gates in its three rounded parts
   against the triangle of ones, the sum carried from block to block, the block stored, and the gates themselves. -/
module

public import proofs.«01_k».proof.Proof.ForGate
public import proofs.«01_k».proof.Proof.Rows
public import proofs.«01_k».proof.Proof.Gen.ForgetIdeal.Value
public import Idealize.ShloMosaic.Lib.IdealHost

@[expose] public section

set_option maxRecDepth 16384

noncomputable section

namespace Cert.Proof.Forget

open Idealize.ShloMosaic Idealize.ShloMosaic.ValueIdx Cert.ForgetIdeal Cert.ForgetIdeal.Gen
open scoped BigOperators

section
variable {F : FTy → Type} [FloatOps F]

/-- A block of gates, rounded, what the rounding leaves, rounded, and what that leaves, each times the triangle. -/
def threeParts (x : FVec F S128x256 .f32) (w : Vec F S256x512 .bf16) : FVec F S128x512 .f32 :=
  addf (addf (matmul dot_S128x256_S256x512_S128x512_1_0_0_1_n_n none (truncf .bf16 x bitsLt_bf16_f32) (shapeCast S256x512 w shapeCasts_S256x512_S256x512)
      (constant S128x512 .f32 0x00000000#32))
    (matmul dot_S128x256_S256x512_S128x512_1_0_0_1_n_n none
      (truncf .bf16 (subf x (extf .f32 (truncf .bf16 x bitsLt_bf16_f32) bitsLt_bf16_f32)) bitsLt_bf16_f32) (shapeCast S256x512 w shapeCasts_S256x512_S256x512)
      (constant S128x512 .f32 0x00000000#32)))
    (matmul dot_S128x256_S256x512_S128x512_1_0_0_1_n_n none
      (truncf .bf16 (subf (subf x (extf .f32 (truncf .bf16 x bitsLt_bf16_f32) bitsLt_bf16_f32))
        (extf .f32 (truncf .bf16 (subf x (extf .f32 (truncf .bf16 x bitsLt_bf16_f32) bitsLt_bf16_f32)) bitsLt_bf16_f32) bitsLt_bf16_f32)) bitsLt_bf16_f32)
      (shapeCast S256x512 w shapeCasts_S256x512_S256x512) (constant S128x512 .f32 0x00000000#32))

/-- The carried sum with a block's total added. -/
def carried (k : FVec F S128x256 .f32) (p : FVec F S128x512 .f32) : FVec F S128x256 .f32 :=
  addf k (extractStridedSlice S128x256 ![0, 256] p slices_S128x512_o0_256_S128x256)

/-- The block stored: the running sums inside it plus the carried sum, for the 8 heads. -/
def stored (p : FVec F S128x512 .f32) (k : FVec F S128x256 .f32) : FVec F S1x8x256 .f32 :=
  shapeCast S1x8x256 (extractStridedSlice S8x256 ![0, 0] (addf (extractStridedSlice S128x256 ![0, 0] p slices_S128x512_o0_0_S128x256) k)
    slices_S128x256_o0_0_S8x256) shapeCasts_S8x256_S1x8x256

variable [Named F] (g : FVec F S128x2048 .f32) (w : Vec F S256x512 .bf16) (k : FVec F S128x256 .f32) (p : FVec F S128x512 .f32)
  (a : Vec F S1x2048x128 .f32) (b : Vec F S1x128 .f32)

/-- The gates from column `o` on. -/
abbrev block (o : ℕ) (h : S128x2048.Slices ![0, o] S128x256) : FVec F S128x256 .f32 := extractStridedSlice S128x256 ![0, o] g h

theorem product0 : k0_pay6 a b w = threeParts (block (k0_pay4 a b) 0 slices_S128x2048_o0_0_S128x256) w := rfl
theorem product1 : k0_pay9 g w = threeParts (block g 256 slices_S128x2048_o0_256_S128x256) w := rfl
theorem product2 : k0_pay12 g w = threeParts (block g 512 slices_S128x2048_o0_512_S128x256) w := rfl
theorem product3 : k0_pay16 g w = threeParts (block g 768 slices_S128x2048_o0_768_S128x256) w := rfl
theorem product4 : k0_pay19 g w = threeParts (block g 1024 slices_S128x2048_o0_1024_S128x256) w := rfl
theorem product5 : k0_pay23 g w = threeParts (block g 1280 slices_S128x2048_o0_1280_S128x256) w := rfl
theorem product6 : k0_pay1 (k0_pay30 g) (k0_pay31 w) (k0_pay32 g w) = threeParts (block g 1536 slices_S128x2048_o0_1536_S128x256) w := rfl

theorem store0 : k0_pay7 a b w = stored (k0_pay6 a b w) (k0_pay5 (F := F)) := rfl
theorem store1 : k0_pay10 g k p w = stored (k0_pay9 g w) (carried k p) := rfl
theorem store2 : k0_pay14 (k0_pay13 g k p w w) = stored (k0_pay12 g w) (k0_pay11 g k p w) := rfl
theorem store3 : k0_pay17 g k p w = stored (k0_pay16 g w) (carried k p) := rfl
theorem store4 : k0_pay21 k (k0_pay20 g w) = stored (k0_pay19 g w) k := rfl
theorem store5 : k0_pay24 g k p w = stored (k0_pay23 g w) (carried k p) := rfl
theorem store6 : k0_pay2 k (k0_pay30 g) (k0_pay31 w) (k0_pay32 g w) = stored (k0_pay1 (k0_pay30 g) (k0_pay31 w) (k0_pay32 g w)) k := rfl
theorem store7 : k0_pay3 g k (k0_pay30 g) (k0_pay31 w) (k0_pay32 g w) w
    = stored (threeParts (block g 1792 slices_S128x2048_o0_1792_S128x256) w) (carried k (k0_pay1 (k0_pay30 g) (k0_pay31 w) (k0_pay32 g w))) := rfl

theorem carry2 : k0_pay11 g k p w = carried (carried k p) (k0_pay9 g w) := rfl
theorem carry4 : k0_pay18 g k p w = carried (carried k p) (k0_pay16 g w) := rfl
theorem carry6 : k0_pay25 g k p w = carried (carried k p) (k0_pay23 g w) := rfl
end

/-- The triangle of ones, twice as wide as high: past its height every row is ones. -/
def IsTriangle (w : Vec Ideal S256x512 .bf16) : Prop := ∀ (q : Fin 256) (c : Fin 512), w (ix2 q c) = if q.val ≤ c.val then 1 else 0

variable (g : FVec Ideal S128x2048 .f32) (hg : ∀ i, g i ≠ ⊤) (w : Vec Ideal S256x512 .bf16) (hw : IsTriangle w)

/-- A row of the gates. -/
abbrev rowOf (r : Fin 128) : Fin 2048 → EReal := fun t => g (ix2 r t)

include hg hw in
theorem threeParts_at (o : ℕ) (ho : o + 256 ≤ 2048) (h : S128x2048.Slices ![0, o] S128x256) (r : Fin 128) (c : Fin 512) :
    threeParts (block g o h) w (ix2 r c) = ∑ q : Fin 256, if q.val ≤ c.val then rowOf g r ⟨o + q.val, by omega⟩ else 0 := by
  have hx : ∀ q : Fin 256, block g o h (ix2 r q) = rowOf g r ⟨o + q.val, by omega⟩ := fun q =>
    slice_at g h r q r ⟨o + q.val, by omega⟩ (Nat.zero_add _).symm rfl
  have hs : shapeCast S256x512 w shapeCasts_S256x512_S256x512 = w := shapeCast_self _ _
  unfold threeParts
  rw [hs]
  refine (congrArg₂ (· + ·) (congrArg₂ (· + ·) (product_at _ _ r c) (product_at _ _ r c)) (product_at _ _ r c)).trans ?_
  unfold dotRow
  rw [← Finset.sum_add_distrib, ← Finset.sum_add_distrib]
  refine Finset.sum_congr rfl fun q _ => ?_
  show block g o h (ix2 r q) * w (ix2 q c) + (block g o h (ix2 r q) - block g o h (ix2 r q)) * w (ix2 q c)
    + ((block g o h (ix2 r q) - block g o h (ix2 r q)) - (block g o h (ix2 r q) - block g o h (ix2 r q))) * w (ix2 q c) = _
  rw [hx q, hw q c]
  exact parts_eq _ (hg _) _

/-- A carried sum holding the sums of the first `o` gates. -/
def Carries (k : FVec Ideal S128x256 .f32) (o : ℕ) : Prop := ∀ (r : Fin 128) (c : Fin 256), k (ix2 r c) = upTo (rowOf g r) o

include hg hw in
theorem carried_at (k : FVec Ideal S128x256 .f32) (o : ℕ) (ho : o + 256 ≤ 2048) (h : S128x2048.Slices ![0, o] S128x256) (hk : Carries g k o) :
    Carries g (carried k (threeParts (block g o h) w)) (o + 256) := by
  intro r c
  have hc := c.isLt
  have e : carried k (threeParts (block g o h) w) (ix2 r c) = upTo (rowOf g r) o + _ :=
    congrArg₂ (· + ·) (hk r c) ((slice_at _ slices_S128x512_o0_256_S128x256 r c r ⟨256 + c.val, by omega⟩ (Nat.zero_add _).symm rfl).trans
      (threeParts_at g hg w hw o ho h r ⟨256 + c.val, by omega⟩))
  rw [e, ← upTo_next _ o ho]
  refine congrArg (_ + ·) (Finset.sum_congr rfl fun q _ => if_pos ?_)
  show q.val ≤ 256 + c.val
  omega

include hg hw in
theorem stored_at (k : FVec Ideal S128x256 .f32) (o : ℕ) (ho : o + 256 ≤ 2048) (h : S128x2048.Slices ![0, o] S128x256) (hk : Carries g k o)
    (z : Fin 1) (r : Fin 8) (c : Fin 256) :
    stored (threeParts (block g o h) w) k (ix3 z r c) = upTo (rowOf g (r.castLE (by norm_num))) (o + c.val + 1) := by
  have hc := c.isLt
  refine (block_at _ shapeCasts_S8x256_S1x8x256 z r c).trans ((slice_at _ slices_S128x256_o0_0_S8x256 r c (r.castLE (by norm_num)) c
    (Nat.zero_add _).symm (Nat.zero_add _).symm).trans ?_)
  have e := congrArg₂ (· + ·) ((slice_at _ slices_S128x512_o0_0_S128x256 (r.castLE (by norm_num) : Fin 128) c (r.castLE (by norm_num)) (⟨c.val, by omega⟩ : Fin 512)
    (Nat.zero_add _).symm (Nat.zero_add _).symm).trans (threeParts_at g hg w hw o ho h (r.castLE (by norm_num)) ⟨c.val, by omega⟩)) (hk (r.castLE (by norm_num)) c)
  exact e.trans ((upTo_add _ o c.val ho hc).trans (congrArg _ (Nat.add_assoc _ _ _).symm))

/-- Nothing is carried into the first block. -/
theorem carries_zero : Carries g (k0_pay5 (F := Ideal)) 0 := fun _ _ => Ideal.ofBits_zero_f32

/-- A gate, from its logit and its head's bias. -/
theorem gates_at (a : Vec Ideal S1x2048x128 .f32) (b : Vec Ideal S1x128 .f32) (r : Fin 128) (t : Fin 2048) :
    k0_pay4 (F := Ideal) a b (ix2 r t) = gate (a (ix3 0 t r) + b (ix2 0 r)) := by
  unfold k0_pay4
  refine (transpose_apply (s := S2048x128) [1, 0] _ transposes_S2048x128_p1_0_S128x2048 (ix2 r t) (ix2 t r) (fun d => match d with
    | ⟨0, _⟩ => rfl
    | ⟨1, _⟩ => rfl)).trans ?_
  have hx : (addf (F := Ideal) (shapeCast S2048x128 a shapeCasts_S1x2048x128_S2048x128 : FVec Ideal S2048x128 .f32)
      (broadcastTo S2048x128 (shapeCast S1x128 b shapeCasts_S1x128_S1x128) broadcasts_S1x128_S2048x128 : FVec Ideal S2048x128 .f32)) (ix2 t r)
      = a (ix3 0 t r) + b (ix2 0 r) := by
    refine congrArg₂ (· + ·) (unblock_at a _ t r) ((row_bcast_at _ broadcasts_S1x128_S2048x128 t r).trans ?_)
    rw [shapeCast_self]
  unfold gate
  rw [← hx, ← Ideal.ofBits_one_f32, ← Ideal.ofBits_zero_f32]
  rfl

end Cert.Proof.Forget
end
-- ==== Proof.ForBlock.lean ====
/- THE BLOCK A GRID POINT LEAVES: at head `h` and position `t`, the sum of that head's gates up to and including `t`. Eight
   blocks of 256 positions are stored one after another, each carrying the sum of those before. -/
module

public import proofs.«01_k».proof.Proof.ForTile
public import Idealize.ShloMosaic.Lib.Pipeline.ValueKit.Tiles

@[expose] public section

set_option maxRecDepth 16384

noncomputable section

namespace Cert.Proof.Forget

open Idealize.ShloMosaic Idealize.ShloMosaic.ValueIdx Cert.ForgetIdeal Cert.ForgetIdeal.Gen Idealize.ShloMosaic.Tactic

/-- The gates of a batch entry: a row to each head. -/
def gateRow (a : Vec Ideal S1x2048x128 .f32) (b : Vec Ideal S1x128 .f32) (r : Fin 128) : Fin 2048 → EReal := fun t => gate (a (ix3 0 t r) + b (ix2 0 r))

/-- What the block holds at a head and a position. -/
def sumAt (a : Vec Ideal S1x2048x128 .f32) (b : Vec Ideal S1x128 .f32) (y : S1x8x2048.Idx) : EReal :=
  upTo (gateRow a b ⟨(y 1).val, lt_trans (y 1).isLt (by decide)⟩) ((y 2).val + 1)

/-- A stored block of 256 positions. -/
theorem piece_at {o : ℕ} (a : Vec Ideal S1x2048x128 .f32) (b : Vec Ideal S1x128 .f32) (T : FVec Ideal S1x8x256 .f32)
    (inb : ∀ d : Fin 3, (![0, 0, o] : Fin 3 → ℕ) d + S1x8x256.size d ≤ S1x8x2048.size d)
    (hT : ∀ (z : Fin 1) (r : Fin 8) (c : Fin 256), T (ix3 z r c) = upTo (gateRow a b (r.castLE (by norm_num))) (o + c.val + 1)) (x : S1x8x256.Idx) :
    T x = sumAt a b ((Rect.unit (s := S1x8x2048) ![0, 0, o] S1x8x256.size inb).emb x) := by
  obtain ⟨z, r, c, rfl⟩ : ∃ (z : Fin 1) (r : Fin 8) (c : Fin 256), x = ix3 z r c := ⟨x 0, x 1, x 2, eq_ix3 x⟩
  have e1 := Rect.idx_unit_val (s := S1x8x2048) ![0, 0, o] S1x8x256.size inb (ix3 z r c) 1
  have e2 := Rect.idx_unit_val (s := S1x8x2048) ![0, 0, o] S1x8x256.size inb (ix3 z r c) 2
  refine (hT z r c).trans (congrArg₂ (fun h n => upTo (gateRow a b h) n) (Fin.ext ?_) ?_)
  · exact ((e1.trans (Nat.zero_add _)).symm : r.val = _)
  · exact congrArg (· + 1) (e2.symm : o + c.val = _)

/-- A load of a whole array. -/
theorem load_row (X : Vec Ideal S1x128 .f32) : View.ld X r0_1 = X := by
  refine funext fun i => congrArg X (funext fun d => Fin.ext ?_)
  rw [Rect.idx_unit_val]
  match d with
  | ⟨0, _⟩ => exact Nat.zero_add _
  | ⟨1, _⟩ => exact Nat.zero_add _

theorem load_triangle (X : Vec Ideal S256x512 .bf16) : View.ld X r0_2 = X := by
  refine funext fun i => congrArg X (funext fun d => Fin.ext ?_)
  rw [Rect.idx_unit_val]
  match d with
  | ⟨0, _⟩ => exact Nat.zero_add _
  | ⟨1, _⟩ => exact Nat.zero_add _

theorem load_logits (X : Vec Ideal S1x2048x128 .f32) : View.ld X r0_0 = X := by
  refine funext fun i => congrArg X (funext fun d => Fin.ext ?_)
  rw [Rect.idx_unit_val]
  match d with
  | ⟨0, _⟩ => exact Nat.zero_add _
  | ⟨1, _⟩ => exact Nat.zero_add _
  | ⟨2, _⟩ => exact Nat.zero_add _

section
variable (x0 : Vec Ideal S1x2048x128 .f32) (x1 : Vec Ideal S1x128 .f32) (x2 : Vec Ideal S256x512 .bf16)

/-- The gates, and the carried sums before blocks 2, 4 and 6. -/
abbrev gates : FVec Ideal S128x2048 .f32 := k0_pay4 (F := Ideal) x0 x1

theorem gates_ne_top (i : S128x2048.Idx) : gates x0 x1 i ≠ ⊤ := by
  obtain ⟨r, t, rfl⟩ : ∃ (r : Fin 128) (t : Fin 2048), i = ix2 r t := ⟨i 0, i 1, eq_ix2 i⟩
  rw [show gates x0 x1 (ix2 r t) = _ from gates_at x0 x1 r t]
  exact gate_ne_top _

theorem rowOf_gates (r : Fin 128) : rowOf (gates x0 x1) r = gateRow x0 x1 r := funext fun t => gates_at x0 x1 r t

/-- The product of the block from column `o` on. -/
abbrev prod (o : ℕ) (h : S128x2048.Slices ![0, o] S128x256) : FVec Ideal S128x512 .f32 := threeParts (block (gates x0 x1) o h) x2

abbrev sum1 := carried (k0_pay5 (F := Ideal)) (prod x0 x1 x2 0 slices_S128x2048_o0_0_S128x256)
abbrev sum2 := carried (sum1 x0 x1 x2) (prod x0 x1 x2 256 slices_S128x2048_o0_256_S128x256)
abbrev sum3 := carried (sum2 x0 x1 x2) (prod x0 x1 x2 512 slices_S128x2048_o0_512_S128x256)
abbrev sum4 := carried (sum3 x0 x1 x2) (prod x0 x1 x2 768 slices_S128x2048_o0_768_S128x256)
abbrev sum5 := carried (sum4 x0 x1 x2) (prod x0 x1 x2 1024 slices_S128x2048_o0_1024_S128x256)
abbrev sum6 := carried (sum5 x0 x1 x2) (prod x0 x1 x2 1280 slices_S128x2048_o0_1280_S128x256)
abbrev sum7 := carried (sum6 x0 x1 x2) (prod x0 x1 x2 1536 slices_S128x2048_o0_1536_S128x256)

variable (hw : IsTriangle x2)
include hw

theorem sum1_at : Carries (gates x0 x1) (sum1 x0 x1 x2) 256 := carried_at _ (gates_ne_top x0 x1) x2 hw _ 0 (by norm_num) _ (carries_zero _)
theorem sum2_at : Carries (gates x0 x1) (sum2 x0 x1 x2) 512 := carried_at _ (gates_ne_top x0 x1) x2 hw _ 256 (by norm_num) _ (sum1_at x0 x1 x2 hw)
theorem sum3_at : Carries (gates x0 x1) (sum3 x0 x1 x2) 768 := carried_at _ (gates_ne_top x0 x1) x2 hw _ 512 (by norm_num) _ (sum2_at x0 x1 x2 hw)
theorem sum4_at : Carries (gates x0 x1) (sum4 x0 x1 x2) 1024 := carried_at _ (gates_ne_top x0 x1) x2 hw _ 768 (by norm_num) _ (sum3_at x0 x1 x2 hw)
theorem sum5_at : Carries (gates x0 x1) (sum5 x0 x1 x2) 1280 := carried_at _ (gates_ne_top x0 x1) x2 hw _ 1024 (by norm_num) _ (sum4_at x0 x1 x2 hw)
theorem sum6_at : Carries (gates x0 x1) (sum6 x0 x1 x2) 1536 := carried_at _ (gates_ne_top x0 x1) x2 hw _ 1280 (by norm_num) _ (sum5_at x0 x1 x2 hw)
theorem sum7_at : Carries (gates x0 x1) (sum7 x0 x1 x2) 1792 := carried_at _ (gates_ne_top x0 x1) x2 hw _ 1536 (by norm_num) _ (sum6_at x0 x1 x2 hw)

/-- A stored block, from what it was computed of. -/
theorem store_piece {o : ℕ} (ho : o + 256 ≤ 2048) (h : S128x2048.Slices ![0, o] S128x256) (k : FVec Ideal S128x256 .f32) (hk : Carries (gates x0 x1) k o)
    (T : FVec Ideal S1x8x256 .f32) (hT : T = stored (prod x0 x1 x2 o h) k)
    (inb : ∀ d : Fin 3, (![0, 0, o] : Fin 3 → ℕ) d + S1x8x256.size d ≤ S1x8x2048.size d) (x : S1x8x256.Idx) :
    T x = sumAt x0 x1 ((Rect.unit (s := S1x8x2048) ![0, 0, o] S1x8x256.size inb).emb x) := by
  subst hT
  refine piece_at x0 x1 _ inb (fun z r c => ?_) x
  rw [stored_at _ (gates_ne_top x0 x1) x2 hw k o ho h hk z r c, rowOf_gates]

theorem block_at_index (y : S1x8x2048.Idx) : out0_3 (F := Ideal) x0 x1 x2 y = sumAt x0 x1 y := by
  have hy := cover0_3 (F := Ideal) (k0_pay3 (k0_pay33 x0 x1 x2) (k0_pay40 x0 x1 x2) (k0_pay41 x0 x1 x2) (k0_pay42 x0 x1 x2) (k0_pay43 x0 x1 x2) (View.ld x2 r0_2))
    (k0_pay2 (k0_pay40 x0 x1 x2) (k0_pay41 x0 x1 x2) (k0_pay42 x0 x1 x2) (k0_pay43 x0 x1 x2))
    (k0_pay24 (k0_pay33 x0 x1 x2) (k0_pay38 x0 x1 x2) (k0_pay39 x0 x1 x2) (View.ld x2 r0_2))
    (k0_pay21 (k0_pay38 x0 x1 x2) (k0_pay20 (k0_pay33 x0 x1 x2) (View.ld x2 r0_2)))
    (k0_pay17 (k0_pay33 x0 x1 x2) (k0_pay36 x0 x1 x2) (k0_pay37 x0 x1 x2) (View.ld x2 r0_2))
    (k0_pay14 (k0_pay13 (k0_pay33 x0 x1 x2) (k0_pay34 x0 x1 x2) (k0_pay35 x0 x1 x2) (View.ld x2 r0_2) (View.ld x2 r0_2)))
    (k0_pay10 (k0_pay33 x0 x1 x2) (k0_pay34 x0 x1 x2) (k0_pay35 x0 x1 x2) (View.ld x2 r0_2))
    (k0_pay7 (View.ld x0 r0_0) (View.ld x1 r0_1) (View.ld x2 r0_2)) y
  have e0 := load_logits x0
  have e1 := load_row x1
  have e2 := load_triangle x2
  have h33 : k0_pay33 x0 x1 x2 = gates x0 x1 := by unfold k0_pay33; rw [e0, e1]
  have h34 : k0_pay34 x0 x1 x2 = k0_pay5 (F := Ideal) := rfl
  have h35 : k0_pay35 x0 x1 x2 = prod x0 x1 x2 0 slices_S128x2048_o0_0_S128x256 := by unfold k0_pay35; rw [e0, e1, e2, product0]
  have h36 : k0_pay36 x0 x1 x2 = sum2 x0 x1 x2 := by unfold k0_pay36; rw [h33, h34, h35, e2, carry2, product1]
  have h37 : k0_pay37 x0 x1 x2 = prod x0 x1 x2 512 slices_S128x2048_o0_512_S128x256 := by unfold k0_pay37; rw [h33, e2, product2]
  have h38 : k0_pay38 x0 x1 x2 = sum4 x0 x1 x2 := by unfold k0_pay38; rw [h33, h36, h37, e2, carry4, product3]
  have h39 : k0_pay39 x0 x1 x2 = prod x0 x1 x2 1024 slices_S128x2048_o0_1024_S128x256 := by unfold k0_pay39; rw [h33, e2, product4]
  have h40 : k0_pay40 x0 x1 x2 = sum6 x0 x1 x2 := by unfold k0_pay40; rw [h33, h38, h39, e2, carry6, product5]
  have h41 : k0_pay41 x0 x1 x2 = k0_pay30 (gates x0 x1) := by unfold k0_pay41; rw [h33]
  have h42 : k0_pay42 x0 x1 x2 = k0_pay31 x2 := by unfold k0_pay42; rw [e2]
  have h43 : k0_pay43 x0 x1 x2 = k0_pay32 (gates x0 x1) x2 := by unfold k0_pay43; rw [h33, e2]
  unfold out0_3
  refine View.canon_apply_of_pieces (Val := Elt Ideal) (sumAt x0 x1) _ ?_ y hy
  clear hy
  rw [h33, h34, h35, h36, h37, h38, h39, h40, h41, h42, h43, e0, e1, e2]
  refine List.forall_mem_cons.2 ⟨fun x => store_piece x0 x1 x2 hw (o := 1792) (by norm_num) slices_S128x2048_o0_1792_S128x256 _ (sum7_at x0 x1 x2 hw) _
    ((store7 _ _ _).trans (by rw [product6])) inb_S1x8x2048_S1x8x256_0_0_1792 x, ?_⟩
  refine List.forall_mem_cons.2 ⟨fun x => store_piece x0 x1 x2 hw (o := 1536) (by norm_num) slices_S128x2048_o0_1536_S128x256 _ (sum6_at x0 x1 x2 hw) _
    ((store6 _ _ _).trans (by rw [product6])) inb_S1x8x2048_S1x8x256_0_0_1536 x, ?_⟩
  refine List.forall_mem_cons.2 ⟨fun x => store_piece x0 x1 x2 hw (o := 1280) (by norm_num) slices_S128x2048_o0_1280_S128x256 _ (sum5_at x0 x1 x2 hw) _
    ((store5 _ _ _ _).trans (by rw [product5])) inb_S1x8x2048_S1x8x256_0_0_1280 x, ?_⟩
  refine List.forall_mem_cons.2 ⟨fun x => store_piece x0 x1 x2 hw (o := 1024) (by norm_num) slices_S128x2048_o0_1024_S128x256 _ (sum4_at x0 x1 x2 hw) _
    ((store4 _ _ _).trans (by rw [product4])) inb_S1x8x2048_S1x8x256_0_0_1024 x, ?_⟩
  refine List.forall_mem_cons.2 ⟨fun x => store_piece x0 x1 x2 hw (o := 768) (by norm_num) slices_S128x2048_o0_768_S128x256 _ (sum3_at x0 x1 x2 hw) _
    ((store3 _ _ _ _).trans (by rw [product3])) inb_S1x8x2048_S1x8x256_0_0_768 x, ?_⟩
  refine List.forall_mem_cons.2 ⟨fun x => store_piece x0 x1 x2 hw (o := 512) (by norm_num) slices_S128x2048_o0_512_S128x256 _ (sum2_at x0 x1 x2 hw) _
    ((store2 _ _ _ _).trans (by rw [product2, carry2, product1])) inb_S1x8x2048_S1x8x256_0_0_512 x, ?_⟩
  refine List.forall_mem_cons.2 ⟨fun x => store_piece x0 x1 x2 hw (o := 256) (by norm_num) slices_S128x2048_o0_256_S128x256 _ (sum1_at x0 x1 x2 hw) _
    ((store1 _ _ _ _).trans (by rw [product1])) inb_S1x8x2048_S1x8x256_0_0_256 x, ?_⟩
  refine List.forall_mem_cons.2 ⟨fun x => store_piece x0 x1 x2 hw (o := 0) (by norm_num) slices_S128x2048_o0_0_S128x256 _ (carries_zero _) _
    ((store0 _ _ _).trans (by rw [product0])) inb_S1x8x2048_S1x8x256_0_0_0 x, ?_⟩
  intro p hp
  cases hp
end

end Cert.Proof.Forget
end
-- ==== Proof.ForHost.lean ====
/- WHAT THE HOST PREPARES for the forget gates' running sum: the heads' biases at the start of a row of 128, and the triangle of
   ones. -/
module

public import proofs.«01_k».proof.Proof.ForBlock
public import proofs.«01_k».proof.Proof.Tile
public import Idealize.ShloMosaic.Lib.Routing.OpsOne
public import Idealize.ShloMosaic.Lib.StableHlo.Run
public import Idealize.ShloMosaic.Lib.Claim
public import Idealize.ShloMosaic.Lib.IdealHost

@[expose] public section

set_option maxRecDepth 16384

noncomputable section

namespace Cert.Proof.Forget

open Idealize.ShloMosaic Idealize.ShloMosaic.TcCoe Idealize.ShloMosaic.ValueIdx Cert.ForgetIdeal Cert.ForgetIdeal.Gen Idealize.ShloMosaic.Tactic

/-- A vector written along row 0 of a matrix from column 0 on: the matrix holds it there. -/
theorem scatter_start {α : Type} {R C U : ℕ} (hR : 0 < R) (hC : U ≤ C) (d : ScatterDims (⟨2, ![R, C]⟩ : Shape) (⟨1, ![2]⟩ : Shape) (⟨1, ![U]⟩ : Shape))
    (hiw : d.insertedWindowDims = [0]) (hsd : d.scatterDimsToOperandDims = [0, 1]) (hivd : d.indexVectorDim = 0) (x : (⟨2, ![R, C]⟩ : Shape).Idx → α)
    (idx : IVec (⟨1, ![2]⟩ : Shape) 32) (h0 : ∀ q, idx (ix1 q) = 0#32) (u : (⟨1, ![U]⟩ : Shape).Idx → α) (k : Fin U) :
    Host.scatter d (fun _ b => b) x idx u (ix2 (⟨0, hR⟩ : Fin R) (k.castLE hC)) = u (ix1 k) := by
  have hwin0 : ∀ j : Fin U, d.window (ix1 j) 0 = 0 := fun j => by
    unfold ScatterDims.window
    rw [dif_neg fun h => (of_decide_eq_true (List.mem_filter.1 h).2) (by rw [hiw]; exact List.mem_singleton.2 rfl)]
  have hwin1 : ∀ j : Fin U, d.window (ix1 j) 1 = j.val := fun j => by
    have hk : d.sKept = [1] := by
      show (⟨2, ![R, C]⟩ : Shape).kept d.insertedWindowDims = _
      rw [hiw]
      rfl
    unfold ScatterDims.window
    rw [dif_pos (by rw [hk]; exact List.mem_singleton.2 rfl)]
    exact congrArg (fun t => ((ix1 j : (⟨1, ![U]⟩ : Shape).Idx) t).val) (Subsingleton.elim (α := Fin 1) _ 0)
  have hs : ∀ (j : Fin U) (q : Fin 2), d.start (ix1 j) idx q = 0 := fun j q => by
    rw [Routing.start_pair d hsd hivd, h0]; rfl
  have lands : ∀ j : Fin U, d.resultIdx? (ix1 j) idx = some (ix2 (⟨0, hR⟩ : Fin R) (k.castLE hC)) ↔ j.val = k.val := fun j => by
    rw [Routing.resultIdx?_ix2, hs, hs, hwin0, hwin1]
    show (0 : ℤ) + ((0 : ℕ) : ℤ) = ((0 : ℕ) : ℤ) ∧ (0 : ℤ) + (j.val : ℤ) = (k.val : ℤ) ↔ _
    omega
  refine Routing.scatter_set_hit d x idx u _ _ (fun j hj => ?_) (ix1 k) ((lands k).2 rfl)
  obtain ⟨j', rfl⟩ : ∃ j' : Fin U, j = ix1 j' := ⟨j 0, eq_ix1 j⟩
  exact congrArg (fun e => u (ix1 e)) (Fin.ext ((lands j').1 hj))

variable (m : (ℓ : Loc nD τ sig) → Buf (Elt Ideal) ℓ) (c : Dev nD)

/-- The two index words. -/
abbrev zeroWords : IVec S2 32 := concatenate S2 0
  [⟨S1, broadcastInDim S1 ![] bcast_S_S1 (constantI S_ 32 0#32)⟩, ⟨S1, broadcastInDim S1 ![] bcast_S_S1 (constantI S_ 32 0#32)⟩] concatenates_S1_S1_S2_d0

theorem zeroWords_at (q : Fin 2) : zeroWords (ix1 q) = 0#32 := by
  by_cases h : q.val = 0
  · exact concatenate_apply_piece (t := S2) 0 [⟨S1, broadcastInDim S1 ![] bcast_S_S1 (constantI S_ 32 0#32)⟩, ⟨S1, broadcastInDim S1 ![] bcast_S_S1 (constantI S_ 32 0#32)⟩]
      concatenates_S1_S1_S2_d0 (ix1 q) 0 (by show 0 < 2; omega) S1 _ rfl rfl 0 rfl (ix1 0)
      (fun b hb => absurd (Subsingleton.elim b 0) hb) (by show 0 + 0 = q.val; omega)
  · exact concatenate_apply_piece (t := S2) 0 [⟨S1, broadcastInDim S1 ![] bcast_S_S1 (constantI S_ 32 0#32)⟩, ⟨S1, broadcastInDim S1 ![] bcast_S_S1 (constantI S_ 32 0#32)⟩]
      concatenates_S1_S1_S2_d0 (ix1 q) 1 (by show 1 < 2; omega) S1 _ rfl rfl 1 rfl (ix1 0)
      (fun b hb => absurd (Subsingleton.elim b 0) hb) (by show 1 + 0 = q.val; omega)

theorem bias_entry : V m c main_v4 = (Host.scatter scatter_S1x128_S2_S8_0_0_01_0 (fun _ b => b)
    (broadcastInDim S1x128 ![] bcast_S_S1x128 (constant (F := Ideal) S_ .f32 0x00000000#32)) zeroWords
    (m ((c : Thread nD τ).loc main_arg1) : FVec Ideal S8 .f32) : FVec Ideal S1x128 .f32) := by
  unfold_abbrev_sides
  after_results
  try rfl

theorem bias_lane (h : Fin 8) : V m c main_v4 (ix2 0 (h.castLE (by norm_num))) = m ((c : Thread nD τ).loc main_arg1) (ix1 h) := by
  rw [bias_entry]
  exact scatter_start (R := 1) (C := 128) (U := 8) Nat.one_pos (by norm_num) scatter_S1x128_S2_S8_0_0_01_0 rfl rfl rfl _ _ zeroWords_at _ h

theorem triangle_entry : V m c main_v9 = (truncf .bf16 (select (cmpi .sle (iotaInDim S256x512 32 0) (iotaInDim S256x512 32 1))
    (broadcastInDim S256x512 ![] bcast_S_S256x512 (constant (F := Ideal) S_ .f32 0x3F800000#32))
    (broadcastInDim S256x512 ![] bcast_S_S256x512 (constant (F := Ideal) S_ .f32 0x00000000#32)) : FVec Ideal S256x512 .f32) bitsLt_bf16_f32 : FVec Ideal S256x512 .bf16) := by
  unfold_abbrev_sides
  after_results
  try rfl

theorem triangle : IsTriangle (V m c main_v9) := by
  intro q k
  rw [triangle_entry]
  have hq := q.isLt
  have hk := k.isLt
  show Scalar.select (Scalar.cmpi .sle (BitVec.ofNat 32 q.val) (BitVec.ofNat 32 k.val)) (Ideal.ofBits .f32 0x3F800000#32) (Ideal.ofBits .f32 0x00000000#32) = _
  have e : Scalar.cmpi .sle (BitVec.ofNat 32 q.val) (BitVec.ofNat 32 k.val) = BitVec.ofBool (decide (q.val ≤ k.val)) := by
    refine congrArg BitVec.ofBool ?_
    show decide ((BitVec.ofNat 32 q.val).toInt ≤ (BitVec.ofNat 32 k.val).toInt) = _
    rw [StableHlo.Predicate.toInt_ofNat_small _ (by omega), StableHlo.Predicate.toInt_ofNat_small _ (by omega)]
    exact decide_eq_decide.2 (by omega)
  rw [e, select_ofBool, Ideal.ofBits_one_f32, Ideal.ofBits_zero_f32]

end Cert.Proof.Forget
end
-- ==== Proof.ForArray.lean ====
/- THE RESULT OF THE FORGET GATES' RUNNING SUM, the whole array: grid point `b` works on batch entry `b`, so the array holds, at
   every batch entry, head and position, the sum of that head's gates up to and including the position. -/
module

public import proofs.«01_k».proof.Proof.ForHost

@[expose] public section

set_option maxRecDepth 16384

noncomputable section

namespace Cert.Proof.Forget

open Idealize.ShloMosaic Idealize.ShloMosaic.TcCoe Idealize.ShloMosaic.ValueIdx Cert.ForgetIdeal Cert.ForgetIdeal.Gen

/-- The gates of a batch entry and a head. -/
def headGates (X : Vec Ideal S8x2048x128 .f32) (B : Vec Ideal S8 .f32) (b h : Fin 8) : Fin 2048 → EReal :=
  fun t => gate (X (ix3 b t (h.castLE (by norm_num))) + B (ix1 h))

theorem point_in : ∀ t : Fin 8,
    win0_0.index (t : Fin grid0.N) (0 : Fin 3) = t.val ∧ win0_0.index (t : Fin grid0.N) (1 : Fin 3) = 0 ∧ win0_0.index (t : Fin grid0.N) (2 : Fin 3) = 0 ∧
    win0_1.index (t : Fin grid0.N) (0 : Fin 2) = 0 ∧ win0_1.index (t : Fin grid0.N) (1 : Fin 2) = 0 ∧
    win0_2.index (t : Fin grid0.N) (0 : Fin 2) = 0 ∧ win0_2.index (t : Fin grid0.N) (1 : Fin 2) = 0 := by
  decide +kernel

theorem point_out : ∀ t : Fin 8,
    win0_3.index (t : Fin grid0.N) (0 : Fin 3) = t.val ∧ win0_3.index (t : Fin grid0.N) (1 : Fin 3) = 0 ∧ win0_3.index (t : Fin grid0.N) (2 : Fin 3) = 0 := by
  decide +kernel

theorem flush_out : ∀ t : Fin cfg0.N, (cfg0.win 3).flush t = true := (by decide +kernel : ∀ t : Fin grid0.N, win0_3.flush t = true)

variable (m : (ℓ : Loc nD τ sig) → Buf (Elt Ideal) ℓ) (c : Dev nD)

theorem logits_in (b : Fin 8) (t : Fin 2048) (k : Fin 128) :
    iblk m c 0 b (ix3 0 t k) = m ((c : Thread nD τ).loc main_arg0) (ix3 b t k) := by
  have e := point_in b
  show V m c main_arg0 (((cfg0.win 0).blk b).view.emb (ix3 0 t k)) = _
  rw [V_main_arg0]
  refine congrArg (m ((c : Thread nD τ).loc main_arg0)) (funext fun a => Fin.ext ?_)
  match a with
  | ⟨0, _⟩ => show win0_0.index b (0 : Fin 3) * 1 + 1 * 0 = b.val; omega
  | ⟨1, _⟩ => show win0_0.index b (1 : Fin 3) * 2048 + 1 * t.val = t.val; omega
  | ⟨2, _⟩ => show win0_0.index b (2 : Fin 3) * 128 + 1 * k.val = k.val; omega

theorem bias_in (b : Fin 8) (h : Fin 8) :
    iblk m c 1 b (ix2 0 (h.castLE (by norm_num))) = m ((c : Thread nD τ).loc main_arg1) (ix1 h) := by
  have e := point_in b
  refine Eq.trans ?_ (bias_lane m c h)
  show V m c main_v4 (((cfg0.win 1).blk b).view.emb (ix2 0 (h.castLE (by norm_num)))) = _
  refine congrArg (V m c main_v4) (funext fun a => Fin.ext ?_)
  match a with
  | ⟨0, _⟩ => show win0_1.index b (0 : Fin 2) * 1 + 1 * 0 = 0; omega
  | ⟨1, _⟩ => show win0_1.index b (1 : Fin 2) * 128 + 1 * h.val = h.val; omega

theorem triangle_in (b : Fin 8) : IsTriangle (iblk m c 2 b) := by
  intro q k
  have e := point_in b
  refine Eq.trans ?_ (triangle m c q k)
  show V m c main_v9 (((cfg0.win 2).blk b).view.emb (ix2 q k)) = _
  refine congrArg (V m c main_v9) (funext fun a => Fin.ext ?_)
  match a with
  | ⟨0, _⟩ => show win0_2.index b (0 : Fin 2) * 256 + 1 * q.val = q.val; omega
  | ⟨1, _⟩ => show win0_2.index b (1 : Fin 2) * 512 + 1 * k.val = k.val; omega

theorem out_place (b h : Fin 8) (t : Fin 2048) : (((cfg0.win 3).blk b).view.emb (ix3 0 h t) : S8x8x2048.Idx) = ix3 b h t := by
  have e := point_out b
  refine funext fun a => Fin.ext ?_
  match a with
  | ⟨0, _⟩ => show win0_3.index b (0 : Fin 3) * 1 + 1 * 0 = b.val; omega
  | ⟨1, _⟩ => show win0_3.index b (1 : Fin 3) * 8 + 1 * h.val = h.val; omega
  | ⟨2, _⟩ => show win0_3.index b (2 : Fin 3) * 2048 + 1 * t.val = t.val; omega

/-- THE ARRAY AFTER THE RUN, at an index. -/
theorem forget_array (b h : Fin 8) (t : Fin 2048) :
    (dats m 0 c).arrAt 3 cfg0.N (ix3 b h t)
      = upTo (headGates (m ((c : Thread nD τ).loc main_arg0)) (m ((c : Thread nD τ).loc main_arg1)) b h) (t.val + 1) := by
  have bl := congrFun ((Cert.ForgetIdeal.Value.blocks3 m c b (flush_out b)).trans (Cert.ForgetIdeal.Value.flushed3 m c b)) (ix3 0 h t)
  have bl' : (dats m 0 c).arrAt 3 cfg0.N (((cfg0.win 3).blk b).view.emb (ix3 0 h t)) = _ := bl
  rw [show (((cfg0.win 3).blk b).view.emb (ix3 0 h t) : S8x8x2048.Idx) = _ from out_place b h t] at bl'
  refine bl'.trans ((block_at_index (iblk m c 0 b) (iblk m c 1 b) (iblk m c 2 b) (triangle_in m c b) (ix3 0 h t)).trans ?_)
  refine congrArg (fun v => upTo v (t.val + 1)) (funext fun s => congrArg gate ?_)
  exact congrArg₂ (· + ·) (logits_in m c b s (h.castLE (by norm_num))) (bias_in m c b h)

end Cert.Proof.Forget
end
-- ==== Proof.ForRef.lean ====
/- WHAT THE REFERENCE OF THE FORGET GATES COMPUTES: the logarithm of each gate's sigmoid over log 2, added up along the positions
   by a window of all 2048 positions that ends at the one asked for. -/
module

public import proofs.«01_k».proof.Proof.Gen.ForgetRefIdeal.Run
public import proofs.«01_k».proof.Proof.Gen.ForgetRefIdeal.Read
public import proofs.«01_k».proof.Proof.ForArray
public import Idealize.ShloMosaic.Lib.ShapeFacts
public import Idealize.ShloMosaic.Lib.KernelVsHost

@[expose] public section

set_option maxRecDepth 16384

noncomputable section

namespace Cert.Proof.Forget

open Idealize.ShloMosaic Idealize.ShloMosaic.TcCoe Idealize.ShloMosaic.ValueIdx Cert.ForgetRefIdeal Cert.ForgetRefIdeal.Read Cert.ForgetRefIdeal.Gen
open scoped BigOperators

variable (X : Vec Ideal S8x2048x128 .f32) (B : Vec Ideal S8 .f32)

theorem logit_at (b : Fin 8) (t : Fin 2048) (h : Fin 8) :
    val_main_v3 (F := Ideal) X B (ix3 b t h) = X (ix3 b t (h.castLE (by norm_num))) + B (ix1 h) := by
  rw [val_main_v3_apply, val_main_v0_apply, val_main_v2_apply, val_main_v1_apply]
  refine congrArg₂ (· + ·) (congrArg X (funext fun a => Fin.ext ?_)) (congrArg B (funext fun a => Fin.ext ?_))
  · match a with
    | ⟨0, _⟩ => rfl
    | ⟨1, _⟩ => rfl
    | ⟨2, _⟩ => rfl
  · match a with
    | ⟨0, _⟩ => rfl

theorem log2_at (i : S8x2048x8.Idx) : val_main_v6 (F := Ideal) i = ((Real.log 2 : ℝ) : EReal) := by
  rw [val_main_v6_apply, val_main_v5_apply, val_main_cst_apply]
  show Ideal.log (Ideal.ofBits .f32 0x40000000#32) = _
  rw [ofBits_two, Ideal.log_coe, if_neg (by norm_num)]

theorem zero_at (i : S8x2048x8.Idx) : val_main_call0_call0_v0 (F := Ideal) i = 0 := by
  rw [val_main_call0_call0_v0_apply]; exact Ideal.ofBits_zero_f32

theorem zero_at' (i : S8x2048x8.Idx) : val_main_call0_call0_v2 (F := Ideal) i = 0 := by
  rw [val_main_call0_call0_v2_apply]; exact Ideal.ofBits_zero_f32

/-- The reference's logarithm of a gate. -/
theorem gateRef_at (i : S8x2048x8.Idx) : val_main_v7 (F := Ideal) X B i = gateRef (val_main_v3 (F := Ideal) X B i) := by
  have hd : ∀ d : EReal, Ideal.cmp .une d d = BitVec.ofBool (decide (d ≠ d)) := fun d => rfl
  rw [val_main_v7_apply, log2_at, val_main_v4_apply, val_main_call0_v1_apply, val_main_call0_call0_v4_apply]
  show Ideal.div (-(Scalar.select (Ideal.cmp .une (val_main_call0_call0_v3 (F := Ideal) X B i) (val_main_call0_call0_v3 (F := Ideal) X B i)) _ _)) _ = _
  rw [hd, select_ofBool, if_neg (fun h => h rfl)]
  unfold gateRef
  have h3 : val_main_call0_call0_v3 (F := Ideal) X B i = -(val_main_v3 (F := Ideal) X B i) - 0 := by
    rw [val_main_call0_call0_v3_apply, zero_at', val_main_call0_v0_apply]; rfl
  have h1 : val_main_call0_call0_v1 (F := Ideal) X B i = max (-(val_main_v3 (F := Ideal) X B i)) 0 := by
    rw [val_main_call0_call0_v1_apply, zero_at, val_main_call0_v0_apply]; rfl
  rw [← h3, ← h1]
  rfl

/-- Terms added one after another to a start. -/
theorem foldl_sum {N : ℕ} (g : Fin N → EReal) (v : EReal) : (List.finRange N).foldl (fun r n => r + g n) v = v + ∑ n, g n := by
  have e : ∀ (l : List (Fin N)) (v : EReal), l.foldl (fun r n => r + g n) v = v + (l.map g).sum := fun l => by
    induction l with
    | nil => intro v; simp
    | cons a l ih => intro v; rw [List.foldl_cons, ih, List.map_cons, List.sum_cons, add_assoc]
  rw [e, Fin.sum_univ_def]

/-- The window's shape: all the positions of one batch entry and head. -/
abbrev window : Shape := ⟨3, ![1, 2048, 1]⟩

theorem window_numel : window.numel = 2048 := by rw [Shape.numel_rank3]; rfl

theorem window_at (n : Fin window.numel) : (window.rowMajor.symm n 0).val = 0 ∧ (window.rowMajor.symm n 1).val = n.val ∧ (window.rowMajor.symm n 2).val = 0 := by
  have e := Shape.rowMajor_val_three (window.rowMajor.symm n)
  rw [Equiv.apply_symm_apply] at e
  have h0 : (window.rowMajor.symm n 0).val < 1 := (window.rowMajor.symm n 0).isLt
  have h2 : (window.rowMajor.symm n 2).val < 1 := (window.rowMajor.symm n 2).isLt
  have e' : n.val = ((window.rowMajor.symm n 0).val * 2048 + (window.rowMajor.symm n 1).val) * 1 + (window.rowMajor.symm n 2).val := e
  omega

/-- Positions before the first are zeros, so a window ending at position `t` holds the first `t + 1` values. -/
theorem window_sum (v : Fin 2048 → EReal) (t : ℕ) (ht : t < 2048) :
    (∑ n ∈ Finset.range 2048, if h : 2047 ≤ t + n ∧ t + n - 2047 < 2048 then v ⟨t + n - 2047, h.2⟩ else 0) = upTo v (t + 1) := by
  let f : ℕ → EReal := fun n => if h : 2047 ≤ t + n ∧ t + n - 2047 < 2048 then v ⟨t + n - 2047, h.2⟩ else 0
  have e : ∑ n ∈ Finset.range 2048, f n = (∑ n ∈ Finset.range (2047 - t), f n) + ∑ q ∈ Finset.range (t + 1), f (2047 - t + q) := by
    rw [← Finset.sum_range_add, show 2047 - t + (t + 1) = 2048 by omega]
  refine e.trans ?_
  rw [Finset.sum_eq_zero, zero_add]
  · refine Finset.sum_congr rfl fun q hq => ?_
    have hq' := Finset.mem_range.1 hq
    refine (dif_pos (by omega : 2047 ≤ t + (2047 - t + q) ∧ t + (2047 - t + q) - 2047 < 2048)).trans ?_
    rw [dif_pos (by omega : q < 2048)]
    exact congrArg v (Fin.ext (by show t + (2047 - t + q) - 2047 = q; omega))
  · intro q hq
    have hq' := Finset.mem_range.1 hq
    exact dif_neg (by omega)

/-- A windowed sum from an initial value of zero, as a fold from zero. -/
theorem windowed {s t u : Shape} (w st lo hi : Fin s.rank → ℕ) (x : FVec Ideal s .f32) (v : FVec Ideal u .f32) (h : s.ReduceWindows w st lo hi t) (hu : 0 < u.numel)
    (hv : v (Shape.Idx.first hu) = 0) (j : t.Idx) :
    Host.reduceWindowAdd w st lo hi x v h hu j = (List.finRange (⟨s.rank, w⟩ : Shape).numel).foldl (fun r n => r +
      (if hin : ∀ a, lo a ≤ (j (a.cast h.1.symm)).val * st a + ((⟨s.rank, w⟩ : Shape).rowMajor.symm n a).val
          ∧ (j (a.cast h.1.symm)).val * st a + ((⟨s.rank, w⟩ : Shape).rowMajor.symm n a).val - lo a < s.size a
        then x (fun a => ⟨(j (a.cast h.1.symm)).val * st a + ((⟨s.rank, w⟩ : Shape).rowMajor.symm n a).val - lo a, (hin a).2⟩) else (0 : EReal))) (0 : EReal) := by
  rw [← hv]
  show Host.reduceWindow (· + ·) w st lo hi x (fun _ : (⟨0, ![]⟩ : Shape).Idx => v (Shape.Idx.first hu)) h (by decide) j = _
  unfold Host.reduceWindow
  dsimp only
  refine congrArg (fun f => List.foldl f _ _) (funext fun r => funext fun n => congrArg (fun y : EReal => r + y) ?_)
  congr

theorem running_at (b : Fin 8) (t : Fin 2048) (h : Fin 8) :
    val_main_v8 (F := Ideal) X B (ix3 b t h) = upTo (fun s => val_main_v7 (F := Ideal) X B (ix3 b s h)) (t.val + 1) := by
  have hz : val_main_call1_call0_v0 (F := Ideal) (Shape.Idx.first h_S_) = 0 := by
    rw [val_main_call1_call0_v0_apply]; exact Ideal.ofBits_zero_f32
  unfold val_main_v8
  generalize val_main_v7 (F := Ideal) X B = x
  refine (windowed _ _ _ _ x _ _ h_S_ hz _).trans ?_
  refine (foldl_sum (N := window.numel) _ _).trans ((zero_add _).trans ?_)
  let f : ℕ → EReal := fun n => if h' : 2047 ≤ t.val + n ∧ t.val + n - 2047 < 2048 then x (ix3 b ⟨t.val + n - 2047, h'.2⟩ h) else 0
  refine (Finset.sum_congr rfl fun n _ => ?_ : _ = ∑ n : Fin window.numel, f n.val).trans ?_
  · obtain ⟨w0, w1, w2⟩ := window_at n
    have hb := b.isLt
    have hh := h.isLt
    show _ = if h' : 2047 ≤ t.val + n.val ∧ t.val + n.val - 2047 < 2048 then x (ix3 b ⟨t.val + n.val - 2047, h'.2⟩ h) else 0
    by_cases hin : 2047 ≤ t.val + n.val ∧ t.val + n.val - 2047 < 2048
    · rw [dif_pos hin]
      refine (dif_pos (fun a => ?_)).trans (congrArg x (funext fun a => Fin.ext ?_))
      · match a with
        | ⟨0, _⟩ => show 0 ≤ b.val * 1 + (window.rowMajor.symm n 0).val ∧ b.val * 1 + (window.rowMajor.symm n 0).val - 0 < 8; omega
        | ⟨1, _⟩ => show 2047 ≤ t.val * 1 + (window.rowMajor.symm n 1).val ∧ t.val * 1 + (window.rowMajor.symm n 1).val - 2047 < 2048; omega
        | ⟨2, _⟩ => show 0 ≤ h.val * 1 + (window.rowMajor.symm n 2).val ∧ h.val * 1 + (window.rowMajor.symm n 2).val - 0 < 8; omega
      · match a with
        | ⟨0, _⟩ => show b.val * 1 + (window.rowMajor.symm n 0).val - 0 = b.val; omega
        | ⟨1, _⟩ => show t.val * 1 + (window.rowMajor.symm n 1).val - 2047 = t.val + n.val - 2047; omega
        | ⟨2, _⟩ => show h.val * 1 + (window.rowMajor.symm n 2).val - 0 = h.val; omega
    · rw [dif_neg hin]
      refine dif_neg fun hall => hin ?_
      have h1 : 2047 ≤ t.val * 1 + (window.rowMajor.symm n 1).val ∧ t.val * 1 + (window.rowMajor.symm n 1).val - 2047 < 2048 := hall 1
      omega
  · rw [Fin.sum_univ_eq_sum_range f window.numel, window_numel]
    exact window_sum (fun s => x (ix3 b s h)) t.val t.isLt

/-- THE REFERENCE at an index. -/
theorem forget_reference (b h : Fin 8) (t : Fin 2048) : val_main_v9 (F := Ideal) X B (ix3 b h t) = upTo (headGates X B b h) (t.val + 1) := by
  rw [val_main_v9_apply]
  refine (congrArg (val_main_v8 (F := Ideal) X B) (eq_ix3 _)).trans ((running_at X B b t h).trans ?_)
  refine congrArg (fun v => upTo v (t.val + 1)) (funext fun s => ?_)
  rw [gateRef_at, gateRef_eq, logit_at]
  rfl

end Cert.Proof.Forget
end
-- ==== Proof.ForEq.lean ====
/- THE FORGET GATES' RUNNING SUM AND ITS REFERENCE end with the same array: each element of both is the sum of a head's gates up to
   a position, read from the launch in Proof/ForArray.lean and from the reference in Proof/ForRef.lean. -/
module

public import proofs.«01_k».proof.Defs
public import proofs.«01_k».proof.Proof.ForRef
public import Idealize.ShloMosaic.Lib.Quiescent

@[expose] public section

noncomputable section

namespace Cert.Proof.Forget

open Idealize.ShloMosaic Idealize.ShloMosaic.TcCoe Idealize.ShloMosaic.ValueIdx Idealize.SL.Sem

theorem algebraic : Cert.algebraic_ForgetIdeal_ForgetRefIdeal := by
  intro m ρ m' ρ' hpre hagree
  refine ⟨_, Cert.ForgetIdeal.Value.run_blocks (F := Ideal) m ρ, ?_⟩
  refine (θ_run Cert.ForgetRefIdeal.defs _ _).mono (fun _ h c => ?_) (Cert.ForgetRefIdeal.Value.run (F := Ideal) m' ρ')
  obtain ⟨a0, a1⟩ := hagree c
  refine ⟨(h c).1.trans ?_, (h c).2⟩
  refine (Cert.ForgetRefIdeal.Read.val_main_v9_eq (F := Ideal) _ _).trans ?_
  rw [a0, a1]
  refine funext fun i => ?_
  obtain ⟨b, g, t, rfl⟩ : ∃ (b g : Fin 8) (t : Fin 2048), i = ix3 b g t := ⟨i 0, i 1, i 2, eq_ix3 i⟩
  exact (forget_reference _ _ b g t).trans (forget_array m c b g t).symm

/-- The constant the kernel multiplies by is one over log 2, rounded. -/
theorem preserves : Cert.preserves_Forget_ForgetIdeal :=
  IdealRules.named_const.statement Cert.ForgetIdeal.κ "log2e" .f32 0x3FB8AA3B#32 (((Real.log 2)⁻¹ : ℝ) : EReal) rfl

/-- The reference's frame. -/
theorem reference_frame : Cert.quiescent_ForgetRefIdeal := fun m ρ _ =>
  (θ_run Cert.ForgetRefIdeal.defs _ _).mono (fun r h => ⟨fun c => (h c).2, sem_eq_zero_of_no_sems (by decide) r.2⟩)
    (Cert.ForgetRefIdeal.Value.run (F := Ideal) m ρ)

end Cert.Proof.Forget
end
-- ==== Proof.ModArray.lean ====
/- THE RESULT OF THE MODULATION, the whole array: grid point `t` works on columns 512 t to 512 t + 511, so the array holds, at every
   batch entry and column, the product of the conditioning with that column as the body forms it, from the two parts of each
   factor, plus the column's bias. -/
module

public import proofs.«01_k».proof.Proof.Gen.ModulationIdeal.Skeleton
public import proofs.«01_k».proof.Proof.Gen.ModulationIdeal.Value
public import proofs.«01_k».proof.Proof.Rows
public import proofs.«01_k».proof.Proof.OutBlock
public import Idealize.ShloMosaic.Lib.Pipeline.ValueKit.Tiles
public import Idealize.ShloMosaic.Lib.StableHlo.Run

@[expose] public section

set_option maxRecDepth 16384

noncomputable section

namespace Cert.Proof.Modulation

open Idealize.ShloMosaic Idealize.ShloMosaic.TcCoe Idealize.ShloMosaic.ValueIdx Cert.ModulationIdeal Cert.ModulationIdeal.Gen Idealize.ShloMosaic.Tactic

/-- A number times its logistic. -/
def silu (x : EReal) : EReal := x * Ideal.logistic x

/-- A row times a column, each factor in its rounded part and the rest: the product of the rests is left out. -/
def partsRow (s w : Fin 1024 → EReal) : EReal :=
  dotRow s w + dotRow s (fun q => w q - w q) + dotRow (fun q => s q - s q) w

theorem tile_at (c : Vec Ideal S8x1024 .f32) (w : Vec Ideal S1024x512 .f32) (b : Vec Ideal S1x512 .f32) (i : Fin 8) (j : Fin 512) :
    k0_pay1 c w b (ix2 i j) = partsRow (fun q => silu (c (ix2 i q))) (fun q => w (ix2 q j)) + b (ix2 0 j) := by
  unfold k0_pay1
  rw [shapeCast_self]
  refine congrArg₂ (· + ·) (congrArg₂ (· + ·) (congrArg₂ (· + ·) ?_ ?_) ?_) (row_bcast_at b broadcasts_S1x512_S8x512 i j)
  · exact product_at (φ₁ := .bf16) (φ₂ := .bf16) _ _ i j
  · exact product_at (φ₁ := .bf16) (φ₂ := .bf16) _ _ i j
  · exact product_at (φ₁ := .bf16) (φ₂ := .bf16) _ _ i j

/-- THE BLOCK A GRID POINT LEAVES, at an index. -/
theorem block_at (c : Vec Ideal S8x1024 .f32) (w : Vec Ideal S1024x512 .f32) (b : Vec Ideal S1x512 .f32) (i : Fin 8) (j : Fin 512) :
    out0_3 c w b (ix2 i j) = partsRow (fun q => silu (c (ix2 i q))) (fun q => w (ix2 q j)) + b (ix2 0 j) := by
  have hy := cover0_3 (k0_pay1 (View.ld c r0_0) (View.ld w r0_1) (View.ld b r0_2)) (ix2 i j)
  unfold out0_3
  refine View.canon_apply_of_pieces (Val := Elt Ideal)
    (fun y : S8x512.Idx => partsRow (fun q => silu (c (ix2 (y 0) q))) (fun q => w (ix2 q (y 1))) + b (ix2 0 (y 1))) _ ?_ (ix2 i j) hy
  refine List.forall_mem_cons.2 ⟨fun x => ?_, fun p hp => by cases hp⟩
  obtain ⟨k, l, rfl⟩ : ∃ (k : Fin 8) (l : Fin 512), x = ix2 k l := ⟨x 0, x 1, eq_ix2 x⟩
  have e0 : (r0_3.emb (ix2 k l) : S8x512.Idx) 0 = k := Fin.ext ((Rect.idx_unit_val (s := S8x512) ![0, 0] S8x512.size inb_S8x512_S8x512_0_0 (ix2 k l) 0).trans (Nat.zero_add _))
  have e1 : (r0_3.emb (ix2 k l) : S8x512.Idx) 1 = l := Fin.ext ((Rect.idx_unit_val (s := S8x512) ![0, 0] S8x512.size inb_S8x512_S8x512_0_0 (ix2 k l) 1).trans (Nat.zero_add _))
  refine (tile_at _ _ _ k l).trans ?_
  dsimp only
  rw [e0, e1]
  refine congrArg₂ (· + ·) (congrArg₂ partsRow (funext fun q => congrArg silu ?_) (funext fun q => ?_)) ?_
  · exact Out.loadAll c inb_S8x1024_S8x1024_0_0 k q
  · exact Out.loadAll w inb_S1024x512_S1024x512_0_0 q l
  · exact Out.loadAll b inb_S1x512_S1x512_0_0 0 l

theorem point_in : ∀ t : Fin 12,
    win0_0.index (t : Fin grid0.N) (0 : Fin 2) = 0 ∧ win0_0.index (t : Fin grid0.N) (1 : Fin 2) = 0 ∧
    win0_1.index (t : Fin grid0.N) (0 : Fin 2) = 0 ∧ win0_1.index (t : Fin grid0.N) (1 : Fin 2) = t.val ∧
    win0_2.index (t : Fin grid0.N) (0 : Fin 2) = 0 ∧ win0_2.index (t : Fin grid0.N) (1 : Fin 2) = t.val := by
  decide +kernel

theorem point_out : ∀ t : Fin 12,
    win0_3.index (t : Fin grid0.N) (0 : Fin 2) = 0 ∧ win0_3.index (t : Fin grid0.N) (1 : Fin 2) = t.val := by
  decide +kernel

theorem flush_out : ∀ t : Fin cfg0.N, (cfg0.win 3).flush t = true := (by decide +kernel : ∀ t : Fin grid0.N, win0_3.flush t = true)

/-- A column of a grid point's block, in the array. -/
def colOf (t : Fin 12) (j : Fin 512) : Fin 6144 := ⟨t.val * 512 + j.val, by omega⟩

variable (m : (ℓ : Loc nD τ sig) → Buf (Elt Ideal) ℓ) (c : Dev nD)

theorem cond_in (t : Fin 12) (i : Fin 8) (q : Fin 1024) : iblk m c 0 t (ix2 i q) = m ((c : Thread nD τ).loc main_arg0) (ix2 i q) := by
  have e := point_in t
  show V m c main_arg0 (((cfg0.win 0).blk t).view.emb (ix2 i q)) = _
  rw [V_main_arg0]
  refine congrArg (m ((c : Thread nD τ).loc main_arg0)) (funext fun a => Fin.ext ?_)
  match a with
  | ⟨0, _⟩ => show win0_0.index t (0 : Fin 2) * 8 + 1 * i.val = i.val; omega
  | ⟨1, _⟩ => show win0_0.index t (1 : Fin 2) * 1024 + 1 * q.val = q.val; omega

theorem weight_in (t : Fin 12) (q : Fin 1024) (j : Fin 512) :
    iblk m c 1 t (ix2 q j) = m ((c : Thread nD τ).loc main_arg1) (ix2 q (colOf t j)) := by
  have e := point_in t
  show V m c main_arg1 (((cfg0.win 1).blk t).view.emb (ix2 q j)) = _
  rw [V_main_arg1]
  refine congrArg (m ((c : Thread nD τ).loc main_arg1)) (funext fun a => Fin.ext ?_)
  match a with
  | ⟨0, _⟩ => show win0_1.index t (0 : Fin 2) * 1024 + 1 * q.val = q.val; omega
  | ⟨1, _⟩ => show win0_1.index t (1 : Fin 2) * 512 + 1 * j.val = t.val * 512 + j.val; omega

/-- The biases, laid out as a row. -/
theorem bias_entry : V m c main_v0 = (shapeCast S1x6144 (m ((c : Thread nD τ).loc main_arg2) : FVec Ideal S6144 .f32) shapeCasts_S6144_S1x6144 : FVec Ideal S1x6144 .f32) := by
  unfold_abbrev_sides
  after_results
  try rfl

theorem bias_row (k : Fin 6144) : V m c main_v0 (ix2 0 k) = m ((c : Thread nD τ).loc main_arg2) (ix1 k) := by
  rw [bias_entry]
  refine shapeCast_apply (s := S6144) (t := S1x6144) _ shapeCasts_S6144_S1x6144 (ix2 0 k) (ix1 k) ?_
  rewrite [Shape.rowMajor_val_one, Shape.rowMajor_val_two]
  show k.val = 0 * 6144 + k.val
  omega

theorem bias_in (t : Fin 12) (j : Fin 512) : iblk m c 2 t (ix2 0 j) = m ((c : Thread nD τ).loc main_arg2) (ix1 (colOf t j)) := by
  have e := point_in t
  refine Eq.trans ?_ (bias_row m c (colOf t j))
  show V m c main_v0 (((cfg0.win 2).blk t).view.emb (ix2 0 j)) = _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 512 + 1 * j.val = t.val * 512 + j.val; omega

theorem out_place (t : Fin 12) (i : Fin 8) (j : Fin 512) : (((cfg0.win 3).blk t).view.emb (ix2 i j) : S8x6144.Idx) = ix2 i (colOf t j) := by
  have e := point_out t
  refine funext fun a => Fin.ext ?_
  match a with
  | ⟨0, _⟩ => show win0_3.index t (0 : Fin 2) * 8 + 1 * i.val = i.val; omega
  | ⟨1, _⟩ => show win0_3.index t (1 : Fin 2) * 512 + 1 * j.val = t.val * 512 + j.val; omega

/-- THE ARRAY AFTER THE RUN, at an index. -/
theorem modulation_array (i : Fin 8) (k : Fin 6144) :
    (dats m 0 c).arrAt 3 cfg0.N (ix2 i k)
      = partsRow (fun q => silu (m ((c : Thread nD τ).loc main_arg0) (ix2 i q))) (fun q => m ((c : Thread nD τ).loc main_arg1) (ix2 q k))
        + m ((c : Thread nD τ).loc main_arg2) (ix1 k) := by
  obtain ⟨t, j, rfl⟩ : ∃ (t : Fin 12) (j : Fin 512), k = colOf t j :=
    ⟨⟨k.val / 512, by omega⟩, ⟨k.val % 512, by omega⟩, Fin.ext (by show k.val = k.val / 512 * 512 + k.val % 512; omega)⟩
  have bl := congrFun ((Cert.ModulationIdeal.Value.blocks3 m c t (flush_out t)).trans (Cert.ModulationIdeal.Value.flushed3 m c t)) (ix2 i j)
  have bl' : (dats m 0 c).arrAt 3 cfg0.N (((cfg0.win 3).blk t).view.emb (ix2 i j)) = _ := bl
  rw [show (((cfg0.win 3).blk t).view.emb (ix2 i j) : S8x6144.Idx) = _ from out_place t i j] at bl'
  refine bl'.trans ((block_at (iblk m c 0 t) (iblk m c 1 t) (iblk m c 2 t) i j).trans ?_)
  exact congrArg₂ (· + ·) (congrArg₂ partsRow (funext fun q => congrArg silu (cond_in m c t i q)) (funext fun q => weight_in m c t q j)) (bias_in m c t j)

end Cert.Proof.Modulation
end
-- ==== Proof.ModEq.lean ====
/- THE MODULATION AND ITS REFERENCE end with the same array. Where the conditioning and the weights are real numbers, what the
   rounding leaves of each factor is zero, so the sum of three products is the one product of the reference. -/
module

public import proofs.«01_k».proof.Defs
public import proofs.«01_k».proof.Proof.ModArray
public import proofs.«01_k».proof.Proof.FoxEq
public import proofs.«01_k».proof.Proof.Gen.ModulationRefIdeal.Run
public import proofs.«01_k».proof.Proof.Gen.ModulationRefIdeal.Read
public import Idealize.ShloMosaic.Lib.Quiescent
public import Idealize.ShloMosaic.Lib.ReduceAll
public import Idealize.ShloMosaic.Lib.IdealHost

@[expose] public section

set_option maxRecDepth 16384

noncomputable section

namespace Cert.Proof.Modulation

open Idealize.ShloMosaic Idealize.ShloMosaic.TcCoe Idealize.ShloMosaic.ValueIdx Idealize.SL.Sem
open Cert.ModulationRefIdeal Cert.ModulationRefIdeal.Gen Cert.ModulationRefIdeal.Read

/-- The reference at an index. -/
theorem modulation_reference (x0 : Vec Ideal S8x1024 .f32) (x1 : Vec Ideal S1024x6144 .f32) (x2 : Vec Ideal S6144 .f32) (i : Fin 8) (k : Fin 6144) :
    val_main_v4 (F := Ideal) x0 x1 x2 (ix2 i k) = dotRow (fun q => silu (x0 (ix2 i q))) (fun q => x1 (ix2 q k)) + x2 (ix1 k) := by
  refine congrArg₂ (· + ·) ?_ ?_
  · rw [val_main_v1_apply]
    refine Finset.sum_congr rfl fun q _ => ?_
    have el : lidx_main_v1 (ix2 i k) q = ix2 i q := funext fun a => match a with | ⟨0, _⟩ => rfl | ⟨1, _⟩ => rfl
    have er : ridx_main_v1 (ix2 i k) q = ix2 q k := funext fun a => match a with | ⟨0, _⟩ => rfl | ⟨1, _⟩ => rfl
    rw [el, er]
    refine congrArg (· * x1 (ix2 q k)) ?_
    show x0 (ix2 i q) * Ideal.div (Ideal.ofBits .f32 0x3F800000#32) (Ideal.ofBits .f32 0x3F800000#32 + Ideal.exp (- x0 (ix2 i q))) = _
    rw [Ideal.ofBits_one_f32]
    rfl
  · rw [val_main_v3_apply, val_main_v2_apply]
    exact congrArg x2 (funext fun a => match a with | ⟨0, _⟩ => rfl)

/-- A real number times its logistic is real. -/
theorem silu_real (x : ℝ) : ∃ y : ℝ, silu x = y := by
  refine ⟨x * (1 * (1 / (1 + Real.exp (-x)))), ?_⟩
  have h : (1 + Real.exp (-x)) ≠ 0 := by positivity
  unfold silu Ideal.logistic
  rw [← EReal.coe_neg, Ideal.exp_coe, ← EReal.coe_one, ← EReal.coe_add, Ideal.div_coe h, ← EReal.coe_mul, ← EReal.coe_mul]

/-- For real numbers the rests are zero. -/
theorem partsRow_real (s w : Fin 1024 → EReal) (hs : ∀ q, ∃ y : ℝ, s q = y) (hw : ∀ q, ∃ y : ℝ, w q = y) : partsRow s w = dotRow s w := by
  have z : ∀ x : EReal, (∃ y : ℝ, x = y) → x - x = 0 := fun x ⟨y, hy⟩ => by rw [hy, ← EReal.coe_sub, sub_self, EReal.coe_zero]
  unfold partsRow dotRow
  simp only [z _ (hw _), z _ (hs _), mul_zero, zero_mul, Finset.sum_const_zero, add_zero]

instance preFacts : Cert.Pre_ada_finite.Facts where
  bcast_S_S8x1024 := by decide
  reducesTo_S8x1024_S_d0_1 := by decide
  h_S_ := by decide
  bcast_S_S1024x6144 := by decide
  reducesTo_S1024x6144_S_d0_1 := by decide

instance : Subsingleton Cert.Pre_ada_finite.S_.Idx := ⟨fun _ _ => funext fun i => i.elim0⟩

/-- The precondition at the elements. -/
theorem real_of_pre (x0 : Vec Ideal S8x1024 .f32) (x1 : Vec Ideal S1024x6144 .f32) (x2 : Vec Ideal S6144 .f32)
    (hp : Cert.Pre_ada_finite.fn (F := Ideal) x0 x1 x2 = fun _ => 1#1) :
    (∀ (i : Fin 8) (q : Fin 1024), ∃ y : ℝ, x0 (ix2 i q) = y) ∧ (∀ (q : Fin 1024) (k : Fin 6144), ∃ y : ℝ, x1 (ix2 q k) = y) := by
  have e := congrFun hp (fun a => a.elim0)
  dsimp only [Cert.Pre_ada_finite.fn] at e
  obtain ⟨e1, e2⟩ : _ = 1#1 ∧ _ = 1#1 := IntOp.andi_eq_one.1 e
  refine ⟨fun i q => ?_, fun q k => ?_⟩
  · have := Host.reduce_andi_all _ _ _ _ _ e1 (ix2 i q)
    have t : Ideal.cmp .olt (max (x0 (ix2 i q)) (-(x0 (ix2 i q)))) (Ideal.ofBits .f32 0x7F800000#32) = 1#1 := this
    rw [ofBits_inf] at t
    exact real_of_olt _ t
  · have := Host.reduce_andi_all _ _ _ _ _ e2 (ix2 q k)
    have t : Ideal.cmp .olt (max (x1 (ix2 q k)) (-(x1 (ix2 q k)))) (Ideal.ofBits .f32 0x7F800000#32) = 1#1 := this
    rw [ofBits_inf] at t
    exact real_of_olt _ t

theorem algebraic : Cert.algebraic_ModulationIdeal_ModulationRefIdeal_pre_ada_finite := by
  intro m ρ m' ρ' hpre hagree
  refine ⟨_, Cert.ModulationIdeal.Value.run_blocks (F := Ideal) m ρ, ?_⟩
  refine (θ_run Cert.ModulationRefIdeal.defs _ _).mono (fun _ h c => ?_) (Cert.ModulationRefIdeal.Value.run (F := Ideal) m' ρ')
  obtain ⟨a0, a1, a2⟩ := hagree c
  obtain ⟨h0, h1⟩ := real_of_pre _ _ _ (hpre c)
  refine ⟨(h c).1.trans ?_, (h c).2⟩
  refine (Cert.ModulationRefIdeal.Read.val_main_v4_eq (F := Ideal) _ _ _).trans ?_
  rw [a0, a1, a2]
  refine funext fun i => ?_
  obtain ⟨b, k, rfl⟩ : ∃ (b : Fin 8) (k : Fin 6144), i = ix2 b k := ⟨i 0, i 1, eq_ix2 i⟩
  refine (modulation_reference _ _ _ b k).trans ((modulation_array m c b k).trans (congrArg (· + _) (partsRow_real _ _ (fun q => ?_) fun q => h1 q k))).symm
  obtain ⟨y, hy⟩ := h0 b q
  rw [hy]
  exact silu_real y

/-- The reference's frame. -/
theorem reference_frame : Cert.quiescent_ModulationRefIdeal := fun m ρ _ =>
  (θ_run Cert.ModulationRefIdeal.defs _ _).mono (fun r h => ⟨fun c => (h c).2, sem_eq_zero_of_no_sems (by decide) r.2⟩)
    (Cert.ModulationRefIdeal.Value.run (F := Ideal) m ρ)

end Cert.Proof.Modulation
end
-- ==== Proof.ComBlock.lean ====
/- THE COMBINATION'S BLOCKS. The packing leaves a row's two halves of columns as the two halves of words. The combination forms,
   for each of 512 tokens, a row of 1280 numbers that counts how many of the token's two positions are that row of the tile, and
   multiplies it with the tile's rows; the gate and the residual follow. -/
module

public import proofs.«01_k».proof.Proof.Gen.CombineIdeal.Frame
public import proofs.«01_k».proof.Proof.Rows
public import proofs.«01_k».proof.Proof.OutBlock
public import Idealize.ShloMosaic.Lib.Pipeline.ValueKit.Tiles
public import Idealize.ShloMosaic.Lib.IdealHost
public import Idealize.ShloMosaic.Lib.KernelVsHost

@[expose] public section

set_option maxRecDepth 16384

noncomputable section

namespace Cert.Proof.Combine

open Idealize.ShloMosaic Idealize.ShloMosaic.TcCoe Idealize.ShloMosaic.ValueIdx Cert.CombineIdeal Cert.CombineIdeal.Gen Idealize.ShloMosaic.Tactic

/-! ## The packing -/

theorem half_at (v : FVec Ideal S1280x512 .bf16) (r : Fin 1280) (z : Fin 1) (d : Fin 512) :
    shapeCast S1280x1x512 v shapeCasts_S1280x512_S1280x1x512 (ix3 r z d) = v (ix2 r d) := by
  have h0 := z.isLt
  refine shapeCast_apply v shapeCasts_S1280x512_S1280x1x512 _ (ix2 r d) ?_
  rewrite [Shape.rowMajor_val_two, Shape.rowMajor_val_three]
  show r.val * 512 + d.val = (r.val * 1 + z.val) * 512 + d.val
  omega

theorem pack_at (v w : Vec Ideal S1280x512 .bf16) (r : Fin 1280) (u : Fin 2) (d : Fin 512) :
    k0_pay1 v w (ix3 r u d) = if u.val = 0 then v (ix2 r d) else w (ix2 r d) := by
  have hr : S1280x2x512.row (ix3 r u d) = u.val := rfl
  unfold k0_pay1 interleaveRows
  dsimp only
  rw [hr]
  have hu := u.isLt
  have key : ∀ x : FVec Ideal S1280x512 .bf16, ∀ i : S1280x1x512.Idx, (i 0).val = r.val → (i 2).val = d.val →
      shapeCast S1280x1x512 x shapeCasts_S1280x512_S1280x1x512 i = x (ix2 r d) := by
    intro x i h2 h4
    obtain ⟨i0, i1, i2, rfl⟩ : ∃ i0 i1 i2, i = ix3 i0 i1 i2 := ⟨i 0, i 1, i 2, eq_ix3 i⟩
    rw [half_at]
    exact congrArg₂ (fun p q => x (ix2 p q)) (Fin.ext h2) (Fin.ext h4)
  by_cases h : u.val = 0
  · rw [if_pos (by omega), if_pos h]
    exact key _ _ rfl rfl
  · rw [if_neg (by omega), if_neg h]
    exact key _ _ rfl rfl

/-- THE WORDS A GRID POINT OF THE PACKING LEAVES. -/
theorem packed_block (x : Vec Ideal S1280x1024 .bf16) (r : Fin 1280) (u : Fin 2) (d : Fin 512) (j : Fin 1024) (hj : j.val = 512 * u.val + d.val) :
    out0_1 x (ix3 r u d) = x (ix2 r j) := by
  have hy := cover0_1 (k0_pay1 (View.ld x r0_0) (View.ld x r0_1)) (ix3 r u d)
  unfold out0_1
  refine (View.canon_apply_of_pieces (Val := Elt Ideal)
    (fun y : S1280x2x512.Idx => x (ix2 (y 0) ⟨512 * (y 1).val + (y 2).val, by
      have h1 : (y 1).val < 2 := (y 1).isLt
      have h2 : (y 2).val < 512 := (y 2).isLt
      omega⟩)) _ ?_ (ix3 r u d) hy).trans (congrArg (fun j => x (ix2 r j)) (Fin.ext hj.symm))
  refine List.forall_mem_cons.2 ⟨fun y => ?_, fun p hp => by cases hp⟩
  obtain ⟨k, v, l, rfl⟩ : ∃ (k : Fin 1280) (v : Fin 2) (l : Fin 512), y = ix3 k v l := ⟨y 0, y 1, y 2, eq_ix3 y⟩
  have hv := v.isLt
  have hl := l.isLt
  have e : (r0_2.emb (ix3 k v l) : S1280x2x512.Idx) = ix3 k v l := funext fun a => Fin.ext
    ((Rect.idx_unit_val (s := S1280x2x512) ![0, 0, 0] S1280x2x512.size inb_S1280x2x512_S1280x2x512_0_0_0 (ix3 k v l) a).trans (by
      match a with
      | ⟨0, _⟩ => exact Nat.zero_add _
      | ⟨1, _⟩ => exact Nat.zero_add _
      | ⟨2, _⟩ => exact Nat.zero_add _))
  dsimp only
  rw [e]
  refine (pack_at _ _ k v l).trans ?_
  by_cases h : v.val = 0
  · rw [if_pos h]
    exact Out.load2 x inb_S1280x1024_S1280x512_0_0 k l k _ (Nat.zero_add _).symm (by show 512 * v.val + l.val = 0 + l.val; omega)
  · rw [if_neg h]
    exact Out.load2 x inb_S1280x1024_S1280x512_0_512 k l k _ (Nat.zero_add _).symm (by show 512 * v.val + l.val = 512 + l.val; omega)

/-! ## The combination -/

/-- One where a position is row `p`, otherwise zero. -/
def mark (p : Fin 1280) (v : EReal) : EReal := if ((p.val : ℝ) : EReal) = v then 1 else 0

/-- How many of two positions are row `p`. -/
def count (v w : EReal) (p : Fin 1280) : EReal := mark p v + mark p w

theorem mark_at (p : Fin 1280) (v : EReal) :
    Scalar.select (Ideal.cmp .oeq ((((BitVec.ofNat 32 p.val).toInt : ℝ)) : EReal) v) (Ideal.ofBits .f32 0x3F800000#32) (Ideal.ofBits .f32 0x00000000#32)
      = mark p v := by
  have hp : (BitVec.ofNat 32 p.val).toInt = (p.val : ℤ) := by
    have := p.isLt
    rw [BitVec.toInt_eq_toNat_cond, BitVec.toNat_ofNat, Nat.mod_eq_of_lt (by omega), if_pos (by omega)]
  rw [hp, Ideal.ofBits_one_f32, Ideal.ofBits_zero_f32]
  unfold Scalar.select mark Ideal.cmp
  by_cases h : ((p.val : ℝ) : EReal) = v
  · have h' : (((p.val : ℤ) : ℝ) : EReal) = v := by rw [Int.cast_natCast]; exact h
    rw [if_pos h, if_pos (by rw [decide_eq_true h']; rfl)]
  · have h' : ¬(((p.val : ℤ) : ℝ) : EReal) = v := by rw [Int.cast_natCast]; exact h
    rw [if_neg h, if_neg (by show ¬BitVec.ofBool (decide _) = 1#1; rw [decide_eq_false h']; decide)]

theorem column_at (x : Vec Ideal S512x128 .f32) (z : ℕ) (hs : S512x128.Slices ![0, z] S512x1) (hb : S512x1.Broadcasts S512x1280) (r : Fin 512) (p : Fin 1280)
    (k : Fin 128) (hk : k.val = z) : broadcastTo S512x1280 (extractStridedSlice S512x1 ![0, z] x hs) hb (ix2 r p) = x (ix2 r k) :=
  (col_bcast_at _ hb r p).trans (slice_at x hs r 0 r k (Nat.zero_add _).symm hk)

theorem counts_at (x : Vec Ideal S512x128 .f32) (r : Fin 512) (p : Fin 1280) :
    k1_pay2 x (ix2 r p) = count (x (ix2 r 0)) (x (ix2 r 1)) p := by
  unfold k1_pay2 count
  have i : iota .tc S512x1280 32 [1] iota_S512x1280_d1_w32 (ix2 r p) = BitVec.ofNat 32 p.val := by
    rw [iota_single_apply, show ((ix2 r p) 1).val = p.val from rfl]
  refine congrArg₂ (fun a b : EReal => a + b) ?_ ?_
  · refine Eq.trans ?_ (mark_at p (x (ix2 r 0)))
    rw [← column_at x 0 slices_S512x128_o0_0_S512x1 broadcasts_S512x1_S512x1280 r p 0 rfl, ← i]
    rfl
  · refine Eq.trans ?_ (mark_at p (x (ix2 r 1)))
    rw [← column_at x 1 slices_S512x128_o0_1_S512x1 broadcasts_S512x1_S512x1280 r p 1 rfl, ← i]
    rfl

/-- One half of the words. -/
theorem unpack_at (u : Fin 2) (x : Vec Ideal S1280x2x512 .bf16) (p : Fin 1280) (d : Fin 512) :
    shapeCast S1280x512 (rowsOfParity u S1280x1x512 x bitcasts_S1280x2x512_w16_S1280x1x512_w32) shapeCasts_S1280x1x512_S1280x512 (ix2 p d)
      = x (ix3 p u d) := by
  refine (shapeCast_apply _ shapeCasts_S1280x1x512_S1280x512 _ (ix3 p 0 d) ?_).trans (congrArg x (funext fun a => Fin.ext ?_))
  · rewrite [Shape.rowMajor_val_two, Shape.rowMajor_val_three]
    show (p.val * 1 + 0) * 512 + d.val = p.val * 512 + d.val
    omega
  · match a with
    | ⟨0, _⟩ => rfl
    | ⟨1, _⟩ => show 2 * 0 + u.val = u.val; omega
    | ⟨2, _⟩ => rfl

section
variable (x0 : Vec Ideal S512x1024 .f32) (x1 : Vec Ideal S1280x2x512 .bf16) (x2 : Vec Ideal S512x128 .f32) (x3 : Vec Ideal S1x1x1024 .f32)

/-- A token's gated residual, from its counts and the tile's rows. -/
def combined (r : Fin 512) (j : Fin 1024) : EReal :=
  x0 (ix2 r j) + x3 (ix3 0 0 j) * dotRow (count (x2 (ix2 r 0)) (x2 (ix2 r 1)))
    (fun p => x1 (ix3 p ⟨j.val / 512, by omega⟩ ⟨j.val % 512, by omega⟩))

theorem gate_at (x3 : Vec Ideal S1x1x1024 .f32) (o : ℕ) (hs : S1x1024.Slices ![0, o] S1x512) (hb : S1x512.Broadcasts S512x512) (r d : Fin 512)
    (j : Fin 1024) (hj : j.val = o + d.val) :
    broadcastTo S512x512 (extractStridedSlice S1x512 ![0, o] (k1_pay4 x3) hs) hb (ix2 r d) = x3 (ix3 0 0 j) :=
  (row_bcast_at _ hb r d).trans ((slice_at _ hs 0 d 0 j rfl hj).trans (unblock_at x3 shapeCasts_S1x1x1024_S1x1024 0 j))

theorem low_at (r d : Fin 512) (j : Fin 1024) (hj : j.val = d.val) : k1_pay5 x2 x1 x3 x0 (ix2 r d) = combined x0 x1 x2 x3 r j := by
  have hd := d.isLt
  unfold k1_pay5 combined
  refine congrArg₂ (· + ·) (slice_at x0 slices_S512x1024_o0_0_S512x512 r d r j (Nat.zero_add _).symm (by omega)) (congrArg₂ (· * ·)
    (gate_at x3 0 slices_S1x1024_o0_0_S1x512 broadcasts_S1x512_S512x512 r d j (by omega)) ?_)
  refine (product_at (φ₁ := .bf16) (φ₂ := .bf16) _ _ r d).trans (congrArg₂ dotRow (funext fun p => counts_at x2 r p) (funext fun p => ?_))
  refine (unpack_at 0 x1 p d).trans (congrArg₂ (fun u d => x1 (ix3 p u d)) (Fin.ext ?_) (Fin.ext ?_))
  · show 0 = j.val / 512; omega
  · show d.val = j.val % 512; omega

theorem high_at (r d : Fin 512) (j : Fin 1024) (hj : j.val = 512 + d.val) :
    k1_pay1 (k1_pay2 x2) (k1_pay3 x1) (k1_pay6 x0) (k1_pay7 x3) (ix2 r d) = combined x0 x1 x2 x3 r j := by
  have hd := d.isLt
  unfold k1_pay1 combined
  refine congrArg₂ (· + ·) (slice_at x0 slices_S512x1024_o0_512_S512x512 r d r j (Nat.zero_add _).symm hj) (congrArg₂ (· * ·)
    (gate_at x3 512 slices_S1x1024_o0_512_S1x512 broadcasts_S1x512_S512x512 r d j hj) ?_)
  refine (product_at (φ₁ := .bf16) (φ₂ := .bf16) _ _ r d).trans (congrArg₂ dotRow (funext fun p => counts_at x2 r p) (funext fun p => ?_))
  refine (unpack_at 1 x1 p d).trans (congrArg₂ (fun u d => x1 (ix3 p u d)) (Fin.ext ?_) (Fin.ext ?_))
  · show 1 = j.val / 512; omega
  · show d.val = j.val % 512; omega

theorem load_words (r : Fin 1280) (u : Fin 2) (d : Fin 512) : View.ld x1 r1_1 (ix3 r u d) = x1 (ix3 r u d) := by
  refine congrArg x1 (funext fun a => Fin.ext ?_)
  rw [Rect.idx_unit_val]
  match a with
  | ⟨0, _⟩ => exact Nat.zero_add _
  | ⟨1, _⟩ => exact Nat.zero_add _
  | ⟨2, _⟩ => exact Nat.zero_add _

theorem load_gate (j : Fin 1024) : View.ld x3 r1_2 (ix3 0 0 j) = x3 (ix3 0 0 j) := by
  refine congrArg x3 (funext fun a => Fin.ext ?_)
  rw [Rect.idx_unit_val]
  match a with
  | ⟨0, _⟩ => rfl
  | ⟨1, _⟩ => rfl
  | ⟨2, _⟩ => exact Nat.zero_add _

theorem combined_loads (r : Fin 512) (j : Fin 1024) :
    combined (View.ld x0 r1_3) (View.ld x1 r1_1) (View.ld x2 r1_0) (View.ld x3 r1_2) r j = combined x0 x1 x2 x3 r j := by
  unfold combined
  refine congrArg₂ (· + ·) (Out.loadAll x0 inb_S512x1024_S512x1024_0_0 r j) (congrArg₂ (· * ·) (load_gate x3 j) ?_)
  exact congrArg₂ dotRow (congrArg₂ count (Out.loadAll x2 inb_S512x128_S512x128_0_0 r 0) (Out.loadAll x2 inb_S512x128_S512x128_0_0 r 1))
    (funext fun p => load_words x1 p _ _)

/-- 512 columns stored, where they hold a function of the row and the column. -/
theorem piece {o : ℕ} (G : Fin 512 → Fin 1024 → EReal) (T : Vec Ideal S512x512 .f32)
    (inb : ∀ d : Fin 2, (![0, o] : Fin 2 → ℕ) d + S512x512.size d ≤ S512x1024.size d)
    (hT : ∀ (r d : Fin 512) (j : Fin 1024), j.val = o + d.val → T (ix2 r d) = G r j) (x : S512x512.Idx) :
    T x = (fun y : S512x1024.Idx => G (y 0) (y 1)) ((Rect.unit (s := S512x1024) ![0, o] S512x512.size inb).emb x) := by
  obtain ⟨r, d, rfl⟩ : ∃ r d, x = ix2 r d := ⟨x 0, x 1, eq_ix2 x⟩
  have e0 := Rect.idx_unit_val (s := S512x1024) ![0, o] S512x512.size inb (ix2 r d) 0
  have e1 := Rect.idx_unit_val (s := S512x1024) ![0, o] S512x512.size inb (ix2 r d) 1
  refine (hT r d _ e1).trans ?_
  exact congrArg (fun r => G r _) (Fin.ext ((e0.trans (Nat.zero_add _)).symm : r.val = _))

/-- THE BLOCK A GRID POINT OF THE COMBINATION LEAVES. -/
theorem combined_block (r : Fin 512) (j : Fin 1024) : out1_4 x0 x1 x2 x3 (ix2 r j) = combined x0 x1 x2 x3 r j := by
  unfold out1_4
  refine View.canon_apply_of_pieces (Val := Elt Ideal) (fun y : S512x1024.Idx => combined x0 x1 x2 x3 (y 0) (y 1)) _ ?_ (ix2 r j) (cover1_4 _ _ (ix2 r j))
  refine List.forall_mem_cons.2 ⟨fun x => piece (o := 512) (combined x0 x1 x2 x3) _ inb_S512x1024_S512x512_0_512
    (fun r d j hj => (high_at _ _ _ _ r d j hj).trans (combined_loads x0 x1 x2 x3 r j)) x, ?_⟩
  refine List.forall_mem_cons.2 ⟨fun x => piece (o := 0) (combined x0 x1 x2 x3) _ inb_S512x1024_S512x512_0_0
    (fun r d j hj => (low_at _ _ _ _ r d j (hj.trans (Nat.zero_add _))).trans (combined_loads x0 x1 x2 x3 r j)) x, ?_⟩
  intro p hp
  cases hp
end

end Cert.Proof.Combine
end
-- ==== Proof.ComRun.lean ====
/- THE COMBINATION'S RUN. After the two launches the result array holds what the second leaves. The set-up of the launches is the
   frame's; only what is read off the last state differs. -/
module

public import proofs.«01_k».proof.Proof.Gen.CombineIdeal.Frame

@[expose] public section

set_option maxRecDepth 16384

noncomputable section

namespace Cert.Proof.Combine

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem result (c : Dev nD) : W2 m ρ c (Proc.devRef .tc main_v1) = (dat1 (V1 m ρ) c).arrAt 4 cfg1.N := W2_arr m ρ c 4

set_option backward.isDefEq.respectTransparency.types false in
/-- THE RUN: it terminates, the result holds what the second launch leaves, and the arguments end unchanged. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1 (by decide))).trans (result m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.Proof.Combine
end
-- ==== Proof.ComArray.lean ====
/- THE COMBINATION'S RESULT, the whole array. Grid point `t` of the packing works on the 1280 rows from `1280 t` on and grid point
   `t` of the combination on the 512 tokens from `512 t` on and those 1280 rows; the tokens belong to batch entry `t / 4`. -/
module

public import proofs.«01_k».proof.Proof.ComBlock
public import proofs.«01_k».proof.Proof.ComRun

@[expose] public section

set_option maxRecDepth 16384

noncomputable section

namespace Cert.Proof.Combine

open Idealize.ShloMosaic Idealize.ShloMosaic.TcCoe Idealize.ShloMosaic.ValueIdx Cert.CombineIdeal Cert.CombineIdeal.Gen

theorem point_pack : ∀ t : Fin 32,
    win0_0.index (t : Fin grid0.N) (0 : Fin 2) = t.val ∧ win0_0.index (t : Fin grid0.N) (1 : Fin 2) = 0 ∧
    win0_1.index (t : Fin grid0.N) (0 : Fin 3) = t.val ∧ win0_1.index (t : Fin grid0.N) (1 : Fin 3) = 0 ∧ win0_1.index (t : Fin grid0.N) (2 : Fin 3) = 0 := by
  decide +kernel

theorem point_combine : ∀ t : Fin 32,
    win1_0.index (t : Fin grid1.N) (0 : Fin 2) = t.val ∧ win1_0.index (t : Fin grid1.N) (1 : Fin 2) = 0 ∧
    win1_1.index (t : Fin grid1.N) (0 : Fin 3) = t.val ∧ win1_1.index (t : Fin grid1.N) (1 : Fin 3) = 0 ∧ win1_1.index (t : Fin grid1.N) (2 : Fin 3) = 0 ∧
    win1_2.index (t : Fin grid1.N) (0 : Fin 2) = t.val ∧ win1_2.index (t : Fin grid1.N) (1 : Fin 2) = 0 ∧
    win1_3.index (t : Fin grid1.N) (0 : Fin 3) = t.val / 4 ∧ win1_3.index (t : Fin grid1.N) (1 : Fin 3) = 0 ∧ win1_3.index (t : Fin grid1.N) (2 : Fin 3) = 0 ∧
    win1_4.index (t : Fin grid1.N) (0 : Fin 2) = t.val ∧ win1_4.index (t : Fin grid1.N) (1 : Fin 2) = 0 := by
  decide +kernel

/-- No two grid points leave the same block. -/
theorem apart_pack : ∀ t t' : Fin grid0.N, win0_1.index t = win0_1.index t' → t = t' := by decide +kernel
theorem apart_combine : ∀ t t' : Fin grid1.N, win1_4.index t = win1_4.index t' → t = t' := by decide +kernel

/-- A tile's row among all rows, and a grid point's token. -/
def rowOf (t : Fin 32) (p : Fin 1280) : Fin 40960 := ⟨1280 * t.val + p.val, by omega⟩
def tokenOf (t : Fin 32) (r : Fin 512) : Fin 16384 := ⟨512 * t.val + r.val, by omega⟩

/-- A token's residual plus the gate times its counts along the rows of its tile. -/
def resultAt (X : Vec Ideal S16384x1024 .f32) (Y : Vec Ideal S40960x1024 .bf16) (P : Vec Ideal S16384x128 .f32) (G : Vec Ideal S8x1x1024 .f32)
    (t : Fin 32) (r : Fin 512) (j : Fin 1024) : EReal :=
  X (ix2 (tokenOf t r) j) + G (ix3 ⟨(tokenOf t r).val / 2048, by omega⟩ 0 j)
    * dotRow (count (P (ix2 (tokenOf t r) 0)) (P (ix2 (tokenOf t r) 1))) (fun p => Y (ix2 (rowOf t p) j))

variable (m : (ℓ : Loc nD τ sig) → Buf (Elt Ideal) ℓ) (ρ : Dev nD → PrngReg) (c : Dev nD)

theorem rows_in (t : Fin 32) (p : Fin 1280) (k : Fin 1024) :
    iblk0 (V0 m ρ) c 0 t (ix2 p k) = m ((c : Thread nD τ).loc main_arg1) (ix2 (rowOf t p) k) := by
  obtain ⟨e0, e1, _⟩ := point_pack t
  show V0 m ρ c main_arg1 (((cfg0.win 0).blk t).view.emb (ix2 p k)) = _
  rw [show V0 m ρ c main_arg1 = m ((c : Thread nD τ).loc main_arg1) from W0_args m ρ c main_arg1 (by decide)]
  refine congrArg (m ((c : Thread nD τ).loc main_arg1)) (funext fun a => Fin.ext ?_)
  match a with
  | ⟨0, _⟩ => show win0_0.index t (0 : Fin 2) * 1280 + 1 * p.val = 1280 * t.val + p.val; omega
  | ⟨1, _⟩ => show win0_0.index t (1 : Fin 2) * 1024 + 1 * k.val = k.val; omega

theorem words_place (t : Fin 32) (p : Fin 1280) (u : Fin 2) (d : Fin 512) :
    (((cfg0.win 1).blk t).view.emb (ix3 p u d) : S40960x2x512.Idx) = ix3 (rowOf t p) u d := by
  obtain ⟨_, _, e0, e1, e2⟩ := point_pack t
  refine funext fun a => Fin.ext ?_
  match a with
  | ⟨0, _⟩ => show win0_1.index t (0 : Fin 3) * 1280 + 1 * p.val = 1280 * t.val + p.val; omega
  | ⟨1, _⟩ => show win0_1.index t (1 : Fin 3) * 2 + 1 * u.val = u.val; omega
  | ⟨2, _⟩ => show win0_1.index t (2 : Fin 3) * 512 + 1 * d.val = d.val; omega

/-- THE WORDS after the first launch. -/
theorem words_array (t : Fin 32) (p : Fin 1280) (u : Fin 2) (d : Fin 512) (j : Fin 1024) (hj : j.val = 512 * u.val + d.val) :
    (dat0 (V0 m ρ) c).arrAt 1 cfg0.N (ix3 (rowOf t p) u d) = m ((c : Thread nD τ).loc main_arg1) (ix2 (rowOf t p) j) := by
  have bl := congrFun ((dat0 (V0 m ρ) c).read_blk_arrAt_eq_flushed 1
    (fun t t' _ _ hne => (cfg0.win 1).disjoint_blk fun h => hne (apart_pack t t' h)) cfg0.N t t.isLt (flush0_1 t)) (ix3 p u d)
  have bl' : (dat0 (V0 m ρ) c).arrAt 1 cfg0.N (((cfg0.win 1).blk t).view.emb (ix3 p u d)) = (dat0 (V0 m ρ) c).after 1 t (ix3 p u d) := bl
  rw [show (((cfg0.win 1).blk t).view.emb (ix3 p u d) : S40960x2x512.Idx) = _ from words_place t p u d] at bl'
  exact (bl'.trans (congrFun (after0_1 (V0 m ρ) c t) _)).trans ((packed_block _ p u d j hj).trans (rows_in m ρ c t p j))

/-! ## The second launch's blocks -/

theorem residual_in (t : Fin 32) (r : Fin 512) (k : Fin 1024) :
    iblk1 (V1 m ρ) c 0 t (ix2 r k) = m ((c : Thread nD τ).loc main_arg0) (ix2 (tokenOf t r) k) := by
  obtain ⟨e0, e1, _⟩ := point_combine t
  show V1 m ρ c main_arg0 (((cfg1.win 0).blk t).view.emb (ix2 r k)) = _
  rw [show V1 m ρ c main_arg0 = m ((c : Thread nD τ).loc main_arg0) from W1_args m ρ c main_arg0 (by decide)]
  refine congrArg (m ((c : Thread nD τ).loc main_arg0)) (funext fun a => Fin.ext ?_)
  match a with
  | ⟨0, _⟩ => show win1_0.index t (0 : Fin 2) * 512 + 1 * r.val = 512 * t.val + r.val; omega
  | ⟨1, _⟩ => show win1_0.index t (1 : Fin 2) * 1024 + 1 * k.val = k.val; omega

theorem words_in (t : Fin 32) (p : Fin 1280) (u : Fin 2) (d : Fin 512) (j : Fin 1024) (hj : j.val = 512 * u.val + d.val) :
    iblk1 (V1 m ρ) c 1 t (ix3 p u d) = m ((c : Thread nD τ).loc main_arg1) (ix2 (rowOf t p) j) := by
  refine Eq.trans ?_ (words_array m ρ c t p u d j hj)
  obtain ⟨_, _, e0, e1, e2, _⟩ := point_combine t
  show V1 m ρ c main_v0 (((cfg1.win 1).blk t).view.emb (ix3 p u d)) = _
  rw [show V1 m ρ c main_v0 = (dat0 (V0 m ρ) c).arrAt 1 cfg0.N from W1_arr m ρ c 1]
  refine congrArg ((dat0 (V0 m ρ) c).arrAt 1 cfg0.N) (funext fun a => Fin.ext ?_)
  match a with
  | ⟨0, _⟩ => show win1_1.index t (0 : Fin 3) * 1280 + 1 * p.val = 1280 * t.val + p.val; omega
  | ⟨1, _⟩ => show win1_1.index t (1 : Fin 3) * 2 + 1 * u.val = u.val; omega
  | ⟨2, _⟩ => show win1_1.index t (2 : Fin 3) * 512 + 1 * d.val = d.val; omega

theorem position_in (t : Fin 32) (r : Fin 512) (k : Fin 128) :
    iblk1 (V1 m ρ) c 2 t (ix2 r k) = m ((c : Thread nD τ).loc main_arg2) (ix2 (tokenOf t r) k) := by
  obtain ⟨_, _, _, _, _, e0, e1, _⟩ := point_combine t
  show V1 m ρ c main_arg2 (((cfg1.win 2).blk t).view.emb (ix2 r k)) = _
  rw [show V1 m ρ c main_arg2 = m ((c : Thread nD τ).loc main_arg2) from W1_args m ρ c main_arg2 (by decide)]
  refine congrArg (m ((c : Thread nD τ).loc main_arg2)) (funext fun a => Fin.ext ?_)
  match a with
  | ⟨0, _⟩ => show win1_2.index t (0 : Fin 2) * 512 + 1 * r.val = 512 * t.val + r.val; omega
  | ⟨1, _⟩ => show win1_2.index t (1 : Fin 2) * 128 + 1 * k.val = k.val; omega

theorem gate_in (t : Fin 32) (r : Fin 512) (k : Fin 1024) :
    iblk1 (V1 m ρ) c 3 t (ix3 0 0 k) = m ((c : Thread nD τ).loc main_arg3) (ix3 ⟨(tokenOf t r).val / 2048, by omega⟩ 0 k) := by
  obtain ⟨_, _, _, _, _, _, _, e0, e1, e2, _⟩ := point_combine t
  show V1 m ρ c main_arg3 (((cfg1.win 3).blk t).view.emb (ix3 0 0 k)) = _
  rw [show V1 m ρ c main_arg3 = m ((c : Thread nD τ).loc main_arg3) from W1_args m ρ c main_arg3 (by decide)]
  refine congrArg (m ((c : Thread nD τ).loc main_arg3)) (funext fun a => Fin.ext ?_)
  match a with
  | ⟨0, _⟩ => show win1_3.index t (0 : Fin 3) * 1 + 1 * 0 = (512 * t.val + r.val) / 2048; omega
  | ⟨1, _⟩ => show win1_3.index t (1 : Fin 3) * 1 + 1 * 0 = 0; omega
  | ⟨2, _⟩ => show win1_3.index t (2 : Fin 3) * 1024 + 1 * k.val = k.val; omega

theorem result_place (t : Fin 32) (r : Fin 512) (j : Fin 1024) :
    (((cfg1.win 4).blk t).view.emb (ix2 r j) : S16384x1024.Idx) = ix2 (tokenOf t r) j := by
  obtain ⟨_, _, _, _, _, _, _, _, _, _, e0, e1⟩ := point_combine t
  refine funext fun a => Fin.ext ?_
  match a with
  | ⟨0, _⟩ => show win1_4.index t (0 : Fin 2) * 512 + 1 * r.val = 512 * t.val + r.val; omega
  | ⟨1, _⟩ => show win1_4.index t (1 : Fin 2) * 1024 + 1 * j.val = j.val; omega

theorem token_cases (T : Fin 16384) : ∃ (t : Fin 32) (r : Fin 512), T = tokenOf t r :=
  ⟨⟨T.val / 512, by omega⟩, ⟨T.val % 512, by omega⟩, Fin.ext (by show T.val = 512 * (T.val / 512) + T.val % 512; omega)⟩

/-- THE RESULT after the second launch. -/
theorem result_array (t : Fin 32) (r : Fin 512) (j : Fin 1024) :
    (dat1 (V1 m ρ) c).arrAt 4 cfg1.N (ix2 (tokenOf t r) j)
      = resultAt (m ((c : Thread nD τ).loc main_arg0)) (m ((c : Thread nD τ).loc main_arg1)) (m ((c : Thread nD τ).loc main_arg2))
        (m ((c : Thread nD τ).loc main_arg3)) t r j := by
  have bl := congrFun ((dat1 (V1 m ρ) c).read_blk_arrAt_eq_flushed 4
    (fun t t' _ _ hne => (cfg1.win 4).disjoint_blk fun h => hne (apart_combine t t' h)) cfg1.N t t.isLt (flush1_4 t)) (ix2 r j)
  have bl' : (dat1 (V1 m ρ) c).arrAt 4 cfg1.N (((cfg1.win 4).blk t).view.emb (ix2 r j)) = (dat1 (V1 m ρ) c).after 4 t (ix2 r j) := bl
  rw [show (((cfg1.win 4).blk t).view.emb (ix2 r j) : S16384x1024.Idx) = _ from result_place t r j] at bl'
  refine (bl'.trans (congrFun (after1_4 (V1 m ρ) c t) _)).trans ((combined_block _ _ _ _ r j).trans ?_)
  unfold combined resultAt
  rw [residual_in, position_in, position_in, gate_in m ρ c t r j]
  refine congrArg (fun z : EReal => _ + _ * z) (congrArg (dotRow _) (funext fun p => ?_))
  exact words_in m ρ c t p _ _ j (by show j.val = 512 * (j.val / 512) + j.val % 512; omega)

end Cert.Proof.Combine
end
-- ==== Proof.ComRef.lean ====
/- THE COMBINATION'S REFERENCE AT AN INDEX, where a token's two positions are whole numbers below 1280: the residual plus the gate
   times the sum of the two rows of the token's tile at those positions. -/
module

public import proofs.«01_k».proof.Proof.Gen.CombineRefIdeal.Read
public import proofs.«01_k».proof.Proof.HostRows
public import proofs.«01_k».proof.Pre_combine_rows
public import Idealize.ShloMosaic.Lib.Routing.Ops
public import Idealize.ShloMosaic.Lib.ReduceAll
public import Idealize.ShloMosaic.Lib.IdealHost

@[expose] public section

set_option maxRecDepth 16384

noncomputable section

namespace Cert.Proof.Combine

open Idealize.ShloMosaic Idealize.ShloMosaic.ValueIdx Cert.CombineRefIdeal Cert.CombineRefIdeal.Read

/-! ## What the precondition says of a position -/

instance preFacts : Cert.Pre_combine_rows.Facts where
  slices_S16384x128_S16384x2_0_0 := by decide
  reducesTo_S16384x2_S_d0_1 := by decide
  h_S_ := by decide
  bcast_S_S16384x2 := by decide

instance : Subsingleton Cert.Pre_combine_rows.S_.Idx := ⟨fun _ _ => funext fun i => i.elim0⟩

theorem ofBits_rows : Ideal.ofBits .f32 0x44A00000#32 = ((1280 : ℝ) : EReal) := by
  simp [Ideal.ofBits, Ideal.ieee, -EReal.coe_mul]; norm_num

theorem of_bit (p : Prop) [Decidable p] (h : BitVec.ofBool (decide p) = 1#1) : p := by
  by_cases hp : p
  · exact hp
  · rw [decide_eq_false hp] at h
    exact absurd h (by decide)

/-- A number that is its own floor, not negative and below 1280 is one of 0 to 1279. -/
theorem whole (x : EReal) (hf : Ideal.cmp .oeq (Ideal.liftRound Int.floor x) x = 1#1) (h0 : Ideal.cmp .oge x (Ideal.ofBits .f32 0x00000000#32) = 1#1)
    (h1 : Ideal.cmp .olt x (Ideal.ofBits .f32 0x44A00000#32) = 1#1) : ∃ n : Fin 1280, x = ((n.val : ℝ) : EReal) := by
  rw [Ideal.ofBits_zero_f32] at h0
  rw [ofBits_rows] at h1
  have hf : Ideal.liftRound Int.floor x = x := of_bit _ hf
  have h0 : (0 : EReal) ≤ x := of_bit _ h0
  have h1 : x < ((1280 : ℝ) : EReal) := of_bit _ h1
  induction x with
  | bot => simp at h0
  | top => simp at h1
  | coe y =>
    have f : (((⌊y⌋ : ℤ) : ℝ) : EReal) = (y : EReal) := hf
    have f' : ((⌊y⌋ : ℤ) : ℝ) = y := by exact_mod_cast f
    have a : (0 : ℝ) ≤ y := by exact_mod_cast h0
    have b : y < 1280 := EReal.coe_lt_coe_iff.1 h1
    have a' : 0 ≤ ⌊y⌋ := Int.floor_nonneg.2 a
    have b' : ⌊y⌋ < 1280 := by
      rw [← f'] at b
      exact_mod_cast b
    refine ⟨⟨⌊y⌋.toNat, by omega⟩, ?_⟩
    have e : ((⌊y⌋.toNat : ℕ) : ℤ) = ⌊y⌋ := Int.toNat_of_nonneg a'
    refine f.symm.trans (congrArg (fun z : ℝ => (z : EReal)) ?_)
    show ((⌊y⌋ : ℤ) : ℝ) = ((⌊y⌋.toNat : ℕ) : ℝ)
    rw [← Int.cast_natCast, e]

/-- The precondition at a token's two positions. -/
theorem rows_of_pre (x0 : Vec Ideal S16384x1024 .f32) (x1 : Vec Ideal S40960x1024 .bf16) (x2 : Vec Ideal S16384x128 .f32) (x3 : Vec Ideal S8x1x1024 .f32)
    (hp : Cert.Pre_combine_rows.fn (F := Ideal) x0 x1 x2 x3 = fun _ => 1#1) (T : Fin 16384) (k : Fin 128) (hk : k.val < 2) :
    ∃ n : Fin 1280, x2 (ix2 T k) = ((n.val : ℝ) : EReal) := by
  have e := congrFun hp (fun a => a.elim0)
  dsimp only [Cert.Pre_combine_rows.fn] at e
  obtain ⟨e1, e'⟩ : _ = 1#1 ∧ _ = 1#1 := IntOp.andi_eq_one.1 e
  obtain ⟨e2, e3⟩ : _ = 1#1 ∧ _ = 1#1 := IntOp.andi_eq_one.1 e'
  have s := slice_at x2 (Cert.Pre_combine_rows.Facts.slices_S16384x128_S16384x2_0_0) T (⟨k.val, hk⟩ : Fin 2) T k (Nat.zero_add _).symm (Nat.zero_add _).symm
  have t1 := Host.reduce_andi_all _ _ _ _ _ e1 (ix2 T (⟨k.val, hk⟩ : Fin 2))
  have t2 := Host.reduce_andi_all _ _ _ _ _ e2 (ix2 T (⟨k.val, hk⟩ : Fin 2))
  have t3 := Host.reduce_andi_all _ _ _ _ _ e3 (ix2 T (⟨k.val, hk⟩ : Fin 2))
  rw [← s]
  exact whole _ t1 t2 t3

/-! ## The reference -/

/-- A whole number's word. -/
theorem word_of (n : Fin 1280) : Ideal.fptosi 32 ((n.val : ℝ) : EReal) = BitVec.ofNat 32 n.val := by
  have hn := n.isLt
  have hf : ⌊((n.val : ℕ) : ℝ)⌋ = (n.val : ℤ) := Int.floor_natCast n.val
  unfold Ideal.fptosi
  rw [Ideal.toIntClamped_coe, if_pos (Nat.cast_nonneg _), hf]
  have e : max (-((2 ^ (32 - 1) : ℕ) : ℤ)) (min (((2 ^ (32 - 1) : ℕ) : ℤ) - 1) (n.val : ℤ)) = (n.val : ℤ) := by
    norm_num
    omega
  rw [e, BitVec.ofInt_natCast]

/-- Row `n` of a token's tile. -/
def tileRow (T : Fin 16384) (n : Fin 1280) : Fin 40960 := ⟨T.val / 512 * 1280 + n.val, by omega⟩

/-- The row's number as the reference forms it: the tile's first row plus the position, and 40960 more if that were negative. -/
theorem row_word (T : Fin 16384) (n : Fin 1280) :
    Scalar.select (IntOp.cmpi .slt (IntOp.addi (IntOp.muli (BitVec.ofNat 32 (T.val / 512)) 1280#32) (BitVec.ofNat 32 n.val)) 0#32)
      (IntOp.addi (IntOp.addi (IntOp.muli (BitVec.ofNat 32 (T.val / 512)) 1280#32) (BitVec.ofNat 32 n.val)) 40960#32)
      (IntOp.addi (IntOp.muli (BitVec.ofNat 32 (T.val / 512)) 1280#32) (BitVec.ofNat 32 n.val))
      = BitVec.ofNat 32 (tileRow T n).val := by
  have e : IntOp.addi (IntOp.muli (BitVec.ofNat 32 (T.val / 512)) 1280#32) (BitVec.ofNat 32 n.val) = BitVec.ofNat 32 (tileRow T n).val := by
    show BitVec.ofNat 32 (T.val / 512) * BitVec.ofNat 32 1280 + BitVec.ofNat 32 n.val = _
    rw [← BitVec.ofNat_mul, ← BitVec.ofNat_add]
    rfl
  rw [e]
  have hl := (tileRow T n).isLt
  have hc : IntOp.cmpi .slt (BitVec.ofNat 32 (tileRow T n).val) 0#32 = 0#1 := by
    have : (BitVec.ofNat 32 (tileRow T n).val).toInt = ((tileRow T n).val : ℤ) := by
      rw [BitVec.toInt_eq_toNat_cond, BitVec.toNat_ofNat, Nat.mod_eq_of_lt (by omega), if_pos (by omega)]
    show BitVec.ofBool (decide ((BitVec.ofNat 32 (tileRow T n).val).toInt < 0)) = 0#1
    rw [this, decide_eq_false (by omega)]
    rfl
  rw [hc]
  rfl

variable (x0 : Vec Ideal S16384x1024 .f32) (x1 : Vec Ideal S40960x1024 .bf16) (x2 : Vec Ideal S16384x128 .f32) (x3 : Vec Ideal S8x1x1024 .f32)

theorem first_position (T : Fin 16384) (n : Fin 1280) (h : x2 (ix2 T 0) = ((n.val : ℝ) : EReal)) :
    val_main_v13 (F := Ideal) x2 (ix2 T 0) = BitVec.ofNat 32 (tileRow T n).val := by
  have e5 : val_main_v6 (F := Ideal) x2 (ix1 T) = BitVec.ofNat 32 n.val := by
    rw [val_main_v6_apply, val_main_v5_apply, val_main_v4_apply]
    refine (congrArg (Ideal.fptosi 32) ?_).trans (word_of n)
    rw [← h]
    refine congrArg x2 (funext fun a => Fin.ext ?_)
    match a with
    | ⟨0, _⟩ => show T.val / 1 = T.val; omega
    | ⟨1, _⟩ => rfl
  rw [val_main_v13_apply, val_main_v12_apply, val_main_v9_apply, val_main_v11_apply, val_main_v7_apply, val_main_v3_apply, val_main_v1_apply,
    val_main_v0_apply, val_main_v2_apply, val_main_c_apply, val_main_v8_apply, val_main_c_0_apply, val_main_v10_apply, val_main_c_1_apply]
  rw [show idx_main_v13 (ix2 T 0) = ix1 T from funext fun a => match a with | ⟨0, _⟩ => rfl, e5]
  exact row_word T n

theorem second_position (T : Fin 16384) (n : Fin 1280) (h : x2 (ix2 T 1) = ((n.val : ℝ) : EReal)) :
    val_main_v24 (F := Ideal) x2 (ix2 T 0) = BitVec.ofNat 32 (tileRow T n).val := by
  have e5 : val_main_v17 (F := Ideal) x2 (ix1 T) = BitVec.ofNat 32 n.val := by
    rw [val_main_v17_apply, val_main_v16_apply, val_main_v15_apply]
    refine (congrArg (Ideal.fptosi 32) ?_).trans (word_of n)
    rw [← h]
    refine congrArg x2 (funext fun a => Fin.ext ?_)
    match a with
    | ⟨0, _⟩ => show T.val / 1 = T.val; omega
    | ⟨1, _⟩ => rfl
  rw [val_main_v24_apply, val_main_v23_apply, val_main_v20_apply, val_main_v22_apply, val_main_v18_apply, val_main_v3_apply, val_main_v1_apply,
    val_main_v0_apply, val_main_v2_apply, val_main_c_apply, val_main_v19_apply, val_main_c_2_apply, val_main_v21_apply, val_main_c_3_apply]
  rw [show idx_main_v24 (ix2 T 0) = ix1 T from funext fun a => match a with | ⟨0, _⟩ => rfl, e5]
  exact row_word T n

/-- THE REFERENCE at an index. -/
theorem combine_reference (T : Fin 16384) (j : Fin 1024) (n n' : Fin 1280) (h : x2 (ix2 T 0) = ((n.val : ℝ) : EReal))
    (h' : x2 (ix2 T 1) = ((n'.val : ℝ) : EReal)) :
    val_main_v34 (F := Ideal) x0 x1 x2 x3 (ix2 T j)
      = x0 (ix2 T j) + x3 (ix3 ⟨T.val / 2048, by omega⟩ 0 j) * (x1 (ix2 (tileRow T n) j) + x1 (ix2 (tileRow T n') j)) := by
  have g : val_main_v28 (F := Ideal) x1 x2 (ix2 T j) = x1 (ix2 (tileRow T n) j) + x1 (ix2 (tileRow T n') j) := by
    refine congrArg₂ (fun a b : EReal => a + b) ?_ ?_
    · exact Routing.gather_row _ rfl rfl rfl rfl rfl x1 _ T j (tileRow T n) (first_position x2 T n h) (by norm_num)
    · exact Routing.gather_row _ rfl rfl rfl rfl rfl x1 _ T j (tileRow T n') (second_position x2 T n' h') (by norm_num)
  obtain ⟨b, hb⟩ : ∃ b : Fin 8, b = ⟨T.val / 2048, by omega⟩ := ⟨_, rfl⟩
  obtain ⟨r, hr⟩ : ∃ r : Fin 2048, r.val = T.val % 2048 := ⟨⟨T.val % 2048, by omega⟩, rfl⟩
  have hT : T.val = b.val * 2048 + r.val := by rw [hb, hr]; exact (Nat.div_add_mod' _ _).symm
  rw [← g, ← hb]
  have ei : idx_main_v34 (ix2 T j) = ix3 b r j := funext fun a => Fin.ext (by
    have hj := j.isLt
    match a with
    | ⟨0, _⟩ => show (T.val * 1024 + j.val) / 2097152 = b.val; omega
    | ⟨1, _⟩ => show (T.val * 1024 + j.val) / 1024 % 2048 = r.val; omega
    | ⟨2, _⟩ => show (T.val * 1024 + j.val) % 1024 = j.val; omega)
  rw [val_main_v34_apply, val_main_v33_apply, val_main_v32_apply, ei]
  refine congrArg₂ (fun a b : EReal => a + b) ?_ (congrArg₂ (fun a b : EReal => a * b) ?_ ?_)
  · exact entries_at x0 Facts₀.shapeCasts_S16384x1024_S8x2048x1024 T b r hT j
  · exact batch_at Facts₀.bcast_S8x1x1024_S8x2048x1024_0_1_2 x3 b r j
  · exact entries_at (val_main_v28 (F := Ideal) x1 x2) Facts₀.shapeCasts_S16384x1024_S8x2048x1024 T b r hT j

end Cert.Proof.Combine
end
-- ==== Proof.ComEq.lean ====
/- THE COMBINATION AND ITS REFERENCE end with the same array. Where a token's two positions are whole numbers below 1280, its counts
   along the tile's rows pick the two rows of the reference: a row that is no position is multiplied by zero, and where both
   positions are one row that row is added twice. -/
module

public import proofs.«01_k».proof.Defs
public import proofs.«01_k».proof.Proof.ComArray
public import proofs.«01_k».proof.Proof.ComRef
public import proofs.«01_k».proof.Proof.Gen.CombineRefIdeal.Run
public import Idealize.ShloMosaic.Lib.Bf16Pair
public import Idealize.ShloMosaic.Lib.Bf16PairInverse
public import Idealize.ShloMosaic.Lib.Quiescent

@[expose] public section

set_option maxRecDepth 16384

noncomputable section

namespace Cert.Proof.Combine

open Idealize.ShloMosaic Idealize.ShloMosaic.TcCoe Idealize.ShloMosaic.ValueIdx Idealize.SL.Sem
open scoped BigOperators

theorem mark_whole (p n : Fin 1280) : mark p ((n.val : ℝ) : EReal) = if p = n then 1 else 0 := by
  unfold mark
  refine if_congr ?_ rfl rfl
  rw [EReal.coe_eq_coe_iff, Nat.cast_inj]
  exact ⟨fun h => Fin.ext h, fun h => congrArg Fin.val h⟩

/-- The counts along the rows pick the two rows. -/
theorem count_rows (n n' : Fin 1280) (w : Fin 1280 → EReal) : dotRow (count ((n.val : ℝ) : EReal) ((n'.val : ℝ) : EReal)) w = w n + w n' := by
  have e : ∀ p, count ((n.val : ℝ) : EReal) ((n'.val : ℝ) : EReal) p * w p = (if p = n then w p else 0) + (if p = n' then w p else 0) := by
    intro p
    unfold count
    rw [mark_whole, mark_whole]
    by_cases h : p = n <;> by_cases h' : p = n'
    · rw [if_pos h, if_pos h', if_pos h, if_pos h', EReal.right_distrib_of_nonneg zero_le_one zero_le_one, one_mul]
    · rw [if_pos h, if_neg h', if_pos h, if_neg h', add_zero, add_zero, one_mul]
    · rw [if_neg h, if_pos h', if_neg h, if_pos h', zero_add, zero_add, one_mul]
    · rw [if_neg h, if_neg h', if_neg h, if_neg h', add_zero, zero_mul]
  unfold dotRow
  rw [Finset.sum_congr rfl fun p _ => e p, Finset.sum_add_distrib, Finset.sum_ite_eq', Finset.sum_ite_eq', if_pos (Finset.mem_univ _),
    if_pos (Finset.mem_univ _)]

theorem algebraic : Cert.algebraic_CombineIdeal_CombineRefIdeal_pre_combine_rows := by
  intro m ρ m' ρ' hpre hagree
  refine ⟨_, Cert.Proof.Combine.run_result (F := Ideal) m ρ, ?_⟩
  refine (θ_run Cert.CombineRefIdeal.defs _ _).mono (fun _ h c => ?_) (Cert.CombineRefIdeal.Value.run (F := Ideal) m' ρ')
  obtain ⟨a0, a1, a2, a3⟩ := hagree c
  refine ⟨(h c).1.trans ?_, (h c).2⟩
  refine (Cert.CombineRefIdeal.Read.val_main_v34_eq (F := Ideal) _ _ _ _).trans ?_
  rw [a0, a1, a2, a3]
  refine funext fun i => ?_
  obtain ⟨T, j, rfl⟩ : ∃ (T : Fin 16384) (j : Fin 1024), i = ix2 T j := ⟨i 0, i 1, eq_ix2 i⟩
  obtain ⟨n, hn⟩ := rows_of_pre _ _ _ _ (hpre c) T 0 (by decide)
  obtain ⟨n', hn'⟩ := rows_of_pre _ _ _ _ (hpre c) T 1 (by decide)
  refine (combine_reference _ _ _ _ T j n n' hn hn').trans ?_
  obtain ⟨t, r, rfl⟩ := token_cases T
  have e : ∀ p : Fin 1280, tileRow (tokenOf t r) p = rowOf t p := fun p => Fin.ext (by
    have := r.isLt
    show (512 * t.val + r.val) / 512 * 1280 + p.val = 1280 * t.val + p.val
    omega)
  refine Eq.trans ?_ (result_array m ρ c t r j).symm
  unfold resultAt
  rw [hn, hn', count_rows, e, e]

/-- The reference's frame. -/
theorem reference_frame : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

/-- What the program's words are, at each shape the idealization reads one at. -/
theorem preserves : Cert.preserves_Combine_CombineIdeal :=
  ⟨IdealRules.bf16_pair.bufferStatement _ _, IdealRules.bf16_pair.bufferStatement _ _, IdealRules.bf16_pair.statement _ _,
    IdealRules.bf16_pack.statement _, IdealRules.bf16_pair.statement _ _⟩

end Cert.Proof.Combine
end
-- ==== Proof.RelCore.lean ====
/- THE RELATIVE BIAS'S BUCKETS. A query and a key `n` positions apart fall in bucket `n` up to sixteen and after that in one of fifteen
   more, each with its first distance. The bucket of a distance is a number below 32; picking it out of 32 entries by comparing with
   each number in turn gives the entry at it. -/
module

public import proofs.«01_k».proof.Proof.Rows

@[expose] public section

noncomputable section

namespace Cert.Proof.RelBias

open Idealize.ShloMosaic

/-- The first distance of each bucket after the sixteenth. -/
abbrev firsts : List (BitVec 32) :=
  [22#32, 30#32, 40#32, 54#32, 73#32, 99#32, 134#32, 182#32, 246#32, 332#32, 450#32, 609#32, 825#32, 1117#32, 1513#32]

/-- One bucket more when the distance has reached the next first distance. -/
def step (d acc first : BitVec 32) : BitVec 32 := IntOp.addi acc ((IntOp.cmpi .sge d first).setWidth 32)

/-- The bucket of a distance. -/
def bucketOf (d : BitVec 32) : BitVec 32 := firsts.foldl (step d) (IntOp.minsi d 16#32)

theorem bit_word (p : Bool) : (BitVec.ofBool p).setWidth 32 = BitVec.ofNat 32 p.toNat := by
  cases p <;> rfl

theorem fold_small (d : BitVec 32) (l : List (BitVec 32)) (a : ℕ) : ∃ b, b ≤ a + l.length ∧ l.foldl (step d) (BitVec.ofNat 32 a) = BitVec.ofNat 32 b := by
  induction l generalizing a with
  | nil => exact ⟨a, le_rfl, rfl⟩
  | cons f l ih =>
    obtain ⟨p, hp⟩ : ∃ p : Bool, IntOp.cmpi .sge d f = BitVec.ofBool p := ⟨_, rfl⟩
    obtain ⟨b, hb, e⟩ := ih (a + p.toNat)
    refine ⟨b, ?_, ?_⟩
    · have := Bool.toNat_le p
      simp only [List.length_cons]
      omega
    · rw [List.foldl_cons, ← e, BitVec.ofNat_add, ← bit_word p, ← hp]
      rfl

theorem toInt_small (n : ℕ) (h : n < 2147483648) : (BitVec.ofNat 32 n).toInt = n := by
  rw [BitVec.toInt_eq_toNat_cond, BitVec.toNat_ofNat, Nat.mod_eq_of_lt (by omega), if_pos (by omega)]

/-- The bucket of a distance is a number below 32. -/
theorem bucket_small (n : ℕ) (h : n < 2147483648) : ∃ b, b < 32 ∧ bucketOf (BitVec.ofNat 32 n) = BitVec.ofNat 32 b := by
  obtain ⟨a, ha, e⟩ : ∃ a, a ≤ 16 ∧ IntOp.minsi (BitVec.ofNat 32 n) 16#32 = BitVec.ofNat 32 a := by
    by_cases hn : n < 16
    · refine ⟨n, by omega, if_pos ?_⟩
      refine decide_eq_true ?_
      rw [toInt_small n h, toInt_small 16 (by norm_num)]
      omega
    · refine ⟨16, le_rfl, if_neg ?_⟩
      refine fun hc => ?_
      have hc := of_decide_eq_true hc
      rw [toInt_small n h, toInt_small 16 (by norm_num)] at hc
      omega
  obtain ⟨b, hb, e'⟩ := fold_small (BitVec.ofNat 32 n) firsts a
  refine ⟨b, ?_, ?_⟩
  · have : firsts.length = 15 := rfl
    omega
  · unfold bucketOf
    rw [e, e']

/-- How far a query at `r` of a block is past a key at `k` of the block before it and the block, zero if it is not past it. -/
def gap (r : Fin 128) (k : Fin 256) : BitVec 32 := IntOp.subi (IntOp.addi 128#32 (BitVec.ofNat 32 r.val)) (BitVec.ofNat 32 k.val)

theorem gap_eq (r : Fin 128) (k : Fin 256) : IntOp.maxsi (gap r k) 0#32 = BitVec.ofNat 32 (128 + r.val - k.val) := by
  have hr := r.isLt
  have hk := k.isLt
  have hi : (gap r k).toInt = 128 + (r.val : ℤ) - k.val := by
    unfold gap IntOp.subi IntOp.addi
    rw [BitVec.toInt_sub, BitVec.toInt_add, toInt_small 128 (by norm_num), toInt_small r.val (by omega), toInt_small k.val (by omega)]
    simp only [Int.bmod]
    omega
  by_cases h : k.val < 128 + r.val
  · refine (if_pos (decide_eq_true ?_)).trans (BitVec.eq_of_toInt_eq ?_)
    · show (0 : ℤ) < (gap r k).toInt
      omega
    · rw [hi, toInt_small _ (by omega)]
      omega
  · refine (if_neg fun hc => ?_).trans ?_
    · have : (0 : ℤ) < (gap r k).toInt := of_decide_eq_true hc
      omega
    · rw [show 128 + r.val - k.val = 0 by omega]

/-- The distance in a group: the gap times the group's dilation, one, four or sixteen. -/
def distance (g : Fin 3) (r : Fin 128) (k : Fin 256) : BitVec 32 := IntOp.muli (IntOp.maxsi (gap r k) 0#32) (BitVec.ofNat 32 (4 ^ g.val))

theorem distance_eq (g : Fin 3) (r : Fin 128) (k : Fin 256) : distance g r k = BitVec.ofNat 32 ((128 + r.val - k.val) * 4 ^ g.val) := by
  unfold distance
  rw [gap_eq]
  exact (BitVec.ofNat_mul ..).symm

theorem distance_shift (g : Fin 3) (r : Fin 128) (k : Fin 256) :
    IntOp.shli .host (IntOp.maxsi (gap r k) 0#32) (IntOp.muli 2#32 (BitVec.ofNat 32 g.val)) = distance g r k := by
  unfold distance
  generalize IntOp.maxsi (gap r k) 0#32 = d
  fin_cases g
  · show d <<< (0#32) = d * 1#32
    simp
  · show d <<< (2#32) = d * 4#32
    rw [BitVec.shiftLeft_eq', BitVec.shiftLeft_eq_mul_twoPow]; rfl
  · show d <<< (4#32) = d * 16#32
    rw [BitVec.shiftLeft_eq', BitVec.shiftLeft_eq_mul_twoPow]; rfl

/-- The bucket's number. -/
theorem bucket_number (g : Fin 3) (r : Fin 128) (k : Fin 256) : ∃ b : Fin 32, bucketOf (distance g r k) = BitVec.ofNat 32 b.val := by
  have hr := r.isLt
  have hp : 4 ^ g.val ≤ 16 := by
    fin_cases g <;> norm_num
  obtain ⟨b, hb, e⟩ := bucket_small ((128 + r.val - k.val) * 4 ^ g.val) (by
    have : (128 + r.val - k.val) * 4 ^ g.val ≤ 256 * 16 := Nat.mul_le_mul (by omega) hp
    omega)
  exact ⟨⟨b, hb⟩, by rw [distance_eq, e]⟩

/-- The entry a word picks out of the first `n`, found by comparing the word with each number in turn. -/
def pick (w : BitVec 32) (f : Fin 32 → EReal) : (n : ℕ) → n ≤ 32 → EReal
  | 0, _ => Ideal.ofBits .f32 0x00000000#32
  | n + 1, h => Scalar.select (IntOp.cmpi .eq w (BitVec.ofNat 32 n)) (f ⟨n, h⟩) (pick w f n (Nat.le_of_succ_le h))

theorem pick_eq (b : Fin 32) (f : Fin 32 → EReal) (n : ℕ) (hn : n ≤ 32) (h : b.val < n) : pick (BitVec.ofNat 32 b.val) f n hn = f b := by
  induction n with
  | zero => omega
  | succ n ih =>
    have hb := b.isLt
    show (if BitVec.ofBool (BitVec.ofNat 32 b.val == BitVec.ofNat 32 n) = 1#1 then f ⟨n, hn⟩ else pick (BitVec.ofNat 32 b.val) f n (Nat.le_of_succ_le hn)) = f b
    by_cases e : b.val = n
    · have eb : (⟨n, hn⟩ : Fin 32) = b := Fin.ext e.symm
      rw [e, beq_self_eq_true, eb]
      exact if_pos rfl
    · have hne : (BitVec.ofNat 32 b.val == BitVec.ofNat 32 n) = false := by
        refine beq_eq_false_iff_ne.2 fun hc => e ?_
        have := congrArg BitVec.toNat hc
        rw [BitVec.toNat_ofNat, BitVec.toNat_ofNat, Nat.mod_eq_of_lt (by omega), Nat.mod_eq_of_lt (by omega)] at this
        exact this
      rw [hne]
      exact (if_neg (by decide)).trans (ih (by omega) (by omega))

/-- Inside the band a bit is one, outside zero. -/
def inBand (r : Fin 128) (k : Fin 256) : BitVec 1 := IntOp.andi (IntOp.cmpi .sge (gap r k) 0#32) (IntOp.cmpi .sle (gap r k) 128#32)

theorem ne_zero_of_bit (p : BitVec 1) : IntOp.cmpi .ne (p.setWidth 32) 0#32 = p := by
  revert p; decide

end Cert.Proof.RelBias
end
-- ==== Proof.RelBlock.lean ====
/- THE BLOCK A GRID POINT OF THE RELATIVE BIAS LEAVES. The four heads of the point's group are written one after another, each twice:
   with the keys of the block before, and without. Every element is the entry of the table that its bucket picks in the head's
   column, in units of log 2, or minus infinity. -/
module

public import proofs.«01_k».proof.Proof.RelCore
public import proofs.«01_k».proof.Proof.Tile
public import proofs.«01_k».proof.Proof.Gen.RelBiasIdeal.Value
public import Idealize.ShloMosaic.Lib.Pipeline.ValueKit.Tiles

@[expose] public section

set_option maxRecDepth 16384

noncomputable section

namespace Cert.Proof.RelBias

open Idealize.ShloMosaic Idealize.ShloMosaic.TcCoe Idealize.ShloMosaic.ValueIdx Cert.RelBiasIdeal Cert.RelBiasIdeal.Gen Idealize.ShloMosaic.Tactic

/-- A load of a whole block. -/
theorem whole_load (x1 : Vec Ideal S1x128x256 .i32) (inb : ∀ d : Fin 3, (![0, 0, 0] : Fin 3 → ℕ) d + S1x128x256.size d ≤ S1x128x256.size d) (r : Fin 128) (k : Fin 256) :
    View.ld x1 (Rect.unit (s := S1x128x256) ![0, 0, 0] S1x128x256.size inb) (ix3 0 r k) = x1 (ix3 0 r k) := by
  refine congrArg x1 (funext fun d => Fin.ext ?_)
  rw [Rect.idx_unit_val]
  match d with
  | ⟨0, _⟩ => exact Nat.zero_add _
  | ⟨1, _⟩ => exact Nat.zero_add _
  | ⟨2, _⟩ => exact Nat.zero_add _

/-- The column of a group's head. -/
theorem column (i : Fin 3) (h : ℕ) (hh : h < 4) :
    BitVec.toNat (Scalar.indexCast (Scalar.addi (Scalar.muli (BitVec.ofNat 32 i.val) 4#32) (BitVec.ofNat 32 h))) = i.val * 4 + h := by
  have hi := i.isLt
  show (BitVec.ofNat 32 i.val * BitVec.ofNat 32 4 + BitVec.ofNat 32 h).toNat = _
  rw [← BitVec.ofNat_mul, ← BitVec.ofNat_add, BitVec.toNat_ofNat, Nat.mod_eq_of_lt (by omega)]

/-- A column is one of the twelve. -/
theorem word_inb (i : Fin 3) (w : BitVec 32) (h : ℕ) (hh : h < 4)
    (hw : BitVec.toNat (Scalar.indexCast (Scalar.addi (Scalar.muli (BitVec.ofNat 32 i.val) 4#32) w)) = i.val * 4 + h) (n : Fin 32) :
    ∀ d : Fin 2, (![n.val, BitVec.toNat (Scalar.indexCast (Scalar.addi (Scalar.muli (BitVec.ofNat 32 i.val) 4#32) w))] : Fin 2 → ℕ) d
      + (![1, 1] : Fin 2 → ℕ) d ≤ S32x12.size d := fun d => by
  have hn := n.isLt
  have hi := i.isLt
  match d with
  | ⟨0, _⟩ => show n.val + 1 ≤ 32; omega
  | ⟨1, _⟩ => show BitVec.toNat _ + 1 ≤ 12; rw [hw]; omega

/-- The words the kernel loads for a head: the entries of its column of the table. -/
def words (x0 : Vec Ideal S32x12 .f32) (i : Fin 3) (h : Fin 4) (n : Fin 32) : EReal :=
  View.ld x0 (Rect.unit (s := S32x12) ![n.val, BitVec.toNat (Scalar.indexCast (Scalar.addi (Scalar.muli (BitVec.ofNat 32 i.val) 4#32) (BitVec.ofNat 32 h.val)))] ![1, 1]
    (word_inb i _ h.val h.isLt (column i h.val h.isLt) n)) (Shape.Idx.first (s := (⟨2, ![1, 1]⟩ : Shape)) (by decide))

/-- A group's head among the twelve. -/
abbrev headOf (g : Fin 3) (h : Fin 4) : Fin 12 := ⟨g.val * 4 + h.val, by omega⟩

theorem words_eq (x0 : Vec Ideal S32x12 .f32) (i : Fin 3) (h : Fin 4) (n : Fin 32) : words x0 i h n = x0 (ix2 n (headOf i h)) := by
  unfold words
  refine congrArg x0 (funext fun d => Fin.ext ?_)
  rw [Rect.idx_unit_val]
  match d with
  | ⟨0, _⟩ => exact Nat.add_zero _
  | ⟨1, _⟩ => exact (Nat.add_zero _).trans (column i h.val h.isLt)

/-- The bias of a bucket in units of log 2 where the word is not zero, else minus infinity. -/
def biasOf (w v : BitVec 32) (f : Fin 32 → EReal) : EReal :=
  Scalar.select (IntOp.cmpi .ne v 0#32) (pick w f 32 le_rfl * (((Real.log 2)⁻¹ : ℝ) : EReal)) (Ideal.ofBits .f32 0xFF800000#32)

/-- With the keys of the block before (`u = 0`), and without (`u = 1`). -/
def half (u : Fin 2) (k : Fin 256) (x : EReal) : EReal :=
  if u.val = 1 ∧ k.val < 128 then Ideal.ofBits .f32 0xFF800000#32 else x

/-- The block's element. -/
def element (g : Fin 3) (x0 : Vec Ideal S32x12 .f32) (x1 x2 : Vec Ideal S1x128x256 .i32) (u : Fin 2) (h : Fin 4) (r : Fin 128) (k : Fin 256) : EReal :=
  half u k (biasOf (x1 (ix3 0 r k)) (x2 (ix3 0 r k)) (words x0 g h))

/-- One head's stored tile is a piece of the block. -/
theorem tile_piece (G : Fin 2 → Fin 4 → Fin 128 → Fin 256 → EReal) (P : FVec Ideal S1x1x128x256 .f32) (u : Fin 2) (h : Fin 4)
    (inb : ∀ d : Fin 4, (![u.val, h.val, 0, 0] : Fin 4 → ℕ) d + (![1, 1, 128, 256] : Fin 4 → ℕ) d ≤ S2x4x128x256.size d)
    (hP : ∀ r k, P (ix4 0 0 r k) = G u h r k) (x : S1x1x128x256.Idx) :
    P x = (fun y : S2x4x128x256.Idx => G (y 0) (y 1) (y 2) (y 3)) ((Rect.unit (s := S2x4x128x256) ![u.val, h.val, 0, 0] ![1, 1, 128, 256] inb).idx x) := by
  obtain ⟨r, k, rfl⟩ : ∃ (r : Fin 128) (k : Fin 256), x = ix4 0 0 r k := by
    refine ⟨x 2, x 3, funext fun d => Fin.ext ?_⟩
    match d with
    | ⟨0, _⟩ => have : (x 0).val < 1 := (x 0).isLt; show (x 0).val = 0; omega
    | ⟨1, _⟩ => have : (x 1).val < 1 := (x 1).isLt; show (x 1).val = 0; omega
    | ⟨2, _⟩ => rfl
    | ⟨3, _⟩ => rfl
  refine (hP r k).trans ?_
  have e : ∀ d, ((Rect.unit (s := S2x4x128x256) ![u.val, h.val, 0, 0] ![1, 1, 128, 256] inb).idx (ix4 0 0 r k) d).val
      = (![u.val, h.val, 0, 0] : Fin 4 → ℕ) d + ((ix4 (0 : Fin 1) (0 : Fin 1) r k : S1x1x128x256.Idx) d).val := fun d => Rect.idx_unit_val ..
  have a : u = (Rect.unit (s := S2x4x128x256) ![u.val, h.val, 0, 0] ![1, 1, 128, 256] inb).idx (ix4 0 0 r k) 0 := Fin.ext (by rw [e 0]; exact (Nat.add_zero _).symm)
  have b : h = (Rect.unit (s := S2x4x128x256) ![u.val, h.val, 0, 0] ![1, 1, 128, 256] inb).idx (ix4 0 0 r k) 1 := Fin.ext (by rw [e 1]; exact (Nat.add_zero _).symm)
  have c : r = (Rect.unit (s := S2x4x128x256) ![u.val, h.val, 0, 0] ![1, 1, 128, 256] inb).idx (ix4 0 0 r k) 2 := Fin.ext (by rw [e 2]; exact (Nat.zero_add _).symm)
  have d : k = (Rect.unit (s := S2x4x128x256) ![u.val, h.val, 0, 0] ![1, 1, 128, 256] inb).idx (ix4 0 0 r k) 3 := Fin.ext (by rw [e 3]; exact (Nat.zero_add _).symm)
  show G u h r k = G _ _ _ _
  rw [← a, ← b, ← c, ← d]

/-- A tile with two leading axes of one. -/
theorem lead_at (T : FVec Ideal S128x256 .f32) (hc : S128x256.ShapeCasts S1x1x128x256) (r : Fin 128) (k : Fin 256) :
    shapeCast S1x1x128x256 T hc (ix4 0 0 r k) = T (ix2 r k) := by
  refine shapeCast_apply T hc _ (ix2 r k) ?_
  rewrite [Shape.rowMajor_val_two, Shape.rowMajor_val_four]
  show r.val * 256 + k.val = ((0 * 1 + 0) * 128 + r.val) * 256 + k.val
  omega

/-- The bias tile with the keys of the block before. -/
theorem with_before (w v : BitVec 32) (f : Fin 32 → EReal) (k : Fin 256) : biasOf w v f = half 0 k (biasOf w v f) :=
  (if_neg fun h => absurd h.1 (by decide)).symm

/-- The bias tile without them. -/
theorem without_before (w v : BitVec 32) (f : Fin 32 → EReal) (r : Fin 128) (k : Fin 256) :
    Scalar.select (IntOp.cmpi .sge (iota .tc S128x256 32 [1] iota_S128x256_d1_w32 (ix2 r k)) 128#32) (biasOf w v f) (Ideal.ofBits .f32 0xFF800000#32)
      = half 1 k (biasOf w v f) := by
  have hk := k.isLt
  rw [iota_single_apply]
  have e : IntOp.cmpi .sge (BitVec.ofNat 32 k.val) 128#32 = BitVec.ofBool (decide (128 ≤ k.val)) :=
    WordCmp.cmpi_sge_ofNat (w := 32) (by show k.val < 2147483648; omega) (by norm_num)
  refine (congrArg (fun b => Scalar.select b _ _) e).trans ?_
  rw [select_ofBool]
  unfold half
  by_cases h : 128 ≤ k.val
  · rw [if_pos h, if_neg (by omega)]
  · rw [if_neg h, if_pos ⟨rfl, by omega⟩]

theorem word_at (x1 : Vec Ideal S1x128x256 .i32) (r : Fin 128) (k : Fin 256) :
    k0_pay2 (F := Ideal) (View.ld x1 (Rect.unit (s := S1x128x256) ![0, 0, 0] S1x128x256.size inb_S1x128x256_S1x128x256_0_0_0)) (ix2 r k) = x1 (ix3 0 r k) :=
  (unblock_at _ shapeCasts_S1x128x256_S128x256 r k).trans (whole_load x1 _ r k)

/-- A stored tile without them, from the words. -/
theorem tail_element (x0 : Vec Ideal S32x12 .f32) (x1 x2 : Vec Ideal S1x128x256 .i32) (i : Fin 3) (h : Fin 4) (r : Fin 128) (k : Fin 256) (w v : BitVec 32)
    (hw : w = x1 (ix3 0 r k)) (hv : v = x2 (ix3 0 r k)) :
    Scalar.select (IntOp.cmpi .sge (iota .tc S128x256 32 [1] iota_S128x256_d1_w32 (ix2 r k)) 128#32) (biasOf w v (words x0 i h)) (Ideal.ofBits .f32 0xFF800000#32)
      = element i x0 x1 x2 1 h r k := by
  subst hw hv
  exact without_before (x1 (ix3 0 r k)) (x2 (ix3 0 r k)) (words x0 i h) r k

theorem head_element (x0 : Vec Ideal S32x12 .f32) (x1 x2 : Vec Ideal S1x128x256 .i32) (i : Fin 3) (h : Fin 4) (r : Fin 128) (k : Fin 256) (w v : BitVec 32)
    (hw : w = x1 (ix3 0 r k)) (hv : v = x2 (ix3 0 r k)) :
    biasOf w v (words x0 i h) = element i x0 x1 x2 0 h r k := by
  subst hw hv
  exact with_before (x1 (ix3 0 r k)) (x2 (ix3 0 r k)) (words x0 i h) k

theorem block (c : Dev nD) (i : grid0.Coords) (arg1 : Memref sig .tc .smem S32x12 .f32) (harg1 : arg1.IsWhole) (arg2 : Memref sig .tc .vmem S1x128x256 .i32) (harg2 : arg2.IsWhole) (arg3 : Memref sig .tc .vmem S1x128x256 .i32) (harg3 : arg3.IsWhole) (arg4 : Memref sig .tc .vmem S2x4x128x256 .f32) (harg4 : arg4.IsWhole)
    (x0 : Vec Ideal S32x12 .f32) (x1 : Vec Ideal S1x128x256 .i32) (x2 : Vec Ideal S1x128x256 .i32) (y : S2x4x128x256.Idx) :
    out0_A_3 c i arg1 harg1 arg2 harg2 arg3 harg3 arg4 harg4 x0 x1 x2 y = element (i 0) x0 x1 x2 (y 0) (y 1) (y 2) (y 3) := by
  have hy := cover0_A_3 c i arg1 harg1 arg2 harg2 arg3 harg3 arg4 harg4 x0 x1 x2 y
  unfold out0_A_3
  rw [View.read_writes_eq_canon _ _ _ (cover0_A_3 c i arg1 harg1 arg2 harg2 arg3 harg3 arg4 harg4 x0 x1 x2)]
  revert hy
  unfold kernelRun0_A
  dsimp only
  sl_unfold_words
  simp only [View.readAt_eq_ld, harg1.read_unread, harg2.read_unread, harg3.read_unread, harg4.read_unread]
  intro hy
  refine View.canon_apply_of_pieces (Val := Elt Ideal) (fun y : S2x4x128x256.Idx => element (i 0) x0 x1 x2 (y 0) (y 1) (y 2) (y 3)) _ ?_ y hy
  clear hy
  refine List.forall_mem_cons.2 ⟨fun x => tile_piece (element (i 0) x0 x1 x2) _ 1 3 inb_S2x4x128x256_S1x1x128x256_1_3_0_0 (fun r k => ?_) x, ?_⟩
  · dsimp only
    unfold k0_pay1
    refine (lead_at _ shapeCasts_S128x256_S1x1x128x256 r k).trans ?_
    exact tail_element x0 x1 x2 (i 0) 3 r k _ _ (word_at x1 r k) (word_at x2 r k)
  refine List.forall_mem_cons.2 ⟨fun x => tile_piece (element (i 0) x0 x1 x2) _ 0 3 inb_S2x4x128x256_S1x1x128x256_0_3_0_0 (fun r k => ?_) x, ?_⟩
  · dsimp only
    unfold k0_pay66
    refine (lead_at _ shapeCasts_S128x256_S1x1x128x256 r k).trans ?_
    exact head_element x0 x1 x2 (i 0) 3 r k _ _ (word_at x1 r k) (word_at x2 r k)
  refine List.forall_mem_cons.2 ⟨fun x => tile_piece (element (i 0) x0 x1 x2) _ 1 2 inb_S2x4x128x256_S1x1x128x256_1_2_0_0 (fun r k => ?_) x, ?_⟩
  · dsimp only
    unfold k0_pay52
    refine (lead_at _ shapeCasts_S128x256_S1x1x128x256 r k).trans ?_
    exact tail_element x0 x1 x2 (i 0) 2 r k _ _ (word_at x1 r k) (word_at x2 r k)
  refine List.forall_mem_cons.2 ⟨fun x => tile_piece (element (i 0) x0 x1 x2) _ 0 2 inb_S2x4x128x256_S1x1x128x256_0_2_0_0 (fun r k => ?_) x, ?_⟩
  · dsimp only
    unfold k0_pay50
    refine (lead_at _ shapeCasts_S128x256_S1x1x128x256 r k).trans ?_
    exact head_element x0 x1 x2 (i 0) 2 r k _ _ (word_at x1 r k) (word_at x2 r k)
  refine List.forall_mem_cons.2 ⟨fun x => tile_piece (element (i 0) x0 x1 x2) _ 1 1 inb_S2x4x128x256_S1x1x128x256_1_1_0_0 (fun r k => ?_) x, ?_⟩
  · dsimp only
    unfold k0_pay36
    refine (lead_at _ shapeCasts_S128x256_S1x1x128x256 r k).trans ?_
    exact tail_element x0 x1 x2 (i 0) 1 r k _ _ (word_at x1 r k) (word_at x2 r k)
  refine List.forall_mem_cons.2 ⟨fun x => tile_piece (element (i 0) x0 x1 x2) _ 0 1 inb_S2x4x128x256_S1x1x128x256_0_1_0_0 (fun r k => ?_) x, ?_⟩
  · dsimp only
    unfold k0_pay34
    refine (lead_at _ shapeCasts_S128x256_S1x1x128x256 r k).trans ?_
    exact head_element x0 x1 x2 (i 0) 1 r k _ _ (word_at x1 r k) (word_at x2 r k)
  refine List.forall_mem_cons.2 ⟨fun x => tile_piece (element (i 0) x0 x1 x2) _ 1 0 inb_S2x4x128x256_S1x1x128x256_1_0_0_0 (fun r k => ?_) x, ?_⟩
  · dsimp only
    unfold k0_pay26
    refine (lead_at _ shapeCasts_S128x256_S1x1x128x256 r k).trans ?_
    exact tail_element x0 x1 x2 (i 0) 0 r k _ _ (word_at x1 r k) (word_at x2 r k)
  refine List.forall_mem_cons.2 ⟨fun x => tile_piece (element (i 0) x0 x1 x2) _ 0 0 inb_S2x4x128x256_S1x1x128x256_0_0_0_0 (fun r k => ?_) x, ?_⟩
  · dsimp only
    unfold k0_pay23
    refine (lead_at _ shapeCasts_S128x256_S1x1x128x256 r k).trans ?_
    exact head_element x0 x1 x2 (i 0) 0 r k _ _ (word_at x1 r k) (word_at x2 r k)
  intro p hp
  cases hp

end Cert.Proof.RelBias
end
-- ==== Proof.RelHost.lean ====
/- WHAT THE HOST PREPARES for the relative bias: the bucket of every group, query and key, and whether the pair lies in the band. -/
module

public import proofs.«01_k».proof.Proof.RelBlock
public import Idealize.ShloMosaic.Lib.StableHlo.Run
public import Idealize.ShloMosaic.Lib.Claim
public import Idealize.ShloMosaic.Lib.IdealHost

@[expose] public section

set_option maxRecDepth 16384

noncomputable section

namespace Cert.Proof.RelBias

open Idealize.ShloMosaic Idealize.ShloMosaic.TcCoe Idealize.ShloMosaic.ValueIdx Cert.RelBiasIdeal Cert.RelBiasIdeal.Gen Idealize.ShloMosaic.Tactic

variable (m : (ℓ : Loc nD τ sig) → Buf (Elt Ideal) ℓ) (c : Dev nD)

/-- One number in every place. -/
abbrev spread (w : BitVec 32) : IVec S3x128x256 32 := broadcastInDim S3x128x256 ![] bcast_S_S3x128x256 (constantI S_ 32 w)

/-- The gaps. -/
abbrev gaps : IVec S3x128x256 32 := subi (addi (spread 128#32) (iotaInDim S3x128x256 32 1)) (iotaInDim S3x128x256 32 2)

/-- The distances. -/
abbrev distances : IVec S3x128x256 32 := Host.shli (maxsi gaps (spread 0#32)) (muli (spread 2#32) (iotaInDim S3x128x256 32 0))

theorem band_entry : (V m c main_v11 : IVec S3x128x256 32) = extui 32 (andi (cmpi .sge gaps (spread 0#32)) (cmpi .sle gaps (spread 128#32))) natLt_1_32 := by
  unfold_abbrev_sides
  after_results
  try rfl

theorem bucket_entry : (V m c main_v78 : IVec S3x128x256 32)
    = firsts.foldl (fun acc f => addi acc (extui 32 (cmpi .sge distances (spread f)) natLt_1_32)) (minsi distances (spread 16#32)) := by
  unfold firsts distances gaps spread
  rw [List.foldl_cons, List.foldl_cons, List.foldl_cons, List.foldl_cons, List.foldl_cons, List.foldl_cons, List.foldl_cons, List.foldl_cons,
    List.foldl_cons, List.foldl_cons, List.foldl_cons, List.foldl_cons, List.foldl_cons, List.foldl_cons, List.foldl_cons, List.foldl_nil]
  unfold_abbrev_sides
  after_results

theorem band_at (g : Fin 3) (r : Fin 128) (k : Fin 256) : (V m c main_v11 : IVec S3x128x256 32) (ix3 g r k) = (inBand r k).setWidth 32 := by
  rw [band_entry]
  rfl

theorem bucket_at (g : Fin 3) (r : Fin 128) (k : Fin 256) : (V m c main_v78 : IVec S3x128x256 32) (ix3 g r k) = bucketOf (distance g r k) := by
  rw [bucket_entry, ← distance_shift]
  rfl

end Cert.Proof.RelBias
end
-- ==== Proof.RelArray.lean ====
/- THE RESULT OF THE RELATIVE BIAS, the whole array: grid point `g` works on the four heads of group `g`, so the array holds, for
   every head, query and key of the band, the table's entry at the bucket of their distance, and minus infinity outside the band. -/
module

public import proofs.«01_k».proof.Proof.RelHost
public import proofs.«01_k».proof.Proof.Gen.RelBiasIdeal.Value

@[expose] public section

set_option maxRecDepth 16384

noncomputable section

namespace Cert.Proof.RelBias

open Idealize.ShloMosaic Idealize.ShloMosaic.TcCoe Idealize.ShloMosaic.ValueIdx Cert.RelBiasIdeal Cert.RelBiasIdeal.Gen

/-- The bias at a query and a key of a head: the table's entry at the bucket, in units of log 2, inside the band. -/
def biasAt (x0 : Vec Ideal S32x12 .f32) (b : Fin 32) (u : Fin 2) (h : Fin 12) (r : Fin 128) (k : Fin 256) : EReal :=
  half u k (Scalar.select (inBand r k) (x0 (ix2 b h) * (((Real.log 2)⁻¹ : ℝ) : EReal)) (Ideal.ofBits .f32 0xFF800000#32))

theorem point_in : ∀ t : Fin 3,
    win0_0.index (t : Fin grid0.N) (0 : Fin 2) = 0 ∧ win0_0.index (t : Fin grid0.N) (1 : Fin 2) = 0 ∧
    win0_1.index (t : Fin grid0.N) (0 : Fin 3) = t.val ∧ win0_1.index (t : Fin grid0.N) (1 : Fin 3) = 0 ∧ win0_1.index (t : Fin grid0.N) (2 : Fin 3) = 0 ∧
    win0_2.index (t : Fin grid0.N) (0 : Fin 3) = t.val ∧ win0_2.index (t : Fin grid0.N) (1 : Fin 3) = 0 ∧ win0_2.index (t : Fin grid0.N) (2 : Fin 3) = 0 := by
  decide +kernel

theorem point_out : ∀ t : Fin 3,
    win0_3.index (t : Fin grid0.N) (0 : Fin 4) = 0 ∧ win0_3.index (t : Fin grid0.N) (1 : Fin 4) = t.val ∧
    win0_3.index (t : Fin grid0.N) (2 : Fin 4) = 0 ∧ win0_3.index (t : Fin grid0.N) (3 : Fin 4) = 0 := by
  decide +kernel

theorem point_group : ∀ t : Fin 3, ((grid0.coords (t : Fin grid0.N)) 0).val = t.val := by
  decide +kernel

theorem flush_out : ∀ t : Fin cfg0.N, (cfg0.win 3).flush t = true := (by decide +kernel : ∀ t : Fin grid0.N, win0_3.flush t = true)

variable (m : (ℓ : Loc nD τ sig) → Buf (Elt Ideal) ℓ) (c : Dev nD)

theorem table_in (g : Fin 3) (n : Fin 32) (h : Fin 12) : iblk m c 0 g (ix2 n h) = m ((c : Thread nD τ).loc main_arg0) (ix2 n h) := by
  have e := point_in g
  show V m c main_arg0 (((cfg0.win 0).blk g).view.emb (ix2 n h)) = _
  rw [V_main_arg0]
  refine congrArg (m ((c : Thread nD τ).loc main_arg0)) (funext fun a => Fin.ext ?_)
  match a with
  | ⟨0, _⟩ => show win0_0.index g (0 : Fin 2) * 32 + 1 * n.val = n.val; omega
  | ⟨1, _⟩ => show win0_0.index g (1 : Fin 2) * 12 + 1 * h.val = h.val; omega

theorem bucket_in (g : Fin 3) (r : Fin 128) (k : Fin 256) : iblk m c 1 g (ix3 0 r k) = bucketOf (distance g r k) := by
  have e := point_in g
  refine Eq.trans ?_ (bucket_at m c g r k)
  show V m c main_v78 (((cfg0.win 1).blk g).view.emb (ix3 0 r k)) = _
  refine congrArg (V m c main_v78) (funext fun a => Fin.ext ?_)
  match a with
  | ⟨0, _⟩ => show win0_1.index g (0 : Fin 3) * 1 + 1 * 0 = g.val; omega
  | ⟨1, _⟩ => show win0_1.index g (1 : Fin 3) * 128 + 1 * r.val = r.val; omega
  | ⟨2, _⟩ => show win0_1.index g (2 : Fin 3) * 256 + 1 * k.val = k.val; omega

theorem band_in (g : Fin 3) (r : Fin 128) (k : Fin 256) : iblk m c 2 g (ix3 0 r k) = (inBand r k).setWidth 32 := by
  have e := point_in g
  refine Eq.trans ?_ (band_at m c g r k)
  show V m c main_v11 (((cfg0.win 2).blk g).view.emb (ix3 0 r k)) = _
  refine congrArg (V m c main_v11) (funext fun a => Fin.ext ?_)
  match a with
  | ⟨0, _⟩ => show win0_2.index g (0 : Fin 3) * 1 + 1 * 0 = g.val; omega
  | ⟨1, _⟩ => show win0_2.index g (1 : Fin 3) * 128 + 1 * r.val = r.val; omega
  | ⟨2, _⟩ => show win0_2.index g (2 : Fin 3) * 256 + 1 * k.val = k.val; omega

theorem out_place (g : Fin 3) (u : Fin 2) (h : Fin 4) (r : Fin 128) (k : Fin 256) :
    (((cfg0.win 3).blk g).view.emb (ix4 u h r k) : S2x12x128x256.Idx) = ix4 u (headOf g h) r k := by
  have e := point_out g
  refine funext fun a => Fin.ext ?_
  match a with
  | ⟨0, _⟩ => show win0_3.index g (0 : Fin 4) * 2 + 1 * u.val = u.val; omega
  | ⟨1, _⟩ => show win0_3.index g (1 : Fin 4) * 4 + 1 * h.val = g.val * 4 + h.val; omega
  | ⟨2, _⟩ => show win0_3.index g (2 : Fin 4) * 128 + 1 * r.val = r.val; omega
  | ⟨3, _⟩ => show win0_3.index g (3 : Fin 4) * 256 + 1 * k.val = k.val; omega

/-- One element of a block, where the block's inputs are known. -/
theorem element_eq (g : Fin 3) (x0 T : Vec Ideal S32x12 .f32) (x1 x2 : Vec Ideal S1x128x256 .i32) (u : Fin 2) (h : Fin 4) (r : Fin 128) (k : Fin 256) (b : Fin 32)
    (hb : x1 (ix3 0 r k) = BitVec.ofNat 32 b.val) (hv : x2 (ix3 0 r k) = (inBand r k).setWidth 32) (ht : x0 (ix2 b (headOf g h)) = T (ix2 b (headOf g h))) :
    element g x0 x1 x2 u h r k = biasAt T b u (headOf g h) r k := by
  unfold element biasAt biasOf
  rw [hb, hv, ne_zero_of_bit, pick_eq b _ 32 le_rfl b.isLt, words_eq, ht]

/-- THE ARRAY AFTER THE RUN, at an index. -/
theorem relbias_array (g : Fin 3) (u : Fin 2) (h : Fin 4) (r : Fin 128) (k : Fin 256) (b : Fin 32) (hb : bucketOf (distance g r k) = BitVec.ofNat 32 b.val) :
    (dats m 0 c).arrAt 3 cfg0.N (ix4 u (headOf g h) r k) = biasAt (m ((c : Thread nD τ).loc main_arg0)) b u (headOf g h) r k := by
  have bl := congrFun ((Cert.RelBiasIdeal.Value.blocks3 m c g (flush_out g)).trans (Cert.RelBiasIdeal.Value.flushed3_A m c g)) (ix4 u h r k)
  have bl' : (dats m 0 c).arrAt 3 cfg0.N (((cfg0.win 3).blk g).view.emb (ix4 u h r k)) = _ := bl
  rw [show (((cfg0.win 3).blk g).view.emb (ix4 u h r k) : S2x12x128x256.Idx) = ix4 u (headOf g h) r k from out_place g u h r k] at bl'
  have hg : (grid0.coords (g : Fin grid0.N)) 0 = g := Fin.ext (point_group g)
  refine bl'.trans ((block c (grid0.coords (g : Fin grid0.N)) _ _ _ _ _ _ _ _ (iblk m c 0 g) (iblk m c 1 g) (iblk m c 2 g) (ix4 u h r k)).trans ?_)
  rw [hg]
  exact element_eq g (iblk m c 0 g) (m ((c : Thread nD τ).loc main_arg0)) (iblk m c 1 g) (iblk m c 2 g) u h r k b
    ((bucket_in m c g r k).trans hb) (band_in m c g r k) (table_in m c g b (headOf g h))

end Cert.Proof.RelBias
end
-- ==== Proof.RelRef.lean ====
/- THE REFERENCE OF THE RELATIVE BIAS AT AN INDEX: the table's entry at the bucket of the distance, over log 2, inside the band. -/
module

public import proofs.«01_k».proof.Proof.RelArray
public import proofs.«01_k».proof.Proof.Gen.RelBiasRefIdeal.Read
public import proofs.«01_k».proof.Proof.ForGate
public import Idealize.ShloMosaic.Lib.Routing.Ops
public import Idealize.ShloMosaic.Lib.IdealHost

@[expose] public section

set_option maxRecDepth 16384

noncomputable section

namespace Cert.Proof.RelBias

open Idealize.ShloMosaic Idealize.ShloMosaic.ValueIdx Cert.RelBiasRefIdeal Cert.RelBiasRefIdeal.Read Cert.RelBiasRefIdeal.Gen

/-- A number below 32 is not negative, so it stays itself where 32 is added to the negative ones. -/
theorem number_word (b : Fin 32) :
    Scalar.select (IntOp.cmpi .slt (BitVec.ofNat 32 b.val) 0#32) (IntOp.addi (BitVec.ofNat 32 b.val) 32#32) (BitVec.ofNat 32 b.val) = BitVec.ofNat 32 b.val := by
  revert b; decide

/-- The place of a query and a key in the list of all of them. -/
abbrev place (r : Fin 128) (k : Fin 256) : Fin 32768 := ⟨r.val * 256 + k.val, by omega⟩

theorem listed (W : IVec S128x256 32) (hc : S128x256.ShapeCasts S32768) (r : Fin 128) (k : Fin 256) :
    shapeCast S32768 W hc (ix1 (place r k)) = W (ix2 r k) := by
  refine shapeCast_apply W hc _ (ix2 r k) ?_
  rewrite [Shape.rowMajor_val_two, Shape.rowMajor_val_one]
  rfl

/-- The buckets as the rows to look up. -/
def rowsOf (W : IVec S128x256 32) : IVec S32768x1 32 :=
  broadcastInDim S32768x1 ![0] bcast_S32768_S32768x1_0
    (select (cmpi .slt (shapeCast S32768 W shapeCasts_S128x256_S32768) (broadcastInDim S32768 ![] bcast_S_S32768 (constantI S_ 32 0#32)))
      (addi (shapeCast S32768 W shapeCasts_S128x256_S32768) (broadcastInDim S32768 ![] bcast_S_S32768 (constantI S_ 32 32#32)))
      (shapeCast S32768 W shapeCasts_S128x256_S32768))

theorem rowsOf_at (W : IVec S128x256 32) (r : Fin 128) (k : Fin 256) (b : Fin 32) (hW : W (ix2 r k) = BitVec.ofNat 32 b.val) :
    rowsOf W (ix2 (place r k) 0) = BitVec.ofNat 32 b.val := by
  unfold rowsOf
  refine (broadcastInDim_apply _ bcast_S32768_S32768x1_0 _ (ix2 (place r k) 0) (ix1 (place r k)) (fun a => match a with
    | ⟨0, _⟩ => by show r.val * 256 + k.val = if (32768 : Nat) = 1 then 0 else r.val * 256 + k.val; rw [if_neg (by decide)])).trans ?_
  show Scalar.select (IntOp.cmpi .slt (shapeCast S32768 W shapeCasts_S128x256_S32768 (ix1 (place r k))) 0#32)
    (IntOp.addi (shapeCast S32768 W shapeCasts_S128x256_S32768 (ix1 (place r k))) 32#32) (shapeCast S32768 W shapeCasts_S128x256_S32768 (ix1 (place r k))) = _
  rw [listed, hW]
  exact number_word b

/-- The rows looked up, with the heads first. -/
theorem heads_at (T : FVec Ideal S32x4 .f32) (W : IVec S128x256 32) (h : Fin 4) (r : Fin 128) (k : Fin 256) (b : Fin 32)
    (hW : W (ix2 r k) = BitVec.ofNat 32 b.val) :
    transpose S4x128x256 [2, 0, 1] (shapeCast S128x256x4 (Host.gather gather_S32x4_S32768x1_S32768x4_1_0_n_n_0_1_14 T (rowsOf W)) shapeCasts_S32768x4_S128x256x4)
      transposes_S128x256x4_S4x128x256_2_0_1 (ix3 h r k) = T (ix2 b h) := by
  refine (transpose_apply [2, 0, 1] _ transposes_S128x256x4_S4x128x256_2_0_1 (ix3 h r k) (ix3 r k h) (fun b => match b with
    | ⟨0, _⟩ => rfl
    | ⟨1, _⟩ => rfl
    | ⟨2, _⟩ => rfl)).trans ?_
  refine (shapeCast_apply _ shapeCasts_S32768x4_S128x256x4 (ix3 r k h) (ix2 (place r k) h) (by
    rewrite [Shape.rowMajor_val_two, Shape.rowMajor_val_three]
    rfl)).trans ?_
  exact Routing.gather_row _ rfl rfl rfl rfl rfl T _ (place r k) h b (rowsOf_at W r k b hW) (by norm_num)

variable (x0 : Vec Ideal S32x12 .f32)

theorem bucket_zero (r : Fin 128) (k : Fin 256) : val_main_v70 (F := Ideal) (ix2 r k) = bucketOf (distance 0 r k) := rfl
theorem bucket_one (r : Fin 128) (k : Fin 256) : val_main_v147 (F := Ideal) (ix2 r k) = bucketOf (distance 1 r k) := rfl
theorem bucket_two (r : Fin 128) (k : Fin 256) : val_main_v224 (F := Ideal) (ix2 r k) = bucketOf (distance 2 r k) := rfl

theorem group_zero (h : Fin 4) (r : Fin 128) (k : Fin 256) (b : Fin 32) (hb : bucketOf (distance 0 r k) = BitVec.ofNat 32 b.val) :
    val_main_v81 (F := Ideal) x0 (ix3 h r k) = x0 (ix2 b (headOf 0 h)) := by
  refine (heads_at (val_main_v71 (F := Ideal) x0) (val_main_v70 (F := Ideal)) h r k b ((bucket_zero r k).trans hb)).trans ?_
  exact extractStridedSlice_apply ![0, 0] x0 slices_S32x12_S32x4_0_0 (ix2 b h) (ix2 b (headOf 0 h)) (fun a => match a with
    | ⟨0, _⟩ => (Nat.zero_add b.val).symm
    | ⟨1, _⟩ => rfl)

theorem group_one (h : Fin 4) (r : Fin 128) (k : Fin 256) (b : Fin 32) (hb : bucketOf (distance 1 r k) = BitVec.ofNat 32 b.val) :
    val_main_v158 (F := Ideal) x0 (ix3 h r k) = x0 (ix2 b (headOf 1 h)) := by
  refine (heads_at (val_main_v148 (F := Ideal) x0) (val_main_v147 (F := Ideal)) h r k b ((bucket_one r k).trans hb)).trans ?_
  exact extractStridedSlice_apply ![0, 4] x0 slices_S32x12_S32x4_0_4 (ix2 b h) (ix2 b (headOf 1 h)) (fun a => match a with
    | ⟨0, _⟩ => (Nat.zero_add b.val).symm
    | ⟨1, _⟩ => rfl)

theorem group_two (h : Fin 4) (r : Fin 128) (k : Fin 256) (b : Fin 32) (hb : bucketOf (distance 2 r k) = BitVec.ofNat 32 b.val) :
    val_main_v235 (F := Ideal) x0 (ix3 h r k) = x0 (ix2 b (headOf 2 h)) := by
  refine (heads_at (val_main_v225 (F := Ideal) x0) (val_main_v224 (F := Ideal)) h r k b ((bucket_two r k).trans hb)).trans ?_
  exact extractStridedSlice_apply ![0, 8] x0 slices_S32x12_S32x4_0_8 (ix2 b h) (ix2 b (headOf 2 h)) (fun a => match a with
    | ⟨0, _⟩ => (Nat.zero_add b.val).symm
    | ⟨1, _⟩ => rfl)

/-- The groups' heads one after the other. -/
theorem looked_up (g : Fin 3) (h : Fin 4) (r : Fin 128) (k : Fin 256) (b : Fin 32) (hb : bucketOf (distance g r k) = BitVec.ofNat 32 b.val) :
    val_main_v236 (F := Ideal) x0 (ix3 (headOf g h) r k) = x0 (ix2 b (headOf g h)) := by
  have side : ∀ a : Fin 3, a ≠ 0 → ((ix3 h r k : S4x128x256.Idx) a).val = ((ix3 (headOf g h) r k : S12x128x256.Idx) a).val := fun a ha => by
    match a with
    | ⟨0, _⟩ => exact absurd rfl ha
    | ⟨1, _⟩ => rfl
    | ⟨2, _⟩ => rfl
  unfold val_main_v236
  fin_cases g
  · exact (concatenate_apply_piece (t := S12x128x256) 0 _ _ (ix3 (headOf 0 h) r k) 0 (by show 0 < 3; omega) S4x128x256 _ rfl rfl 0 rfl (ix3 h r k)
      (fun a ha => side a ha) rfl).trans (group_zero x0 h r k b hb)
  · exact (concatenate_apply_piece (t := S12x128x256) 0 _ _ (ix3 (headOf 1 h) r k) 1 (by show 1 < 3; omega) S4x128x256 _ rfl rfl 4 rfl (ix3 h r k)
      (fun a ha => side a ha) rfl).trans (group_one x0 h r k b hb)
  · exact (concatenate_apply_piece (t := S12x128x256) 0 _ _ (ix3 (headOf 2 h) r k) 2 (by show 2 < 3; omega) S4x128x256 _ rfl rfl 8 rfl (ix3 h r k)
      (fun a ha => side a ha) rfl).trans (group_two x0 h r k b hb)

theorem over_log2 (i : S12x128x256.Idx) : val_main_v239 (F := Ideal) x0 i = val_main_v236 (F := Ideal) x0 i * (((Real.log 2)⁻¹ : ℝ) : EReal) := by
  rw [val_main_v239_apply, val_main_v238_apply, val_main_v237_apply, val_main_cst_apply]
  show Ideal.div (val_main_v236 (F := Ideal) x0 i) (Ideal.log (Ideal.ofBits .f32 0x40000000#32)) = _
  rw [ofBits_two, Ideal.log_coe, if_neg (by norm_num), Ideal.div_coe Forget.log2_pos.ne', one_div]

/-- With the keys of the block before. -/
theorem first_half (g : Fin 3) (h : Fin 4) (r : Fin 128) (k : Fin 256) (b : Fin 32) (hb : bucketOf (distance g r k) = BitVec.ofNat 32 b.val) :
    val_main_v245 (F := Ideal) x0 (ix3 (headOf g h) r k) = biasAt x0 b 0 (headOf g h) r k := by
  rw [val_main_v245_apply, over_log2, looked_up x0 g h r k b hb, val_main_call0_v1_apply]
  unfold biasAt half
  rw [if_neg (fun h => absurd h.1 (by decide))]
  rfl

/-- Without the keys of the block before. -/
theorem second_half (g : Fin 3) (h : Fin 4) (r : Fin 128) (k : Fin 256) (b : Fin 32) (hb : bucketOf (distance g r k) = BitVec.ofNat 32 b.val) :
    val_main_v249 (F := Ideal) x0 (ix3 (headOf g h) r k) = biasAt x0 b 1 (headOf g h) r k := by
  rw [val_main_v249_apply, over_log2, looked_up x0 g h r k b hb, val_main_call1_v1_apply]
  have hk := k.isLt
  have e : IntOp.cmpi .sge (BitVec.ofNat 32 k.val) 128#32 = BitVec.ofBool (decide (128 ≤ k.val)) :=
    WordCmp.cmpi_sge_ofNat (w := 32) (by show k.val < 2147483648; omega) (by norm_num)
  show Scalar.select (IntOp.andi (inBand r k) (IntOp.cmpi .sge (BitVec.ofNat 32 k.val) 128#32)) _ (Ideal.ofBits .f32 0xFF800000#32) = _
  rw [e]
  unfold biasAt half
  by_cases hl : 128 ≤ k.val
  · rw [if_neg (by omega), decide_eq_true hl]
    refine congrArg (fun p => Scalar.select p _ _) ?_
    generalize inBand r k = p
    revert p; decide
  · rw [if_pos ⟨rfl, by omega⟩, decide_eq_false hl]
    refine (congrArg (fun p => Scalar.select p _ _) (?_ : _ = 0#1)).trans (if_neg (by decide))
    generalize inBand r k = p
    revert p; decide

/-- THE REFERENCE at an index. -/
theorem relbias_reference (g : Fin 3) (u : Fin 2) (h : Fin 4) (r : Fin 128) (k : Fin 256) (b : Fin 32) (hb : bucketOf (distance g r k) = BitVec.ofNat 32 b.val) :
    val_main_v252 (F := Ideal) x0 (ix4 u (headOf g h) r k) = biasAt x0 b u (headOf g h) r k := by
  have side : ∀ a : Fin 4, a ≠ 0 → ((ix4 0 (headOf g h) r k : S1x12x128x256.Idx) a).val = ((ix4 u (headOf g h) r k : S2x12x128x256.Idx) a).val := fun a ha => by
    match a with
    | ⟨0, _⟩ => exact absurd rfl ha
    | ⟨1, _⟩ => rfl
    | ⟨2, _⟩ => rfl
    | ⟨3, _⟩ => rfl
  unfold val_main_v252
  fin_cases u
  · refine (concatenate_apply_piece (t := S2x12x128x256) 0 _ _ (ix4 0 (headOf g h) r k) 0 (by show 0 < 2; omega) S1x12x128x256 _ rfl rfl 0 rfl (ix4 0 (headOf g h) r k)
      (fun a ha => side a ha) rfl).trans ?_
    refine (val_main_v250_apply x0 (ix4 0 (headOf g h) r k)).trans ?_
    rw [show idx_main_v250 (ix4 0 (headOf g h) r k) = ix3 (headOf g h) r k from funext fun a => match a with
      | ⟨0, _⟩ => rfl
      | ⟨1, _⟩ => rfl
      | ⟨2, _⟩ => rfl]
    exact first_half x0 g h r k b hb
  · refine (concatenate_apply_piece (t := S2x12x128x256) 0 _ _ (ix4 1 (headOf g h) r k) 1 (by show 1 < 2; omega) S1x12x128x256 _ rfl rfl 1 rfl (ix4 0 (headOf g h) r k)
      (fun a ha => side a ha) rfl).trans ?_
    refine (val_main_v251_apply x0 (ix4 0 (headOf g h) r k)).trans ?_
    rw [show idx_main_v251 (ix4 0 (headOf g h) r k) = ix3 (headOf g h) r k from funext fun a => match a with
      | ⟨0, _⟩ => rfl
      | ⟨1, _⟩ => rfl
      | ⟨2, _⟩ => rfl]
    exact second_half x0 g h r k b hb

end Cert.Proof.RelBias
end
-- ==== Proof.RelEq.lean ====
/- THE RELATIVE BIAS: the version's kernel and its reference give equal results over the extended reals, for any table. -/
module

public import proofs.«01_k».proof.Defs
public import proofs.«01_k».proof.Proof.RelRef
public import Idealize.ShloMosaic.Lib.Quiescent

@[expose] public section

set_option maxRecDepth 16384

noncomputable section

namespace Cert.Proof.RelBias

open Idealize.ShloMosaic Idealize.ShloMosaic.TcCoe Idealize.ShloMosaic.ValueIdx Idealize.SL.Sem

theorem algebraic : Cert.algebraic_RelBiasIdeal_RelBiasRefIdeal := by
  intro m ρ m' ρ' hpre hagree
  refine ⟨_, Cert.RelBiasIdeal.Value.run_blocks (F := Ideal) m ρ, ?_⟩
  refine (θ_run Cert.RelBiasRefIdeal.defs _ _).mono (fun _ h c => ?_) (Cert.RelBiasRefIdeal.Value.run (F := Ideal) m' ρ')
  have a0 := hagree c
  refine ⟨(h c).1.trans ?_, (h c).2⟩
  refine (Cert.RelBiasRefIdeal.Read.val_main_v252_eq (F := Ideal) _).trans ?_
  rw [show StableHlo.launchContents m' c (Proc.tc.devRef Cert.RelBiasRefIdeal.main_arg0) = m ((c.tc : Thread Cert.RelBiasIdeal.nD Cert.RelBiasIdeal.τ).loc Cert.RelBiasIdeal.main_arg0) from a0]
  refine funext fun i => ?_
  obtain ⟨u, n, r, k, rfl⟩ : ∃ (u : Fin 2) (n : Fin 12) (r : Fin 128) (k : Fin 256), i = ix4 u n r k := ⟨i 0, i 1, i 2, i 3, eq_ix4 i⟩
  obtain ⟨g, h', rfl⟩ : ∃ (g : Fin 3) (h' : Fin 4), n = headOf g h' :=
    ⟨⟨n.val / 4, by omega⟩, ⟨n.val % 4, by omega⟩, Fin.ext (Nat.div_add_mod' n.val 4).symm⟩
  obtain ⟨b, hb⟩ := bucket_number g r k
  exact (relbias_reference _ g u h' r k b hb).trans (relbias_array m c g u h' r k b hb).symm

/-- The constant the kernel multiplies by is one over log 2, rounded. -/
theorem preserves : Cert.preserves_RelBias_RelBiasIdeal :=
  IdealRules.named_const.statement Cert.RelBiasIdeal.κ "log2e" .f32 0x3FB8AA3B#32 (((Real.log 2)⁻¹ : ℝ) : EReal) rfl

/-- The reference's frame. -/
theorem reference_frame : Cert.quiescent_RelBiasRefIdeal := fun m ρ _ =>
  (θ_run Cert.RelBiasRefIdeal.defs _ _).mono (fun r h => ⟨fun c => (h c).2, sem_eq_zero_of_no_sems (by decide) r.2⟩)
    (Cert.RelBiasRefIdeal.Value.run (F := Ideal) m ρ)

end Cert.Proof.RelBias
end
-- ==== Proof.lean ====
/- The certificate's theorem: the frames, the idealization and the value equation of each program, assembled from the
   modules under Proof/. -/
module

public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxIdeal.Value
public import proofs.«01_k».proof.Proof.Gen.FoxRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetRefIdeal
public import proofs.«01_k».proof.Proof.Gen.ForgetIdeal.Value
public import proofs.«01_k».proof.Proof.Gen.ForgetRefIdeal.Run
public import proofs.«01_k».proof.Proof.Gen.ForgetRefIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationRefIdeal
public import proofs.«01_k».proof.Proof.Gen.ModulationIdeal.Value
public import proofs.«01_k».proof.Proof.Gen.ModulationRefIdeal.Run
public import proofs.«01_k».proof.Proof.Gen.ModulationRefIdeal.Read
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.RelBias
public import proofs.«01_k».proof.Proof.Gen.RelBias.Skeleton
public import proofs.«01_k».proof.Proof.Gen.RelBias.Launch
public import proofs.«01_k».proof.Proof.Gen.RelBias.Points
public import proofs.«01_k».proof.Proof.Gen.RelBias.Frame
public import proofs.«01_k».proof.Proof.Gen.RelBiasIdeal
public import proofs.«01_k».proof.Proof.Gen.RelBiasIdeal.Skeleton
public import proofs.«01_k».proof.Proof.Gen.RelBiasIdeal.Launch
public import proofs.«01_k».proof.Proof.Gen.RelBiasIdeal.Points
public import proofs.«01_k».proof.Proof.Gen.RelBiasIdeal.Frame
public import proofs.«01_k».proof.Proof.Gen.RelBiasIdeal.Value
public import proofs.«01_k».proof.Proof.Gen.RelBiasRefIdeal
public import proofs.«01_k».proof.Proof.Gen.RelBiasRefIdeal.Run
public import proofs.«01_k».proof.Proof.Gen.RelBiasRefIdeal.Read
public import proofs.«01_k».proof.Proof.FoxEq
public import proofs.«01_k».proof.Proof.InEq
public import proofs.«01_k».proof.Proof.OutEq
public import proofs.«01_k».proof.Proof.ForEq
public import proofs.«01_k».proof.Proof.ModEq
public import proofs.«01_k».proof.Proof.ComEq
public import proofs.«01_k».proof.Proof.RelEq
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The attention and its reference end with the same array. -/
theorem fox_algebraic : Cert.algebraic_FoxIdeal_FoxRefIdeal_pre_fox_finite := by
  intro m ρ m' ρ' hpre hagree
  refine ⟨_, Cert.FoxIdeal.Value.run_blocks (F := Ideal) m ρ, ?_⟩
  refine (θ_run Cert.FoxRefIdeal.defs _ _).mono (fun _ h c => ⟨(h c).1.trans ?_, (h c).2⟩) (Cert.FoxRefIdeal.Value.run (F := Ideal) m' ρ')
  refine (Cert.FoxRefIdeal.Read.val_main_v44_eq (F := Ideal) m' c).trans ?_
  rw [(hagree c).1, (hagree c).2]
  refine funext fun (i : Cert.FoxIdeal.S8x2048x512.Idx) => ?_
  rw [eq_ix3 i]
  exact (fox_reference _ _ (i 0) (i 1) (i 2)).trans ((fox_eq _ _ (hpre c) (i 0) (i 1) (i 2)).symm.trans (fox_array m c (i 0) (i 1) (i 2)).symm)

/-- The reference's frame. -/
theorem fox_reference_frame : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

theorem claim : Cert.Claim := ⟨Cert.Fox.Gen.facts, Cert.FoxIdeal.Gen.facts, Cert.FoxRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.Forget.Gen.facts, Cert.ForgetIdeal.Gen.facts, Cert.ForgetRefIdeal.Gen.facts,
  Cert.Modulation.Gen.facts, Cert.ModulationIdeal.Gen.facts, Cert.ModulationRefIdeal.Gen.facts,
  Cert.Combine.Gen.facts, Cert.CombineIdeal.Gen.facts, Cert.CombineRefIdeal.Gen.facts,
  Cert.RelBias.Gen.facts, Cert.RelBiasIdeal.Gen.facts, Cert.RelBiasRefIdeal.Gen.facts, preFacts, Modulation.preFacts, Combine.preFacts,
  fun m ρ _ => Cert.Fox.Gen.frame m ρ, fun m ρ _ => Cert.FoxIdeal.Gen.frame m ρ, fun m ρ _ => Cert.FoxIdeal.Gen.frame m ρ,
  fox_reference_frame, fun m ρ _ => fox_reference_frame m ρ trivial,
  fun m ρ _ => Cert.InProj.Gen.frame m ρ, fun m ρ _ => Cert.InProjIdeal.Gen.frame m ρ, In.reference_frame,
  fun m ρ _ => Cert.OutProj.Gen.frame m ρ, fun m ρ _ => Cert.OutProjIdeal.Gen.frame m ρ, Out.reference_frame,
  fun m ρ _ => Cert.Forget.Gen.frame m ρ, fun m ρ _ => Cert.ForgetIdeal.Gen.frame m ρ, Forget.reference_frame,
  fun m ρ _ => Cert.Modulation.Gen.frame m ρ, fun m ρ _ => Cert.ModulationIdeal.Gen.frame m ρ, fun m ρ _ => Cert.ModulationIdeal.Gen.frame m ρ,
  Modulation.reference_frame, fun m ρ _ => Modulation.reference_frame m ρ trivial,
  fun m ρ _ => Cert.Combine.Gen.frame m ρ, fun m ρ _ => Cert.CombineIdeal.Gen.frame m ρ, fun m ρ _ => Cert.CombineIdeal.Gen.frame m ρ,
  Combine.reference_frame, fun m ρ _ => Combine.reference_frame m ρ trivial,
  fun m ρ _ => Cert.RelBias.Gen.frame m ρ, fun m ρ _ => Cert.RelBiasIdeal.Gen.frame m ρ, RelBias.reference_frame,
  trivial, fox_algebraic, In.preserves, In.algebraic, trivial, Out.algebraic, Forget.preserves, Forget.algebraic,
  trivial, Modulation.algebraic, Combine.preserves, Combine.algebraic, RelBias.preserves, RelBias.algebraic⟩

end Cert.Proof

end
